-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_attn_a [hPre_finite_attn_a : Cert.Pre_finite_attn_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_attn_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1))).1 = (fun _ => 1#1)
    ∧ (Cert.Pre_finite_attn_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1))).2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_attn_a [hPre_finite_attn_a : Cert.Pre_finite_attn_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1))).1 = (fun _ => 1#1)
    ∧ (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1))).2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2 = (fun _ => 1#1)

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateIdeal_finite_d_gate [hPre_finite_d_gate : Cert.Pre_finite_d_gate.Facts] (m : (ℓ : Loc Cert.DGateIdeal.nD Cert.DGateIdeal.τ Cert.DGateIdeal.sig) → Buf (Elt Ideal) ℓ) : Prop :=
  ∀ c : Dev Cert.DGateIdeal.nD,
    (Cert.Pre_finite_d_gate.fn (F := Ideal) (m ((c.tc : Thread Cert.DGateIdeal.nD Cert.DGateIdeal.τ).loc Cert.DGateIdeal.main_arg0)) (m ((c.tc : Thread Cert.DGateIdeal.nD Cert.DGateIdeal.τ).loc Cert.DGateIdeal.main_arg1)) (m ((c.tc : Thread Cert.DGateIdeal.nD Cert.DGateIdeal.τ).loc Cert.DGateIdeal.main_arg2)) (m ((c.tc : Thread Cert.DGateIdeal.nD Cert.DGateIdeal.τ).loc Cert.DGateIdeal.main_arg3)) (m ((c.tc : Thread Cert.DGateIdeal.nD Cert.DGateIdeal.τ).loc Cert.DGateIdeal.main_arg4))).1 = (fun _ => 1#1)
    ∧ (Cert.Pre_finite_d_gate.fn (F := Ideal) (m ((c.tc : Thread Cert.DGateIdeal.nD Cert.DGateIdeal.τ).loc Cert.DGateIdeal.main_arg0)) (m ((c.tc : Thread Cert.DGateIdeal.nD Cert.DGateIdeal.τ).loc Cert.DGateIdeal.main_arg1)) (m ((c.tc : Thread Cert.DGateIdeal.nD Cert.DGateIdeal.τ).loc Cert.DGateIdeal.main_arg2)) (m ((c.tc : Thread Cert.DGateIdeal.nD Cert.DGateIdeal.τ).loc Cert.DGateIdeal.main_arg3)) (m ((c.tc : Thread Cert.DGateIdeal.nD Cert.DGateIdeal.τ).loc Cert.DGateIdeal.main_arg4))).2.1 = (fun _ => 1#1)
    ∧ (Cert.Pre_finite_d_gate.fn (F := Ideal) (m ((c.tc : Thread Cert.DGateIdeal.nD Cert.DGateIdeal.τ).loc Cert.DGateIdeal.main_arg0)) (m ((c.tc : Thread Cert.DGateIdeal.nD Cert.DGateIdeal.τ).loc Cert.DGateIdeal.main_arg1)) (m ((c.tc : Thread Cert.DGateIdeal.nD Cert.DGateIdeal.τ).loc Cert.DGateIdeal.main_arg2)) (m ((c.tc : Thread Cert.DGateIdeal.nD Cert.DGateIdeal.τ).loc Cert.DGateIdeal.main_arg3)) (m ((c.tc : Thread Cert.DGateIdeal.nD Cert.DGateIdeal.τ).loc Cert.DGateIdeal.main_arg4))).2.2.1 = (fun _ => 1#1)
    ∧ (Cert.Pre_finite_d_gate.fn (F := Ideal) (m ((c.tc : Thread Cert.DGateIdeal.nD Cert.DGateIdeal.τ).loc Cert.DGateIdeal.main_arg0)) (m ((c.tc : Thread Cert.DGateIdeal.nD Cert.DGateIdeal.τ).loc Cert.DGateIdeal.main_arg1)) (m ((c.tc : Thread Cert.DGateIdeal.nD Cert.DGateIdeal.τ).loc Cert.DGateIdeal.main_arg2)) (m ((c.tc : Thread Cert.DGateIdeal.nD Cert.DGateIdeal.τ).loc Cert.DGateIdeal.main_arg3)) (m ((c.tc : Thread Cert.DGateIdeal.nD Cert.DGateIdeal.τ).loc Cert.DGateIdeal.main_arg4))).2.2.2 = (fun _ => 1#1)

def Pre_DGateRefIdeal (m : (ℓ : Loc Cert.DGateRefIdeal.nD Cert.DGateRefIdeal.τ Cert.DGateRefIdeal.sig) → Buf (Elt Ideal) ℓ) : Prop :=
  True

def Pre_DGateRefIdeal_finite_d_gate [hPre_finite_d_gate : Cert.Pre_finite_d_gate.Facts] (m : (ℓ : Loc Cert.DGateRefIdeal.nD Cert.DGateRefIdeal.τ Cert.DGateRefIdeal.sig) → Buf (Elt Ideal) ℓ) : Prop :=
  ∀ c : Dev Cert.DGateRefIdeal.nD,
    (Cert.Pre_finite_d_gate.fn (F := Ideal) (m ((c.tc : Thread Cert.DGateRefIdeal.nD Cert.DGateRefIdeal.τ).loc Cert.DGateRefIdeal.main_arg0)) (m ((c.tc : Thread Cert.DGateRefIdeal.nD Cert.DGateRefIdeal.τ).loc Cert.DGateRefIdeal.main_arg1)) (m ((c.tc : Thread Cert.DGateRefIdeal.nD Cert.DGateRefIdeal.τ).loc Cert.DGateRefIdeal.main_arg2)) (m ((c.tc : Thread Cert.DGateRefIdeal.nD Cert.DGateRefIdeal.τ).loc Cert.DGateRefIdeal.main_arg3)) (m ((c.tc : Thread Cert.DGateRefIdeal.nD Cert.DGateRefIdeal.τ).loc Cert.DGateRefIdeal.main_arg4))).1 = (fun _ => 1#1)
    ∧ (Cert.Pre_finite_d_gate.fn (F := Ideal) (m ((c.tc : Thread Cert.DGateRefIdeal.nD Cert.DGateRefIdeal.τ).loc Cert.DGateRefIdeal.main_arg0)) (m ((c.tc : Thread Cert.DGateRefIdeal.nD Cert.DGateRefIdeal.τ).loc Cert.DGateRefIdeal.main_arg1)) (m ((c.tc : Thread Cert.DGateRefIdeal.nD Cert.DGateRefIdeal.τ).loc Cert.DGateRefIdeal.main_arg2)) (m ((c.tc : Thread Cert.DGateRefIdeal.nD Cert.DGateRefIdeal.τ).loc Cert.DGateRefIdeal.main_arg3)) (m ((c.tc : Thread Cert.DGateRefIdeal.nD Cert.DGateRefIdeal.τ).loc Cert.DGateRefIdeal.main_arg4))).2.1 = (fun _ => 1#1)
    ∧ (Cert.Pre_finite_d_gate.fn (F := Ideal) (m ((c.tc : Thread Cert.DGateRefIdeal.nD Cert.DGateRefIdeal.τ).loc Cert.DGateRefIdeal.main_arg0)) (m ((c.tc : Thread Cert.DGateRefIdeal.nD Cert.DGateRefIdeal.τ).loc Cert.DGateRefIdeal.main_arg1)) (m ((c.tc : Thread Cert.DGateRefIdeal.nD Cert.DGateRefIdeal.τ).loc Cert.DGateRefIdeal.main_arg2)) (m ((c.tc : Thread Cert.DGateRefIdeal.nD Cert.DGateRefIdeal.τ).loc Cert.DGateRefIdeal.main_arg3)) (m ((c.tc : Thread Cert.DGateRefIdeal.nD Cert.DGateRefIdeal.τ).loc Cert.DGateRefIdeal.main_arg4))).2.2.1 = (fun _ => 1#1)
    ∧ (Cert.Pre_finite_d_gate.fn (F := Ideal) (m ((c.tc : Thread Cert.DGateRefIdeal.nD Cert.DGateRefIdeal.τ).loc Cert.DGateRefIdeal.main_arg0)) (m ((c.tc : Thread Cert.DGateRefIdeal.nD Cert.DGateRefIdeal.τ).loc Cert.DGateRefIdeal.main_arg1)) (m ((c.tc : Thread Cert.DGateRefIdeal.nD Cert.DGateRefIdeal.τ).loc Cert.DGateRefIdeal.main_arg2)) (m ((c.tc : Thread Cert.DGateRefIdeal.nD Cert.DGateRefIdeal.τ).loc Cert.DGateRefIdeal.main_arg3)) (m ((c.tc : Thread Cert.DGateRefIdeal.nD Cert.DGateRefIdeal.τ).loc Cert.DGateRefIdeal.main_arg4))).2.2.2 = (fun _ => 1#1)

def Pre_DAttnIn (m : (ℓ : Loc Cert.DAttnIn.nD Cert.DAttnIn.τ Cert.DAttnIn.sig) → Buf (Elt Bits) ℓ) : Prop :=
  True

def Pre_DAttnInIdeal (m : (ℓ : Loc Cert.DAttnInIdeal.nD Cert.DAttnInIdeal.τ Cert.DAttnInIdeal.sig) → Buf (Elt Ideal) ℓ) : Prop :=
  True

def Pre_DAttnInIdeal_finite_d_attn_in [hPre_finite_d_attn_in : Cert.Pre_finite_d_attn_in.Facts] (m : (ℓ : Loc Cert.DAttnInIdeal.nD Cert.DAttnInIdeal.τ Cert.DAttnInIdeal.sig) → Buf (Elt Ideal) ℓ) : Prop :=
  ∀ c : Dev Cert.DAttnInIdeal.nD,
    (Cert.Pre_finite_d_attn_in.fn (F := Ideal) (m ((c.tc : Thread Cert.DAttnInIdeal.nD Cert.DAttnInIdeal.τ).loc Cert.DAttnInIdeal.main_arg0)) (m ((c.tc : Thread Cert.DAttnInIdeal.nD Cert.DAttnInIdeal.τ).loc Cert.DAttnInIdeal.main_arg1)) (m ((c.tc : Thread Cert.DAttnInIdeal.nD Cert.DAttnInIdeal.τ).loc Cert.DAttnInIdeal.main_arg2)) (m ((c.tc : Thread Cert.DAttnInIdeal.nD Cert.DAttnInIdeal.τ).loc Cert.DAttnInIdeal.main_arg3)) (m ((c.tc : Thread Cert.DAttnInIdeal.nD Cert.DAttnInIdeal.τ).loc Cert.DAttnInIdeal.main_arg4))).1 = (fun _ => 1#1)
    ∧ (Cert.Pre_finite_d_attn_in.fn (F := Ideal) (m ((c.tc : Thread Cert.DAttnInIdeal.nD Cert.DAttnInIdeal.τ).loc Cert.DAttnInIdeal.main_arg0)) (m ((c.tc : Thread Cert.DAttnInIdeal.nD Cert.DAttnInIdeal.τ).loc Cert.DAttnInIdeal.main_arg1)) (m ((c.tc : Thread Cert.DAttnInIdeal.nD Cert.DAttnInIdeal.τ).loc Cert.DAttnInIdeal.main_arg2)) (m ((c.tc : Thread Cert.DAttnInIdeal.nD Cert.DAttnInIdeal.τ).loc Cert.DAttnInIdeal.main_arg3)) (m ((c.tc : Thread Cert.DAttnInIdeal.nD Cert.DAttnInIdeal.τ).loc Cert.DAttnInIdeal.main_arg4))).2.1 = (fun _ => 1#1)
    ∧ (Cert.Pre_finite_d_attn_in.fn (F := Ideal) (m ((c.tc : Thread Cert.DAttnInIdeal.nD Cert.DAttnInIdeal.τ).loc Cert.DAttnInIdeal.main_arg0)) (m ((c.tc : Thread Cert.DAttnInIdeal.nD Cert.DAttnInIdeal.τ).loc Cert.DAttnInIdeal.main_arg1)) (m ((c.tc : Thread Cert.DAttnInIdeal.nD Cert.DAttnInIdeal.τ).loc Cert.DAttnInIdeal.main_arg2)) (m ((c.tc : Thread Cert.DAttnInIdeal.nD Cert.DAttnInIdeal.τ).loc Cert.DAttnInIdeal.main_arg3)) (m ((c.tc : Thread Cert.DAttnInIdeal.nD Cert.DAttnInIdeal.τ).loc Cert.DAttnInIdeal.main_arg4))).2.2.1 = (fun _ => 1#1)
    ∧ (Cert.Pre_finite_d_attn_in.fn (F := Ideal) (m ((c.tc : Thread Cert.DAttnInIdeal.nD Cert.DAttnInIdeal.τ).loc Cert.DAttnInIdeal.main_arg0)) (m ((c.tc : Thread Cert.DAttnInIdeal.nD Cert.DAttnInIdeal.τ).loc Cert.DAttnInIdeal.main_arg1)) (m ((c.tc : Thread Cert.DAttnInIdeal.nD Cert.DAttnInIdeal.τ).loc Cert.DAttnInIdeal.main_arg2)) (m ((c.tc : Thread Cert.DAttnInIdeal.nD Cert.DAttnInIdeal.τ).loc Cert.DAttnInIdeal.main_arg3)) (m ((c.tc : Thread Cert.DAttnInIdeal.nD Cert.DAttnInIdeal.τ).loc Cert.DAttnInIdeal.main_arg4))).2.2.2 = (fun _ => 1#1)

def Pre_DAttnInRefIdeal (m : (ℓ : Loc Cert.DAttnInRefIdeal.nD Cert.DAttnInRefIdeal.τ Cert.DAttnInRefIdeal.sig) → Buf (Elt Ideal) ℓ) : Prop :=
  True

def Pre_DAttnInRefIdeal_finite_d_attn_in [hPre_finite_d_attn_in : Cert.Pre_finite_d_attn_in.Facts] (m : (ℓ : Loc Cert.DAttnInRefIdeal.nD Cert.DAttnInRefIdeal.τ Cert.DAttnInRefIdeal.sig) → Buf (Elt Ideal) ℓ) : Prop :=
  ∀ c : Dev Cert.DAttnInRefIdeal.nD,
    (Cert.Pre_finite_d_attn_in.fn (F := Ideal) (m ((c.tc : Thread Cert.DAttnInRefIdeal.nD Cert.DAttnInRefIdeal.τ).loc Cert.DAttnInRefIdeal.main_arg0)) (m ((c.tc : Thread Cert.DAttnInRefIdeal.nD Cert.DAttnInRefIdeal.τ).loc Cert.DAttnInRefIdeal.main_arg1)) (m ((c.tc : Thread Cert.DAttnInRefIdeal.nD Cert.DAttnInRefIdeal.τ).loc Cert.DAttnInRefIdeal.main_arg2)) (m ((c.tc : Thread Cert.DAttnInRefIdeal.nD Cert.DAttnInRefIdeal.τ).loc Cert.DAttnInRefIdeal.main_arg3)) (m ((c.tc : Thread Cert.DAttnInRefIdeal.nD Cert.DAttnInRefIdeal.τ).loc Cert.DAttnInRefIdeal.main_arg4))).1 = (fun _ => 1#1)
    ∧ (Cert.Pre_finite_d_attn_in.fn (F := Ideal) (m ((c.tc : Thread Cert.DAttnInRefIdeal.nD Cert.DAttnInRefIdeal.τ).loc Cert.DAttnInRefIdeal.main_arg0)) (m ((c.tc : Thread Cert.DAttnInRefIdeal.nD Cert.DAttnInRefIdeal.τ).loc Cert.DAttnInRefIdeal.main_arg1)) (m ((c.tc : Thread Cert.DAttnInRefIdeal.nD Cert.DAttnInRefIdeal.τ).loc Cert.DAttnInRefIdeal.main_arg2)) (m ((c.tc : Thread Cert.DAttnInRefIdeal.nD Cert.DAttnInRefIdeal.τ).loc Cert.DAttnInRefIdeal.main_arg3)) (m ((c.tc : Thread Cert.DAttnInRefIdeal.nD Cert.DAttnInRefIdeal.τ).loc Cert.DAttnInRefIdeal.main_arg4))).2.1 = (fun _ => 1#1)
    ∧ (Cert.Pre_finite_d_attn_in.fn (F := Ideal) (m ((c.tc : Thread Cert.DAttnInRefIdeal.nD Cert.DAttnInRefIdeal.τ).loc Cert.DAttnInRefIdeal.main_arg0)) (m ((c.tc : Thread Cert.DAttnInRefIdeal.nD Cert.DAttnInRefIdeal.τ).loc Cert.DAttnInRefIdeal.main_arg1)) (m ((c.tc : Thread Cert.DAttnInRefIdeal.nD Cert.DAttnInRefIdeal.τ).loc Cert.DAttnInRefIdeal.main_arg2)) (m ((c.tc : Thread Cert.DAttnInRefIdeal.nD Cert.DAttnInRefIdeal.τ).loc Cert.DAttnInRefIdeal.main_arg3)) (m ((c.tc : Thread Cert.DAttnInRefIdeal.nD Cert.DAttnInRefIdeal.τ).loc Cert.DAttnInRefIdeal.main_arg4))).2.2.1 = (fun _ => 1#1)
    ∧ (Cert.Pre_finite_d_attn_in.fn (F := Ideal) (m ((c.tc : Thread Cert.DAttnInRefIdeal.nD Cert.DAttnInRefIdeal.τ).loc Cert.DAttnInRefIdeal.main_arg0)) (m ((c.tc : Thread Cert.DAttnInRefIdeal.nD Cert.DAttnInRefIdeal.τ).loc Cert.DAttnInRefIdeal.main_arg1)) (m ((c.tc : Thread Cert.DAttnInRefIdeal.nD Cert.DAttnInRefIdeal.τ).loc Cert.DAttnInRefIdeal.main_arg2)) (m ((c.tc : Thread Cert.DAttnInRefIdeal.nD Cert.DAttnInRefIdeal.τ).loc Cert.DAttnInRefIdeal.main_arg3)) (m ((c.tc : Thread Cert.DAttnInRefIdeal.nD Cert.DAttnInRefIdeal.τ).loc Cert.DAttnInRefIdeal.main_arg4))).2.2.2 = (fun _ => 1#1)

def Pre_GateTail (m : (ℓ : Loc Cert.GateTail.nD Cert.GateTail.τ Cert.GateTail.sig) → Buf (Elt Bits) ℓ) : Prop :=
  True

def Pre_GateTailIdeal (m : (ℓ : Loc Cert.GateTailIdeal.nD Cert.GateTailIdeal.τ Cert.GateTailIdeal.sig) → Buf (Elt Ideal) ℓ) : Prop :=
  True

def Pre_GateTailIdeal_finite_gate_tail [hPre_finite_gate_tail : Cert.Pre_finite_gate_tail.Facts] (m : (ℓ : Loc Cert.GateTailIdeal.nD Cert.GateTailIdeal.τ Cert.GateTailIdeal.sig) → Buf (Elt Ideal) ℓ) : Prop :=
  ∀ c : Dev Cert.GateTailIdeal.nD,
    (Cert.Pre_finite_gate_tail.fn (F := Ideal) (m ((c.tc : Thread Cert.GateTailIdeal.nD Cert.GateTailIdeal.τ).loc Cert.GateTailIdeal.main_arg0)) (m ((c.tc : Thread Cert.GateTailIdeal.nD Cert.GateTailIdeal.τ).loc Cert.GateTailIdeal.main_arg1)) (m ((c.tc : Thread Cert.GateTailIdeal.nD Cert.GateTailIdeal.τ).loc Cert.GateTailIdeal.main_arg2)) (m ((c.tc : Thread Cert.GateTailIdeal.nD Cert.GateTailIdeal.τ).loc Cert.GateTailIdeal.main_arg3)) (m ((c.tc : Thread Cert.GateTailIdeal.nD Cert.GateTailIdeal.τ).loc Cert.GateTailIdeal.main_arg4)) (m ((c.tc : Thread Cert.GateTailIdeal.nD Cert.GateTailIdeal.τ).loc Cert.GateTailIdeal.main_arg5)) (m ((c.tc : Thread Cert.GateTailIdeal.nD Cert.GateTailIdeal.τ).loc Cert.GateTailIdeal.main_arg6))).1 = (fun _ => 1#1)
    ∧ (Cert.Pre_finite_gate_tail.fn (F := Ideal) (m ((c.tc : Thread Cert.GateTailIdeal.nD Cert.GateTailIdeal.τ).loc Cert.GateTailIdeal.main_arg0)) (m ((c.tc : Thread Cert.GateTailIdeal.nD Cert.GateTailIdeal.τ).loc Cert.GateTailIdeal.main_arg1)) (m ((c.tc : Thread Cert.GateTailIdeal.nD Cert.GateTailIdeal.τ).loc Cert.GateTailIdeal.main_arg2)) (m ((c.tc : Thread Cert.GateTailIdeal.nD Cert.GateTailIdeal.τ).loc Cert.GateTailIdeal.main_arg3)) (m ((c.tc : Thread Cert.GateTailIdeal.nD Cert.GateTailIdeal.τ).loc Cert.GateTailIdeal.main_arg4)) (m ((c.tc : Thread Cert.GateTailIdeal.nD Cert.GateTailIdeal.τ).loc Cert.GateTailIdeal.main_arg5)) (m ((c.tc : Thread Cert.GateTailIdeal.nD Cert.GateTailIdeal.τ).loc Cert.GateTailIdeal.main_arg6))).2.1 = (fun _ => 1#1)
    ∧ (Cert.Pre_finite_gate_tail.fn (F := Ideal) (m ((c.tc : Thread Cert.GateTailIdeal.nD Cert.GateTailIdeal.τ).loc Cert.GateTailIdeal.main_arg0)) (m ((c.tc : Thread Cert.GateTailIdeal.nD Cert.GateTailIdeal.τ).loc Cert.GateTailIdeal.main_arg1)) (m ((c.tc : Thread Cert.GateTailIdeal.nD Cert.GateTailIdeal.τ).loc Cert.GateTailIdeal.main_arg2)) (m ((c.tc : Thread Cert.GateTailIdeal.nD Cert.GateTailIdeal.τ).loc Cert.GateTailIdeal.main_arg3)) (m ((c.tc : Thread Cert.GateTailIdeal.nD Cert.GateTailIdeal.τ).loc Cert.GateTailIdeal.main_arg4)) (m ((c.tc : Thread Cert.GateTailIdeal.nD Cert.GateTailIdeal.τ).loc Cert.GateTailIdeal.main_arg5)) (m ((c.tc : Thread Cert.GateTailIdeal.nD Cert.GateTailIdeal.τ).loc Cert.GateTailIdeal.main_arg6))).2.2.1 = (fun _ => 1#1)
    ∧ (Cert.Pre_finite_gate_tail.fn (F := Ideal) (m ((c.tc : Thread Cert.GateTailIdeal.nD Cert.GateTailIdeal.τ).loc Cert.GateTailIdeal.main_arg0)) (m ((c.tc : Thread Cert.GateTailIdeal.nD Cert.GateTailIdeal.τ).loc Cert.GateTailIdeal.main_arg1)) (m ((c.tc : Thread Cert.GateTailIdeal.nD Cert.GateTailIdeal.τ).loc Cert.GateTailIdeal.main_arg2)) (m ((c.tc : Thread Cert.GateTailIdeal.nD Cert.GateTailIdeal.τ).loc Cert.GateTailIdeal.main_arg3)) (m ((c.tc : Thread Cert.GateTailIdeal.nD Cert.GateTailIdeal.τ).loc Cert.GateTailIdeal.main_arg4)) (m ((c.tc : Thread Cert.GateTailIdeal.nD Cert.GateTailIdeal.τ).loc Cert.GateTailIdeal.main_arg5)) (m ((c.tc : Thread Cert.GateTailIdeal.nD Cert.GateTailIdeal.τ).loc Cert.GateTailIdeal.main_arg6))).2.2.2.1 = (fun _ => 1#1)
    ∧ (Cert.Pre_finite_gate_tail.fn (F := Ideal) (m ((c.tc : Thread Cert.GateTailIdeal.nD Cert.GateTailIdeal.τ).loc Cert.GateTailIdeal.main_arg0)) (m ((c.tc : Thread Cert.GateTailIdeal.nD Cert.GateTailIdeal.τ).loc Cert.GateTailIdeal.main_arg1)) (m ((c.tc : Thread Cert.GateTailIdeal.nD Cert.GateTailIdeal.τ).loc Cert.GateTailIdeal.main_arg2)) (m ((c.tc : Thread Cert.GateTailIdeal.nD Cert.GateTailIdeal.τ).loc Cert.GateTailIdeal.main_arg3)) (m ((c.tc : Thread Cert.GateTailIdeal.nD Cert.GateTailIdeal.τ).loc Cert.GateTailIdeal.main_arg4)) (m ((c.tc : Thread Cert.GateTailIdeal.nD Cert.GateTailIdeal.τ).loc Cert.GateTailIdeal.main_arg5)) (m ((c.tc : Thread Cert.GateTailIdeal.nD Cert.GateTailIdeal.τ).loc Cert.GateTailIdeal.main_arg6))).2.2.2.2 = (fun _ => 1#1)

def Pre_GateTailRefIdeal (m : (ℓ : Loc Cert.GateTailRefIdeal.nD Cert.GateTailRefIdeal.τ Cert.GateTailRefIdeal.sig) → Buf (Elt Ideal) ℓ) : Prop :=
  True

def Pre_GateTailRefIdeal_finite_gate_tail [hPre_finite_gate_tail : Cert.Pre_finite_gate_tail.Facts] (m : (ℓ : Loc Cert.GateTailRefIdeal.nD Cert.GateTailRefIdeal.τ Cert.GateTailRefIdeal.sig) → Buf (Elt Ideal) ℓ) : Prop :=
  ∀ c : Dev Cert.GateTailRefIdeal.nD,
    (Cert.Pre_finite_gate_tail.fn (F := Ideal) (m ((c.tc : Thread Cert.GateTailRefIdeal.nD Cert.GateTailRefIdeal.τ).loc Cert.GateTailRefIdeal.main_arg0)) (m ((c.tc : Thread Cert.GateTailRefIdeal.nD Cert.GateTailRefIdeal.τ).loc Cert.GateTailRefIdeal.main_arg1)) (m ((c.tc : Thread Cert.GateTailRefIdeal.nD Cert.GateTailRefIdeal.τ).loc Cert.GateTailRefIdeal.main_arg2)) (m ((c.tc : Thread Cert.GateTailRefIdeal.nD Cert.GateTailRefIdeal.τ).loc Cert.GateTailRefIdeal.main_arg3)) (m ((c.tc : Thread Cert.GateTailRefIdeal.nD Cert.GateTailRefIdeal.τ).loc Cert.GateTailRefIdeal.main_arg4)) (m ((c.tc : Thread Cert.GateTailRefIdeal.nD Cert.GateTailRefIdeal.τ).loc Cert.GateTailRefIdeal.main_arg5)) (m ((c.tc : Thread Cert.GateTailRefIdeal.nD Cert.GateTailRefIdeal.τ).loc Cert.GateTailRefIdeal.main_arg6))).1 = (fun _ => 1#1)
    ∧ (Cert.Pre_finite_gate_tail.fn (F := Ideal) (m ((c.tc : Thread Cert.GateTailRefIdeal.nD Cert.GateTailRefIdeal.τ).loc Cert.GateTailRefIdeal.main_arg0)) (m ((c.tc : Thread Cert.GateTailRefIdeal.nD Cert.GateTailRefIdeal.τ).loc Cert.GateTailRefIdeal.main_arg1)) (m ((c.tc : Thread Cert.GateTailRefIdeal.nD Cert.GateTailRefIdeal.τ).loc Cert.GateTailRefIdeal.main_arg2)) (m ((c.tc : Thread Cert.GateTailRefIdeal.nD Cert.GateTailRefIdeal.τ).loc Cert.GateTailRefIdeal.main_arg3)) (m ((c.tc : Thread Cert.GateTailRefIdeal.nD Cert.GateTailRefIdeal.τ).loc Cert.GateTailRefIdeal.main_arg4)) (m ((c.tc : Thread Cert.GateTailRefIdeal.nD Cert.GateTailRefIdeal.τ).loc Cert.GateTailRefIdeal.main_arg5)) (m ((c.tc : Thread Cert.GateTailRefIdeal.nD Cert.GateTailRefIdeal.τ).loc Cert.GateTailRefIdeal.main_arg6))).2.1 = (fun _ => 1#1)
    ∧ (Cert.Pre_finite_gate_tail.fn (F := Ideal) (m ((c.tc : Thread Cert.GateTailRefIdeal.nD Cert.GateTailRefIdeal.τ).loc Cert.GateTailRefIdeal.main_arg0)) (m ((c.tc : Thread Cert.GateTailRefIdeal.nD Cert.GateTailRefIdeal.τ).loc Cert.GateTailRefIdeal.main_arg1)) (m ((c.tc : Thread Cert.GateTailRefIdeal.nD Cert.GateTailRefIdeal.τ).loc Cert.GateTailRefIdeal.main_arg2)) (m ((c.tc : Thread Cert.GateTailRefIdeal.nD Cert.GateTailRefIdeal.τ).loc Cert.GateTailRefIdeal.main_arg3)) (m ((c.tc : Thread Cert.GateTailRefIdeal.nD Cert.GateTailRefIdeal.τ).loc Cert.GateTailRefIdeal.main_arg4)) (m ((c.tc : Thread Cert.GateTailRefIdeal.nD Cert.GateTailRefIdeal.τ).loc Cert.GateTailRefIdeal.main_arg5)) (m ((c.tc : Thread Cert.GateTailRefIdeal.nD Cert.GateTailRefIdeal.τ).loc Cert.GateTailRefIdeal.main_arg6))).2.2.1 = (fun _ => 1#1)
    ∧ (Cert.Pre_finite_gate_tail.fn (F := Ideal) (m ((c.tc : Thread Cert.GateTailRefIdeal.nD Cert.GateTailRefIdeal.τ).loc Cert.GateTailRefIdeal.main_arg0)) (m ((c.tc : Thread Cert.GateTailRefIdeal.nD Cert.GateTailRefIdeal.τ).loc Cert.GateTailRefIdeal.main_arg1)) (m ((c.tc : Thread Cert.GateTailRefIdeal.nD Cert.GateTailRefIdeal.τ).loc Cert.GateTailRefIdeal.main_arg2)) (m ((c.tc : Thread Cert.GateTailRefIdeal.nD Cert.GateTailRefIdeal.τ).loc Cert.GateTailRefIdeal.main_arg3)) (m ((c.tc : Thread Cert.GateTailRefIdeal.nD Cert.GateTailRefIdeal.τ).loc Cert.GateTailRefIdeal.main_arg4)) (m ((c.tc : Thread Cert.GateTailRefIdeal.nD Cert.GateTailRefIdeal.τ).loc Cert.GateTailRefIdeal.main_arg5)) (m ((c.tc : Thread Cert.GateTailRefIdeal.nD Cert.GateTailRefIdeal.τ).loc Cert.GateTailRefIdeal.main_arg6))).2.2.2.1 = (fun _ => 1#1)
    ∧ (Cert.Pre_finite_gate_tail.fn (F := Ideal) (m ((c.tc : Thread Cert.GateTailRefIdeal.nD Cert.GateTailRefIdeal.τ).loc Cert.GateTailRefIdeal.main_arg0)) (m ((c.tc : Thread Cert.GateTailRefIdeal.nD Cert.GateTailRefIdeal.τ).loc Cert.GateTailRefIdeal.main_arg1)) (m ((c.tc : Thread Cert.GateTailRefIdeal.nD Cert.GateTailRefIdeal.τ).loc Cert.GateTailRefIdeal.main_arg2)) (m ((c.tc : Thread Cert.GateTailRefIdeal.nD Cert.GateTailRefIdeal.τ).loc Cert.GateTailRefIdeal.main_arg3)) (m ((c.tc : Thread Cert.GateTailRefIdeal.nD Cert.GateTailRefIdeal.τ).loc Cert.GateTailRefIdeal.main_arg4)) (m ((c.tc : Thread Cert.GateTailRefIdeal.nD Cert.GateTailRefIdeal.τ).loc Cert.GateTailRefIdeal.main_arg5)) (m ((c.tc : Thread Cert.GateTailRefIdeal.nD Cert.GateTailRefIdeal.τ).loc Cert.GateTailRefIdeal.main_arg6))).2.2.2.2 = (fun _ => 1#1)

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_DProjIdeal_finite_dproj [hPre_finite_dproj : Cert.Pre_finite_dproj.Facts] (m : (ℓ : Loc Cert.DProjIdeal.nD Cert.DProjIdeal.τ Cert.DProjIdeal.sig) → Buf (Elt Ideal) ℓ) : Prop :=
  ∀ c : Dev Cert.DProjIdeal.nD,
    (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8))).1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8))).2.1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8))).2.2.1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8))).2.2.2.1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8))).2.2.2.2 = (fun _ => 1#1)

def Pre_DProjRefIdeal (m : (ℓ : Loc Cert.DProjRefIdeal.nD Cert.DProjRefIdeal.τ Cert.DProjRefIdeal.sig) → Buf (Elt Ideal) ℓ) : Prop :=
  True

def Pre_DProjRefIdeal_finite_dproj [hPre_finite_dproj : Cert.Pre_finite_dproj.Facts] (m : (ℓ : Loc Cert.DProjRefIdeal.nD Cert.DProjRefIdeal.τ Cert.DProjRefIdeal.sig) → Buf (Elt Ideal) ℓ) : Prop :=
  ∀ c : Dev Cert.DProjRefIdeal.nD,
    (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8))).1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8))).2.1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8))).2.2.1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8))).2.2.2.1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8))).2.2.2.2 = (fun _ => 1#1)

def Pre_TableGrads (m : (ℓ : Loc Cert.TableGrads.nD Cert.TableGrads.τ Cert.TableGrads.sig) → Buf (Elt Bits) ℓ) : Prop :=
  True

def Pre_TableGradsIdeal (m : (ℓ : Loc Cert.TableGradsIdeal.nD Cert.TableGradsIdeal.τ Cert.TableGradsIdeal.sig) → Buf (Elt Ideal) ℓ) : Prop :=
  True

def Pre_TableGradsRefIdeal (m : (ℓ : Loc Cert.TableGradsRefIdeal.nD Cert.TableGradsRefIdeal.τ Cert.TableGradsRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_BiasBuild (m : (ℓ : Loc Cert.BiasBuild.nD Cert.BiasBuild.τ Cert.BiasBuild.sig) → Buf (Elt Bits) ℓ) : Prop :=
  True

def Pre_BiasBuildIdeal (m : (ℓ : Loc Cert.BiasBuildIdeal.nD Cert.BiasBuildIdeal.τ Cert.BiasBuildIdeal.sig) → Buf (Elt Ideal) ℓ) : Prop :=
  True

def Pre_BiasBuildRefIdeal (m : (ℓ : Loc Cert.BiasBuildRefIdeal.nD Cert.BiasBuildRefIdeal.τ Cert.BiasBuildRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_DMlpIn (m : (ℓ : Loc Cert.DMlpIn.nD Cert.DMlpIn.τ Cert.DMlpIn.sig) → Buf (Elt Bits) ℓ) : Prop :=
  True

def Pre_DMlpInIdeal (m : (ℓ : Loc Cert.DMlpInIdeal.nD Cert.DMlpInIdeal.τ Cert.DMlpInIdeal.sig) → Buf (Elt Ideal) ℓ) : Prop :=
  True

def Pre_DMlpInRefIdeal (m : (ℓ : Loc Cert.DMlpInRefIdeal.nD Cert.DMlpInRefIdeal.τ Cert.DMlpInRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ r.2.sem = fun _ => 0)

def quiescent_AttnAIdeal_pre_finite_attn_a [hAttnAIdeal : Cert.AttnAIdeal.Facts] [hPre_finite_attn_a : Cert.Pre_finite_attn_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_attn_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1))
      ∧ r.2.sem = fun _ => 0)

def quiescent_AttnARefIdeal_pre_finite_attn_a [hAttnARefIdeal : Cert.AttnARefIdeal.Facts] [hPre_finite_attn_a : Cert.Pre_finite_attn_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_attn_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2)
      ∧ r.2.mem ((c.tc : Thread Cert.DGate.nD Cert.DGate.τ).loc Cert.DGate.main_arg3) = m ((c.tc : Thread Cert.DGate.nD Cert.DGate.τ).loc Cert.DGate.main_arg3)
      ∧ r.2.mem ((c.tc : Thread Cert.DGate.nD Cert.DGate.τ).loc Cert.DGate.main_arg4) = m ((c.tc : Thread Cert.DGate.nD Cert.DGate.τ).loc Cert.DGate.main_arg4))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
      ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3)
      ∧ r.2.mem ((c.tc : Thread Cert.DGateIdeal.nD Cert.DGateIdeal.τ).loc Cert.DGateIdeal.main_arg4) = m ((c.tc : Thread Cert.DGateIdeal.nD Cert.DGateIdeal.τ).loc Cert.DGateIdeal.main_arg4))
      ∧ r.2.sem = fun _ => 0)

def quiescent_DGateIdeal_pre_finite_d_gate [hDGateIdeal : Cert.DGateIdeal.Facts] [hPre_finite_d_gate : Cert.Pre_finite_d_gate.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal_finite_d_gate m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
      ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3)
      ∧ r.2.mem ((c.tc : Thread Cert.DGateIdeal.nD Cert.DGateIdeal.τ).loc Cert.DGateIdeal.main_arg4) = m ((c.tc : Thread Cert.DGateIdeal.nD Cert.DGateIdeal.τ).loc Cert.DGateIdeal.main_arg4))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2)
      ∧ r.2.mem ((c.tc : Thread Cert.DGateRefIdeal.nD Cert.DGateRefIdeal.τ).loc Cert.DGateRefIdeal.main_arg3) = m ((c.tc : Thread Cert.DGateRefIdeal.nD Cert.DGateRefIdeal.τ).loc Cert.DGateRefIdeal.main_arg3)
      ∧ r.2.mem ((c.tc : Thread Cert.DGateRefIdeal.nD Cert.DGateRefIdeal.τ).loc Cert.DGateRefIdeal.main_arg4) = m ((c.tc : Thread Cert.DGateRefIdeal.nD Cert.DGateRefIdeal.τ).loc Cert.DGateRefIdeal.main_arg4))
      ∧ r.2.sem = fun _ => 0)

def quiescent_DGateRefIdeal_pre_finite_d_gate [hDGateRefIdeal : Cert.DGateRefIdeal.Facts] [hPre_finite_d_gate : Cert.Pre_finite_d_gate.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal_finite_d_gate m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2)
      ∧ r.2.mem ((c.tc : Thread Cert.DGateRefIdeal.nD Cert.DGateRefIdeal.τ).loc Cert.DGateRefIdeal.main_arg3) = m ((c.tc : Thread Cert.DGateRefIdeal.nD Cert.DGateRefIdeal.τ).loc Cert.DGateRefIdeal.main_arg3)
      ∧ r.2.mem ((c.tc : Thread Cert.DGateRefIdeal.nD Cert.DGateRefIdeal.τ).loc Cert.DGateRefIdeal.main_arg4) = m ((c.tc : Thread Cert.DGateRefIdeal.nD Cert.DGateRefIdeal.τ).loc Cert.DGateRefIdeal.main_arg4))
      ∧ r.2.sem = fun _ => 0)

def quiescent_DAttnIn [hDAttnIn : Cert.DAttnIn.Facts] : Prop :=
  ∀ (m : (ℓ : Loc Cert.DAttnIn.nD Cert.DAttnIn.τ Cert.DAttnIn.sig) → Buf (Elt Bits) ℓ) (g : Dev Cert.DAttnIn.nD → PrngReg), Pre_DAttnIn m →
    θ_run (Cert.DAttnIn.defs (F := Bits)) (onTc (τ := Cert.DAttnIn.τ) (Cert.DAttnIn.main (F := Bits))) ⟨m, fun _ => 0, g⟩ (fun r => (∀ c : Dev Cert.DAttnIn.nD,
      r.2.mem ((c.tc : Thread Cert.DAttnIn.nD Cert.DAttnIn.τ).loc Cert.DAttnIn.main_arg0) = m ((c.tc : Thread Cert.DAttnIn.nD Cert.DAttnIn.τ).loc Cert.DAttnIn.main_arg0)
      ∧ r.2.mem ((c.tc : Thread Cert.DAttnIn.nD Cert.DAttnIn.τ).loc Cert.DAttnIn.main_arg1) = m ((c.tc : Thread Cert.DAttnIn.nD Cert.DAttnIn.τ).loc Cert.DAttnIn.main_arg1)
      ∧ r.2.mem ((c.tc : Thread Cert.DAttnIn.nD Cert.DAttnIn.τ).loc Cert.DAttnIn.main_arg2) = m ((c.tc : Thread Cert.DAttnIn.nD Cert.DAttnIn.τ).loc Cert.DAttnIn.main_arg2)
      ∧ r.2.mem ((c.tc : Thread Cert.DAttnIn.nD Cert.DAttnIn.τ).loc Cert.DAttnIn.main_arg3) = m ((c.tc : Thread Cert.DAttnIn.nD Cert.DAttnIn.τ).loc Cert.DAttnIn.main_arg3)
      ∧ r.2.mem ((c.tc : Thread Cert.DAttnIn.nD Cert.DAttnIn.τ).loc Cert.DAttnIn.main_arg4) = m ((c.tc : Thread Cert.DAttnIn.nD Cert.DAttnIn.τ).loc Cert.DAttnIn.main_arg4))
      ∧ r.2.sem = fun _ => 0)

def quiescent_DAttnInIdeal [hDAttnInIdeal : Cert.DAttnInIdeal.Facts] : Prop :=
  ∀ (m : (ℓ : Loc Cert.DAttnInIdeal.nD Cert.DAttnInIdeal.τ Cert.DAttnInIdeal.sig) → Buf (Elt Ideal) ℓ) (g : Dev Cert.DAttnInIdeal.nD → PrngReg), Pre_DAttnInIdeal m →
    θ_run (Cert.DAttnInIdeal.defs (F := Ideal)) (onTc (τ := Cert.DAttnInIdeal.τ) (Cert.DAttnInIdeal.main (F := Ideal))) ⟨m, fun _ => 0, g⟩ (fun r => (∀ c : Dev Cert.DAttnInIdeal.nD,
      r.2.mem ((c.tc : Thread Cert.DAttnInIdeal.nD Cert.DAttnInIdeal.τ).loc Cert.DAttnInIdeal.main_arg0) = m ((c.tc : Thread Cert.DAttnInIdeal.nD Cert.DAttnInIdeal.τ).loc Cert.DAttnInIdeal.main_arg0)
      ∧ r.2.mem ((c.tc : Thread Cert.DAttnInIdeal.nD Cert.DAttnInIdeal.τ).loc Cert.DAttnInIdeal.main_arg1) = m ((c.tc : Thread Cert.DAttnInIdeal.nD Cert.DAttnInIdeal.τ).loc Cert.DAttnInIdeal.main_arg1)
      ∧ r.2.mem ((c.tc : Thread Cert.DAttnInIdeal.nD Cert.DAttnInIdeal.τ).loc Cert.DAttnInIdeal.main_arg2) = m ((c.tc : Thread Cert.DAttnInIdeal.nD Cert.DAttnInIdeal.τ).loc Cert.DAttnInIdeal.main_arg2)
      ∧ r.2.mem ((c.tc : Thread Cert.DAttnInIdeal.nD Cert.DAttnInIdeal.τ).loc Cert.DAttnInIdeal.main_arg3) = m ((c.tc : Thread Cert.DAttnInIdeal.nD Cert.DAttnInIdeal.τ).loc Cert.DAttnInIdeal.main_arg3)
      ∧ r.2.mem ((c.tc : Thread Cert.DAttnInIdeal.nD Cert.DAttnInIdeal.τ).loc Cert.DAttnInIdeal.main_arg4) = m ((c.tc : Thread Cert.DAttnInIdeal.nD Cert.DAttnInIdeal.τ).loc Cert.DAttnInIdeal.main_arg4))
      ∧ r.2.sem = fun _ => 0)

def quiescent_DAttnInIdeal_pre_finite_d_attn_in [hDAttnInIdeal : Cert.DAttnInIdeal.Facts] [hPre_finite_d_attn_in : Cert.Pre_finite_d_attn_in.Facts] : Prop :=
  ∀ (m : (ℓ : Loc Cert.DAttnInIdeal.nD Cert.DAttnInIdeal.τ Cert.DAttnInIdeal.sig) → Buf (Elt Ideal) ℓ) (g : Dev Cert.DAttnInIdeal.nD → PrngReg), Pre_DAttnInIdeal_finite_d_attn_in m →
    θ_run (Cert.DAttnInIdeal.defs (F := Ideal)) (onTc (τ := Cert.DAttnInIdeal.τ) (Cert.DAttnInIdeal.main (F := Ideal))) ⟨m, fun _ => 0, g⟩ (fun r => (∀ c : Dev Cert.DAttnInIdeal.nD,
      r.2.mem ((c.tc : Thread Cert.DAttnInIdeal.nD Cert.DAttnInIdeal.τ).loc Cert.DAttnInIdeal.main_arg0) = m ((c.tc : Thread Cert.DAttnInIdeal.nD Cert.DAttnInIdeal.τ).loc Cert.DAttnInIdeal.main_arg0)
      ∧ r.2.mem ((c.tc : Thread Cert.DAttnInIdeal.nD Cert.DAttnInIdeal.τ).loc Cert.DAttnInIdeal.main_arg1) = m ((c.tc : Thread Cert.DAttnInIdeal.nD Cert.DAttnInIdeal.τ).loc Cert.DAttnInIdeal.main_arg1)
      ∧ r.2.mem ((c.tc : Thread Cert.DAttnInIdeal.nD Cert.DAttnInIdeal.τ).loc Cert.DAttnInIdeal.main_arg2) = m ((c.tc : Thread Cert.DAttnInIdeal.nD Cert.DAttnInIdeal.τ).loc Cert.DAttnInIdeal.main_arg2)
      ∧ r.2.mem ((c.tc : Thread Cert.DAttnInIdeal.nD Cert.DAttnInIdeal.τ).loc Cert.DAttnInIdeal.main_arg3) = m ((c.tc : Thread Cert.DAttnInIdeal.nD Cert.DAttnInIdeal.τ).loc Cert.DAttnInIdeal.main_arg3)
      ∧ r.2.mem ((c.tc : Thread Cert.DAttnInIdeal.nD Cert.DAttnInIdeal.τ).loc Cert.DAttnInIdeal.main_arg4) = m ((c.tc : Thread Cert.DAttnInIdeal.nD Cert.DAttnInIdeal.τ).loc Cert.DAttnInIdeal.main_arg4))
      ∧ r.2.sem = fun _ => 0)

def quiescent_DAttnInRefIdeal [hDAttnInRefIdeal : Cert.DAttnInRefIdeal.Facts] : Prop :=
  ∀ (m : (ℓ : Loc Cert.DAttnInRefIdeal.nD Cert.DAttnInRefIdeal.τ Cert.DAttnInRefIdeal.sig) → Buf (Elt Ideal) ℓ) (g : Dev Cert.DAttnInRefIdeal.nD → PrngReg), Pre_DAttnInRefIdeal m →
    θ_run (Cert.DAttnInRefIdeal.defs (F := Ideal)) (onTc (τ := Cert.DAttnInRefIdeal.τ) (Cert.DAttnInRefIdeal.main (F := Ideal))) ⟨m, fun _ => 0, g⟩ (fun r => (∀ c : Dev Cert.DAttnInRefIdeal.nD,
      r.2.mem ((c.tc : Thread Cert.DAttnInRefIdeal.nD Cert.DAttnInRefIdeal.τ).loc Cert.DAttnInRefIdeal.main_arg0) = m ((c.tc : Thread Cert.DAttnInRefIdeal.nD Cert.DAttnInRefIdeal.τ).loc Cert.DAttnInRefIdeal.main_arg0)
      ∧ r.2.mem ((c.tc : Thread Cert.DAttnInRefIdeal.nD Cert.DAttnInRefIdeal.τ).loc Cert.DAttnInRefIdeal.main_arg1) = m ((c.tc : Thread Cert.DAttnInRefIdeal.nD Cert.DAttnInRefIdeal.τ).loc Cert.DAttnInRefIdeal.main_arg1)
      ∧ r.2.mem ((c.tc : Thread Cert.DAttnInRefIdeal.nD Cert.DAttnInRefIdeal.τ).loc Cert.DAttnInRefIdeal.main_arg2) = m ((c.tc : Thread Cert.DAttnInRefIdeal.nD Cert.DAttnInRefIdeal.τ).loc Cert.DAttnInRefIdeal.main_arg2)
      ∧ r.2.mem ((c.tc : Thread Cert.DAttnInRefIdeal.nD Cert.DAttnInRefIdeal.τ).loc Cert.DAttnInRefIdeal.main_arg3) = m ((c.tc : Thread Cert.DAttnInRefIdeal.nD Cert.DAttnInRefIdeal.τ).loc Cert.DAttnInRefIdeal.main_arg3)
      ∧ r.2.mem ((c.tc : Thread Cert.DAttnInRefIdeal.nD Cert.DAttnInRefIdeal.τ).loc Cert.DAttnInRefIdeal.main_arg4) = m ((c.tc : Thread Cert.DAttnInRefIdeal.nD Cert.DAttnInRefIdeal.τ).loc Cert.DAttnInRefIdeal.main_arg4))
      ∧ r.2.sem = fun _ => 0)

def quiescent_DAttnInRefIdeal_pre_finite_d_attn_in [hDAttnInRefIdeal : Cert.DAttnInRefIdeal.Facts] [hPre_finite_d_attn_in : Cert.Pre_finite_d_attn_in.Facts] : Prop :=
  ∀ (m : (ℓ : Loc Cert.DAttnInRefIdeal.nD Cert.DAttnInRefIdeal.τ Cert.DAttnInRefIdeal.sig) → Buf (Elt Ideal) ℓ) (g : Dev Cert.DAttnInRefIdeal.nD → PrngReg), Pre_DAttnInRefIdeal_finite_d_attn_in m →
    θ_run (Cert.DAttnInRefIdeal.defs (F := Ideal)) (onTc (τ := Cert.DAttnInRefIdeal.τ) (Cert.DAttnInRefIdeal.main (F := Ideal))) ⟨m, fun _ => 0, g⟩ (fun r => (∀ c : Dev Cert.DAttnInRefIdeal.nD,
      r.2.mem ((c.tc : Thread Cert.DAttnInRefIdeal.nD Cert.DAttnInRefIdeal.τ).loc Cert.DAttnInRefIdeal.main_arg0) = m ((c.tc : Thread Cert.DAttnInRefIdeal.nD Cert.DAttnInRefIdeal.τ).loc Cert.DAttnInRefIdeal.main_arg0)
      ∧ r.2.mem ((c.tc : Thread Cert.DAttnInRefIdeal.nD Cert.DAttnInRefIdeal.τ).loc Cert.DAttnInRefIdeal.main_arg1) = m ((c.tc : Thread Cert.DAttnInRefIdeal.nD Cert.DAttnInRefIdeal.τ).loc Cert.DAttnInRefIdeal.main_arg1)
      ∧ r.2.mem ((c.tc : Thread Cert.DAttnInRefIdeal.nD Cert.DAttnInRefIdeal.τ).loc Cert.DAttnInRefIdeal.main_arg2) = m ((c.tc : Thread Cert.DAttnInRefIdeal.nD Cert.DAttnInRefIdeal.τ).loc Cert.DAttnInRefIdeal.main_arg2)
      ∧ r.2.mem ((c.tc : Thread Cert.DAttnInRefIdeal.nD Cert.DAttnInRefIdeal.τ).loc Cert.DAttnInRefIdeal.main_arg3) = m ((c.tc : Thread Cert.DAttnInRefIdeal.nD Cert.DAttnInRefIdeal.τ).loc Cert.DAttnInRefIdeal.main_arg3)
      ∧ r.2.mem ((c.tc : Thread Cert.DAttnInRefIdeal.nD Cert.DAttnInRefIdeal.τ).loc Cert.DAttnInRefIdeal.main_arg4) = m ((c.tc : Thread Cert.DAttnInRefIdeal.nD Cert.DAttnInRefIdeal.τ).loc Cert.DAttnInRefIdeal.main_arg4))
      ∧ r.2.sem = fun _ => 0)

def quiescent_GateTail [hGateTail : Cert.GateTail.Facts] : Prop :=
  ∀ (m : (ℓ : Loc Cert.GateTail.nD Cert.GateTail.τ Cert.GateTail.sig) → Buf (Elt Bits) ℓ) (g : Dev Cert.GateTail.nD → PrngReg), Pre_GateTail m →
    θ_run (Cert.GateTail.defs (F := Bits)) (onTc (τ := Cert.GateTail.τ) (Cert.GateTail.main (F := Bits))) ⟨m, fun _ => 0, g⟩ (fun r => (∀ c : Dev Cert.GateTail.nD,
      r.2.mem ((c.tc : Thread Cert.GateTail.nD Cert.GateTail.τ).loc Cert.GateTail.main_arg0) = m ((c.tc : Thread Cert.GateTail.nD Cert.GateTail.τ).loc Cert.GateTail.main_arg0)
      ∧ r.2.mem ((c.tc : Thread Cert.GateTail.nD Cert.GateTail.τ).loc Cert.GateTail.main_arg1) = m ((c.tc : Thread Cert.GateTail.nD Cert.GateTail.τ).loc Cert.GateTail.main_arg1)
      ∧ r.2.mem ((c.tc : Thread Cert.GateTail.nD Cert.GateTail.τ).loc Cert.GateTail.main_arg2) = m ((c.tc : Thread Cert.GateTail.nD Cert.GateTail.τ).loc Cert.GateTail.main_arg2)
      ∧ r.2.mem ((c.tc : Thread Cert.GateTail.nD Cert.GateTail.τ).loc Cert.GateTail.main_arg3) = m ((c.tc : Thread Cert.GateTail.nD Cert.GateTail.τ).loc Cert.GateTail.main_arg3)
      ∧ r.2.mem ((c.tc : Thread Cert.GateTail.nD Cert.GateTail.τ).loc Cert.GateTail.main_arg4) = m ((c.tc : Thread Cert.GateTail.nD Cert.GateTail.τ).loc Cert.GateTail.main_arg4)
      ∧ r.2.mem ((c.tc : Thread Cert.GateTail.nD Cert.GateTail.τ).loc Cert.GateTail.main_arg5) = m ((c.tc : Thread Cert.GateTail.nD Cert.GateTail.τ).loc Cert.GateTail.main_arg5)
      ∧ r.2.mem ((c.tc : Thread Cert.GateTail.nD Cert.GateTail.τ).loc Cert.GateTail.main_arg6) = m ((c.tc : Thread Cert.GateTail.nD Cert.GateTail.τ).loc Cert.GateTail.main_arg6))
      ∧ r.2.sem = fun _ => 0)

def quiescent_GateTailIdeal [hGateTailIdeal : Cert.GateTailIdeal.Facts] : Prop :=
  ∀ (m : (ℓ : Loc Cert.GateTailIdeal.nD Cert.GateTailIdeal.τ Cert.GateTailIdeal.sig) → Buf (Elt Ideal) ℓ) (g : Dev Cert.GateTailIdeal.nD → PrngReg), Pre_GateTailIdeal m →
    θ_run (Cert.GateTailIdeal.defs (F := Ideal)) (onTc (τ := Cert.GateTailIdeal.τ) (Cert.GateTailIdeal.main (F := Ideal))) ⟨m, fun _ => 0, g⟩ (fun r => (∀ c : Dev Cert.GateTailIdeal.nD,
      r.2.mem ((c.tc : Thread Cert.GateTailIdeal.nD Cert.GateTailIdeal.τ).loc Cert.GateTailIdeal.main_arg0) = m ((c.tc : Thread Cert.GateTailIdeal.nD Cert.GateTailIdeal.τ).loc Cert.GateTailIdeal.main_arg0)
      ∧ r.2.mem ((c.tc : Thread Cert.GateTailIdeal.nD Cert.GateTailIdeal.τ).loc Cert.GateTailIdeal.main_arg1) = m ((c.tc : Thread Cert.GateTailIdeal.nD Cert.GateTailIdeal.τ).loc Cert.GateTailIdeal.main_arg1)
      ∧ r.2.mem ((c.tc : Thread Cert.GateTailIdeal.nD Cert.GateTailIdeal.τ).loc Cert.GateTailIdeal.main_arg2) = m ((c.tc : Thread Cert.GateTailIdeal.nD Cert.GateTailIdeal.τ).loc Cert.GateTailIdeal.main_arg2)
      ∧ r.2.mem ((c.tc : Thread Cert.GateTailIdeal.nD Cert.GateTailIdeal.τ).loc Cert.GateTailIdeal.main_arg3) = m ((c.tc : Thread Cert.GateTailIdeal.nD Cert.GateTailIdeal.τ).loc Cert.GateTailIdeal.main_arg3)
      ∧ r.2.mem ((c.tc : Thread Cert.GateTailIdeal.nD Cert.GateTailIdeal.τ).loc Cert.GateTailIdeal.main_arg4) = m ((c.tc : Thread Cert.GateTailIdeal.nD Cert.GateTailIdeal.τ).loc Cert.GateTailIdeal.main_arg4)
      ∧ r.2.mem ((c.tc : Thread Cert.GateTailIdeal.nD Cert.GateTailIdeal.τ).loc Cert.GateTailIdeal.main_arg5) = m ((c.tc : Thread Cert.GateTailIdeal.nD Cert.GateTailIdeal.τ).loc Cert.GateTailIdeal.main_arg5)
      ∧ r.2.mem ((c.tc : Thread Cert.GateTailIdeal.nD Cert.GateTailIdeal.τ).loc Cert.GateTailIdeal.main_arg6) = m ((c.tc : Thread Cert.GateTailIdeal.nD Cert.GateTailIdeal.τ).loc Cert.GateTailIdeal.main_arg6))
      ∧ r.2.sem = fun _ => 0)

def quiescent_GateTailIdeal_pre_finite_gate_tail [hGateTailIdeal : Cert.GateTailIdeal.Facts] [hPre_finite_gate_tail : Cert.Pre_finite_gate_tail.Facts] : Prop :=
  ∀ (m : (ℓ : Loc Cert.GateTailIdeal.nD Cert.GateTailIdeal.τ Cert.GateTailIdeal.sig) → Buf (Elt Ideal) ℓ) (g : Dev Cert.GateTailIdeal.nD → PrngReg), Pre_GateTailIdeal_finite_gate_tail m →
    θ_run (Cert.GateTailIdeal.defs (F := Ideal)) (onTc (τ := Cert.GateTailIdeal.τ) (Cert.GateTailIdeal.main (F := Ideal))) ⟨m, fun _ => 0, g⟩ (fun r => (∀ c : Dev Cert.GateTailIdeal.nD,
      r.2.mem ((c.tc : Thread Cert.GateTailIdeal.nD Cert.GateTailIdeal.τ).loc Cert.GateTailIdeal.main_arg0) = m ((c.tc : Thread Cert.GateTailIdeal.nD Cert.GateTailIdeal.τ).loc Cert.GateTailIdeal.main_arg0)
      ∧ r.2.mem ((c.tc : Thread Cert.GateTailIdeal.nD Cert.GateTailIdeal.τ).loc Cert.GateTailIdeal.main_arg1) = m ((c.tc : Thread Cert.GateTailIdeal.nD Cert.GateTailIdeal.τ).loc Cert.GateTailIdeal.main_arg1)
      ∧ r.2.mem ((c.tc : Thread Cert.GateTailIdeal.nD Cert.GateTailIdeal.τ).loc Cert.GateTailIdeal.main_arg2) = m ((c.tc : Thread Cert.GateTailIdeal.nD Cert.GateTailIdeal.τ).loc Cert.GateTailIdeal.main_arg2)
      ∧ r.2.mem ((c.tc : Thread Cert.GateTailIdeal.nD Cert.GateTailIdeal.τ).loc Cert.GateTailIdeal.main_arg3) = m ((c.tc : Thread Cert.GateTailIdeal.nD Cert.GateTailIdeal.τ).loc Cert.GateTailIdeal.main_arg3)
      ∧ r.2.mem ((c.tc : Thread Cert.GateTailIdeal.nD Cert.GateTailIdeal.τ).loc Cert.GateTailIdeal.main_arg4) = m ((c.tc : Thread Cert.GateTailIdeal.nD Cert.GateTailIdeal.τ).loc Cert.GateTailIdeal.main_arg4)
      ∧ r.2.mem ((c.tc : Thread Cert.GateTailIdeal.nD Cert.GateTailIdeal.τ).loc Cert.GateTailIdeal.main_arg5) = m ((c.tc : Thread Cert.GateTailIdeal.nD Cert.GateTailIdeal.τ).loc Cert.GateTailIdeal.main_arg5)
      ∧ r.2.mem ((c.tc : Thread Cert.GateTailIdeal.nD Cert.GateTailIdeal.τ).loc Cert.GateTailIdeal.main_arg6) = m ((c.tc : Thread Cert.GateTailIdeal.nD Cert.GateTailIdeal.τ).loc Cert.GateTailIdeal.main_arg6))
      ∧ r.2.sem = fun _ => 0)

def quiescent_GateTailRefIdeal [hGateTailRefIdeal : Cert.GateTailRefIdeal.Facts] : Prop :=
  ∀ (m : (ℓ : Loc Cert.GateTailRefIdeal.nD Cert.GateTailRefIdeal.τ Cert.GateTailRefIdeal.sig) → Buf (Elt Ideal) ℓ) (g : Dev Cert.GateTailRefIdeal.nD → PrngReg), Pre_GateTailRefIdeal m →
    θ_run (Cert.GateTailRefIdeal.defs (F := Ideal)) (onTc (τ := Cert.GateTailRefIdeal.τ) (Cert.GateTailRefIdeal.main (F := Ideal))) ⟨m, fun _ => 0, g⟩ (fun r => (∀ c : Dev Cert.GateTailRefIdeal.nD,
      r.2.mem ((c.tc : Thread Cert.GateTailRefIdeal.nD Cert.GateTailRefIdeal.τ).loc Cert.GateTailRefIdeal.main_arg0) = m ((c.tc : Thread Cert.GateTailRefIdeal.nD Cert.GateTailRefIdeal.τ).loc Cert.GateTailRefIdeal.main_arg0)
      ∧ r.2.mem ((c.tc : Thread Cert.GateTailRefIdeal.nD Cert.GateTailRefIdeal.τ).loc Cert.GateTailRefIdeal.main_arg1) = m ((c.tc : Thread Cert.GateTailRefIdeal.nD Cert.GateTailRefIdeal.τ).loc Cert.GateTailRefIdeal.main_arg1)
      ∧ r.2.mem ((c.tc : Thread Cert.GateTailRefIdeal.nD Cert.GateTailRefIdeal.τ).loc Cert.GateTailRefIdeal.main_arg2) = m ((c.tc : Thread Cert.GateTailRefIdeal.nD Cert.GateTailRefIdeal.τ).loc Cert.GateTailRefIdeal.main_arg2)
      ∧ r.2.mem ((c.tc : Thread Cert.GateTailRefIdeal.nD Cert.GateTailRefIdeal.τ).loc Cert.GateTailRefIdeal.main_arg3) = m ((c.tc : Thread Cert.GateTailRefIdeal.nD Cert.GateTailRefIdeal.τ).loc Cert.GateTailRefIdeal.main_arg3)
      ∧ r.2.mem ((c.tc : Thread Cert.GateTailRefIdeal.nD Cert.GateTailRefIdeal.τ).loc Cert.GateTailRefIdeal.main_arg4) = m ((c.tc : Thread Cert.GateTailRefIdeal.nD Cert.GateTailRefIdeal.τ).loc Cert.GateTailRefIdeal.main_arg4)
      ∧ r.2.mem ((c.tc : Thread Cert.GateTailRefIdeal.nD Cert.GateTailRefIdeal.τ).loc Cert.GateTailRefIdeal.main_arg5) = m ((c.tc : Thread Cert.GateTailRefIdeal.nD Cert.GateTailRefIdeal.τ).loc Cert.GateTailRefIdeal.main_arg5)
      ∧ r.2.mem ((c.tc : Thread Cert.GateTailRefIdeal.nD Cert.GateTailRefIdeal.τ).loc Cert.GateTailRefIdeal.main_arg6) = m ((c.tc : Thread Cert.GateTailRefIdeal.nD Cert.GateTailRefIdeal.τ).loc Cert.GateTailRefIdeal.main_arg6))
      ∧ r.2.sem = fun _ => 0)

def quiescent_GateTailRefIdeal_pre_finite_gate_tail [hGateTailRefIdeal : Cert.GateTailRefIdeal.Facts] [hPre_finite_gate_tail : Cert.Pre_finite_gate_tail.Facts] : Prop :=
  ∀ (m : (ℓ : Loc Cert.GateTailRefIdeal.nD Cert.GateTailRefIdeal.τ Cert.GateTailRefIdeal.sig) → Buf (Elt Ideal) ℓ) (g : Dev Cert.GateTailRefIdeal.nD → PrngReg), Pre_GateTailRefIdeal_finite_gate_tail m →
    θ_run (Cert.GateTailRefIdeal.defs (F := Ideal)) (onTc (τ := Cert.GateTailRefIdeal.τ) (Cert.GateTailRefIdeal.main (F := Ideal))) ⟨m, fun _ => 0, g⟩ (fun r => (∀ c : Dev Cert.GateTailRefIdeal.nD,
      r.2.mem ((c.tc : Thread Cert.GateTailRefIdeal.nD Cert.GateTailRefIdeal.τ).loc Cert.GateTailRefIdeal.main_arg0) = m ((c.tc : Thread Cert.GateTailRefIdeal.nD Cert.GateTailRefIdeal.τ).loc Cert.GateTailRefIdeal.main_arg0)
      ∧ r.2.mem ((c.tc : Thread Cert.GateTailRefIdeal.nD Cert.GateTailRefIdeal.τ).loc Cert.GateTailRefIdeal.main_arg1) = m ((c.tc : Thread Cert.GateTailRefIdeal.nD Cert.GateTailRefIdeal.τ).loc Cert.GateTailRefIdeal.main_arg1)
      ∧ r.2.mem ((c.tc : Thread Cert.GateTailRefIdeal.nD Cert.GateTailRefIdeal.τ).loc Cert.GateTailRefIdeal.main_arg2) = m ((c.tc : Thread Cert.GateTailRefIdeal.nD Cert.GateTailRefIdeal.τ).loc Cert.GateTailRefIdeal.main_arg2)
      ∧ r.2.mem ((c.tc : Thread Cert.GateTailRefIdeal.nD Cert.GateTailRefIdeal.τ).loc Cert.GateTailRefIdeal.main_arg3) = m ((c.tc : Thread Cert.GateTailRefIdeal.nD Cert.GateTailRefIdeal.τ).loc Cert.GateTailRefIdeal.main_arg3)
      ∧ r.2.mem ((c.tc : Thread Cert.GateTailRefIdeal.nD Cert.GateTailRefIdeal.τ).loc Cert.GateTailRefIdeal.main_arg4) = m ((c.tc : Thread Cert.GateTailRefIdeal.nD Cert.GateTailRefIdeal.τ).loc Cert.GateTailRefIdeal.main_arg4)
      ∧ r.2.mem ((c.tc : Thread Cert.GateTailRefIdeal.nD Cert.GateTailRefIdeal.τ).loc Cert.GateTailRefIdeal.main_arg5) = m ((c.tc : Thread Cert.GateTailRefIdeal.nD Cert.GateTailRefIdeal.τ).loc Cert.GateTailRefIdeal.main_arg5)
      ∧ r.2.mem ((c.tc : Thread Cert.GateTailRefIdeal.nD Cert.GateTailRefIdeal.τ).loc Cert.GateTailRefIdeal.main_arg6) = m ((c.tc : Thread Cert.GateTailRefIdeal.nD Cert.GateTailRefIdeal.τ).loc Cert.GateTailRefIdeal.main_arg6))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1)
      ∧ r.2.mem ((c.tc : Thread Cert.DProj.nD Cert.DProj.τ).loc Cert.DProj.main_arg2) = m ((c.tc : Thread Cert.DProj.nD Cert.DProj.τ).loc Cert.DProj.main_arg2)
      ∧ r.2.mem ((c.tc : Thread Cert.DProj.nD Cert.DProj.τ).loc Cert.DProj.main_arg3) = m ((c.tc : Thread Cert.DProj.nD Cert.DProj.τ).loc Cert.DProj.main_arg3)
      ∧ r.2.mem ((c.tc : Thread Cert.DProj.nD Cert.DProj.τ).loc Cert.DProj.main_arg4) = m ((c.tc : Thread Cert.DProj.nD Cert.DProj.τ).loc Cert.DProj.main_arg4)
      ∧ r.2.mem ((c.tc : Thread Cert.DProj.nD Cert.DProj.τ).loc Cert.DProj.main_arg5) = m ((c.tc : Thread Cert.DProj.nD Cert.DProj.τ).loc Cert.DProj.main_arg5)
      ∧ r.2.mem ((c.tc : Thread Cert.DProj.nD Cert.DProj.τ).loc Cert.DProj.main_arg6) = m ((c.tc : Thread Cert.DProj.nD Cert.DProj.τ).loc Cert.DProj.main_arg6)
      ∧ r.2.mem ((c.tc : Thread Cert.DProj.nD Cert.DProj.τ).loc Cert.DProj.main_arg7) = m ((c.tc : Thread Cert.DProj.nD Cert.DProj.τ).loc Cert.DProj.main_arg7)
      ∧ r.2.mem ((c.tc : Thread Cert.DProj.nD Cert.DProj.τ).loc Cert.DProj.main_arg8) = m ((c.tc : Thread Cert.DProj.nD Cert.DProj.τ).loc Cert.DProj.main_arg8))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8))
      ∧ r.2.sem = fun _ => 0)

def quiescent_DProjIdeal_pre_finite_dproj [hDProjIdeal : Cert.DProjIdeal.Facts] [hPre_finite_dproj : Cert.Pre_finite_dproj.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal_finite_dproj m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8))
      ∧ r.2.sem = fun _ => 0)

def quiescent_DProjRefIdeal [hDProjRefIdeal : Cert.DProjRefIdeal.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1)
      ∧ r.2.mem ((c.tc : Thread Cert.DProjRefIdeal.nD Cert.DProjRefIdeal.τ).loc Cert.DProjRefIdeal.main_arg2) = m ((c.tc : Thread Cert.DProjRefIdeal.nD Cert.DProjRefIdeal.τ).loc Cert.DProjRefIdeal.main_arg2)
      ∧ r.2.mem ((c.tc : Thread Cert.DProjRefIdeal.nD Cert.DProjRefIdeal.τ).loc Cert.DProjRefIdeal.main_arg3) = m ((c.tc : Thread Cert.DProjRefIdeal.nD Cert.DProjRefIdeal.τ).loc Cert.DProjRefIdeal.main_arg3)
      ∧ r.2.mem ((c.tc : Thread Cert.DProjRefIdeal.nD Cert.DProjRefIdeal.τ).loc Cert.DProjRefIdeal.main_arg4) = m ((c.tc : Thread Cert.DProjRefIdeal.nD Cert.DProjRefIdeal.τ).loc Cert.DProjRefIdeal.main_arg4)
      ∧ r.2.mem ((c.tc : Thread Cert.DProjRefIdeal.nD Cert.DProjRefIdeal.τ).loc Cert.DProjRefIdeal.main_arg5) = m ((c.tc : Thread Cert.DProjRefIdeal.nD Cert.DProjRefIdeal.τ).loc Cert.DProjRefIdeal.main_arg5)
      ∧ r.2.mem ((c.tc : Thread Cert.DProjRefIdeal.nD Cert.DProjRefIdeal.τ).loc Cert.DProjRefIdeal.main_arg6) = m ((c.tc : Thread Cert.DProjRefIdeal.nD Cert.DProjRefIdeal.τ).loc Cert.DProjRefIdeal.main_arg6)
      ∧ r.2.mem ((c.tc : Thread Cert.DProjRefIdeal.nD Cert.DProjRefIdeal.τ).loc Cert.DProjRefIdeal.main_arg7) = m ((c.tc : Thread Cert.DProjRefIdeal.nD Cert.DProjRefIdeal.τ).loc Cert.DProjRefIdeal.main_arg7)
      ∧ r.2.mem ((c.tc : Thread Cert.DProjRefIdeal.nD Cert.DProjRefIdeal.τ).loc Cert.DProjRefIdeal.main_arg8) = m ((c.tc : Thread Cert.DProjRefIdeal.nD Cert.DProjRefIdeal.τ).loc Cert.DProjRefIdeal.main_arg8))
      ∧ r.2.sem = fun _ => 0)

def quiescent_DProjRefIdeal_pre_finite_dproj [hDProjRefIdeal : Cert.DProjRefIdeal.Facts] [hPre_finite_dproj : Cert.Pre_finite_dproj.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal_finite_dproj m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1)
      ∧ r.2.mem ((c.tc : Thread Cert.DProjRefIdeal.nD Cert.DProjRefIdeal.τ).loc Cert.DProjRefIdeal.main_arg2) = m ((c.tc : Thread Cert.DProjRefIdeal.nD Cert.DProjRefIdeal.τ).loc Cert.DProjRefIdeal.main_arg2)
      ∧ r.2.mem ((c.tc : Thread Cert.DProjRefIdeal.nD Cert.DProjRefIdeal.τ).loc Cert.DProjRefIdeal.main_arg3) = m ((c.tc : Thread Cert.DProjRefIdeal.nD Cert.DProjRefIdeal.τ).loc Cert.DProjRefIdeal.main_arg3)
      ∧ r.2.mem ((c.tc : Thread Cert.DProjRefIdeal.nD Cert.DProjRefIdeal.τ).loc Cert.DProjRefIdeal.main_arg4) = m ((c.tc : Thread Cert.DProjRefIdeal.nD Cert.DProjRefIdeal.τ).loc Cert.DProjRefIdeal.main_arg4)
      ∧ r.2.mem ((c.tc : Thread Cert.DProjRefIdeal.nD Cert.DProjRefIdeal.τ).loc Cert.DProjRefIdeal.main_arg5) = m ((c.tc : Thread Cert.DProjRefIdeal.nD Cert.DProjRefIdeal.τ).loc Cert.DProjRefIdeal.main_arg5)
      ∧ r.2.mem ((c.tc : Thread Cert.DProjRefIdeal.nD Cert.DProjRefIdeal.τ).loc Cert.DProjRefIdeal.main_arg6) = m ((c.tc : Thread Cert.DProjRefIdeal.nD Cert.DProjRefIdeal.τ).loc Cert.DProjRefIdeal.main_arg6)
      ∧ r.2.mem ((c.tc : Thread Cert.DProjRefIdeal.nD Cert.DProjRefIdeal.τ).loc Cert.DProjRefIdeal.main_arg7) = m ((c.tc : Thread Cert.DProjRefIdeal.nD Cert.DProjRefIdeal.τ).loc Cert.DProjRefIdeal.main_arg7)
      ∧ r.2.mem ((c.tc : Thread Cert.DProjRefIdeal.nD Cert.DProjRefIdeal.τ).loc Cert.DProjRefIdeal.main_arg8) = m ((c.tc : Thread Cert.DProjRefIdeal.nD Cert.DProjRefIdeal.τ).loc Cert.DProjRefIdeal.main_arg8))
      ∧ r.2.sem = fun _ => 0)

def quiescent_TableGrads [hTableGrads : Cert.TableGrads.Facts] : Prop :=
  ∀ (m : (ℓ : Loc Cert.TableGrads.nD Cert.TableGrads.τ Cert.TableGrads.sig) → Buf (Elt Bits) ℓ) (g : Dev Cert.TableGrads.nD → PrngReg), Pre_TableGrads m →
    θ_run (Cert.TableGrads.defs (F := Bits)) (onTc (τ := Cert.TableGrads.τ) (Cert.TableGrads.main (F := Bits))) ⟨m, fun _ => 0, g⟩ (fun r => (∀ c : Dev Cert.TableGrads.nD,
      r.2.mem ((c.tc : Thread Cert.TableGrads.nD Cert.TableGrads.τ).loc Cert.TableGrads.main_arg0) = m ((c.tc : Thread Cert.TableGrads.nD Cert.TableGrads.τ).loc Cert.TableGrads.main_arg0)
      ∧ r.2.mem ((c.tc : Thread Cert.TableGrads.nD Cert.TableGrads.τ).loc Cert.TableGrads.main_arg1) = m ((c.tc : Thread Cert.TableGrads.nD Cert.TableGrads.τ).loc Cert.TableGrads.main_arg1))
      ∧ r.2.sem = fun _ => 0)

def quiescent_TableGradsIdeal [hTableGradsIdeal : Cert.TableGradsIdeal.Facts] : Prop :=
  ∀ (m : (ℓ : Loc Cert.TableGradsIdeal.nD Cert.TableGradsIdeal.τ Cert.TableGradsIdeal.sig) → Buf (Elt Ideal) ℓ) (g : Dev Cert.TableGradsIdeal.nD → PrngReg), Pre_TableGradsIdeal m →
    θ_run (Cert.TableGradsIdeal.defs (F := Ideal)) (onTc (τ := Cert.TableGradsIdeal.τ) (Cert.TableGradsIdeal.main (F := Ideal))) ⟨m, fun _ => 0, g⟩ (fun r => (∀ c : Dev Cert.TableGradsIdeal.nD,
      r.2.mem ((c.tc : Thread Cert.TableGradsIdeal.nD Cert.TableGradsIdeal.τ).loc Cert.TableGradsIdeal.main_arg0) = m ((c.tc : Thread Cert.TableGradsIdeal.nD Cert.TableGradsIdeal.τ).loc Cert.TableGradsIdeal.main_arg0)
      ∧ r.2.mem ((c.tc : Thread Cert.TableGradsIdeal.nD Cert.TableGradsIdeal.τ).loc Cert.TableGradsIdeal.main_arg1) = m ((c.tc : Thread Cert.TableGradsIdeal.nD Cert.TableGradsIdeal.τ).loc Cert.TableGradsIdeal.main_arg1))
      ∧ r.2.sem = fun _ => 0)

def quiescent_TableGradsRefIdeal [hTableGradsRefIdeal : Cert.TableGradsRefIdeal.Facts] : Prop :=
  ∀ (m : (ℓ : Loc Cert.TableGradsRefIdeal.nD Cert.TableGradsRefIdeal.τ Cert.TableGradsRefIdeal.sig) → Buf (Elt Ideal) ℓ) (g : Dev Cert.TableGradsRefIdeal.nD → PrngReg), Pre_TableGradsRefIdeal m →
    θ_run (Cert.TableGradsRefIdeal.defs (F := Ideal)) (onTc (τ := Cert.TableGradsRefIdeal.τ) (Cert.TableGradsRefIdeal.main (F := Ideal))) ⟨m, fun _ => 0, g⟩ (fun r => (∀ c : Dev Cert.TableGradsRefIdeal.nD,
      r.2.mem ((c.tc : Thread Cert.TableGradsRefIdeal.nD Cert.TableGradsRefIdeal.τ).loc Cert.TableGradsRefIdeal.main_arg0) = m ((c.tc : Thread Cert.TableGradsRefIdeal.nD Cert.TableGradsRefIdeal.τ).loc Cert.TableGradsRefIdeal.main_arg0)
      ∧ r.2.mem ((c.tc : Thread Cert.TableGradsRefIdeal.nD Cert.TableGradsRefIdeal.τ).loc Cert.TableGradsRefIdeal.main_arg1) = m ((c.tc : Thread Cert.TableGradsRefIdeal.nD Cert.TableGradsRefIdeal.τ).loc Cert.TableGradsRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_BiasBuild [hBiasBuild : Cert.BiasBuild.Facts] : Prop :=
  ∀ (m : (ℓ : Loc Cert.BiasBuild.nD Cert.BiasBuild.τ Cert.BiasBuild.sig) → Buf (Elt Bits) ℓ) (g : Dev Cert.BiasBuild.nD → PrngReg), Pre_BiasBuild m →
    θ_run (Cert.BiasBuild.defs (F := Bits)) (onTc (τ := Cert.BiasBuild.τ) (Cert.BiasBuild.main (F := Bits))) ⟨m, fun _ => 0, g⟩ (fun r => (∀ c : Dev Cert.BiasBuild.nD,
      r.2.mem ((c.tc : Thread Cert.BiasBuild.nD Cert.BiasBuild.τ).loc Cert.BiasBuild.main_arg0) = m ((c.tc : Thread Cert.BiasBuild.nD Cert.BiasBuild.τ).loc Cert.BiasBuild.main_arg0))
      ∧ r.2.sem = fun _ => 0)

def quiescent_BiasBuildIdeal [hBiasBuildIdeal : Cert.BiasBuildIdeal.Facts] : Prop :=
  ∀ (m : (ℓ : Loc Cert.BiasBuildIdeal.nD Cert.BiasBuildIdeal.τ Cert.BiasBuildIdeal.sig) → Buf (Elt Ideal) ℓ) (g : Dev Cert.BiasBuildIdeal.nD → PrngReg), Pre_BiasBuildIdeal m →
    θ_run (Cert.BiasBuildIdeal.defs (F := Ideal)) (onTc (τ := Cert.BiasBuildIdeal.τ) (Cert.BiasBuildIdeal.main (F := Ideal))) ⟨m, fun _ => 0, g⟩ (fun r => (∀ c : Dev Cert.BiasBuildIdeal.nD,
      r.2.mem ((c.tc : Thread Cert.BiasBuildIdeal.nD Cert.BiasBuildIdeal.τ).loc Cert.BiasBuildIdeal.main_arg0) = m ((c.tc : Thread Cert.BiasBuildIdeal.nD Cert.BiasBuildIdeal.τ).loc Cert.BiasBuildIdeal.main_arg0))
      ∧ r.2.sem = fun _ => 0)

def quiescent_BiasBuildRefIdeal [hBiasBuildRefIdeal : Cert.BiasBuildRefIdeal.Facts] : Prop :=
  ∀ (m : (ℓ : Loc Cert.BiasBuildRefIdeal.nD Cert.BiasBuildRefIdeal.τ Cert.BiasBuildRefIdeal.sig) → Buf (Elt Ideal) ℓ) (g : Dev Cert.BiasBuildRefIdeal.nD → PrngReg), Pre_BiasBuildRefIdeal m →
    θ_run (Cert.BiasBuildRefIdeal.defs (F := Ideal)) (onTc (τ := Cert.BiasBuildRefIdeal.τ) (Cert.BiasBuildRefIdeal.main (F := Ideal))) ⟨m, fun _ => 0, g⟩ (fun r => (∀ c : Dev Cert.BiasBuildRefIdeal.nD,
      r.2.mem ((c.tc : Thread Cert.BiasBuildRefIdeal.nD Cert.BiasBuildRefIdeal.τ).loc Cert.BiasBuildRefIdeal.main_arg0) = m ((c.tc : Thread Cert.BiasBuildRefIdeal.nD Cert.BiasBuildRefIdeal.τ).loc Cert.BiasBuildRefIdeal.main_arg0))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_DMlpIn [hDMlpIn : Cert.DMlpIn.Facts] : Prop :=
  ∀ (m : (ℓ : Loc Cert.DMlpIn.nD Cert.DMlpIn.τ Cert.DMlpIn.sig) → Buf (Elt Bits) ℓ) (g : Dev Cert.DMlpIn.nD → PrngReg), Pre_DMlpIn m →
    θ_run (Cert.DMlpIn.defs (F := Bits)) (onTc (τ := Cert.DMlpIn.τ) (Cert.DMlpIn.main (F := Bits))) ⟨m, fun _ => 0, g⟩ (fun r => (∀ c : Dev Cert.DMlpIn.nD,
      r.2.mem ((c.tc : Thread Cert.DMlpIn.nD Cert.DMlpIn.τ).loc Cert.DMlpIn.main_arg0) = m ((c.tc : Thread Cert.DMlpIn.nD Cert.DMlpIn.τ).loc Cert.DMlpIn.main_arg0)
      ∧ r.2.mem ((c.tc : Thread Cert.DMlpIn.nD Cert.DMlpIn.τ).loc Cert.DMlpIn.main_arg1) = m ((c.tc : Thread Cert.DMlpIn.nD Cert.DMlpIn.τ).loc Cert.DMlpIn.main_arg1))
      ∧ r.2.sem = fun _ => 0)

def quiescent_DMlpInIdeal [hDMlpInIdeal : Cert.DMlpInIdeal.Facts] : Prop :=
  ∀ (m : (ℓ : Loc Cert.DMlpInIdeal.nD Cert.DMlpInIdeal.τ Cert.DMlpInIdeal.sig) → Buf (Elt Ideal) ℓ) (g : Dev Cert.DMlpInIdeal.nD → PrngReg), Pre_DMlpInIdeal m →
    θ_run (Cert.DMlpInIdeal.defs (F := Ideal)) (onTc (τ := Cert.DMlpInIdeal.τ) (Cert.DMlpInIdeal.main (F := Ideal))) ⟨m, fun _ => 0, g⟩ (fun r => (∀ c : Dev Cert.DMlpInIdeal.nD,
      r.2.mem ((c.tc : Thread Cert.DMlpInIdeal.nD Cert.DMlpInIdeal.τ).loc Cert.DMlpInIdeal.main_arg0) = m ((c.tc : Thread Cert.DMlpInIdeal.nD Cert.DMlpInIdeal.τ).loc Cert.DMlpInIdeal.main_arg0)
      ∧ r.2.mem ((c.tc : Thread Cert.DMlpInIdeal.nD Cert.DMlpInIdeal.τ).loc Cert.DMlpInIdeal.main_arg1) = m ((c.tc : Thread Cert.DMlpInIdeal.nD Cert.DMlpInIdeal.τ).loc Cert.DMlpInIdeal.main_arg1))
      ∧ r.2.sem = fun _ => 0)

def quiescent_DMlpInRefIdeal [hDMlpInRefIdeal : Cert.DMlpInRefIdeal.Facts] : Prop :=
  ∀ (m : (ℓ : Loc Cert.DMlpInRefIdeal.nD Cert.DMlpInRefIdeal.τ Cert.DMlpInRefIdeal.sig) → Buf (Elt Ideal) ℓ) (g : Dev Cert.DMlpInRefIdeal.nD → PrngReg), Pre_DMlpInRefIdeal m →
    θ_run (Cert.DMlpInRefIdeal.defs (F := Ideal)) (onTc (τ := Cert.DMlpInRefIdeal.τ) (Cert.DMlpInRefIdeal.main (F := Ideal))) ⟨m, fun _ => 0, g⟩ (fun r => (∀ c : Dev Cert.DMlpInRefIdeal.nD,
      r.2.mem ((c.tc : Thread Cert.DMlpInRefIdeal.nD Cert.DMlpInRefIdeal.τ).loc Cert.DMlpInRefIdeal.main_arg0) = m ((c.tc : Thread Cert.DMlpInRefIdeal.nD Cert.DMlpInRefIdeal.τ).loc Cert.DMlpInRefIdeal.main_arg0)
      ∧ r.2.mem ((c.tc : Thread Cert.DMlpInRefIdeal.nD Cert.DMlpInRefIdeal.τ).loc Cert.DMlpInRefIdeal.main_arg1) = m ((c.tc : Thread Cert.DMlpInRefIdeal.nD Cert.DMlpInRefIdeal.τ).loc Cert.DMlpInRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_AttnA_AttnAIdeal : Prop :=
  IdealRules.named_const.Statement Cert.AttnAIdeal.κ "c" .f32 0x3E0293EE#32 (((Real.sqrt 128)⁻¹ * (Real.log 2)⁻¹ : ℝ) : EReal)
  ∧ IdealRules.named_const.Statement Cert.AttnAIdeal.κ "scale" .f32 0x3DB504F3#32 (((Real.sqrt 128)⁻¹ : ℝ) : EReal)
  ∧ IdealRules.named_const.Statement Cert.AttnAIdeal.κ "log2e" .f32 0x3FB8AA3B#32 (((Real.log 2)⁻¹ : ℝ) : EReal)

def algebraic_AttnAIdeal_AttnARefIdeal_pre_finite_attn_a [hAttnAIdeal : Cert.AttnAIdeal.Facts] [hAttnARefIdeal : Cert.AttnARefIdeal.Facts] [hPre_finite_attn_a : Cert.Pre_finite_attn_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_attn_a m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)) →
    ∃ (v0 : (c : Dev Cert.AttnAIdeal.nD) → Buf (Elt Ideal) ((c.tc : Thread Cert.AttnAIdeal.nD Cert.AttnAIdeal.τ).loc Cert.AttnAIdeal.main_v2)) (v1 : (c : Dev Cert.AttnAIdeal.nD) → Buf (Elt Ideal) ((c.tc : Thread Cert.AttnAIdeal.nD Cert.AttnAIdeal.τ).loc Cert.AttnAIdeal.main_v0_1)) (v2 : (c : Dev Cert.AttnAIdeal.nD) → Buf (Elt Ideal) ((c.tc : Thread Cert.AttnAIdeal.nD Cert.AttnAIdeal.τ).loc Cert.AttnAIdeal.main_v1_0)) (v3 : (c : Dev Cert.AttnAIdeal.nD) → Buf (Elt Ideal) ((c.tc : Thread Cert.AttnAIdeal.nD Cert.AttnAIdeal.τ).loc Cert.AttnAIdeal.main_v1_1)) (v4 : (c : Dev Cert.AttnAIdeal.nD) → Buf (Elt Ideal) ((c.tc : Thread Cert.AttnAIdeal.nD Cert.AttnAIdeal.τ).loc Cert.AttnAIdeal.main_v1_2)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v2) = v0 c
          ∧ r.2.mem ((c.tc : Thread Cert.AttnAIdeal.nD Cert.AttnAIdeal.τ).loc Cert.AttnAIdeal.main_v0_1) = v1 c
          ∧ r.2.mem ((c.tc : Thread Cert.AttnAIdeal.nD Cert.AttnAIdeal.τ).loc Cert.AttnAIdeal.main_v1_0) = v2 c
          ∧ r.2.mem ((c.tc : Thread Cert.AttnAIdeal.nD Cert.AttnAIdeal.τ).loc Cert.AttnAIdeal.main_v1_1) = v3 c
          ∧ r.2.mem ((c.tc : Thread Cert.AttnAIdeal.nD Cert.AttnAIdeal.τ).loc Cert.AttnAIdeal.main_v1_2) = v4 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v75) = v0 c
          ∧ r.2.mem ((c.tc : Thread Cert.AttnARefIdeal.nD Cert.AttnARefIdeal.τ).loc Cert.AttnARefIdeal.main_v76) = v1 c
          ∧ r.2.mem ((c.tc : Thread Cert.AttnARefIdeal.nD Cert.AttnARefIdeal.τ).loc Cert.AttnARefIdeal.main_v78) = v2 c
          ∧ r.2.mem ((c.tc : Thread Cert.AttnARefIdeal.nD Cert.AttnARefIdeal.τ).loc Cert.AttnARefIdeal.main_v80) = v3 c
          ∧ r.2.mem ((c.tc : Thread Cert.AttnARefIdeal.nD Cert.AttnARefIdeal.τ).loc Cert.AttnARefIdeal.main_v82) = v4 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1))

def preserves_Rms_RmsIdeal : Prop :=
  True

def algebraic_RmsIdeal_RmsRefIdeal_pre_finite_rms [hRmsIdeal : Cert.RmsIdeal.Facts] [hRmsRefIdeal : Cert.RmsRefIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_rms m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)) (v2 : (c : Dev Cert.RmsIdeal.nD) → Buf (Elt Ideal) ((c.tc : Thread Cert.RmsIdeal.nD Cert.RmsIdeal.τ).loc Cert.RmsIdeal.main_v2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_v2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v38) = v0 c
          ∧ r.2.mem ((c.tc : Thread Cert.RmsRefIdeal.nD Cert.RmsRefIdeal.τ).loc Cert.RmsRefIdeal.main_v40) = v1 c
          ∧ r.2.mem ((c.tc : Thread Cert.RmsRefIdeal.nD Cert.RmsRefIdeal.τ).loc Cert.RmsRefIdeal.main_v39) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_DGate_DGateIdeal : Prop :=
  True

def algebraic_DGateIdeal_DGateRefIdeal_pre_finite_d_gate [hDGateIdeal : Cert.DGateIdeal.Facts] [hDGateRefIdeal : Cert.DGateRefIdeal.Facts] [hPre_finite_d_gate : Cert.Pre_finite_d_gate.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal_finite_d_gate m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)
      ∧ m' ((c.tc : Thread Cert.DGateRefIdeal.nD Cert.DGateRefIdeal.τ).loc Cert.DGateRefIdeal.main_arg2) = m ((c.tc : Thread Cert.DGateIdeal.nD Cert.DGateIdeal.τ).loc Cert.DGateIdeal.main_arg2)
      ∧ m' ((c.tc : Thread Cert.DGateRefIdeal.nD Cert.DGateRefIdeal.τ).loc Cert.DGateRefIdeal.main_arg3) = m ((c.tc : Thread Cert.DGateIdeal.nD Cert.DGateIdeal.τ).loc Cert.DGateIdeal.main_arg3)
      ∧ m' ((c.tc : Thread Cert.DGateRefIdeal.nD Cert.DGateRefIdeal.τ).loc Cert.DGateRefIdeal.main_arg4) = m ((c.tc : Thread Cert.DGateIdeal.nD Cert.DGateIdeal.τ).loc Cert.DGateIdeal.main_arg4)) →
    ∃ (v0 : (c : Dev Cert.DGateIdeal.nD) → Buf (Elt Ideal) ((c.tc : Thread Cert.DGateIdeal.nD Cert.DGateIdeal.τ).loc Cert.DGateIdeal.main_v0_0)) (v1 : (c : Dev Cert.DGateIdeal.nD) → Buf (Elt Ideal) ((c.tc : Thread Cert.DGateIdeal.nD Cert.DGateIdeal.τ).loc Cert.DGateIdeal.main_v0_1)) (v2 : (c : Dev Cert.DGateIdeal.nD) → Buf (Elt Ideal) ((c.tc : Thread Cert.DGateIdeal.nD Cert.DGateIdeal.τ).loc Cert.DGateIdeal.main_v2)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0_0) = v0 c
          ∧ r.2.mem ((c.tc : Thread Cert.DGateIdeal.nD Cert.DGateIdeal.τ).loc Cert.DGateIdeal.main_v0_1) = v1 c
          ∧ r.2.mem ((c.tc : Thread Cert.DGateIdeal.nD Cert.DGateIdeal.τ).loc Cert.DGateIdeal.main_v2) = v2 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
          ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
          ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3)
          ∧ r.2.mem ((c.tc : Thread Cert.DGateIdeal.nD Cert.DGateIdeal.τ).loc Cert.DGateIdeal.main_arg4) = m ((c.tc : Thread Cert.DGateIdeal.nD Cert.DGateIdeal.τ).loc Cert.DGateIdeal.main_arg4))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v41) = v0 c
          ∧ r.2.mem ((c.tc : Thread Cert.DGateRefIdeal.nD Cert.DGateRefIdeal.τ).loc Cert.DGateRefIdeal.main_v43) = v1 c
          ∧ r.2.mem ((c.tc : Thread Cert.DGateRefIdeal.nD Cert.DGateRefIdeal.τ).loc Cert.DGateRefIdeal.main_v42) = v2 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1)
          ∧ r.2.mem ((c.tc : Thread Cert.DGateRefIdeal.nD Cert.DGateRefIdeal.τ).loc Cert.DGateRefIdeal.main_arg2) = m' ((c.tc : Thread Cert.DGateRefIdeal.nD Cert.DGateRefIdeal.τ).loc Cert.DGateRefIdeal.main_arg2)
          ∧ r.2.mem ((c.tc : Thread Cert.DGateRefIdeal.nD Cert.DGateRefIdeal.τ).loc Cert.DGateRefIdeal.main_arg3) = m' ((c.tc : Thread Cert.DGateRefIdeal.nD Cert.DGateRefIdeal.τ).loc Cert.DGateRefIdeal.main_arg3)
          ∧ r.2.mem ((c.tc : Thread Cert.DGateRefIdeal.nD Cert.DGateRefIdeal.τ).loc Cert.DGateRefIdeal.main_arg4) = m' ((c.tc : Thread Cert.DGateRefIdeal.nD Cert.DGateRefIdeal.τ).loc Cert.DGateRefIdeal.main_arg4))

def preserves_DAttnIn_DAttnInIdeal : Prop :=
  True

def algebraic_DAttnInIdeal_DAttnInRefIdeal_pre_finite_d_attn_in [hDAttnInIdeal : Cert.DAttnInIdeal.Facts] [hDAttnInRefIdeal : Cert.DAttnInRefIdeal.Facts] [hPre_finite_d_attn_in : Cert.Pre_finite_d_attn_in.Facts] : Prop :=
  ∀ (m : (ℓ : Loc Cert.DAttnInIdeal.nD Cert.DAttnInIdeal.τ Cert.DAttnInIdeal.sig) → Buf (Elt Ideal) ℓ) (g : Dev Cert.DAttnInIdeal.nD → PrngReg)
    (m' : (ℓ : Loc Cert.DAttnInRefIdeal.nD Cert.DAttnInRefIdeal.τ Cert.DAttnInRefIdeal.sig) → Buf (Elt Ideal) ℓ) (g' : Dev Cert.DAttnInRefIdeal.nD → PrngReg), Pre_DAttnInIdeal_finite_d_attn_in m →
    (∀ c : Dev Cert.DAttnInIdeal.nD,
      m' ((c.tc : Thread Cert.DAttnInRefIdeal.nD Cert.DAttnInRefIdeal.τ).loc Cert.DAttnInRefIdeal.main_arg0) = m ((c.tc : Thread Cert.DAttnInIdeal.nD Cert.DAttnInIdeal.τ).loc Cert.DAttnInIdeal.main_arg0)
      ∧ m' ((c.tc : Thread Cert.DAttnInRefIdeal.nD Cert.DAttnInRefIdeal.τ).loc Cert.DAttnInRefIdeal.main_arg1) = m ((c.tc : Thread Cert.DAttnInIdeal.nD Cert.DAttnInIdeal.τ).loc Cert.DAttnInIdeal.main_arg1)
      ∧ m' ((c.tc : Thread Cert.DAttnInRefIdeal.nD Cert.DAttnInRefIdeal.τ).loc Cert.DAttnInRefIdeal.main_arg2) = m ((c.tc : Thread Cert.DAttnInIdeal.nD Cert.DAttnInIdeal.τ).loc Cert.DAttnInIdeal.main_arg2)
      ∧ m' ((c.tc : Thread Cert.DAttnInRefIdeal.nD Cert.DAttnInRefIdeal.τ).loc Cert.DAttnInRefIdeal.main_arg3) = m ((c.tc : Thread Cert.DAttnInIdeal.nD Cert.DAttnInIdeal.τ).loc Cert.DAttnInIdeal.main_arg3)
      ∧ m' ((c.tc : Thread Cert.DAttnInRefIdeal.nD Cert.DAttnInRefIdeal.τ).loc Cert.DAttnInRefIdeal.main_arg4) = m ((c.tc : Thread Cert.DAttnInIdeal.nD Cert.DAttnInIdeal.τ).loc Cert.DAttnInIdeal.main_arg4)) →
    ∃ (v0 : (c : Dev Cert.DAttnInIdeal.nD) → Buf (Elt Ideal) ((c.tc : Thread Cert.DAttnInIdeal.nD Cert.DAttnInIdeal.τ).loc Cert.DAttnInIdeal.main_v0_0)) (v1 : (c : Dev Cert.DAttnInIdeal.nD) → Buf (Elt Ideal) ((c.tc : Thread Cert.DAttnInIdeal.nD Cert.DAttnInIdeal.τ).loc Cert.DAttnInIdeal.main_v2)),
      θ_run (Cert.DAttnInIdeal.defs (F := Ideal)) (onTc (τ := Cert.DAttnInIdeal.τ) (Cert.DAttnInIdeal.main (F := Ideal))) ⟨m, fun _ => 0, g⟩ (fun r => ∀ c : Dev Cert.DAttnInIdeal.nD,
          r.2.mem ((c.tc : Thread Cert.DAttnInIdeal.nD Cert.DAttnInIdeal.τ).loc Cert.DAttnInIdeal.main_v0_0) = v0 c
          ∧ r.2.mem ((c.tc : Thread Cert.DAttnInIdeal.nD Cert.DAttnInIdeal.τ).loc Cert.DAttnInIdeal.main_v2) = v1 c
          ∧ r.2.mem ((c.tc : Thread Cert.DAttnInIdeal.nD Cert.DAttnInIdeal.τ).loc Cert.DAttnInIdeal.main_arg0) = m ((c.tc : Thread Cert.DAttnInIdeal.nD Cert.DAttnInIdeal.τ).loc Cert.DAttnInIdeal.main_arg0)
          ∧ r.2.mem ((c.tc : Thread Cert.DAttnInIdeal.nD Cert.DAttnInIdeal.τ).loc Cert.DAttnInIdeal.main_arg1) = m ((c.tc : Thread Cert.DAttnInIdeal.nD Cert.DAttnInIdeal.τ).loc Cert.DAttnInIdeal.main_arg1)
          ∧ r.2.mem ((c.tc : Thread Cert.DAttnInIdeal.nD Cert.DAttnInIdeal.τ).loc Cert.DAttnInIdeal.main_arg2) = m ((c.tc : Thread Cert.DAttnInIdeal.nD Cert.DAttnInIdeal.τ).loc Cert.DAttnInIdeal.main_arg2)
          ∧ r.2.mem ((c.tc : Thread Cert.DAttnInIdeal.nD Cert.DAttnInIdeal.τ).loc Cert.DAttnInIdeal.main_arg3) = m ((c.tc : Thread Cert.DAttnInIdeal.nD Cert.DAttnInIdeal.τ).loc Cert.DAttnInIdeal.main_arg3)
          ∧ r.2.mem ((c.tc : Thread Cert.DAttnInIdeal.nD Cert.DAttnInIdeal.τ).loc Cert.DAttnInIdeal.main_arg4) = m ((c.tc : Thread Cert.DAttnInIdeal.nD Cert.DAttnInIdeal.τ).loc Cert.DAttnInIdeal.main_arg4))
      ∧ θ_run (Cert.DAttnInRefIdeal.defs (F := Ideal)) (onTc (τ := Cert.DAttnInRefIdeal.τ) (Cert.DAttnInRefIdeal.main (F := Ideal))) ⟨m', fun _ => 0, g'⟩ (fun r => ∀ c : Dev Cert.DAttnInRefIdeal.nD,
          r.2.mem ((c.tc : Thread Cert.DAttnInRefIdeal.nD Cert.DAttnInRefIdeal.τ).loc Cert.DAttnInRefIdeal.main_v41) = v0 c
          ∧ r.2.mem ((c.tc : Thread Cert.DAttnInRefIdeal.nD Cert.DAttnInRefIdeal.τ).loc Cert.DAttnInRefIdeal.main_v42) = v1 c
          ∧ r.2.mem ((c.tc : Thread Cert.DAttnInRefIdeal.nD Cert.DAttnInRefIdeal.τ).loc Cert.DAttnInRefIdeal.main_arg0) = m' ((c.tc : Thread Cert.DAttnInRefIdeal.nD Cert.DAttnInRefIdeal.τ).loc Cert.DAttnInRefIdeal.main_arg0)
          ∧ r.2.mem ((c.tc : Thread Cert.DAttnInRefIdeal.nD Cert.DAttnInRefIdeal.τ).loc Cert.DAttnInRefIdeal.main_arg1) = m' ((c.tc : Thread Cert.DAttnInRefIdeal.nD Cert.DAttnInRefIdeal.τ).loc Cert.DAttnInRefIdeal.main_arg1)
          ∧ r.2.mem ((c.tc : Thread Cert.DAttnInRefIdeal.nD Cert.DAttnInRefIdeal.τ).loc Cert.DAttnInRefIdeal.main_arg2) = m' ((c.tc : Thread Cert.DAttnInRefIdeal.nD Cert.DAttnInRefIdeal.τ).loc Cert.DAttnInRefIdeal.main_arg2)
          ∧ r.2.mem ((c.tc : Thread Cert.DAttnInRefIdeal.nD Cert.DAttnInRefIdeal.τ).loc Cert.DAttnInRefIdeal.main_arg3) = m' ((c.tc : Thread Cert.DAttnInRefIdeal.nD Cert.DAttnInRefIdeal.τ).loc Cert.DAttnInRefIdeal.main_arg3)
          ∧ r.2.mem ((c.tc : Thread Cert.DAttnInRefIdeal.nD Cert.DAttnInRefIdeal.τ).loc Cert.DAttnInRefIdeal.main_arg4) = m' ((c.tc : Thread Cert.DAttnInRefIdeal.nD Cert.DAttnInRefIdeal.τ).loc Cert.DAttnInRefIdeal.main_arg4))

def preserves_GateTail_GateTailIdeal : Prop :=
  True

def algebraic_GateTailIdeal_GateTailRefIdeal_pre_finite_gate_tail [hGateTailIdeal : Cert.GateTailIdeal.Facts] [hGateTailRefIdeal : Cert.GateTailRefIdeal.Facts] [hPre_finite_gate_tail : Cert.Pre_finite_gate_tail.Facts] : Prop :=
  ∀ (m : (ℓ : Loc Cert.GateTailIdeal.nD Cert.GateTailIdeal.τ Cert.GateTailIdeal.sig) → Buf (Elt Ideal) ℓ) (g : Dev Cert.GateTailIdeal.nD → PrngReg)
    (m' : (ℓ : Loc Cert.GateTailRefIdeal.nD Cert.GateTailRefIdeal.τ Cert.GateTailRefIdeal.sig) → Buf (Elt Ideal) ℓ) (g' : Dev Cert.GateTailRefIdeal.nD → PrngReg), Pre_GateTailIdeal_finite_gate_tail m →
    (∀ c : Dev Cert.GateTailIdeal.nD,
      m' ((c.tc : Thread Cert.GateTailRefIdeal.nD Cert.GateTailRefIdeal.τ).loc Cert.GateTailRefIdeal.main_arg0) = m ((c.tc : Thread Cert.GateTailIdeal.nD Cert.GateTailIdeal.τ).loc Cert.GateTailIdeal.main_arg0)
      ∧ m' ((c.tc : Thread Cert.GateTailRefIdeal.nD Cert.GateTailRefIdeal.τ).loc Cert.GateTailRefIdeal.main_arg1) = m ((c.tc : Thread Cert.GateTailIdeal.nD Cert.GateTailIdeal.τ).loc Cert.GateTailIdeal.main_arg1)
      ∧ m' ((c.tc : Thread Cert.GateTailRefIdeal.nD Cert.GateTailRefIdeal.τ).loc Cert.GateTailRefIdeal.main_arg2) = m ((c.tc : Thread Cert.GateTailIdeal.nD Cert.GateTailIdeal.τ).loc Cert.GateTailIdeal.main_arg2)
      ∧ m' ((c.tc : Thread Cert.GateTailRefIdeal.nD Cert.GateTailRefIdeal.τ).loc Cert.GateTailRefIdeal.main_arg3) = m ((c.tc : Thread Cert.GateTailIdeal.nD Cert.GateTailIdeal.τ).loc Cert.GateTailIdeal.main_arg3)
      ∧ m' ((c.tc : Thread Cert.GateTailRefIdeal.nD Cert.GateTailRefIdeal.τ).loc Cert.GateTailRefIdeal.main_arg4) = m ((c.tc : Thread Cert.GateTailIdeal.nD Cert.GateTailIdeal.τ).loc Cert.GateTailIdeal.main_arg4)
      ∧ m' ((c.tc : Thread Cert.GateTailRefIdeal.nD Cert.GateTailRefIdeal.τ).loc Cert.GateTailRefIdeal.main_arg5) = m ((c.tc : Thread Cert.GateTailIdeal.nD Cert.GateTailIdeal.τ).loc Cert.GateTailIdeal.main_arg5)
      ∧ m' ((c.tc : Thread Cert.GateTailRefIdeal.nD Cert.GateTailRefIdeal.τ).loc Cert.GateTailRefIdeal.main_arg6) = m ((c.tc : Thread Cert.GateTailIdeal.nD Cert.GateTailIdeal.τ).loc Cert.GateTailIdeal.main_arg6)) →
    ∃ (v0 : (c : Dev Cert.GateTailIdeal.nD) → Buf (Elt Ideal) ((c.tc : Thread Cert.GateTailIdeal.nD Cert.GateTailIdeal.τ).loc Cert.GateTailIdeal.main_v0_0)) (v1 : (c : Dev Cert.GateTailIdeal.nD) → Buf (Elt Ideal) ((c.tc : Thread Cert.GateTailIdeal.nD Cert.GateTailIdeal.τ).loc Cert.GateTailIdeal.main_v0_1)) (v2 : (c : Dev Cert.GateTailIdeal.nD) → Buf (Elt Ideal) ((c.tc : Thread Cert.GateTailIdeal.nD Cert.GateTailIdeal.τ).loc Cert.GateTailIdeal.main_v0_2)) (v3 : (c : Dev Cert.GateTailIdeal.nD) → Buf (Elt Ideal) ((c.tc : Thread Cert.GateTailIdeal.nD Cert.GateTailIdeal.τ).loc Cert.GateTailIdeal.main_v2)) (v4 : (c : Dev Cert.GateTailIdeal.nD) → Buf (Elt Ideal) ((c.tc : Thread Cert.GateTailIdeal.nD Cert.GateTailIdeal.τ).loc Cert.GateTailIdeal.main_v4)) (v5 : (c : Dev Cert.GateTailIdeal.nD) → Buf (Elt Ideal) ((c.tc : Thread Cert.GateTailIdeal.nD Cert.GateTailIdeal.τ).loc Cert.GateTailIdeal.main_v7)),
      θ_run (Cert.GateTailIdeal.defs (F := Ideal)) (onTc (τ := Cert.GateTailIdeal.τ) (Cert.GateTailIdeal.main (F := Ideal))) ⟨m, fun _ => 0, g⟩ (fun r => ∀ c : Dev Cert.GateTailIdeal.nD,
          r.2.mem ((c.tc : Thread Cert.GateTailIdeal.nD Cert.GateTailIdeal.τ).loc Cert.GateTailIdeal.main_v0_0) = v0 c
          ∧ r.2.mem ((c.tc : Thread Cert.GateTailIdeal.nD Cert.GateTailIdeal.τ).loc Cert.GateTailIdeal.main_v0_1) = v1 c
          ∧ r.2.mem ((c.tc : Thread Cert.GateTailIdeal.nD Cert.GateTailIdeal.τ).loc Cert.GateTailIdeal.main_v0_2) = v2 c
          ∧ r.2.mem ((c.tc : Thread Cert.GateTailIdeal.nD Cert.GateTailIdeal.τ).loc Cert.GateTailIdeal.main_v2) = v3 c
          ∧ r.2.mem ((c.tc : Thread Cert.GateTailIdeal.nD Cert.GateTailIdeal.τ).loc Cert.GateTailIdeal.main_v4) = v4 c
          ∧ r.2.mem ((c.tc : Thread Cert.GateTailIdeal.nD Cert.GateTailIdeal.τ).loc Cert.GateTailIdeal.main_v7) = v5 c
          ∧ r.2.mem ((c.tc : Thread Cert.GateTailIdeal.nD Cert.GateTailIdeal.τ).loc Cert.GateTailIdeal.main_arg0) = m ((c.tc : Thread Cert.GateTailIdeal.nD Cert.GateTailIdeal.τ).loc Cert.GateTailIdeal.main_arg0)
          ∧ r.2.mem ((c.tc : Thread Cert.GateTailIdeal.nD Cert.GateTailIdeal.τ).loc Cert.GateTailIdeal.main_arg1) = m ((c.tc : Thread Cert.GateTailIdeal.nD Cert.GateTailIdeal.τ).loc Cert.GateTailIdeal.main_arg1)
          ∧ r.2.mem ((c.tc : Thread Cert.GateTailIdeal.nD Cert.GateTailIdeal.τ).loc Cert.GateTailIdeal.main_arg2) = m ((c.tc : Thread Cert.GateTailIdeal.nD Cert.GateTailIdeal.τ).loc Cert.GateTailIdeal.main_arg2)
          ∧ r.2.mem ((c.tc : Thread Cert.GateTailIdeal.nD Cert.GateTailIdeal.τ).loc Cert.GateTailIdeal.main_arg3) = m ((c.tc : Thread Cert.GateTailIdeal.nD Cert.GateTailIdeal.τ).loc Cert.GateTailIdeal.main_arg3)
          ∧ r.2.mem ((c.tc : Thread Cert.GateTailIdeal.nD Cert.GateTailIdeal.τ).loc Cert.GateTailIdeal.main_arg4) = m ((c.tc : Thread Cert.GateTailIdeal.nD Cert.GateTailIdeal.τ).loc Cert.GateTailIdeal.main_arg4)
          ∧ r.2.mem ((c.tc : Thread Cert.GateTailIdeal.nD Cert.GateTailIdeal.τ).loc Cert.GateTailIdeal.main_arg5) = m ((c.tc : Thread Cert.GateTailIdeal.nD Cert.GateTailIdeal.τ).loc Cert.GateTailIdeal.main_arg5)
          ∧ r.2.mem ((c.tc : Thread Cert.GateTailIdeal.nD Cert.GateTailIdeal.τ).loc Cert.GateTailIdeal.main_arg6) = m ((c.tc : Thread Cert.GateTailIdeal.nD Cert.GateTailIdeal.τ).loc Cert.GateTailIdeal.main_arg6))
      ∧ θ_run (Cert.GateTailRefIdeal.defs (F := Ideal)) (onTc (τ := Cert.GateTailRefIdeal.τ) (Cert.GateTailRefIdeal.main (F := Ideal))) ⟨m', fun _ => 0, g'⟩ (fun r => ∀ c : Dev Cert.GateTailRefIdeal.nD,
          r.2.mem ((c.tc : Thread Cert.GateTailRefIdeal.nD Cert.GateTailRefIdeal.τ).loc Cert.GateTailRefIdeal.main_v82) = v0 c
          ∧ r.2.mem ((c.tc : Thread Cert.GateTailRefIdeal.nD Cert.GateTailRefIdeal.τ).loc Cert.GateTailRefIdeal.main_v108) = v1 c
          ∧ r.2.mem ((c.tc : Thread Cert.GateTailRefIdeal.nD Cert.GateTailRefIdeal.τ).loc Cert.GateTailRefIdeal.main_v109) = v2 c
          ∧ r.2.mem ((c.tc : Thread Cert.GateTailRefIdeal.nD Cert.GateTailRefIdeal.τ).loc Cert.GateTailRefIdeal.main_v83) = v3 c
          ∧ r.2.mem ((c.tc : Thread Cert.GateTailRefIdeal.nD Cert.GateTailRefIdeal.τ).loc Cert.GateTailRefIdeal.main_v106) = v4 c
          ∧ r.2.mem ((c.tc : Thread Cert.GateTailRefIdeal.nD Cert.GateTailRefIdeal.τ).loc Cert.GateTailRefIdeal.main_v56) = v5 c
          ∧ r.2.mem ((c.tc : Thread Cert.GateTailRefIdeal.nD Cert.GateTailRefIdeal.τ).loc Cert.GateTailRefIdeal.main_arg0) = m' ((c.tc : Thread Cert.GateTailRefIdeal.nD Cert.GateTailRefIdeal.τ).loc Cert.GateTailRefIdeal.main_arg0)
          ∧ r.2.mem ((c.tc : Thread Cert.GateTailRefIdeal.nD Cert.GateTailRefIdeal.τ).loc Cert.GateTailRefIdeal.main_arg1) = m' ((c.tc : Thread Cert.GateTailRefIdeal.nD Cert.GateTailRefIdeal.τ).loc Cert.GateTailRefIdeal.main_arg1)
          ∧ r.2.mem ((c.tc : Thread Cert.GateTailRefIdeal.nD Cert.GateTailRefIdeal.τ).loc Cert.GateTailRefIdeal.main_arg2) = m' ((c.tc : Thread Cert.GateTailRefIdeal.nD Cert.GateTailRefIdeal.τ).loc Cert.GateTailRefIdeal.main_arg2)
          ∧ r.2.mem ((c.tc : Thread Cert.GateTailRefIdeal.nD Cert.GateTailRefIdeal.τ).loc Cert.GateTailRefIdeal.main_arg3) = m' ((c.tc : Thread Cert.GateTailRefIdeal.nD Cert.GateTailRefIdeal.τ).loc Cert.GateTailRefIdeal.main_arg3)
          ∧ r.2.mem ((c.tc : Thread Cert.GateTailRefIdeal.nD Cert.GateTailRefIdeal.τ).loc Cert.GateTailRefIdeal.main_arg4) = m' ((c.tc : Thread Cert.GateTailRefIdeal.nD Cert.GateTailRefIdeal.τ).loc Cert.GateTailRefIdeal.main_arg4)
          ∧ r.2.mem ((c.tc : Thread Cert.GateTailRefIdeal.nD Cert.GateTailRefIdeal.τ).loc Cert.GateTailRefIdeal.main_arg5) = m' ((c.tc : Thread Cert.GateTailRefIdeal.nD Cert.GateTailRefIdeal.τ).loc Cert.GateTailRefIdeal.main_arg5)
          ∧ r.2.mem ((c.tc : Thread Cert.GateTailRefIdeal.nD Cert.GateTailRefIdeal.τ).loc Cert.GateTailRefIdeal.main_arg6) = m' ((c.tc : Thread Cert.GateTailRefIdeal.nD Cert.GateTailRefIdeal.τ).loc Cert.GateTailRefIdeal.main_arg6))

def preserves_DProj_DProjIdeal : Prop :=
  True

def algebraic_DProjIdeal_DProjRefIdeal_pre_finite_dproj [hDProjIdeal : Cert.DProjIdeal.Facts] [hDProjRefIdeal : Cert.DProjRefIdeal.Facts] [hPre_finite_dproj : Cert.Pre_finite_dproj.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.DProjRefIdeal.nD Cert.DProjRefIdeal.τ Cert.DProjRefIdeal.sig) → Buf (Elt Ideal) ℓ) (g' : Dev Cert.DProjRefIdeal.nD → PrngReg), Pre_DProjIdeal_finite_dproj m →
    (∀ c : Dev Cert.DProjIdeal.nD,
      m' ((c.tc : Thread Cert.DProjRefIdeal.nD Cert.DProjRefIdeal.τ).loc Cert.DProjRefIdeal.main_arg0) = m ((c.tc : Thread Cert.DProjIdeal.nD Cert.DProjIdeal.τ).loc Cert.DProjIdeal.main_arg0)
      ∧ m' ((c.tc : Thread Cert.DProjRefIdeal.nD Cert.DProjRefIdeal.τ).loc Cert.DProjRefIdeal.main_arg1) = m ((c.tc : Thread Cert.DProjIdeal.nD Cert.DProjIdeal.τ).loc Cert.DProjIdeal.main_arg1)
      ∧ m' ((c.tc : Thread Cert.DProjRefIdeal.nD Cert.DProjRefIdeal.τ).loc Cert.DProjRefIdeal.main_arg2) = m ((c.tc : Thread Cert.DProjIdeal.nD Cert.DProjIdeal.τ).loc Cert.DProjIdeal.main_arg2)
      ∧ m' ((c.tc : Thread Cert.DProjRefIdeal.nD Cert.DProjRefIdeal.τ).loc Cert.DProjRefIdeal.main_arg3) = m ((c.tc : Thread Cert.DProjIdeal.nD Cert.DProjIdeal.τ).loc Cert.DProjIdeal.main_arg3)
      ∧ m' ((c.tc : Thread Cert.DProjRefIdeal.nD Cert.DProjRefIdeal.τ).loc Cert.DProjRefIdeal.main_arg4) = m ((c.tc : Thread Cert.DProjIdeal.nD Cert.DProjIdeal.τ).loc Cert.DProjIdeal.main_arg4)
      ∧ m' ((c.tc : Thread Cert.DProjRefIdeal.nD Cert.DProjRefIdeal.τ).loc Cert.DProjRefIdeal.main_arg5) = m ((c.tc : Thread Cert.DProjIdeal.nD Cert.DProjIdeal.τ).loc Cert.DProjIdeal.main_arg5)
      ∧ m' ((c.tc : Thread Cert.DProjRefIdeal.nD Cert.DProjRefIdeal.τ).loc Cert.DProjRefIdeal.main_arg6) = m ((c.tc : Thread Cert.DProjIdeal.nD Cert.DProjIdeal.τ).loc Cert.DProjIdeal.main_arg6)
      ∧ m' ((c.tc : Thread Cert.DProjRefIdeal.nD Cert.DProjRefIdeal.τ).loc Cert.DProjRefIdeal.main_arg7) = m ((c.tc : Thread Cert.DProjIdeal.nD Cert.DProjIdeal.τ).loc Cert.DProjIdeal.main_arg7)
      ∧ m' ((c.tc : Thread Cert.DProjRefIdeal.nD Cert.DProjRefIdeal.τ).loc Cert.DProjRefIdeal.main_arg8) = m ((c.tc : Thread Cert.DProjIdeal.nD Cert.DProjIdeal.τ).loc Cert.DProjIdeal.main_arg8)) →
    ∃ (v0 : (c : Dev Cert.DProjIdeal.nD) → Buf (Elt Ideal) ((c.tc : Thread Cert.DProjIdeal.nD Cert.DProjIdeal.τ).loc Cert.DProjIdeal.main_v40_0)) (v1 : (c : Dev Cert.DProjIdeal.nD) → Buf (Elt Ideal) ((c.tc : Thread Cert.DProjIdeal.nD Cert.DProjIdeal.τ).loc Cert.DProjIdeal.main_v42)) (v2 : (c : Dev Cert.DProjIdeal.nD) → Buf (Elt Ideal) ((c.tc : Thread Cert.DProjIdeal.nD Cert.DProjIdeal.τ).loc Cert.DProjIdeal.main_v44)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v40_0) = v0 c
          ∧ r.2.mem ((c.tc : Thread Cert.DProjIdeal.nD Cert.DProjIdeal.τ).loc Cert.DProjIdeal.main_v42) = v1 c
          ∧ r.2.mem ((c.tc : Thread Cert.DProjIdeal.nD Cert.DProjIdeal.τ).loc Cert.DProjIdeal.main_v44) = v2 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
          ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
          ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
          ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
          ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
          ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
          ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
          ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8))
      ∧ θ_run (Cert.DProjRefIdeal.defs (F := Ideal)) (onTc (τ := Cert.DProjRefIdeal.τ) (Cert.DProjRefIdeal.main (F := Ideal))) ⟨m', fun _ => 0, g'⟩ (fun r => ∀ c : Dev Cert.DProjRefIdeal.nD,
          r.2.mem ((c.tc : Thread Cert.DProjRefIdeal.nD Cert.DProjRefIdeal.τ).loc Cert.DProjRefIdeal.main_v279) = v0 c
          ∧ r.2.mem ((c.tc : Thread Cert.DProjRefIdeal.nD Cert.DProjRefIdeal.τ).loc Cert.DProjRefIdeal.main_v276) = v1 c
          ∧ r.2.mem ((c.tc : Thread Cert.DProjRefIdeal.nD Cert.DProjRefIdeal.τ).loc Cert.DProjRefIdeal.main_v216) = v2 c
          ∧ r.2.mem ((c.tc : Thread Cert.DProjRefIdeal.nD Cert.DProjRefIdeal.τ).loc Cert.DProjRefIdeal.main_arg0) = m' ((c.tc : Thread Cert.DProjRefIdeal.nD Cert.DProjRefIdeal.τ).loc Cert.DProjRefIdeal.main_arg0)
          ∧ r.2.mem ((c.tc : Thread Cert.DProjRefIdeal.nD Cert.DProjRefIdeal.τ).loc Cert.DProjRefIdeal.main_arg1) = m' ((c.tc : Thread Cert.DProjRefIdeal.nD Cert.DProjRefIdeal.τ).loc Cert.DProjRefIdeal.main_arg1)
          ∧ r.2.mem ((c.tc : Thread Cert.DProjRefIdeal.nD Cert.DProjRefIdeal.τ).loc Cert.DProjRefIdeal.main_arg2) = m' ((c.tc : Thread Cert.DProjRefIdeal.nD Cert.DProjRefIdeal.τ).loc Cert.DProjRefIdeal.main_arg2)
          ∧ r.2.mem ((c.tc : Thread Cert.DProjRefIdeal.nD Cert.DProjRefIdeal.τ).loc Cert.DProjRefIdeal.main_arg3) = m' ((c.tc : Thread Cert.DProjRefIdeal.nD Cert.DProjRefIdeal.τ).loc Cert.DProjRefIdeal.main_arg3)
          ∧ r.2.mem ((c.tc : Thread Cert.DProjRefIdeal.nD Cert.DProjRefIdeal.τ).loc Cert.DProjRefIdeal.main_arg4) = m' ((c.tc : Thread Cert.DProjRefIdeal.nD Cert.DProjRefIdeal.τ).loc Cert.DProjRefIdeal.main_arg4)
          ∧ r.2.mem ((c.tc : Thread Cert.DProjRefIdeal.nD Cert.DProjRefIdeal.τ).loc Cert.DProjRefIdeal.main_arg5) = m' ((c.tc : Thread Cert.DProjRefIdeal.nD Cert.DProjRefIdeal.τ).loc Cert.DProjRefIdeal.main_arg5)
          ∧ r.2.mem ((c.tc : Thread Cert.DProjRefIdeal.nD Cert.DProjRefIdeal.τ).loc Cert.DProjRefIdeal.main_arg6) = m' ((c.tc : Thread Cert.DProjRefIdeal.nD Cert.DProjRefIdeal.τ).loc Cert.DProjRefIdeal.main_arg6)
          ∧ r.2.mem ((c.tc : Thread Cert.DProjRefIdeal.nD Cert.DProjRefIdeal.τ).loc Cert.DProjRefIdeal.main_arg7) = m' ((c.tc : Thread Cert.DProjRefIdeal.nD Cert.DProjRefIdeal.τ).loc Cert.DProjRefIdeal.main_arg7)
          ∧ r.2.mem ((c.tc : Thread Cert.DProjRefIdeal.nD Cert.DProjRefIdeal.τ).loc Cert.DProjRefIdeal.main_arg8) = m' ((c.tc : Thread Cert.DProjRefIdeal.nD Cert.DProjRefIdeal.τ).loc Cert.DProjRefIdeal.main_arg8))

def preserves_TableGrads_TableGradsIdeal : Prop :=
  True

def algebraic_TableGradsIdeal_TableGradsRefIdeal [hTableGradsIdeal : Cert.TableGradsIdeal.Facts] [hTableGradsRefIdeal : Cert.TableGradsRefIdeal.Facts] : Prop :=
  ∀ (m : (ℓ : Loc Cert.TableGradsIdeal.nD Cert.TableGradsIdeal.τ Cert.TableGradsIdeal.sig) → Buf (Elt Ideal) ℓ) (g : Dev Cert.TableGradsIdeal.nD → PrngReg)
    (m' : (ℓ : Loc Cert.TableGradsRefIdeal.nD Cert.TableGradsRefIdeal.τ Cert.TableGradsRefIdeal.sig) → Buf (Elt Ideal) ℓ) (g' : Dev Cert.TableGradsRefIdeal.nD → PrngReg), Pre_TableGradsIdeal m →
    (∀ c : Dev Cert.TableGradsIdeal.nD,
      m' ((c.tc : Thread Cert.TableGradsRefIdeal.nD Cert.TableGradsRefIdeal.τ).loc Cert.TableGradsRefIdeal.main_arg0) = m ((c.tc : Thread Cert.TableGradsIdeal.nD Cert.TableGradsIdeal.τ).loc Cert.TableGradsIdeal.main_arg0)
      ∧ m' ((c.tc : Thread Cert.TableGradsRefIdeal.nD Cert.TableGradsRefIdeal.τ).loc Cert.TableGradsRefIdeal.main_arg1) = m ((c.tc : Thread Cert.TableGradsIdeal.nD Cert.TableGradsIdeal.τ).loc Cert.TableGradsIdeal.main_arg1)) →
    ∃ (v0 : (c : Dev Cert.TableGradsIdeal.nD) → Buf (Elt Ideal) ((c.tc : Thread Cert.TableGradsIdeal.nD Cert.TableGradsIdeal.τ).loc Cert.TableGradsIdeal.main_v37)) (v1 : (c : Dev Cert.TableGradsIdeal.nD) → Buf (Elt Ideal) ((c.tc : Thread Cert.TableGradsIdeal.nD Cert.TableGradsIdeal.τ).loc Cert.TableGradsIdeal.main_v39)),
      θ_run (Cert.TableGradsIdeal.defs (F := Ideal)) (onTc (τ := Cert.TableGradsIdeal.τ) (Cert.TableGradsIdeal.main (F := Ideal))) ⟨m, fun _ => 0, g⟩ (fun r => ∀ c : Dev Cert.TableGradsIdeal.nD,
          r.2.mem ((c.tc : Thread Cert.TableGradsIdeal.nD Cert.TableGradsIdeal.τ).loc Cert.TableGradsIdeal.main_v37) = v0 c
          ∧ r.2.mem ((c.tc : Thread Cert.TableGradsIdeal.nD Cert.TableGradsIdeal.τ).loc Cert.TableGradsIdeal.main_v39) = v1 c
          ∧ r.2.mem ((c.tc : Thread Cert.TableGradsIdeal.nD Cert.TableGradsIdeal.τ).loc Cert.TableGradsIdeal.main_arg0) = m ((c.tc : Thread Cert.TableGradsIdeal.nD Cert.TableGradsIdeal.τ).loc Cert.TableGradsIdeal.main_arg0)
          ∧ r.2.mem ((c.tc : Thread Cert.TableGradsIdeal.nD Cert.TableGradsIdeal.τ).loc Cert.TableGradsIdeal.main_arg1) = m ((c.tc : Thread Cert.TableGradsIdeal.nD Cert.TableGradsIdeal.τ).loc Cert.TableGradsIdeal.main_arg1))
      ∧ θ_run (Cert.TableGradsRefIdeal.defs (F := Ideal)) (onTc (τ := Cert.TableGradsRefIdeal.τ) (Cert.TableGradsRefIdeal.main (F := Ideal))) ⟨m', fun _ => 0, g'⟩ (fun r => ∀ c : Dev Cert.TableGradsRefIdeal.nD,
          r.2.mem ((c.tc : Thread Cert.TableGradsRefIdeal.nD Cert.TableGradsRefIdeal.τ).loc Cert.TableGradsRefIdeal.main_v44) = v0 c
          ∧ r.2.mem ((c.tc : Thread Cert.TableGradsRefIdeal.nD Cert.TableGradsRefIdeal.τ).loc Cert.TableGradsRefIdeal.main_v47) = v1 c
          ∧ r.2.mem ((c.tc : Thread Cert.TableGradsRefIdeal.nD Cert.TableGradsRefIdeal.τ).loc Cert.TableGradsRefIdeal.main_arg0) = m' ((c.tc : Thread Cert.TableGradsRefIdeal.nD Cert.TableGradsRefIdeal.τ).loc Cert.TableGradsRefIdeal.main_arg0)
          ∧ r.2.mem ((c.tc : Thread Cert.TableGradsRefIdeal.nD Cert.TableGradsRefIdeal.τ).loc Cert.TableGradsRefIdeal.main_arg1) = m' ((c.tc : Thread Cert.TableGradsRefIdeal.nD Cert.TableGradsRefIdeal.τ).loc Cert.TableGradsRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v3) = v0 c
          ∧ r.2.mem ((c.tc : Thread Cert.UpProjRefIdeal.nD Cert.UpProjRefIdeal.τ).loc Cert.UpProjRefIdeal.main_v6) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v39_0)) (v1 : (c : Dev Cert.InProjIdeal.nD) → Buf (Elt Ideal) ((c.tc : Thread Cert.InProjIdeal.nD Cert.InProjIdeal.τ).loc Cert.InProjIdeal.main_v39_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v39_0) = v0 c
          ∧ r.2.mem ((c.tc : Thread Cert.InProjIdeal.nD Cert.InProjIdeal.τ).loc Cert.InProjIdeal.main_v39_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v150) = v0 c
          ∧ r.2.mem ((c.tc : Thread Cert.InProjRefIdeal.nD Cert.InProjRefIdeal.τ).loc Cert.InProjRefIdeal.main_v151) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_BiasBuild_BiasBuildIdeal : Prop :=
  True

def algebraic_BiasBuildIdeal_BiasBuildRefIdeal [hBiasBuildIdeal : Cert.BiasBuildIdeal.Facts] [hBiasBuildRefIdeal : Cert.BiasBuildRefIdeal.Facts] : Prop :=
  ∀ (m : (ℓ : Loc Cert.BiasBuildIdeal.nD Cert.BiasBuildIdeal.τ Cert.BiasBuildIdeal.sig) → Buf (Elt Ideal) ℓ) (g : Dev Cert.BiasBuildIdeal.nD → PrngReg)
    (m' : (ℓ : Loc Cert.BiasBuildRefIdeal.nD Cert.BiasBuildRefIdeal.τ Cert.BiasBuildRefIdeal.sig) → Buf (Elt Ideal) ℓ) (g' : Dev Cert.BiasBuildRefIdeal.nD → PrngReg), Pre_BiasBuildIdeal m →
    (∀ c : Dev Cert.BiasBuildIdeal.nD,
      m' ((c.tc : Thread Cert.BiasBuildRefIdeal.nD Cert.BiasBuildRefIdeal.τ).loc Cert.BiasBuildRefIdeal.main_arg0) = m ((c.tc : Thread Cert.BiasBuildIdeal.nD Cert.BiasBuildIdeal.τ).loc Cert.BiasBuildIdeal.main_arg0)) →
    ∃ (v0 : (c : Dev Cert.BiasBuildIdeal.nD) → Buf (Elt Ideal) ((c.tc : Thread Cert.BiasBuildIdeal.nD Cert.BiasBuildIdeal.τ).loc Cert.BiasBuildIdeal.main_v34)),
      θ_run (Cert.BiasBuildIdeal.defs (F := Ideal)) (onTc (τ := Cert.BiasBuildIdeal.τ) (Cert.BiasBuildIdeal.main (F := Ideal))) ⟨m, fun _ => 0, g⟩ (fun r => ∀ c : Dev Cert.BiasBuildIdeal.nD,
          r.2.mem ((c.tc : Thread Cert.BiasBuildIdeal.nD Cert.BiasBuildIdeal.τ).loc Cert.BiasBuildIdeal.main_v34) = v0 c
          ∧ r.2.mem ((c.tc : Thread Cert.BiasBuildIdeal.nD Cert.BiasBuildIdeal.τ).loc Cert.BiasBuildIdeal.main_arg0) = m ((c.tc : Thread Cert.BiasBuildIdeal.nD Cert.BiasBuildIdeal.τ).loc Cert.BiasBuildIdeal.main_arg0))
      ∧ θ_run (Cert.BiasBuildRefIdeal.defs (F := Ideal)) (onTc (τ := Cert.BiasBuildRefIdeal.τ) (Cert.BiasBuildRefIdeal.main (F := Ideal))) ⟨m', fun _ => 0, g'⟩ (fun r => ∀ c : Dev Cert.BiasBuildRefIdeal.nD,
          r.2.mem ((c.tc : Thread Cert.BiasBuildRefIdeal.nD Cert.BiasBuildRefIdeal.τ).loc Cert.BiasBuildRefIdeal.main_v44) = v0 c
          ∧ r.2.mem ((c.tc : Thread Cert.BiasBuildRefIdeal.nD Cert.BiasBuildRefIdeal.τ).loc Cert.BiasBuildRefIdeal.main_arg0) = m' ((c.tc : Thread Cert.BiasBuildRefIdeal.nD Cert.BiasBuildRefIdeal.τ).loc Cert.BiasBuildRefIdeal.main_arg0))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_DMlpIn_DMlpInIdeal : Prop :=
  True

def algebraic_DMlpInIdeal_DMlpInRefIdeal [hDMlpInIdeal : Cert.DMlpInIdeal.Facts] [hDMlpInRefIdeal : Cert.DMlpInRefIdeal.Facts] : Prop :=
  ∀ (m : (ℓ : Loc Cert.DMlpInIdeal.nD Cert.DMlpInIdeal.τ Cert.DMlpInIdeal.sig) → Buf (Elt Ideal) ℓ) (g : Dev Cert.DMlpInIdeal.nD → PrngReg)
    (m' : (ℓ : Loc Cert.DMlpInRefIdeal.nD Cert.DMlpInRefIdeal.τ Cert.DMlpInRefIdeal.sig) → Buf (Elt Ideal) ℓ) (g' : Dev Cert.DMlpInRefIdeal.nD → PrngReg), Pre_DMlpInIdeal m →
    (∀ c : Dev Cert.DMlpInIdeal.nD,
      m' ((c.tc : Thread Cert.DMlpInRefIdeal.nD Cert.DMlpInRefIdeal.τ).loc Cert.DMlpInRefIdeal.main_arg0) = m ((c.tc : Thread Cert.DMlpInIdeal.nD Cert.DMlpInIdeal.τ).loc Cert.DMlpInIdeal.main_arg0)
      ∧ m' ((c.tc : Thread Cert.DMlpInRefIdeal.nD Cert.DMlpInRefIdeal.τ).loc Cert.DMlpInRefIdeal.main_arg1) = m ((c.tc : Thread Cert.DMlpInIdeal.nD Cert.DMlpInIdeal.τ).loc Cert.DMlpInIdeal.main_arg1)) →
    ∃ (v0 : (c : Dev Cert.DMlpInIdeal.nD) → Buf (Elt Ideal) ((c.tc : Thread Cert.DMlpInIdeal.nD Cert.DMlpInIdeal.τ).loc Cert.DMlpInIdeal.main_v0)),
      θ_run (Cert.DMlpInIdeal.defs (F := Ideal)) (onTc (τ := Cert.DMlpInIdeal.τ) (Cert.DMlpInIdeal.main (F := Ideal))) ⟨m, fun _ => 0, g⟩ (fun r => ∀ c : Dev Cert.DMlpInIdeal.nD,
          r.2.mem ((c.tc : Thread Cert.DMlpInIdeal.nD Cert.DMlpInIdeal.τ).loc Cert.DMlpInIdeal.main_v0) = v0 c
          ∧ r.2.mem ((c.tc : Thread Cert.DMlpInIdeal.nD Cert.DMlpInIdeal.τ).loc Cert.DMlpInIdeal.main_arg0) = m ((c.tc : Thread Cert.DMlpInIdeal.nD Cert.DMlpInIdeal.τ).loc Cert.DMlpInIdeal.main_arg0)
          ∧ r.2.mem ((c.tc : Thread Cert.DMlpInIdeal.nD Cert.DMlpInIdeal.τ).loc Cert.DMlpInIdeal.main_arg1) = m ((c.tc : Thread Cert.DMlpInIdeal.nD Cert.DMlpInIdeal.τ).loc Cert.DMlpInIdeal.main_arg1))
      ∧ θ_run (Cert.DMlpInRefIdeal.defs (F := Ideal)) (onTc (τ := Cert.DMlpInRefIdeal.τ) (Cert.DMlpInRefIdeal.main (F := Ideal))) ⟨m', fun _ => 0, g'⟩ (fun r => ∀ c : Dev Cert.DMlpInRefIdeal.nD,
          r.2.mem ((c.tc : Thread Cert.DMlpInRefIdeal.nD Cert.DMlpInRefIdeal.τ).loc Cert.DMlpInRefIdeal.main_v5) = v0 c
          ∧ r.2.mem ((c.tc : Thread Cert.DMlpInRefIdeal.nD Cert.DMlpInRefIdeal.τ).loc Cert.DMlpInRefIdeal.main_arg0) = m' ((c.tc : Thread Cert.DMlpInRefIdeal.nD Cert.DMlpInRefIdeal.τ).loc Cert.DMlpInRefIdeal.main_arg0)
          ∧ r.2.mem ((c.tc : Thread Cert.DMlpInRefIdeal.nD Cert.DMlpInRefIdeal.τ).loc Cert.DMlpInRefIdeal.main_arg1) = m' ((c.tc : Thread Cert.DMlpInRefIdeal.nD Cert.DMlpInRefIdeal.τ).loc Cert.DMlpInRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v6) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v29)) (v1 : (c : Dev Cert.AdamSmallIdeal.nD) → Buf (Elt Ideal) ((c.tc : Thread Cert.AdamSmallIdeal.nD Cert.AdamSmallIdeal.τ).loc Cert.AdamSmallIdeal.main_v35)) (v2 : (c : Dev Cert.AdamSmallIdeal.nD) → Buf (Elt Ideal) ((c.tc : Thread Cert.AdamSmallIdeal.nD Cert.AdamSmallIdeal.τ).loc Cert.AdamSmallIdeal.main_v36)) (v3 : (c : Dev Cert.AdamSmallIdeal.nD) → Buf (Elt Ideal) ((c.tc : Thread Cert.AdamSmallIdeal.nD Cert.AdamSmallIdeal.τ).loc Cert.AdamSmallIdeal.main_v41)) (v4 : (c : Dev Cert.AdamSmallIdeal.nD) → Buf (Elt Ideal) ((c.tc : Thread Cert.AdamSmallIdeal.nD Cert.AdamSmallIdeal.τ).loc Cert.AdamSmallIdeal.main_v30)) (v5 : (c : Dev Cert.AdamSmallIdeal.nD) → Buf (Elt Ideal) ((c.tc : Thread Cert.AdamSmallIdeal.nD Cert.AdamSmallIdeal.τ).loc Cert.AdamSmallIdeal.main_v31)) (v6 : (c : Dev Cert.AdamSmallIdeal.nD) → Buf (Elt Ideal) ((c.tc : Thread Cert.AdamSmallIdeal.nD Cert.AdamSmallIdeal.τ).loc Cert.AdamSmallIdeal.main_v32)) (v7 : (c : Dev Cert.AdamSmallIdeal.nD) → Buf (Elt Ideal) ((c.tc : Thread Cert.AdamSmallIdeal.nD Cert.AdamSmallIdeal.τ).loc Cert.AdamSmallIdeal.main_v40)) (v8 : (c : Dev Cert.AdamSmallIdeal.nD) → Buf (Elt Ideal) ((c.tc : Thread Cert.AdamSmallIdeal.nD Cert.AdamSmallIdeal.τ).loc Cert.AdamSmallIdeal.main_v34)) (v9 : (c : Dev Cert.AdamSmallIdeal.nD) → Buf (Elt Ideal) ((c.tc : Thread Cert.AdamSmallIdeal.nD Cert.AdamSmallIdeal.τ).loc Cert.AdamSmallIdeal.main_v44)) (v10 : (c : Dev Cert.AdamSmallIdeal.nD) → Buf (Elt Ideal) ((c.tc : Thread Cert.AdamSmallIdeal.nD Cert.AdamSmallIdeal.τ).loc Cert.AdamSmallIdeal.main_v50)) (v11 : (c : Dev Cert.AdamSmallIdeal.nD) → Buf (Elt Ideal) ((c.tc : Thread Cert.AdamSmallIdeal.nD Cert.AdamSmallIdeal.τ).loc Cert.AdamSmallIdeal.main_v51)) (v12 : (c : Dev Cert.AdamSmallIdeal.nD) → Buf (Elt Ideal) ((c.tc : Thread Cert.AdamSmallIdeal.nD Cert.AdamSmallIdeal.τ).loc Cert.AdamSmallIdeal.main_v56)) (v13 : (c : Dev Cert.AdamSmallIdeal.nD) → Buf (Elt Ideal) ((c.tc : Thread Cert.AdamSmallIdeal.nD Cert.AdamSmallIdeal.τ).loc Cert.AdamSmallIdeal.main_v45)) (v14 : (c : Dev Cert.AdamSmallIdeal.nD) → Buf (Elt Ideal) ((c.tc : Thread Cert.AdamSmallIdeal.nD Cert.AdamSmallIdeal.τ).loc Cert.AdamSmallIdeal.main_v46)) (v15 : (c : Dev Cert.AdamSmallIdeal.nD) → Buf (Elt Ideal) ((c.tc : Thread Cert.AdamSmallIdeal.nD Cert.AdamSmallIdeal.τ).loc Cert.AdamSmallIdeal.main_v47)) (v16 : (c : Dev Cert.AdamSmallIdeal.nD) → Buf (Elt Ideal) ((c.tc : Thread Cert.AdamSmallIdeal.nD Cert.AdamSmallIdeal.τ).loc Cert.AdamSmallIdeal.main_v55)) (v17 : (c : Dev Cert.AdamSmallIdeal.nD) → Buf (Elt Ideal) ((c.tc : Thread Cert.AdamSmallIdeal.nD Cert.AdamSmallIdeal.τ).loc Cert.AdamSmallIdeal.main_v49)) (v18 : (c : Dev Cert.AdamSmallIdeal.nD) → Buf (Elt Ideal) ((c.tc : Thread Cert.AdamSmallIdeal.nD Cert.AdamSmallIdeal.τ).loc Cert.AdamSmallIdeal.main_v59)) (v19 : (c : Dev Cert.AdamSmallIdeal.nD) → Buf (Elt Ideal) ((c.tc : Thread Cert.AdamSmallIdeal.nD Cert.AdamSmallIdeal.τ).loc Cert.AdamSmallIdeal.main_v65)) (v20 : (c : Dev Cert.AdamSmallIdeal.nD) → Buf (Elt Ideal) ((c.tc : Thread Cert.AdamSmallIdeal.nD Cert.AdamSmallIdeal.τ).loc Cert.AdamSmallIdeal.main_v66)) (v21 : (c : Dev Cert.AdamSmallIdeal.nD) → Buf (Elt Ideal) ((c.tc : Thread Cert.AdamSmallIdeal.nD Cert.AdamSmallIdeal.τ).loc Cert.AdamSmallIdeal.main_v71)) (v22 : (c : Dev Cert.AdamSmallIdeal.nD) → Buf (Elt Ideal) ((c.tc : Thread Cert.AdamSmallIdeal.nD Cert.AdamSmallIdeal.τ).loc Cert.AdamSmallIdeal.main_v60)) (v23 : (c : Dev Cert.AdamSmallIdeal.nD) → Buf (Elt Ideal) ((c.tc : Thread Cert.AdamSmallIdeal.nD Cert.AdamSmallIdeal.τ).loc Cert.AdamSmallIdeal.main_v61)) (v24 : (c : Dev Cert.AdamSmallIdeal.nD) → Buf (Elt Ideal) ((c.tc : Thread Cert.AdamSmallIdeal.nD Cert.AdamSmallIdeal.τ).loc Cert.AdamSmallIdeal.main_v62)) (v25 : (c : Dev Cert.AdamSmallIdeal.nD) → Buf (Elt Ideal) ((c.tc : Thread Cert.AdamSmallIdeal.nD Cert.AdamSmallIdeal.τ).loc Cert.AdamSmallIdeal.main_v70)) (v26 : (c : Dev Cert.AdamSmallIdeal.nD) → Buf (Elt Ideal) ((c.tc : Thread Cert.AdamSmallIdeal.nD Cert.AdamSmallIdeal.τ).loc Cert.AdamSmallIdeal.main_v64)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v29) = v0 c
          ∧ r.2.mem ((c.tc : Thread Cert.AdamSmallIdeal.nD Cert.AdamSmallIdeal.τ).loc Cert.AdamSmallIdeal.main_v35) = v1 c
          ∧ r.2.mem ((c.tc : Thread Cert.AdamSmallIdeal.nD Cert.AdamSmallIdeal.τ).loc Cert.AdamSmallIdeal.main_v36) = v2 c
          ∧ r.2.mem ((c.tc : Thread Cert.AdamSmallIdeal.nD Cert.AdamSmallIdeal.τ).loc Cert.AdamSmallIdeal.main_v41) = v3 c
          ∧ r.2.mem ((c.tc : Thread Cert.AdamSmallIdeal.nD Cert.AdamSmallIdeal.τ).loc Cert.AdamSmallIdeal.main_v30) = v4 c
          ∧ r.2.mem ((c.tc : Thread Cert.AdamSmallIdeal.nD Cert.AdamSmallIdeal.τ).loc Cert.AdamSmallIdeal.main_v31) = v5 c
          ∧ r.2.mem ((c.tc : Thread Cert.AdamSmallIdeal.nD Cert.AdamSmallIdeal.τ).loc Cert.AdamSmallIdeal.main_v32) = v6 c
          ∧ r.2.mem ((c.tc : Thread Cert.AdamSmallIdeal.nD Cert.AdamSmallIdeal.τ).loc Cert.AdamSmallIdeal.main_v40) = v7 c
          ∧ r.2.mem ((c.tc : Thread Cert.AdamSmallIdeal.nD Cert.AdamSmallIdeal.τ).loc Cert.AdamSmallIdeal.main_v34) = v8 c
          ∧ r.2.mem ((c.tc : Thread Cert.AdamSmallIdeal.nD Cert.AdamSmallIdeal.τ).loc Cert.AdamSmallIdeal.main_v44) = v9 c
          ∧ r.2.mem ((c.tc : Thread Cert.AdamSmallIdeal.nD Cert.AdamSmallIdeal.τ).loc Cert.AdamSmallIdeal.main_v50) = v10 c
          ∧ r.2.mem ((c.tc : Thread Cert.AdamSmallIdeal.nD Cert.AdamSmallIdeal.τ).loc Cert.AdamSmallIdeal.main_v51) = v11 c
          ∧ r.2.mem ((c.tc : Thread Cert.AdamSmallIdeal.nD Cert.AdamSmallIdeal.τ).loc Cert.AdamSmallIdeal.main_v56) = v12 c
          ∧ r.2.mem ((c.tc : Thread Cert.AdamSmallIdeal.nD Cert.AdamSmallIdeal.τ).loc Cert.AdamSmallIdeal.main_v45) = v13 c
          ∧ r.2.mem ((c.tc : Thread Cert.AdamSmallIdeal.nD Cert.AdamSmallIdeal.τ).loc Cert.AdamSmallIdeal.main_v46) = v14 c
          ∧ r.2.mem ((c.tc : Thread Cert.AdamSmallIdeal.nD Cert.AdamSmallIdeal.τ).loc Cert.AdamSmallIdeal.main_v47) = v15 c
          ∧ r.2.mem ((c.tc : Thread Cert.AdamSmallIdeal.nD Cert.AdamSmallIdeal.τ).loc Cert.AdamSmallIdeal.main_v55) = v16 c
          ∧ r.2.mem ((c.tc : Thread Cert.AdamSmallIdeal.nD Cert.AdamSmallIdeal.τ).loc Cert.AdamSmallIdeal.main_v49) = v17 c
          ∧ r.2.mem ((c.tc : Thread Cert.AdamSmallIdeal.nD Cert.AdamSmallIdeal.τ).loc Cert.AdamSmallIdeal.main_v59) = v18 c
          ∧ r.2.mem ((c.tc : Thread Cert.AdamSmallIdeal.nD Cert.AdamSmallIdeal.τ).loc Cert.AdamSmallIdeal.main_v65) = v19 c
          ∧ r.2.mem ((c.tc : Thread Cert.AdamSmallIdeal.nD Cert.AdamSmallIdeal.τ).loc Cert.AdamSmallIdeal.main_v66) = v20 c
          ∧ r.2.mem ((c.tc : Thread Cert.AdamSmallIdeal.nD Cert.AdamSmallIdeal.τ).loc Cert.AdamSmallIdeal.main_v71) = v21 c
          ∧ r.2.mem ((c.tc : Thread Cert.AdamSmallIdeal.nD Cert.AdamSmallIdeal.τ).loc Cert.AdamSmallIdeal.main_v60) = v22 c
          ∧ r.2.mem ((c.tc : Thread Cert.AdamSmallIdeal.nD Cert.AdamSmallIdeal.τ).loc Cert.AdamSmallIdeal.main_v61) = v23 c
          ∧ r.2.mem ((c.tc : Thread Cert.AdamSmallIdeal.nD Cert.AdamSmallIdeal.τ).loc Cert.AdamSmallIdeal.main_v62) = v24 c
          ∧ r.2.mem ((c.tc : Thread Cert.AdamSmallIdeal.nD Cert.AdamSmallIdeal.τ).loc Cert.AdamSmallIdeal.main_v70) = v25 c
          ∧ r.2.mem ((c.tc : Thread Cert.AdamSmallIdeal.nD Cert.AdamSmallIdeal.τ).loc Cert.AdamSmallIdeal.main_v64) = v26 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v4) = v9 c
          ∧ r.2.mem ((c.tc : Thread Cert.AdamSmallRefIdeal.nD Cert.AdamSmallRefIdeal.τ).loc Cert.AdamSmallRefIdeal.main_v28) = v10 c
          ∧ r.2.mem ((c.tc : Thread Cert.AdamSmallRefIdeal.nD Cert.AdamSmallRefIdeal.τ).loc Cert.AdamSmallRefIdeal.main_v52) = v11 c
          ∧ r.2.mem ((c.tc : Thread Cert.AdamSmallRefIdeal.nD Cert.AdamSmallRefIdeal.τ).loc Cert.AdamSmallRefIdeal.main_v76) = v12 c
          ∧ r.2.mem ((c.tc : Thread Cert.AdamSmallRefIdeal.nD Cert.AdamSmallRefIdeal.τ).loc Cert.AdamSmallRefIdeal.main_v100) = v13 c
          ∧ r.2.mem ((c.tc : Thread Cert.AdamSmallRefIdeal.nD Cert.AdamSmallRefIdeal.τ).loc Cert.AdamSmallRefIdeal.main_v124) = v14 c
          ∧ r.2.mem ((c.tc : Thread Cert.AdamSmallRefIdeal.nD Cert.AdamSmallRefIdeal.τ).loc Cert.AdamSmallRefIdeal.main_v148) = v15 c
          ∧ r.2.mem ((c.tc : Thread Cert.AdamSmallRefIdeal.nD Cert.AdamSmallRefIdeal.τ).loc Cert.AdamSmallRefIdeal.main_v172) = v16 c
          ∧ r.2.mem ((c.tc : Thread Cert.AdamSmallRefIdeal.nD Cert.AdamSmallRefIdeal.τ).loc Cert.AdamSmallRefIdeal.main_v196) = v17 c
          ∧ r.2.mem ((c.tc : Thread Cert.AdamSmallRefIdeal.nD Cert.AdamSmallRefIdeal.τ).loc Cert.AdamSmallRefIdeal.main_v10) = v18 c
          ∧ r.2.mem ((c.tc : Thread Cert.AdamSmallRefIdeal.nD Cert.AdamSmallRefIdeal.τ).loc Cert.AdamSmallRefIdeal.main_v34) = v19 c
          ∧ r.2.mem ((c.tc : Thread Cert.AdamSmallRefIdeal.nD Cert.AdamSmallRefIdeal.τ).loc Cert.AdamSmallRefIdeal.main_v58) = v20 c
          ∧ r.2.mem ((c.tc : Thread Cert.AdamSmallRefIdeal.nD Cert.AdamSmallRefIdeal.τ).loc Cert.AdamSmallRefIdeal.main_v82) = v21 c
          ∧ r.2.mem ((c.tc : Thread Cert.AdamSmallRefIdeal.nD Cert.AdamSmallRefIdeal.τ).loc Cert.AdamSmallRefIdeal.main_v106) = v22 c
          ∧ r.2.mem ((c.tc : Thread Cert.AdamSmallRefIdeal.nD Cert.AdamSmallRefIdeal.τ).loc Cert.AdamSmallRefIdeal.main_v130) = v23 c
          ∧ r.2.mem ((c.tc : Thread Cert.AdamSmallRefIdeal.nD Cert.AdamSmallRefIdeal.τ).loc Cert.AdamSmallRefIdeal.main_v154) = v24 c
          ∧ r.2.mem ((c.tc : Thread Cert.AdamSmallRefIdeal.nD Cert.AdamSmallRefIdeal.τ).loc Cert.AdamSmallRefIdeal.main_v178) = v25 c
          ∧ r.2.mem ((c.tc : Thread Cert.AdamSmallRefIdeal.nD Cert.AdamSmallRefIdeal.τ).loc Cert.AdamSmallRefIdeal.main_v202) = v26 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def Claim : Prop :=
  ∃ (hKernel : Cert.Kernel.Facts) (hKernelIdeal : Cert.KernelIdeal.Facts) (hReferenceIdeal : Cert.ReferenceIdeal.Facts) (hAttnA : Cert.AttnA.Facts) (hAttnAIdeal : Cert.AttnAIdeal.Facts) (hAttnARefIdeal : Cert.AttnARefIdeal.Facts) (hRms : Cert.Rms.Facts) (hRmsIdeal : Cert.RmsIdeal.Facts) (hRmsRefIdeal : Cert.RmsRefIdeal.Facts) (hDGate : Cert.DGate.Facts) (hDGateIdeal : Cert.DGateIdeal.Facts) (hDGateRefIdeal : Cert.DGateRefIdeal.Facts) (hDAttnIn : Cert.DAttnIn.Facts) (hDAttnInIdeal : Cert.DAttnInIdeal.Facts) (hDAttnInRefIdeal : Cert.DAttnInRefIdeal.Facts) (hGateTail : Cert.GateTail.Facts) (hGateTailIdeal : Cert.GateTailIdeal.Facts) (hGateTailRefIdeal : Cert.GateTailRefIdeal.Facts) (hDProj : Cert.DProj.Facts) (hDProjIdeal : Cert.DProjIdeal.Facts) (hDProjRefIdeal : Cert.DProjRefIdeal.Facts) (hTableGrads : Cert.TableGrads.Facts) (hTableGradsIdeal : Cert.TableGradsIdeal.Facts) (hTableGradsRefIdeal : Cert.TableGradsRefIdeal.Facts) (hRmsFwd : Cert.RmsFwd.Facts) (hRmsFwdIdeal : Cert.RmsFwdIdeal.Facts) (hRmsFwdRefIdeal : Cert.RmsFwdRefIdeal.Facts) (hOutProj : Cert.OutProj.Facts) (hOutProjIdeal : Cert.OutProjIdeal.Facts) (hOutProjRefIdeal : Cert.OutProjRefIdeal.Facts) (hUpProj : Cert.UpProj.Facts) (hUpProjIdeal : Cert.UpProjIdeal.Facts) (hUpProjRefIdeal : Cert.UpProjRefIdeal.Facts) (hInProj : Cert.InProj.Facts) (hInProjIdeal : Cert.InProjIdeal.Facts) (hInProjRefIdeal : Cert.InProjRefIdeal.Facts) (hBiasBuild : Cert.BiasBuild.Facts) (hBiasBuildIdeal : Cert.BiasBuildIdeal.Facts) (hBiasBuildRefIdeal : Cert.BiasBuildRefIdeal.Facts) (hDownProj : Cert.DownProj.Facts) (hDownProjIdeal : Cert.DownProjIdeal.Facts) (hDownProjRefIdeal : Cert.DownProjRefIdeal.Facts) (hDMlpIn : Cert.DMlpIn.Facts) (hDMlpInIdeal : Cert.DMlpInIdeal.Facts) (hDMlpInRefIdeal : Cert.DMlpInRefIdeal.Facts) (hGradUp : Cert.GradUp.Facts) (hGradUpIdeal : Cert.GradUpIdeal.Facts) (hGradUpRefIdeal : Cert.GradUpRefIdeal.Facts) (hAdamSmall : Cert.AdamSmall.Facts) (hAdamSmallIdeal : Cert.AdamSmallIdeal.Facts) (hAdamSmallRefIdeal : Cert.AdamSmallRefIdeal.Facts) (hPre_finite_attn_a : Cert.Pre_finite_attn_a.Facts) (hPre_finite_rms : Cert.Pre_finite_rms.Facts) (hPre_finite_d_gate : Cert.Pre_finite_d_gate.Facts) (hPre_finite_d_attn_in : Cert.Pre_finite_d_attn_in.Facts) (hPre_finite_gate_tail : Cert.Pre_finite_gate_tail.Facts) (hPre_finite_dproj : Cert.Pre_finite_dproj.Facts),
    quiescent_Kernel (hKernel := hKernel)
    ∧ quiescent_KernelIdeal (hKernelIdeal := hKernelIdeal)
    ∧ quiescent_ReferenceIdeal (hReferenceIdeal := hReferenceIdeal)
    ∧ quiescent_AttnA (hAttnA := hAttnA)
    ∧ quiescent_AttnAIdeal (hAttnAIdeal := hAttnAIdeal)
    ∧ quiescent_AttnAIdeal_pre_finite_attn_a (hAttnAIdeal := hAttnAIdeal) (hPre_finite_attn_a := hPre_finite_attn_a)
    ∧ quiescent_AttnARefIdeal (hAttnARefIdeal := hAttnARefIdeal)
    ∧ quiescent_AttnARefIdeal_pre_finite_attn_a (hAttnARefIdeal := hAttnARefIdeal) (hPre_finite_attn_a := hPre_finite_attn_a)
    ∧ quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_DGate (hDGate := hDGate)
    ∧ quiescent_DGateIdeal (hDGateIdeal := hDGateIdeal)
    ∧ quiescent_DGateIdeal_pre_finite_d_gate (hDGateIdeal := hDGateIdeal) (hPre_finite_d_gate := hPre_finite_d_gate)
    ∧ quiescent_DGateRefIdeal (hDGateRefIdeal := hDGateRefIdeal)
    ∧ quiescent_DGateRefIdeal_pre_finite_d_gate (hDGateRefIdeal := hDGateRefIdeal) (hPre_finite_d_gate := hPre_finite_d_gate)
    ∧ quiescent_DAttnIn (hDAttnIn := hDAttnIn)
    ∧ quiescent_DAttnInIdeal (hDAttnInIdeal := hDAttnInIdeal)
    ∧ quiescent_DAttnInIdeal_pre_finite_d_attn_in (hDAttnInIdeal := hDAttnInIdeal) (hPre_finite_d_attn_in := hPre_finite_d_attn_in)
    ∧ quiescent_DAttnInRefIdeal (hDAttnInRefIdeal := hDAttnInRefIdeal)
    ∧ quiescent_DAttnInRefIdeal_pre_finite_d_attn_in (hDAttnInRefIdeal := hDAttnInRefIdeal) (hPre_finite_d_attn_in := hPre_finite_d_attn_in)
    ∧ quiescent_GateTail (hGateTail := hGateTail)
    ∧ quiescent_GateTailIdeal (hGateTailIdeal := hGateTailIdeal)
    ∧ quiescent_GateTailIdeal_pre_finite_gate_tail (hGateTailIdeal := hGateTailIdeal) (hPre_finite_gate_tail := hPre_finite_gate_tail)
    ∧ quiescent_GateTailRefIdeal (hGateTailRefIdeal := hGateTailRefIdeal)
    ∧ quiescent_GateTailRefIdeal_pre_finite_gate_tail (hGateTailRefIdeal := hGateTailRefIdeal) (hPre_finite_gate_tail := hPre_finite_gate_tail)
    ∧ quiescent_DProj (hDProj := hDProj)
    ∧ quiescent_DProjIdeal (hDProjIdeal := hDProjIdeal)
    ∧ quiescent_DProjIdeal_pre_finite_dproj (hDProjIdeal := hDProjIdeal) (hPre_finite_dproj := hPre_finite_dproj)
    ∧ quiescent_DProjRefIdeal (hDProjRefIdeal := hDProjRefIdeal)
    ∧ quiescent_DProjRefIdeal_pre_finite_dproj (hDProjRefIdeal := hDProjRefIdeal) (hPre_finite_dproj := hPre_finite_dproj)
    ∧ quiescent_TableGrads (hTableGrads := hTableGrads)
    ∧ quiescent_TableGradsIdeal (hTableGradsIdeal := hTableGradsIdeal)
    ∧ quiescent_TableGradsRefIdeal (hTableGradsRefIdeal := hTableGradsRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_BiasBuild (hBiasBuild := hBiasBuild)
    ∧ quiescent_BiasBuildIdeal (hBiasBuildIdeal := hBiasBuildIdeal)
    ∧ quiescent_BiasBuildRefIdeal (hBiasBuildRefIdeal := hBiasBuildRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_DMlpIn (hDMlpIn := hDMlpIn)
    ∧ quiescent_DMlpInIdeal (hDMlpInIdeal := hDMlpInIdeal)
    ∧ quiescent_DMlpInRefIdeal (hDMlpInRefIdeal := hDMlpInRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal)
    ∧ preserves_AttnA_AttnAIdeal
    ∧ algebraic_AttnAIdeal_AttnARefIdeal_pre_finite_attn_a (hAttnAIdeal := hAttnAIdeal) (hAttnARefIdeal := hAttnARefIdeal) (hPre_finite_attn_a := hPre_finite_attn_a)
    ∧ preserves_Rms_RmsIdeal
    ∧ algebraic_RmsIdeal_RmsRefIdeal_pre_finite_rms (hRmsIdeal := hRmsIdeal) (hRmsRefIdeal := hRmsRefIdeal) (hPre_finite_rms := hPre_finite_rms)
    ∧ preserves_DGate_DGateIdeal
    ∧ algebraic_DGateIdeal_DGateRefIdeal_pre_finite_d_gate (hDGateIdeal := hDGateIdeal) (hDGateRefIdeal := hDGateRefIdeal) (hPre_finite_d_gate := hPre_finite_d_gate)
    ∧ preserves_DAttnIn_DAttnInIdeal
    ∧ algebraic_DAttnInIdeal_DAttnInRefIdeal_pre_finite_d_attn_in (hDAttnInIdeal := hDAttnInIdeal) (hDAttnInRefIdeal := hDAttnInRefIdeal) (hPre_finite_d_attn_in := hPre_finite_d_attn_in)
    ∧ preserves_GateTail_GateTailIdeal
    ∧ algebraic_GateTailIdeal_GateTailRefIdeal_pre_finite_gate_tail (hGateTailIdeal := hGateTailIdeal) (hGateTailRefIdeal := hGateTailRefIdeal) (hPre_finite_gate_tail := hPre_finite_gate_tail)
    ∧ preserves_DProj_DProjIdeal
    ∧ algebraic_DProjIdeal_DProjRefIdeal_pre_finite_dproj (hDProjIdeal := hDProjIdeal) (hDProjRefIdeal := hDProjRefIdeal) (hPre_finite_dproj := hPre_finite_dproj)
    ∧ preserves_TableGrads_TableGradsIdeal
    ∧ algebraic_TableGradsIdeal_TableGradsRefIdeal (hTableGradsIdeal := hTableGradsIdeal) (hTableGradsRefIdeal := hTableGradsRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_OutProj_OutProjIdeal
    ∧ algebraic_OutProjIdeal_OutProjRefIdeal (hOutProjIdeal := hOutProjIdeal) (hOutProjRefIdeal := hOutProjRefIdeal)
    ∧ preserves_UpProj_UpProjIdeal
    ∧ algebraic_UpProjIdeal_UpProjRefIdeal (hUpProjIdeal := hUpProjIdeal) (hUpProjRefIdeal := hUpProjRefIdeal)
    ∧ preserves_InProj_InProjIdeal
    ∧ algebraic_InProjIdeal_InProjRefIdeal (hInProjIdeal := hInProjIdeal) (hInProjRefIdeal := hInProjRefIdeal)
    ∧ preserves_BiasBuild_BiasBuildIdeal
    ∧ algebraic_BiasBuildIdeal_BiasBuildRefIdeal (hBiasBuildIdeal := hBiasBuildIdeal) (hBiasBuildRefIdeal := hBiasBuildRefIdeal)
    ∧ preserves_DownProj_DownProjIdeal
    ∧ algebraic_DownProjIdeal_DownProjRefIdeal (hDownProjIdeal := hDownProjIdeal) (hDownProjRefIdeal := hDownProjRefIdeal)
    ∧ preserves_DMlpIn_DMlpInIdeal
    ∧ algebraic_DMlpInIdeal_DMlpInRefIdeal (hDMlpInIdeal := hDMlpInIdeal) (hDMlpInRefIdeal := hDMlpInRefIdeal)
    ∧ preserves_GradUp_GradUpIdeal
    ∧ algebraic_GradUpIdeal_GradUpRefIdeal (hGradUpIdeal := hGradUpIdeal) (hGradUpRefIdeal := hGradUpRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_attn_a.lean ====
abbrev S4096x3072 : Shape := ⟨2, ![4096, 3072]⟩
abbrev S4096x2048 : Shape := ⟨2, ![4096, 2048]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x2048 : S_.BroadcastsInDim S4096x2048 (![] : Fin 0 → Fin S4096x2048.rank)

variable [Facts]

def fn {F : FTy → Type} [FloatOps F] (main_arg0 : FVec F S4096x3072 .bf16) (main_arg1 : FVec F S4096x2048 .bf16) : IVec S4096x3072 1 × IVec S4096x2048 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  (main_v3, main_v7)
-- ==== Pre_finite_d_attn_in.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S2048x3072 : S_.BroadcastsInDim S2048x3072 (![] : Fin 0 → Fin S2048x3072.rank)
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x3072 .bf16) (main_arg1 : FVec F S2048x3072 .bf16) (main_arg2 : FVec F S4096x2048 .f32) (main_arg3 : FVec F S1x2048 .f32) (main_arg4 : FVec F S4096x2048 .f32) : IVec S4096x3072 1 × IVec S2048x3072 1 × IVec S4096x2048 1 × IVec S1x2048 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S2048x3072 .f32 := (extf .f32 · bitsLt_bf16_f32) main_arg1
  let main_v5 : FVec F S2048x3072 .f32 := Host.absf main_v4
  let main_cst_0 : FVec F S_ .f32 := constant S_ .f32 0x7F800000#32
  let main_v6 : FVec F S2048x3072 .f32 := broadcastInDim S2048x3072 ![] bcast_S_S2048x3072 main_cst_0
  let main_v7 : IVec S2048x3072 1 := cmpf .olt main_v5 main_v6
  let main_v8 : FVec F S4096x2048 .f32 := Host.absf main_arg2
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S1x2048 .f32 := Host.absf main_arg3
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  (main_v3, main_v7, main_v10, main_v13)
-- ==== Pre_finite_d_gate.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S4096x2048 .bf16) (main_arg1 : FVec F S2048x2048 .bf16) (main_arg2 : FVec F S4096x2048 .f32) (main_arg3 : FVec F S1x2048 .f32) (main_arg4 : FVec F S4096x2048 .f32) : IVec S4096x2048 1 × IVec S2048x2048 1 × IVec S4096x2048 1 × IVec S1x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S4096x2048 .f32 := Host.absf main_arg2
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S1x2048 .f32 := Host.absf main_arg3
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  (main_v3, main_v7, main_v10, main_v13)
-- ==== Pre_finite_dproj.lean ====
abbrev S4096x3072 : Shape := ⟨2, ![4096, 3072]⟩
abbrev S4096x1024 : Shape := ⟨2, ![4096, 1024]⟩
abbrev S256x4096 : Shape := ⟨2, ![256, 4096]⟩
abbrev S4096x256 : Shape := ⟨2, ![4096, 256]⟩
abbrev S1x128 : Shape := ⟨2, ![1, 128]⟩
abbrev S_ : Shape := ⟨0, ![]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)
  bcast_S_S256x4096 : S_.BroadcastsInDim S256x4096 (![] : Fin 0 → Fin S256x4096.rank)
  bcast_S_S1x128 : S_.BroadcastsInDim S1x128 (![] : Fin 0 → Fin S1x128.rank)

variable [Facts]

def fn {F : FTy → Type} [FloatOps F] (main_arg0 : FVec F S4096x3072 .f32) (main_arg1 : FVec F S4096x1024 .f32) (main_arg2 : FVec F S256x4096 .f32) (main_arg3 : FVec F S256x4096 .f32) (main_arg4 : FVec F S4096x1024 .bf16) (main_arg5 : FVec F S4096x256 .f32) (main_arg6 : FVec F S4096x256 .f32) (main_arg7 : FVec F S1x128 .f32) (main_arg8 : FVec F S1x128 .f32) : IVec S4096x3072 1 × IVec S4096x1024 1 × IVec S256x4096 1 × IVec S1x128 1 × IVec S1x128 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S256x4096 .f32 := Host.absf main_arg2
  let main_cst_1 : FVec F S_ .f32 := constant S_ .f32 0x7F800000#32
  let main_v7 : FVec F S256x4096 .f32 := broadcastInDim S256x4096 ![] bcast_S_S256x4096 main_cst_1
  let main_v8 : IVec S256x4096 1 := cmpf .olt main_v6 main_v7
  let main_v9 : FVec F S1x128 .f32 := Host.absf main_arg7
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S1x128 .f32 := Host.absf main_arg8
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  (main_v2, main_v5, main_v8, main_v11, main_v14)
-- ==== Pre_finite_gate_tail.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .bf16) (main_arg1 : FVec F S2048x2048 .bf16) (main_arg2 : FVec F S4096x2048 .f32) (main_arg3 : FVec F S4096x2048 .f32) (main_arg4 : FVec F S4096x2048 .f32) (main_arg5 : FVec F S1x2048 .f32) (main_arg6 : FVec F S1x2048 .f32) : IVec S4096x2048 1 × IVec S4096x2048 1 × IVec S4096x2048 1 × IVec S1x2048 1 × IVec S1x2048 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg3
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x2048 .f32 := Host.absf main_arg4
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S1x2048 .f32 := Host.absf main_arg5
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg6
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_finite_rms.lean ====
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .bf16) (main_arg1 : FVec F S4096x2048 .f32) (main_arg2 : FVec F S1x2048 .f32) (main_arg3 : FVec F S4096x2048 .f32) : IVec S4096x2048 1 × IVec S4096x2048 1 × IVec S1x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Kernel.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S2048x2048 : Shape := ⟨2, ![2048, 2048]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S8192x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== AttnA.lean ====
abbrev S4096x3072 : Shape := ⟨2, ![4096, 3072]⟩
abbrev S4096x2048 : Shape := ⟨2, ![4096, 2048]⟩
abbrev S8x4096x1 : Shape := ⟨3, ![8, 4096, 1]⟩
abbrev S2048x128 : Shape := ⟨2, ![2048, 128]⟩
abbrev S4096x128 : Shape := ⟨2, ![4096, 128]⟩
abbrev S1x2048x1 : Shape := ⟨3, ![1, 2048, 1]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S4096x1024 : Shape := ⟨2, ![4096, 1024]⟩
abbrev S256x4096 : Shape := ⟨2, ![256, 4096]⟩
abbrev S128x4096 : Shape := ⟨2, ![128, 4096]⟩
abbrev S128x512 : Shape := ⟨2, ![128, 512]⟩
abbrev S512x512 : Shape := ⟨2, ![512, 512]⟩

abbrev nBuf : Space → Nat
  | .hbm => 8
  | .vmem => 28
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S4096x2048, .bf16⟩
  | .hbm, ⟨3, _⟩ => ⟨S8x4096x1, .f32⟩
  | .hbm, ⟨4, _⟩ => ⟨S4096x1024, .f32⟩
  | .hbm, ⟨5, _⟩ => ⟨S256x4096, .f32⟩
  | .hbm, ⟨6, _⟩ => ⟨S256x4096, .f32⟩
  | .hbm, ⟨7, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S2048x128, .bf16⟩
  | .local _ .vmem, ⟨11, _⟩ => ⟨S2048x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x1, .f32⟩
  | .local _ .vmem, ⟨21, _⟩ => ⟨S1x2048x1, .f32⟩
  | .local _ .vmem, ⟨22, _⟩ => ⟨S2048x128, .f32⟩
  | .local _ .vmem, ⟨23, _⟩ => ⟨S2048x128, .f32⟩
  | .local _ .vmem, ⟨24, _⟩ => ⟨S128x4096, .f32⟩
  | .local _ .vmem, ⟨25, _⟩ => ⟨S128x4096, .f32⟩
  | .local _ .vmem, ⟨26, _⟩ => ⟨S128x4096, .f32⟩
  | .local _ .vmem, ⟨27, _⟩ => ⟨S128x4096, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== AttnAIdeal.lean ====
variable {F : FTy → Type} [FloatOps F] [Named F]
def κ : String → Option EReal := fun
  | "c" => some (((Real.sqrt 128)⁻¹ * (Real.log 2)⁻¹ : ℝ) : EReal)
  | "log2e" => some (((Real.log 2)⁻¹ : ℝ) : EReal)
  | "scale" => some (((Real.sqrt 128)⁻¹ : ℝ) : EReal)
  | _ => none
-- ==== AttnARefIdeal.lean ====
abbrev S4096x3072 : Shape := ⟨2, ![4096, 3072]⟩
abbrev S4096x2048 : Shape := ⟨2, ![4096, 2048]⟩
abbrev S4096x1024 : Shape := ⟨2, ![4096, 1024]⟩
abbrev S4096x2x4x128 : Shape := ⟨4, ![4096, 2, 4, 128]⟩
abbrev S2x4x4096x128 : Shape := ⟨4, ![2, 4, 4096, 128]⟩
abbrev S4096x256 : Shape := ⟨2, ![4096, 256]⟩
abbrev S4096x2x128 : Shape := ⟨3, ![4096, 2, 128]⟩
abbrev S2x4096x128 : Shape := ⟨3, ![2, 4096, 128]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4096 : Shape := ⟨3, ![2, 128, 4096]⟩
abbrev S8x4096x1 : Shape := ⟨3, ![8, 4096, 1]⟩
abbrev S256x4096 : Shape := ⟨2, ![256, 4096]⟩

abbrev nBuf : Space → Nat
  | .hbm => 100
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S4096x3072, .f32⟩
  | .hbm, ⟨3, _⟩ => ⟨S4096x1024, .f32⟩
  | .hbm, ⟨4, _⟩ => ⟨S4096x2x4x128, .f32⟩
  | .hbm, ⟨5, _⟩ => ⟨S2x4x4096x128, .f32⟩
  | .hbm, ⟨6, _⟩ => ⟨S4096x256, .f32⟩
  | .hbm, ⟨7, _⟩ => ⟨S4096x2x128, .f32⟩
  | .hbm, ⟨8, _⟩ => ⟨S2x4096x128, .f32⟩
  | .hbm, ⟨9, _⟩ => ⟨S4096x256, .f32⟩
  | .hbm, ⟨10, _⟩ => ⟨S4096x2x128, .f32⟩
  | .hbm, ⟨11, _⟩ => ⟨S2x4096x128, .f32⟩
  | .hbm, ⟨12, _⟩ => ⟨S2x4x4096x4096, .f32⟩
  | .hbm, ⟨13, _⟩ => ⟨S_, .f32⟩
  | .hbm, ⟨14, _⟩ => ⟨S_, .f32⟩
  | .hbm, ⟨15, _⟩ => ⟨S2x4x4096x4096, .f32⟩
  | .hbm, ⟨16, _⟩ => ⟨S2x4x4096x4096, .f32⟩
  | .hbm, ⟨17, _⟩ => ⟨S_, .f32⟩
  | .hbm, ⟨18, _⟩ => ⟨S2x4x4096, .f32⟩
  | .hbm, ⟨19, _⟩ => ⟨S2x4x4096x1, .f32⟩
  | .hbm, ⟨20, _⟩ => ⟨S2x4x4096x4096, .f32⟩
  | .hbm, ⟨21, _⟩ => ⟨S2x4x4096x4096, .i1⟩
  | .hbm, ⟨22, _⟩ => ⟨S2x4x4096x4096, .f32⟩
  | .hbm, ⟨23, _⟩ => ⟨S_, .f32⟩
  | .hbm, ⟨24, _⟩ => ⟨S2x4x4096, .f32⟩
  | .hbm, ⟨25, _⟩ => ⟨S_, .f32⟩
  | .hbm, ⟨26, _⟩ => ⟨S2x4x4096, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S2x4x4096, .i1⟩
  | .hbm, ⟨31, _⟩ => ⟨S_, .f32⟩
  | .hbm, ⟨32, _⟩ => ⟨S2x4x4096, .f32⟩
  | .hbm, ⟨33, _⟩ => ⟨S2x4x4096, .i1⟩
  | .hbm, ⟨34, _⟩ => ⟨S_, .f32⟩
  | .hbm, ⟨35, _⟩ => ⟨S2x4x4096, .f32⟩
  | .hbm, ⟨36, _⟩ => ⟨S_, .f32⟩
  | .hbm, ⟨37, _⟩ => ⟨S2x4x4096, .f32⟩
  | .hbm, ⟨38, _⟩ => ⟨S_, .f32⟩
  | .hbm, ⟨39, _⟩ => ⟨S2x4x4096, .f32⟩
  | .hbm, ⟨40, _⟩ => ⟨S2x4x4096, .f32⟩
  | .hbm, ⟨41, _⟩ => ⟨S2x4x4096, .f32⟩
  | .hbm, ⟨42, _⟩ => ⟨S2x4x4096x1, .f32⟩
  | .hbm, ⟨43, _⟩ => ⟨S2x4x4096x4096, .f32⟩
  | .hbm, ⟨44, _⟩ => ⟨S2x4x4096x4096, .f32⟩
  | .hbm, ⟨45, _⟩ => ⟨S2x4x4096x4096, .f32⟩
  | .hbm, ⟨46, _⟩ => ⟨S_, .f32⟩
  | .hbm, ⟨47, _⟩ => ⟨S2x4x4096, .f32⟩
  | .hbm, ⟨48, _⟩ => ⟨S2x4x4096x1, .f32⟩
  | .hbm, ⟨49, _⟩ => ⟨S2x4x4096x4096, .f32⟩
  | .hbm, ⟨50, _⟩ => ⟨S2x4x4096x4096, .f32⟩
  | .hbm, ⟨51, _⟩ => ⟨S2x4x4096x1, .f32⟩
  | .hbm, ⟨52, _⟩ => ⟨S_, .f32⟩
  | .hbm, ⟨53, _⟩ => ⟨S2x4x4096x1, .f32⟩
  | .hbm, ⟨54, _⟩ => ⟨S2x4x4096x1, .f32⟩
  | .hbm, ⟨55, _⟩ => ⟨S2x4x4096x128, .f32⟩
  | .hbm, ⟨56, _⟩ => ⟨S4096x1024, .bf16⟩
  | .hbm, ⟨57, _⟩ => ⟨S4096x1024, .f32⟩
  | .hbm, ⟨58, _⟩ => ⟨S4096x2x4x128, .f32⟩
  | .hbm, ⟨59, _⟩ => ⟨S2x4x4096x128, .f32⟩
  | .hbm, ⟨60, _⟩ => ⟨S2x128x4096, .f32⟩
  | .hbm, ⟨61, _⟩ => ⟨S2x4096x128, .f32⟩
  | .hbm, ⟨62, _⟩ => ⟨S2x4x4096x4096, .f32⟩
  | .hbm, ⟨63, _⟩ => ⟨S2x4x4096x4096, .f32⟩
  | .hbm, ⟨64, _⟩ => ⟨S2x4x4096x4096, .f32⟩
  | .hbm, ⟨65, _⟩ => ⟨S2x4x4096x4096, .f32⟩
  | .hbm, ⟨66, _⟩ => ⟨S_, .f32⟩
  | .hbm, ⟨67, _⟩ => ⟨S2x4x4096, .f32⟩
  | .hbm, ⟨68, _⟩ => ⟨S2x4x4096x1, .f32⟩
  | .hbm, ⟨69, _⟩ => ⟨S2x4x4096x1, .f32⟩
  | .hbm, ⟨70, _⟩ => ⟨S2x4x4096x4096, .f32⟩
  | .hbm, ⟨71, _⟩ => ⟨S2x4x4096x4096, .f32⟩
  | .hbm, ⟨72, _⟩ => ⟨S_, .f32⟩
  | .hbm, ⟨73, _⟩ => ⟨S2x4x4096, .f32⟩
  | .hbm, ⟨74, _⟩ => ⟨S2x4x4096x4096, .f32⟩
  | .hbm, ⟨75, _⟩ => ⟨S2x4x4096x4096, .f32⟩
  | .hbm, ⟨76, _⟩ => ⟨S2x4x4096x4096, .f32⟩
  | .hbm, ⟨77, _⟩ => ⟨S2x4x4096x4096, .f32⟩
  | .hbm, ⟨78, _⟩ => ⟨S2x4x4096x4096, .f32⟩
  | .hbm, ⟨79, _⟩ => ⟨S2x4096x128, .f32⟩
  | .hbm, ⟨80, _⟩ => ⟨S2x4x4096x128, .f32⟩
  | .hbm, ⟨81, _⟩ => ⟨S2x4x4096x4096, .f32⟩
  | .hbm, ⟨82, _⟩ => ⟨S_, .f32⟩
  | .hbm, ⟨83, _⟩ => ⟨S_, .f32⟩
  | .hbm, ⟨84, _⟩ => ⟨S2x4x4096x4096, .f32⟩
  | .hbm, ⟨85, _⟩ => ⟨S2x4x4096x4096, .f32⟩
  | .hbm, ⟨86, _⟩ => ⟨S2x4x4096x4096, .f32⟩
  | .hbm, ⟨87, _⟩ => ⟨S_, .f32⟩
  | .hbm, ⟨88, _⟩ => ⟨S2x4x4096, .f32⟩
  | .hbm, ⟨89, _⟩ => ⟨S2x4x4096, .f32⟩
  | .hbm, ⟨90, _⟩ => ⟨S4096x2x4x128, .f32⟩
  | .hbm, ⟨91, _⟩ => ⟨S4096x1024, .f32⟩
  | .hbm, ⟨92, _⟩ => ⟨S4096x1024, .bf16⟩
  | .hbm, ⟨93, _⟩ => ⟨S8x4096x1, .f32⟩
  | .hbm, ⟨94, _⟩ => ⟨S4096x2x4x128, .f32⟩
  | .hbm, ⟨95, _⟩ => ⟨S4096x1024, .f32⟩
  | .hbm, ⟨96, _⟩ => ⟨S2x128x4096, .f32⟩
  | .hbm, ⟨97, _⟩ => ⟨S256x4096, .f32⟩
  | .hbm, ⟨98, _⟩ => ⟨S2x128x4096, .f32⟩
  | .hbm, ⟨99, _⟩ => ⟨S256x4096, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_10 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_12 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_13 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Rms.lean ====
abbrev S4096x2048 : Shape := ⟨2, ![4096, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S_, .f32⟩
  | .hbm, ⟨8, _⟩ => ⟨S2048, .f32⟩
  | .hbm, ⟨9, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | .hbm, ⟨53, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== DGate.lean ====
abbrev S4096x2048 : Shape := ⟨2, ![4096, 2048]⟩
abbrev S2048x2048 : Shape := ⟨2, ![2048, 2048]⟩
abbrev S1x2048 : Shape := ⟨2, ![1, 2048]⟩
abbrev S8x2048 : Shape := ⟨2, ![8, 2048]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S8x2048, .f32⟩
  | .hbm, ⟨8, _⟩ => ⟨S_, .f32⟩
  | .hbm, ⟨9, _⟩ => ⟨S2048, .f32⟩
  | .hbm, ⟨10, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S8x2048, .f32⟩
  | .local _ .vmem, ⟨13, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DGateRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | .hbm, ⟨57, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== DAttnIn.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S8x2048 : Shape := ⟨2, ![8, 2048]⟩
abbrev S512x3072 : Shape := ⟨2, ![512, 3072]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S8x2048, .f32⟩
  | .hbm, ⟨7, _⟩ => ⟨S_, .f32⟩
  | .hbm, ⟨8, _⟩ => ⟨S2048, .f32⟩
  | .hbm, ⟨9, _⟩ => ⟨S1x2048, .f32⟩
  | .local _ .vmem, ⟨0, _⟩ => ⟨S512x3072, .bf16⟩
  | .local _ .vmem, ⟨1, _⟩ => ⟨S512x3072, .bf16⟩
  | .local _ .vmem, ⟨2, _⟩ => ⟨S2048x3072, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S8x2048, .f32⟩
  | .local _ .vmem, ⟨11, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DAttnInRefIdeal.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x3072, .f32⟩
  | .hbm, ⟨27, _⟩ => ⟨S4096x3072, .f32⟩
  | .hbm, ⟨28, _⟩ => ⟨S4096x3072, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== GateTail.lean ====
abbrev S4096x2048 : Shape := ⟨2, ![4096, 2048]⟩
abbrev S2048x2048 : Shape := ⟨2, ![2048, 2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S32x8x2048 : Shape := ⟨3, ![32, 8, 2048]⟩
abbrev S_ : Shape := ⟨0, ![]⟩
abbrev S2048 : Shape := ⟨1, ![2048]⟩
abbrev S128 : Shape := ⟨1, ![128]⟩

abbrev nBuf : Space → Nat
  | .hbm => 23
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S8x2048, .f32⟩
  | .hbm, ⟨11, _⟩ => ⟨S8x2048, .f32⟩
  | .hbm, ⟨12, _⟩ => ⟨S8x128, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S_, .f32⟩
  | .hbm, ⟨17, _⟩ => ⟨S2048, .f32⟩
  | .hbm, ⟨18, _⟩ => ⟨S1x2048, .f32⟩
  | .hbm, ⟨19, _⟩ => ⟨S_, .f32⟩
  | .hbm, ⟨20, _⟩ => ⟨S128, .f32⟩
  | .hbm, ⟨21, _⟩ => ⟨S1, .f32⟩
  | .hbm, ⟨22, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S8x2048, .f32⟩
  | .local _ .vmem, ⟨18, _⟩ => ⟨S8x2048, .f32⟩
  | .local _ .vmem, ⟨19, _⟩ => ⟨S8x128, .f32⟩
  | .local _ .vmem, ⟨20, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg0 : BitVec 32 := BitVec.ofNat 32 (i 0).val
  let c0_i32 : BitVec 32 := 0#32
  let v3 : BitVec 1 := Scalar.cmpi .eq arg0 c0_i32
  let v70 : BitVec 32 := Scalar.extui v3
  let c0_i32_32 : BitVec 32 := 0#32
  let v71 : BitVec 1 := Scalar.cmpi .ne v70 c0_i32_32
  v71

def k0_cond4 (i : grid0.Coords) : BitVec 1 :=
  let arg0 : BitVec 32 := BitVec.ofNat 32 (i 0).val
  let c0_i32 : BitVec 32 := 0#32
  let v3 : BitVec 1 := Scalar.cmpi .eq arg0 c0_i32
  let true_33 : BitVec 1 := 1#1
  let v72 : BitVec 1 := Scalar.xori v3 true_33
  let v73 : BitVec 32 := Scalar.extui v72
  let c0_i32_34 : BitVec 32 := 0#32
  let v74 : BitVec 1 := Scalar.cmpi .ne v73 c0_i32_34
  v74

def k0_cond5 (i : grid0.Coords) : BitVec 1 :=
  let arg0 : BitVec 32 := BitVec.ofNat 32 (i 0).val
  let c0_i32 : BitVec 32 := 0#32
  let v3 : BitVec 1 := Scalar.cmpi .eq arg0 c0_i32
  let v100 : BitVec 32 := Scalar.extui v3
  let c0_i32_45 : BitVec 32 := 0#32
  let v101 : BitVec 1 := Scalar.cmpi .ne v100 c0_i32_45
  v101

def k0_cond6 (i : grid0.Coords) : BitVec 1 :=
  let arg0 : BitVec 32 := BitVec.ofNat 32 (i 0).val
  let c0_i32 : BitVec 32 := 0#32
  let v3 : BitVec 1 := Scalar.cmpi .eq arg0 c0_i32
  let true_46 : BitVec 1 := 1#1
  let v102 : BitVec 1 := Scalar.xori v3 true_46
  let v103 : BitVec 32 := Scalar.extui v102
  let c0_i32_47 : BitVec 32 := 0#32
  let v104 : BitVec 1 := Scalar.cmpi .ne v103 c0_i32_47
  v104

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v60 : BitVec 32 := Scalar.extui v3
  let c0_i32_28 : BitVec 32 := 0#32
  let v61 : BitVec 1 := Scalar.cmpi .ne v60 c0_i32_28
  v61

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v62 : BitVec 1 := Scalar.xori v3 v_true
  let v63 : BitVec 32 := Scalar.extui v62
  let c0_i32_29 : BitVec 32 := 0#32
  let v64 : BitVec 1 := Scalar.cmpi .ne v63 c0_i32_29
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== GateTailRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 146
  | .vmem => 0
  | .smem => 0
  | _ => 0

abbrev hbmTy0_0 (i : Nat) : BufTy := match i % 128 with
  | 0 => ⟨S4096x2048, .bf16⟩
  | 1 => ⟨S2048x2048, .bf16⟩
  | 2 => ⟨S4096x2048, .f32⟩
  | 3 => ⟨S4096x2048, .f32⟩
  | 4 => ⟨S4096x2048, .f32⟩
  | 5 => ⟨S1x2048, .f32⟩
  | 6 => ⟨S1x2048, .f32⟩
  | 7 => ⟨S4096x2048, .f32⟩
  | 8 => ⟨S2048x2048, .f32⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S2048, .f32⟩
  | 23 => ⟨S4096x2048, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x2048, .f32⟩
  | 39 => ⟨S4096x2048, .f32⟩
  | 40 => ⟨S1x2048, .f32⟩
  | 41 => ⟨S4096x2048, .f32⟩
  | 42 => ⟨S4096x2048, .f32⟩
  | 43 => ⟨S4096x2048, .f32⟩
  | 44 => ⟨S4096x2048, .f32⟩
  | 45 => ⟨S2048, .f32⟩
  | 46 => ⟨S4096x2048, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x2048, .f32⟩
  | 62 => ⟨S4096x2048, .f32⟩
  | 63 => ⟨S1x2048, .f32⟩
  | 64 => ⟨S4096x2048, .f32⟩
  | 65 => ⟨S4096x2048, .f32⟩
  | 66 => ⟨S4096x2048, .f32⟩
  | 67 => ⟨S4096x2048, .f32⟩
  | 68 => ⟨S_, .f32⟩
  | 69 => ⟨S4096x2048, .f32⟩
  | 70 => ⟨S4096x2048, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x2048, .f32⟩
  | 88 => ⟨S4096x2048, .f32⟩
  | 89 => ⟨S4096x2048, .f32⟩
  | 90 => ⟨S_, .f32⟩
  | 91 => ⟨S2048, .f32⟩
  | 92 => ⟨S1x2048, .f32⟩
  | 93 => ⟨S4096x2048, .f32⟩
  | 94 => ⟨S4096x2048, .f32⟩
  | 95 => ⟨S_, .f32⟩
  | 96 => ⟨S2048, .f32⟩
  | 97 => ⟨S4096x2048, .f32⟩
  | 98 => ⟨S_, .f32⟩
  | 99 => ⟨S4096, .f32⟩
  | 100 => ⟨S4096x1, .f32⟩
  | 101 => ⟨S4096x2048, .f32⟩
  | 102 => ⟨S4096x2048, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x2048, .f32⟩
  | 110 => ⟨S4096x2048, .f32⟩
  | 111 => ⟨S4096x2048, .f32⟩
  | 112 => ⟨S4096x2048, .f32⟩
  | 113 => ⟨S4096x2048, .f32⟩
  | 114 => ⟨S1x2048, .f32⟩
  | 115 => ⟨S4096x2048, .f32⟩
  | 116 => ⟨S4096x2048, .f32⟩
  | 117 => ⟨S4096x2048, .f32⟩
  | 118 => ⟨S_, .f32⟩
  | 119 => ⟨S2048, .f32⟩
  | 120 => ⟨S1x2048, .f32⟩
  | 121 => ⟨S4096x2048, .f32⟩
  | 122 => ⟨S4096x2048, .f32⟩
  | 123 => ⟨S_, .f32⟩
  | 124 => ⟨S2048, .f32⟩
  | 125 => ⟨S4096x2048, .f32⟩
  | 126 => ⟨S_, .f32⟩
  | 127 => ⟨S4096, .f32⟩
  | _ => ⟨S4096x2048, .bf16⟩

abbrev hbmTy0_1 (i : Nat) : BufTy := match i % 128 with
  | 0 => ⟨S4096x1, .f32⟩
  | 1 => ⟨S4096x2048, .f32⟩
  | 2 => ⟨S4096x2048, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S1x2048, .f32⟩
  | 15 => ⟨S4096x2048, .f32⟩
  | 16 => ⟨S4096x2048, .bf16⟩
  | 17 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_cst_15 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_21 : Ref sig .tc := ⟨.hbm, 104, rfl⟩
abbrev main_v75 : Ref sig .tc := ⟨.hbm, 105, rfl⟩
abbrev main_v76 : Ref sig .tc := ⟨.hbm, 106, rfl⟩
abbrev main_cst_22 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_24 : Ref sig .tc := ⟨.hbm, 123, rfl⟩
abbrev main_v91 : Ref sig .tc := ⟨.hbm, 124, rfl⟩
abbrev main_v92 : Ref sig .tc := ⟨.hbm, 125, rfl⟩
abbrev main_cst_25 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_26 : Ref sig .tc := ⟨.hbm, 132, rfl⟩
abbrev main_v98 : Ref sig .tc := ⟨.hbm, 133, rfl⟩
abbrev main_v99 : Ref sig .tc := ⟨.hbm, 134, rfl⟩
abbrev main_cst_27 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== DProj.lean ====
abbrev S4096x3072 : Shape := ⟨2, ![4096, 3072]⟩
abbrev S4096x1024 : Shape := ⟨2, ![4096, 1024]⟩
abbrev S256x4096 : Shape := ⟨2, ![256, 4096]⟩
abbrev S4096x256 : Shape := ⟨2, ![4096, 256]⟩
abbrev S1x128 : Shape := ⟨2, ![1, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x1280 : Shape := ⟨2, ![4096, 1280]⟩
abbrev S8x128 : Shape := ⟨2, ![8, 128]⟩
abbrev S512x1280 : Shape := ⟨2, ![512, 1280]⟩
abbrev S512x1024 : Shape := ⟨2, ![512, 1024]⟩
abbrev S256x512 : Shape := ⟨2, ![256, 512]⟩
abbrev S512x256 : Shape := ⟨2, ![512, 256]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S64x8x128 : Shape := ⟨3, ![64, 8, 128]⟩
abbrev S128 : Shape := ⟨1, ![128]⟩

abbrev nBuf : Space → Nat
  | .hbm => 64
  | .vmem => 24
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S256x4096, .f32⟩
  | .hbm, ⟨3, _⟩ => ⟨S256x4096, .f32⟩
  | .hbm, ⟨4, _⟩ => ⟨S4096x1024, .bf16⟩
  | .hbm, ⟨5, _⟩ => ⟨S4096x256, .f32⟩
  | .hbm, ⟨6, _⟩ => ⟨S4096x256, .f32⟩
  | .hbm, ⟨7, _⟩ => ⟨S1x128, .f32⟩
  | .hbm, ⟨8, _⟩ => ⟨S1x128, .f32⟩
  | .hbm, ⟨9, _⟩ => ⟨S4096, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x128, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x128, .f32⟩
  | .hbm, ⟨54, _⟩ => ⟨S4096x1280, .f32⟩
  | .hbm, ⟨55, _⟩ => ⟨S4096x3072, .bf16⟩
  | .hbm, ⟨56, _⟩ => ⟨S8x128, .f32⟩
  | .hbm, ⟨57, _⟩ => ⟨S8x128, .f32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S_, .f32⟩
  | .hbm, ⟨62, _⟩ => ⟨S128, .f32⟩
  | .hbm, ⟨63, _⟩ => ⟨S1x128, .f32⟩
  | .local _ .vmem, ⟨0, _⟩ => ⟨S512x1280, .f32⟩
  | .local _ .vmem, ⟨1, _⟩ => ⟨S512x1280, .f32⟩
  | .local _ .vmem, ⟨2, _⟩ => ⟨S512x1024, .f32⟩
  | .local _ .vmem, ⟨3, _⟩ => ⟨S512x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | .local _ .vmem, ⟨20, _⟩ => ⟨S512x3072, .bf16⟩
  | .local _ .vmem, ⟨21, _⟩ => ⟨S512x3072, .bf16⟩
  | .local _ .vmem, ⟨22, _⟩ => ⟨S8x128, .f32⟩
  | .local _ .vmem, ⟨23, _⟩ => ⟨S8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_230 : BitVec 32 := 0#32
  let v590 : BitVec 1 := Scalar.cmpi .eq arg0 c0_i32_230
  let v591 : BitVec 32 := Scalar.extui v590
  let c0_i32_231 : BitVec 32 := 0#32
  let v592 : BitVec 1 := Scalar.cmpi .ne v591 c0_i32_231
  v592

def k0_cond2 (i : grid0.Coords) : BitVec 1 :=
  let arg0 : BitVec 32 := BitVec.ofNat 32 (i 0).val
  let c0_i32_230 : BitVec 32 := 0#32
  let v590 : BitVec 1 := Scalar.cmpi .eq arg0 c0_i32_230
  let v_true : BitVec 1 := 1#1
  let v593 : BitVec 1 := Scalar.xori v590 v_true
  let v594 : BitVec 32 := Scalar.extui v593
  let c0_i32_232 : BitVec 32 := 0#32
  let v595 : BitVec 1 := Scalar.cmpi .ne v594 c0_i32_232
  v595

def k0_cond3 (i : grid0.Coords) : BitVec 1 :=
  let arg0 : BitVec 32 := BitVec.ofNat 32 (i 0).val
  let c0_i32_230 : BitVec 32 := 0#32
  let v590 : BitVec 1 := Scalar.cmpi .eq arg0 c0_i32_230
  let v596 : BitVec 32 := Scalar.extui v590
  let c0_i32_233 : BitVec 32 := 0#32
  let v597 : BitVec 1 := Scalar.cmpi .ne v596 c0_i32_233
  v597

def k0_cond4 (i : grid0.Coords) : BitVec 1 :=
  let arg0 : BitVec 32 := BitVec.ofNat 32 (i 0).val
  let c0_i32_230 : BitVec 32 := 0#32
  let v590 : BitVec 1 := Scalar.cmpi .eq arg0 c0_i32_230
  let true_234 : BitVec 1 := 1#1
  let v598 : BitVec 1 := Scalar.xori v590 true_234
  let v599 : BitVec 32 := Scalar.extui v598
  let c0_i32_235 : BitVec 32 := 0#32
  let v600 : BitVec 1 := Scalar.cmpi .ne v599 c0_i32_235
  v600

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DProjRefIdeal.lean ====
abbrev S4096x3072 : Shape := ⟨2, ![4096, 3072]⟩
abbrev S4096x1024 : Shape := ⟨2, ![4096, 1024]⟩
abbrev S256x4096 : Shape := ⟨2, ![256, 4096]⟩
abbrev S4096x256 : Shape := ⟨2, ![4096, 256]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x8x128 : Shape := ⟨3, ![4096, 8, 128]⟩
abbrev S128 : Shape := ⟨1, ![128]⟩
abbrev S4096x8 : Shape := ⟨2, ![4096, 8]⟩
abbrev S4096x8x1 : Shape := ⟨3, ![4096, 8, 1]⟩
abbrev S1x1x128 : Shape := ⟨3, ![1, 1, 128]⟩
abbrev S8x4096x128 : Shape := ⟨3, ![8, 4096, 128]⟩
abbrev S8x4096x64 : Shape := ⟨3, ![8, 4096, 64]⟩
abbrev S8x4096x32 : Shape := ⟨3, ![8, 4096, 32]⟩
abbrev S1x4096x32 : Shape := ⟨3, ![1, 4096, 32]⟩
abbrev S4096x2x128 : Shape := ⟨3, ![4096, 2, 128]⟩
abbrev S4096x2 : Shape := ⟨2, ![4096, 2]⟩
abbrev S4096x2x1 : Shape := ⟨3, ![4096, 2, 1]⟩
abbrev S2x4096x128 : Shape := ⟨3, ![2, 4096, 128]⟩
abbrev S2x4096x64 : Shape := ⟨3, ![2, 4096, 64]⟩
abbrev S2x4096x32 : Shape := ⟨3, ![2, 4096, 32]⟩

abbrev nBuf : Space → Nat
  | .hbm => 323
  | .vmem => 0
  | .smem => 0
  | _ => 0

abbrev hbmTy0_0 (i : Nat) : BufTy := match i % 128 with
  | 0 => ⟨S4096x3072, .f32⟩
  | 1 => ⟨S4096x1024, .f32⟩
  | 2 => ⟨S256x4096, .f32⟩
  | 3 => ⟨S256x4096, .f32⟩
  | 4 => ⟨S4096x1024, .bf16⟩
  | 5 => ⟨S4096x256, .f32⟩
  | 6 => ⟨S4096x256, .f32⟩
  | 7 => ⟨S1x128, .f32⟩
  | 8 => ⟨S1x128, .f32⟩
  | 9 => ⟨S64, .i32⟩
  | 10 => ⟨S64x64, .i32⟩
  | 11 => ⟨S4096, .i32⟩
  | 12 => ⟨S64, .i32⟩
  | 13 => ⟨S1x64, .i32⟩
  | 14 => ⟨S64x64, .i32⟩
  | 15 => ⟨S4096, .i32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4096, .f32⟩
  | 31 => ⟨S4096x1, .f32⟩
  | 32 => ⟨S1x32, .f32⟩
  | 33 => ⟨S4096x32, .f32⟩
  | 34 => ⟨S4096x32, .f32⟩
  | 35 => ⟨S4096x32, .f32⟩
  | 36 => ⟨S4096, .f32⟩
  | 37 => ⟨S4096x1, .f32⟩
  | 38 => ⟨S1x32, .f32⟩
  | 39 => ⟨S4096x32, .f32⟩
  | 40 => ⟨S4096x32, .f32⟩
  | 41 => ⟨S4096x32, .f32⟩
  | 42 => ⟨S4096x32, .f32⟩
  | 43 => ⟨S4096x32, .f32⟩
  | 44 => ⟨S4096x32, .f32⟩
  | 45 => ⟨S4096x32, .f32⟩
  | 46 => ⟨S4096x1024, .f32⟩
  | 47 => ⟨S4096x256, .f32⟩
  | 48 => ⟨S4096x256, .f32⟩
  | 49 => ⟨S4096x1024, .f32⟩
  | 50 => ⟨S4096x256, .f32⟩
  | 51 => ⟨S4096x256, .f32⟩
  | 52 => ⟨S4096x8x128, .f32⟩
  | 53 => ⟨S128, .f32⟩
  | 54 => ⟨S4096x8x128, .f32⟩
  | 55 => ⟨S_, .f32⟩
  | 56 => ⟨S4096x8, .f32⟩
  | 57 => ⟨S4096x8x1, .f32⟩
  | 58 => ⟨S_, .f32⟩
  | 59 => ⟨S4096x8x1, .f32⟩
  | 60 => ⟨S4096x8x1, .f32⟩
  | 61 => ⟨S_, .f32⟩
  | 62 => ⟨S4096x8x1, .f32⟩
  | 63 => ⟨S4096x8x1, .f32⟩
  | 64 => ⟨S4096x8x1, .f32⟩
  | 65 => ⟨S4096x8x1, .f32⟩
  | 66 => ⟨S_, .f32⟩
  | 67 => ⟨S4096x8x1, .f32⟩
  | 68 => ⟨S4096x8x1, .f32⟩
  | 69 => ⟨S4096x8x128, .f32⟩
  | 70 => ⟨S4096x8x128, .f32⟩
  | 71 => ⟨S1x1x128, .f32⟩
  | 72 => ⟨S4096x8x128, .f32⟩
  | 73 => ⟨S4096x8x128, .f32⟩
  | 74 => ⟨S8x4096x128, .f32⟩
  | 75 => ⟨S8x4096x64, .f32⟩
  | 76 => ⟨S8x4096x32, .f32⟩
  | 77 => ⟨S8x4096x32, .f32⟩
  | 78 => ⟨S1x4096x32, .f32⟩
  | 79 => ⟨S8x4096x32, .f32⟩
  | 80 => ⟨S8x4096x32, .f32⟩
  | 81 => ⟨S1x4096x32, .f32⟩
  | 82 => ⟨S8x4096x32, .f32⟩
  | 83 => ⟨S8x4096x32, .f32⟩
  | 84 => ⟨S8x4096x32, .f32⟩
  | 85 => ⟨S1x4096x32, .f32⟩
  | 86 => ⟨S8x4096x32, .f32⟩
  | 87 => ⟨S8x4096x32, .f32⟩
  | 88 => ⟨S1x4096x32, .f32⟩
  | 89 => ⟨S8x4096x32, .f32⟩
  | 90 => ⟨S8x4096x32, .f32⟩
  | 91 => ⟨S8x4096x32, .f32⟩
  | 92 => ⟨S8x4096x64, .f32⟩
  | 93 => ⟨S8x4096x64, .f32⟩
  | 94 => ⟨S8x4096x32, .f32⟩
  | 95 => ⟨S8x4096x32, .f32⟩
  | 96 => ⟨S1x4096x32, .f32⟩
  | 97 => ⟨S8x4096x32, .f32⟩
  | 98 => ⟨S8x4096x32, .f32⟩
  | 99 => ⟨S1x4096x32, .f32⟩
  | 100 => ⟨S8x4096x32, .f32⟩
  | 101 => ⟨S8x4096x32, .f32⟩
  | 102 => ⟨S8x4096x32, .f32⟩
  | 103 => ⟨S1x4096x32, .f32⟩
  | 104 => ⟨S8x4096x32, .f32⟩
  | 105 => ⟨S8x4096x32, .f32⟩
  | 106 => ⟨S1x4096x32, .f32⟩
  | 107 => ⟨S8x4096x32, .f32⟩
  | 108 => ⟨S8x4096x32, .f32⟩
  | 109 => ⟨S8x4096x32, .f32⟩
  | 110 => ⟨S8x4096x64, .f32⟩
  | 111 => ⟨S8x4096x128, .f32⟩
  | 112 => ⟨S4096x2x128, .f32⟩
  | 113 => ⟨S128, .f32⟩
  | 114 => ⟨S4096x2x128, .f32⟩
  | 115 => ⟨S_, .f32⟩
  | 116 => ⟨S4096x2, .f32⟩
  | 117 => ⟨S4096x2x1, .f32⟩
  | 118 => ⟨S_, .f32⟩
  | 119 => ⟨S4096x2x1, .f32⟩
  | 120 => ⟨S4096x2x1, .f32⟩
  | 121 => ⟨S_, .f32⟩
  | 122 => ⟨S4096x2x1, .f32⟩
  | 123 => ⟨S4096x2x1, .f32⟩
  | 124 => ⟨S4096x2x1, .f32⟩
  | 125 => ⟨S4096x2x1, .f32⟩
  | 126 => ⟨S_, .f32⟩
  | 127 => ⟨S4096x2x1, .f32⟩
  | _ => ⟨S4096x3072, .f32⟩

abbrev hbmTy0_1 (i : Nat) : BufTy := match i % 128 with
  | 0 => ⟨S4096x2x1, .f32⟩
  | 1 => ⟨S4096x2x128, .f32⟩
  | 2 => ⟨S4096x2x128, .f32⟩
  | 3 => ⟨S1x1x128, .f32⟩
  | 4 => ⟨S4096x2x128, .f32⟩
  | 5 => ⟨S4096x2x128, .f32⟩
  | 6 => ⟨S2x4096x128, .f32⟩
  | 7 => ⟨S2x4096x64, .f32⟩
  | 8 => ⟨S2x4096x32, .f32⟩
  | 9 => ⟨S2x4096x32, .f32⟩
  | 10 => ⟨S1x4096x32, .f32⟩
  | 11 => ⟨S2x4096x32, .f32⟩
  | 12 => ⟨S2x4096x32, .f32⟩
  | 13 => ⟨S1x4096x32, .f32⟩
  | 14 => ⟨S2x4096x32, .f32⟩
  | 15 => ⟨S2x4096x32, .f32⟩
  | 16 => ⟨S2x4096x32, .f32⟩
  | 17 => ⟨S1x4096x32, .f32⟩
  | 18 => ⟨S2x4096x32, .f32⟩
  | 19 => ⟨S2x4096x32, .f32⟩
  | 20 => ⟨S1x4096x32, .f32⟩
  | 21 => ⟨S2x4096x32, .f32⟩
  | 22 => ⟨S2x4096x32, .f32⟩
  | 23 => ⟨S2x4096x32, .f32⟩
  | 24 => ⟨S2x4096x64, .f32⟩
  | 25 => ⟨S2x4096x64, .f32⟩
  | 26 => ⟨S2x4096x32, .f32⟩
  | 27 => ⟨S2x4096x32, .f32⟩
  | 28 => ⟨S1x4096x32, .f32⟩
  | 29 => ⟨S2x4096x32, .f32⟩
  | 30 => ⟨S2x4096x32, .f32⟩
  | 31 => ⟨S1x4096x32, .f32⟩
  | 32 => ⟨S2x4096x32, .f32⟩
  | 33 => ⟨S2x4096x32, .f32⟩
  | 34 => ⟨S2x4096x32, .f32⟩
  | 35 => ⟨S1x4096x32, .f32⟩
  | 36 => ⟨S2x4096x32, .f32⟩
  | 37 => ⟨S2x4096x32, .f32⟩
  | 38 => ⟨S1x4096x32, .f32⟩
  | 39 => ⟨S2x4096x32, .f32⟩
  | 40 => ⟨S2x4096x32, .f32⟩
  | 41 => ⟨S2x4096x32, .f32⟩
  | 42 => ⟨S2x4096x64, .f32⟩
  | 43 => ⟨S2x4096x128, .f32⟩
  | 44 => ⟨S4096x8x128, .f32⟩
  | 45 => ⟨S8x4096x128, .f32⟩
  | 46 => ⟨S4096x256, .f32⟩
  | 47 => ⟨S4096x2x128, .f32⟩
  | 48 => ⟨S2x4096x128, .f32⟩
  | 49 => ⟨S4096x256, .f32⟩
  | 50 => ⟨S4096x1024, .f32⟩
  | 51 => ⟨S2x4096x64, .f32⟩
  | 52 => ⟨S2x4096x64, .f32⟩
  | 53 => ⟨S2x4096x32, .f32⟩
  | 54 => ⟨S2x4096x32, .f32⟩
  | 55 => ⟨S2x4096x32, .f32⟩
  | 56 => ⟨S2x4096x32, .f32⟩
  | 57 => ⟨S2x4096x32, .f32⟩
  | 58 => ⟨S2x4096x32, .f32⟩
  | 59 => ⟨S2x4096x32, .f32⟩
  | 60 => ⟨S2x4096x32, .f32⟩
  | 61 => ⟨S2x4096x32, .f32⟩
  | 62 => ⟨S2x4096x32, .f32⟩
  | 63 => ⟨S2x4096x32, .f32⟩
  | 64 => ⟨S2x4096x32, .f32⟩
  | 65 => ⟨S2x4096x32, .f32⟩
  | 66 => ⟨S_, .f32⟩
  | 67 => ⟨S2x4096x64, .f32⟩
  | 68 => ⟨S_, .f32⟩
  | 69 => ⟨S2x4096x64, .f32⟩
  | 70 => ⟨S2x4096x64, .f32⟩
  | 71 => ⟨S_, .f32⟩
  | 72 => ⟨S2x4096x128, .f32⟩
  | 73 => ⟨S2x4096x32, .f32⟩
  | 74 => ⟨S2x4096x32, .f32⟩
  | 75 => ⟨S2x4096x32, .f32⟩
  | 76 => ⟨S2x4096x32, .f32⟩
  | 77 => ⟨S2x4096x32, .f32⟩
  | 78 => ⟨S2x4096x32, .f32⟩
  | 79 => ⟨S2x4096x32, .f32⟩
  | 80 => ⟨S2x4096x32, .f32⟩
  | 81 => ⟨S2x4096x32, .f32⟩
  | 82 => ⟨S2x4096x32, .f32⟩
  | 83 => ⟨S2x4096x32, .f32⟩
  | 84 => ⟨S2x4096x32, .f32⟩
  | 85 => ⟨S2x4096x32, .f32⟩
  | 86 => ⟨S_, .f32⟩
  | 87 => ⟨S2x4096x64, .f32⟩
  | 88 => ⟨S_, .f32⟩
  | 89 => ⟨S2x4096x64, .f32⟩
  | 90 => ⟨S2x4096x64, .f32⟩
  | 91 => ⟨S_, .f32⟩
  | 92 => ⟨S2x4096x128, .f32⟩
  | 93 => ⟨S2x4096x128, .f32⟩
  | 94 => ⟨S4096x2x128, .f32⟩
  | 95 => ⟨S4096x2x128, .f32⟩
  | 96 => ⟨S_, .f32⟩
  | 97 => ⟨S128, .f32⟩
  | 98 => ⟨S1x1x128, .f32⟩
  | 99 => ⟨S4096x2x128, .f32⟩
  | 100 => ⟨S4096x2x128, .f32⟩
  | 101 => ⟨S_, .f32⟩
  | 102 => ⟨S128, .f32⟩
  | 103 => ⟨S4096x2x128, .f32⟩
  | 104 => ⟨S_, .f32⟩
  | 105 => ⟨S4096x2, .f32⟩
  | 106 => ⟨S4096x2x1, .f32⟩
  | 107 => ⟨S4096x2x128, .f32⟩
  | 108 => ⟨S4096x2x128, .f32⟩
  | 109 => ⟨S4096x2x1, .f32⟩
  | 110 => ⟨S_, .f32⟩
  | 111 => ⟨S4096x2x1, .f32⟩
  | 112 => ⟨S4096x2x1, .f32⟩
  | 113 => ⟨S_, .f32⟩
  | 114 => ⟨S4096x2, .f32⟩
  | 115 => ⟨S4096x2x128, .f32⟩
  | 116 => ⟨S4096x2x128, .f32⟩
  | 117 => ⟨S4096x2x128, .f32⟩
  | 118 => ⟨S4096x2x128, .f32⟩
  | 119 => ⟨S4096x2x128, .f32⟩
  | 120 => ⟨S1x128, .f32⟩
  | 121 => ⟨S4096x256, .f32⟩
  | 122 => ⟨S8x4096x64, .f32⟩
  | 123 => ⟨S8x4096x64, .f32⟩
  | 124 => ⟨S8x4096x32, .f32⟩
  | 125 => ⟨S8x4096x32, .f32⟩
  | 126 => ⟨S8x4096x32, .f32⟩
  | 127 => ⟨S8x4096x32, .f32⟩
  | _ => ⟨S4096x3072, .f32⟩

abbrev hbmTy0_2 (i : Nat) : BufTy := match i % 128 with
  | 0 => ⟨S8x4096x32, .f32⟩
  | 1 => ⟨S8x4096x32, .f32⟩
  | 2 => ⟨S8x4096x32, .f32⟩
  | 3 => ⟨S8x4096x32, .f32⟩
  | 4 => ⟨S8x4096x32, .f32⟩
  | 5 => ⟨S8x4096x32, .f32⟩
  | 6 => ⟨S8x4096x32, .f32⟩
  | 7 => ⟨S8x4096x32, .f32⟩
  | 8 => ⟨S8x4096x32, .f32⟩
  | 9 => ⟨S_, .f32⟩
  | 10 => ⟨S8x4096x64, .f32⟩
  | 11 => ⟨S_, .f32⟩
  | 12 => ⟨S8x4096x64, .f32⟩
  | 13 => ⟨S8x4096x64, .f32⟩
  | 14 => ⟨S_, .f32⟩
  | 15 => ⟨S8x4096x128, .f32⟩
  | 16 => ⟨S8x4096x32, .f32⟩
  | 17 => ⟨S8x4096x32, .f32⟩
  | 18 => ⟨S8x4096x32, .f32⟩
  | 19 => ⟨S8x4096x32, .f32⟩
  | 20 => ⟨S8x4096x32, .f32⟩
  | 21 => ⟨S8x4096x32, .f32⟩
  | 22 => ⟨S8x4096x32, .f32⟩
  | 23 => ⟨S8x4096x32, .f32⟩
  | 24 => ⟨S8x4096x32, .f32⟩
  | 25 => ⟨S8x4096x32, .f32⟩
  | 26 => ⟨S8x4096x32, .f32⟩
  | 27 => ⟨S8x4096x32, .f32⟩
  | 28 => ⟨S8x4096x32, .f32⟩
  | 29 => ⟨S_, .f32⟩
  | 30 => ⟨S8x4096x64, .f32⟩
  | 31 => ⟨S_, .f32⟩
  | 32 => ⟨S8x4096x64, .f32⟩
  | 33 => ⟨S8x4096x64, .f32⟩
  | 34 => ⟨S_, .f32⟩
  | 35 => ⟨S8x4096x128, .f32⟩
  | 36 => ⟨S8x4096x128, .f32⟩
  | 37 => ⟨S4096x8x128, .f32⟩
  | 38 => ⟨S4096x8x128, .f32⟩
  | 39 => ⟨S_, .f32⟩
  | 40 => ⟨S128, .f32⟩
  | 41 => ⟨S1x1x128, .f32⟩
  | 42 => ⟨S4096x8x128, .f32⟩
  | 43 => ⟨S4096x8x128, .f32⟩
  | 44 => ⟨S_, .f32⟩
  | 45 => ⟨S128, .f32⟩
  | 46 => ⟨S4096x8x128, .f32⟩
  | 47 => ⟨S_, .f32⟩
  | 48 => ⟨S4096x8, .f32⟩
  | 49 => ⟨S4096x8x1, .f32⟩
  | 50 => ⟨S4096x8x128, .f32⟩
  | 51 => ⟨S4096x8x128, .f32⟩
  | 52 => ⟨S4096x8x1, .f32⟩
  | 53 => ⟨S_, .f32⟩
  | 54 => ⟨S4096x8x1, .f32⟩
  | 55 => ⟨S4096x8x1, .f32⟩
  | 56 => ⟨S_, .f32⟩
  | 57 => ⟨S4096x8, .f32⟩
  | 58 => ⟨S4096x8x128, .f32⟩
  | 59 => ⟨S4096x8x128, .f32⟩
  | 60 => ⟨S4096x8x128, .f32⟩
  | 61 => ⟨S4096x8x128, .f32⟩
  | 62 => ⟨S4096x8x128, .f32⟩
  | 63 => ⟨S1x128, .f32⟩
  | 64 => ⟨S4096x1024, .f32⟩
  | 65 => ⟨S4096x3072, .f32⟩
  | 66 => ⟨S4096x3072, .bf16⟩
  | _ => ⟨S4096x3072, .f32⟩

abbrev hbmTy (i : Nat) : BufTy := match i / 128 with
  | 0 => hbmTy0_0 i
  | 1 => hbmTy0_1 i
  | 2 => hbmTy0_2 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_7 : Ref sig .tc := ⟨.hbm, 115, rfl⟩
abbrev main_v98 : Ref sig .tc := ⟨.hbm, 116, rfl⟩
abbrev main_v99 : Ref sig .tc := ⟨.hbm, 117, rfl⟩
abbrev main_cst_8 : Ref sig .tc := ⟨.hbm, 118, rfl⟩
abbrev main_v100 : Ref sig .tc := ⟨.hbm, 119, rfl⟩
abbrev main_v101 : Ref sig .tc := ⟨.hbm, 120, rfl⟩
abbrev main_cst_9 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_cst_11 : Ref sig .tc := ⟨.hbm, 194, rfl⟩
abbrev main_v173 : Ref sig .tc := ⟨.hbm, 195, rfl⟩
abbrev main_cst_12 : Ref sig .tc := ⟨.hbm, 196, rfl⟩
abbrev main_v174 : Ref sig .tc := ⟨.hbm, 197, rfl⟩
abbrev main_v175 : Ref sig .tc := ⟨.hbm, 198, rfl⟩
abbrev main_cst_13 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_cst_14 : Ref sig .tc := ⟨.hbm, 214, rfl⟩
abbrev main_v190 : Ref sig .tc := ⟨.hbm, 215, rfl⟩
abbrev main_cst_15 : Ref sig .tc := ⟨.hbm, 216, rfl⟩
abbrev main_v191 : Ref sig .tc := ⟨.hbm, 217, rfl⟩
abbrev main_v192 : Ref sig .tc := ⟨.hbm, 218, rfl⟩
abbrev main_cst_16 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_cst_17 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_cst_18 : Ref sig .tc := ⟨.hbm, 229, rfl⟩
abbrev main_v201 : Ref sig .tc := ⟨.hbm, 230, rfl⟩
abbrev main_v202 : Ref sig .tc := ⟨.hbm, 231, rfl⟩
abbrev main_cst_19 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_cst_20 : Ref sig .tc := ⟨.hbm, 238, rfl⟩
abbrev main_v208 : Ref sig .tc := ⟨.hbm, 239, rfl⟩
abbrev main_v209 : Ref sig .tc := ⟨.hbm, 240, rfl⟩
abbrev main_cst_21 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_cst_22 : Ref sig .tc := ⟨.hbm, 265, rfl⟩
abbrev main_v233 : Ref sig .tc := ⟨.hbm, 266, rfl⟩
abbrev main_cst_23 : Ref sig .tc := ⟨.hbm, 267, rfl⟩
abbrev main_v234 : Ref sig .tc := ⟨.hbm, 268, rfl⟩
abbrev main_v235 : Ref sig .tc := ⟨.hbm, 269, rfl⟩
abbrev main_cst_24 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_cst_25 : Ref sig .tc := ⟨.hbm, 285, rfl⟩
abbrev main_v250 : Ref sig .tc := ⟨.hbm, 286, rfl⟩
abbrev main_cst_26 : Ref sig .tc := ⟨.hbm, 287, rfl⟩
abbrev main_v251 : Ref sig .tc := ⟨.hbm, 288, rfl⟩
abbrev main_v252 : Ref sig .tc := ⟨.hbm, 289, rfl⟩
abbrev main_cst_27 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_cst_28 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_cst_29 : Ref sig .tc := ⟨.hbm, 300, rfl⟩
abbrev main_v261 : Ref sig .tc := ⟨.hbm, 301, rfl⟩
abbrev main_v262 : Ref sig .tc := ⟨.hbm, 302, rfl⟩
abbrev main_cst_30 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_cst_31 : Ref sig .tc := ⟨.hbm, 309, rfl⟩
abbrev main_v268 : Ref sig .tc := ⟨.hbm, 310, rfl⟩
abbrev main_v269 : Ref sig .tc := ⟨.hbm, 311, rfl⟩
abbrev main_cst_32 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩

abbrev nD : Nat := 1
abbrev τ : Topo := Topo.v7x

variable {F : FTy → Type} [FloatOps F]
-- ==== TableGrads.lean ====
abbrev S8x128x384 : Shape := ⟨3, ![8, 128, 384]⟩
abbrev S2x8x128 : Shape := ⟨3, ![2, 8, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S8x1024 : Shape := ⟨2, ![8, 1024]⟩
abbrev S8x128 : Shape := ⟨2, ![8, 128]⟩
abbrev S1x128x384 : Shape := ⟨3, ![1, 128, 384]⟩
abbrev S1 : Shape := ⟨1, ![1]⟩
abbrev S1x1x1 : Shape := ⟨3, ![1, 1, 1]⟩
abbrev S1x8x128 : Shape := ⟨3, ![1, 8, 128]⟩
abbrev S1x1024 : Shape := ⟨2, ![1, 1024]⟩
abbrev S8x32 : Shape := ⟨2, ![8, 32]⟩
abbrev S32x8 : Shape := ⟨2, ![32, 8]⟩
abbrev S1x8 : Shape := ⟨2, ![1, 8]⟩
abbrev S8 : Shape := ⟨1, ![8]⟩

abbrev nBuf : Space → Nat
  | .hbm => 56
  | .vmem => 5
  | .smem => 0
  | _ => 0

abbrev bufTy : (tb : Table) → Fin (tcTables nBuf tb) → BufTy
  | .hbm, ⟨0, _⟩ => ⟨S8x128x384, .f32⟩
  | .hbm, ⟨1, _⟩ => ⟨S2x8x128, .f32⟩
  | .hbm, ⟨2, _⟩ => ⟨S128, .i32⟩
  | .hbm, ⟨3, _⟩ => ⟨S128x1, .i32⟩
  | .hbm, ⟨4, _⟩ => ⟨S384, .i32⟩
  | .hbm, ⟨5, _⟩ => ⟨S1x384, .i32⟩
  | .hbm, ⟨6, _⟩ => ⟨S_, .i32⟩
  | .hbm, ⟨7, _⟩ => ⟨S1x384, .i32⟩
  | .hbm, ⟨8, _⟩ => ⟨S1x384, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S_, .i32⟩
  | .hbm, ⟨13, _⟩ => ⟨S128x384, .i32⟩
  | .hbm, ⟨14, _⟩ => ⟨S128x384, .i1⟩
  | .hbm, ⟨15, _⟩ => ⟨S_, .i32⟩
  | .hbm, ⟨16, _⟩ => ⟨S_, .i32⟩
  | .hbm, ⟨17, _⟩ => ⟨S128x384, .i32⟩
  | .hbm, ⟨18, _⟩ => ⟨S128x384, .i32⟩
  | .hbm, ⟨19, _⟩ => ⟨S128x384, .i32⟩
  | .hbm, ⟨20, _⟩ => ⟨S128x384, .i32⟩
  | .hbm, ⟨21, _⟩ => ⟨S_, .i32⟩
  | .hbm, ⟨22, _⟩ => ⟨S128x384, .i32⟩
  | .hbm, ⟨23, _⟩ => ⟨S128x384, .i32⟩
  | .hbm, ⟨24, _⟩ => ⟨S128x384, .f32⟩
  | .hbm, ⟨25, _⟩ => ⟨S_, .f32⟩
  | .hbm, ⟨26, _⟩ => ⟨S128x384, .f32⟩
  | .hbm, ⟨27, _⟩ => ⟨S128x384, .f32⟩
  | .hbm, ⟨28, _⟩ => ⟨S128x384, .f32⟩
  | .hbm, ⟨29, _⟩ => ⟨S_, .f32⟩
  | .hbm, ⟨30, _⟩ => ⟨S128x384, .f32⟩
  | .hbm, ⟨31, _⟩ => ⟨S128x384, .f32⟩
  | .hbm, ⟨32, _⟩ => ⟨S_, .f32⟩
  | .hbm, ⟨33, _⟩ => ⟨S128x384, .f32⟩
  | .hbm, ⟨34, _⟩ => ⟨S128x384, .f32⟩
  | .hbm, ⟨35, _⟩ => ⟨S128x384, .i32⟩
  | .hbm, ⟨36, _⟩ => ⟨S_, .i32⟩
  | .hbm, ⟨37, _⟩ => ⟨S128x384, .i32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i32⟩
  | .hbm, ⟨42, _⟩ => ⟨S_, .i32⟩
  | .hbm, ⟨43, _⟩ => ⟨S128x384, .i32⟩
  | .hbm, ⟨44, _⟩ => ⟨S128x384, .i1⟩
  | .hbm, ⟨45, _⟩ => ⟨S128x384, .i32⟩
  | .hbm, ⟨46, _⟩ => ⟨S128x384, .i32⟩
  | .hbm, ⟨47, _⟩ => ⟨S128x384, .i32⟩
  | .hbm, ⟨48, _⟩ => ⟨S8x1024, .f32⟩
  | .hbm, ⟨49, _⟩ => ⟨S8x128, .f32⟩
  | .hbm, ⟨50, _⟩ => ⟨S1x1024, .f32⟩
  | .hbm, ⟨51, _⟩ => ⟨S8x128, .f32⟩
  | .hbm, ⟨52, _⟩ => ⟨S8x32, .f32⟩
  | .hbm, ⟨53, _⟩ => ⟨S32x8, .f32⟩
  | .hbm, ⟨54, _⟩ => ⟨S1x8, .f32⟩
  | .hbm, ⟨55, _⟩ => ⟨S8, .f32⟩
  | .local _ .vmem, ⟨0, _⟩ => ⟨S8x128x384, .f32⟩
  | .local _ .vmem, ⟨1, _⟩ => ⟨S2x8x128, .f32⟩
  | .local _ .vmem, ⟨2, _⟩ => ⟨S128x384, .i32⟩
  | .local _ .vmem, ⟨3, _⟩ => ⟨S8x1024, .f32⟩
  | .local _ .vmem, ⟨4, _⟩ => ⟨S8x128, .f32⟩
  | _, _ => ⟨S8x128x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x128x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== TableGradsRefIdeal.lean ====
abbrev S8x128x384 : Shape := ⟨3, ![8, 128, 384]⟩
abbrev S2x8x128 : Shape := ⟨3, ![2, 8, 128]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S32x8 : Shape := ⟨2, ![32, 8]⟩
abbrev S128x384x1 : Shape := ⟨3, ![128, 384, 1]⟩
abbrev S128x384x8 : Shape := ⟨3, ![128, 384, 8]⟩
abbrev S2x4x1 : Shape := ⟨3, ![2, 4, 1]⟩
abbrev S2x4 : Shape := ⟨2, ![2, 4]⟩
abbrev S8 : Shape := ⟨1, ![8]⟩

abbrev nBuf : Space → Nat
  | .hbm => 67
  | .vmem => 0
  | .smem => 0
  | _ => 0

abbrev bufTy : (tb : Table) → Fin (tcTables nBuf tb) → BufTy
  | .hbm, ⟨0, _⟩ => ⟨S8x128x384, .f32⟩
  | .hbm, ⟨1, _⟩ => ⟨S2x8x128, .f32⟩
  | .hbm, ⟨2, _⟩ => ⟨S384, .i32⟩
  | .hbm, ⟨3, _⟩ => ⟨S1x384, .i32⟩
  | .hbm, ⟨4, _⟩ => ⟨S_, .i32⟩
  | .hbm, ⟨5, _⟩ => ⟨S1x384, .i32⟩
  | .hbm, ⟨6, _⟩ => ⟨S1x384, .i32⟩
  | .hbm, ⟨7, _⟩ => ⟨S128, .i32⟩
  | .hbm, ⟨8, _⟩ => ⟨S128x1, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S_, .f32⟩
  | .hbm, ⟨13, _⟩ => ⟨S32x8, .f32⟩
  | .hbm, ⟨14, _⟩ => ⟨S_, .i32⟩
  | .hbm, ⟨15, _⟩ => ⟨S128x384, .i32⟩
  | .hbm, ⟨16, _⟩ => ⟨S128x384, .i1⟩
  | .hbm, ⟨17, _⟩ => ⟨S_, .i32⟩
  | .hbm, ⟨18, _⟩ => ⟨S_, .i32⟩
  | .hbm, ⟨19, _⟩ => ⟨S128x384, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S_, .i32⟩
  | .hbm, ⟨24, _⟩ => ⟨S128x384, .i32⟩
  | .hbm, ⟨25, _⟩ => ⟨S128x384, .i32⟩
  | .hbm, ⟨26, _⟩ => ⟨S128x384, .f32⟩
  | .hbm, ⟨27, _⟩ => ⟨S_, .f32⟩
  | .hbm, ⟨28, _⟩ => ⟨S128x384, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S128x384, .f32⟩
  | .hbm, ⟨33, _⟩ => ⟨S128x384, .f32⟩
  | .hbm, ⟨34, _⟩ => ⟨S_, .f32⟩
  | .hbm, ⟨35, _⟩ => ⟨S128x384, .f32⟩
  | .hbm, ⟨36, _⟩ => ⟨S128x384, .f32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i32⟩
  | .hbm, ⟨44, _⟩ => ⟨S_, .i32⟩
  | .hbm, ⟨45, _⟩ => ⟨S128x384, .i32⟩
  | .hbm, ⟨46, _⟩ => ⟨S128x384, .i1⟩
  | .hbm, ⟨47, _⟩ => ⟨S128x384, .i32⟩
  | .hbm, ⟨48, _⟩ => ⟨S128x384, .i32⟩
  | .hbm, ⟨49, _⟩ => ⟨S128x384, .i32⟩
  | .hbm, ⟨50, _⟩ => ⟨S_, .i32⟩
  | .hbm, ⟨51, _⟩ => ⟨S128x384, .i32⟩
  | .hbm, ⟨52, _⟩ => ⟨S128x384, .i1⟩
  | .hbm, ⟨53, _⟩ => ⟨S_, .i32⟩
  | .hbm, ⟨54, _⟩ => ⟨S128x384, .i32⟩
  | .hbm, ⟨55, _⟩ => ⟨S128x384, .i32⟩
  | .hbm, ⟨56, _⟩ => ⟨S128x384, .i32⟩
  | .hbm, ⟨57, _⟩ => ⟨S128x384x1, .i32⟩
  | .hbm, ⟨58, _⟩ => ⟨S128x384x8, .f32⟩
  | .hbm, ⟨59, _⟩ => ⟨S8x128x384, .f32⟩
  | .hbm, ⟨60, _⟩ => ⟨S128x384x8, .f32⟩
  | .hbm, ⟨61, _⟩ => ⟨S_, .f32⟩
  | .hbm, ⟨62, _⟩ => ⟨S32x8, .f32⟩
  | .hbm, ⟨63, _⟩ => ⟨S32x8, .f32⟩
  | .hbm, ⟨64, _⟩ => ⟨S2x4x1, .f32⟩
  | .hbm, ⟨65, _⟩ => ⟨S2x4, .f32⟩
  | .hbm, ⟨66, _⟩ => ⟨S8, .f32⟩
  | _, _ => ⟨S8x128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutProjRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== UpProj.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x2048 : Shape := ⟨2, ![2048, 2048]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpProjRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InProj.lean ====
abbrev S4096x2048 : Shape := ⟨2, ![4096, 2048]⟩
abbrev S2048x3072 : Shape := ⟨2, ![2048, 3072]⟩
abbrev S1x128 : Shape := ⟨2, ![1, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x1280 : Shape := ⟨2, ![4096, 1280]⟩
abbrev S4096x3072 : Shape := ⟨2, ![4096, 3072]⟩
abbrev S512x2048 : Shape := ⟨2, ![512, 2048]⟩
abbrev S512x128 : Shape := ⟨2, ![512, 128]⟩
abbrev S512x1280 : Shape := ⟨2, ![512, 1280]⟩
abbrev S512x3072 : Shape := ⟨2, ![512, 3072]⟩
abbrev S8x128 : Shape := ⟨2, ![8, 128]⟩
abbrev S512 : Shape := ⟨1, ![512]⟩
abbrev S512x1 : Shape := ⟨2, ![512, 1]⟩
abbrev S512x1792 : Shape := ⟨2, ![512, 1792]⟩

abbrev nBuf : Space → Nat
  | .hbm => 51
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S1x128, .f32⟩
  | .hbm, ⟨3, _⟩ => ⟨S1x128, .f32⟩
  | .hbm, ⟨4, _⟩ => ⟨S4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x128, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x128, .f32⟩
  | .hbm, ⟨49, _⟩ => ⟨S4096x1280, .f32⟩
  | .hbm, ⟨50, _⟩ => ⟨S4096x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S512x1280, .f32⟩
  | .local _ .vmem, ⟨10, _⟩ => ⟨S512x1280, .f32⟩
  | .local _ .vmem, ⟨11, _⟩ => ⟨S512x3072, .bf16⟩
  | .local _ .vmem, ⟨12, _⟩ => ⟨S512x3072, .bf16⟩
  | .local _ .vmem, ⟨13, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== InProjRefIdeal.lean ====
abbrev S4096x2048 : Shape := ⟨2, ![4096, 2048]⟩
abbrev S2048x3072 : Shape := ⟨2, ![2048, 3072]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x3072 : Shape := ⟨2, ![4096, 3072]⟩
abbrev S4096x1024 : Shape := ⟨2, ![4096, 1024]⟩
abbrev S4096x256 : Shape := ⟨2, ![4096, 256]⟩
abbrev S4096x1792 : Shape := ⟨2, ![4096, 1792]⟩
abbrev S4096x8x128 : Shape := ⟨3, ![4096, 8, 128]⟩
abbrev S128 : Shape := ⟨1, ![128]⟩
abbrev S4096x8 : Shape := ⟨2, ![4096, 8]⟩
abbrev S4096x8x1 : Shape := ⟨3, ![4096, 8, 1]⟩
abbrev S1x1x128 : Shape := ⟨3, ![1, 1, 128]⟩
abbrev S8x4096x128 : Shape := ⟨3, ![8, 4096, 128]⟩
abbrev S8x4096x64 : Shape := ⟨3, ![8, 4096, 64]⟩
abbrev S8x4096x32 : Shape := ⟨3, ![8, 4096, 32]⟩
abbrev S1x4096x32 : Shape := ⟨3, ![1, 4096, 32]⟩
abbrev S4096x2x128 : Shape := ⟨3, ![4096, 2, 128]⟩
abbrev S4096x2 : Shape := ⟨2, ![4096, 2]⟩
abbrev S4096x2x1 : Shape := ⟨3, ![4096, 2, 1]⟩
abbrev S2x4096x128 : Shape := ⟨3, ![2, 4096, 128]⟩
abbrev S2x4096x64 : Shape := ⟨3, ![2, 4096, 64]⟩
abbrev S2x4096x32 : Shape := ⟨3, ![2, 4096, 32]⟩
abbrev S4096x1280 : Shape := ⟨2, ![4096, 1280]⟩

abbrev nBuf : Space → Nat
  | .hbm => 166
  | .vmem => 0
  | .smem => 0
  | _ => 0

abbrev hbmTy0_0 (i : Nat) : BufTy := match i % 128 with
  | 0 => ⟨S4096x2048, .bf16⟩
  | 1 => ⟨S2048x3072, .bf16⟩
  | 2 => ⟨S1x128, .f32⟩
  | 3 => ⟨S1x128, .f32⟩
  | 4 => ⟨S64, .i32⟩
  | 5 => ⟨S64x64, .i32⟩
  | 6 => ⟨S4096, .i32⟩
  | 7 => ⟨S64, .i32⟩
  | 8 => ⟨S1x64, .i32⟩
  | 9 => ⟨S64x64, .i32⟩
  | 10 => ⟨S4096, .i32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096, .f32⟩
  | 32 => ⟨S4096x1, .f32⟩
  | 33 => ⟨S1x32, .f32⟩
  | 34 => ⟨S4096x32, .f32⟩
  | 35 => ⟨S4096x32, .f32⟩
  | 36 => ⟨S4096x32, .f32⟩
  | 37 => ⟨S4096x32, .f32⟩
  | 38 => ⟨S4096x32, .f32⟩
  | 39 => ⟨S4096x32, .f32⟩
  | 40 => ⟨S4096x32, .f32⟩
  | 41 => ⟨S4096x2048, .f32⟩
  | 42 => ⟨S2048x3072, .f32⟩
  | 43 => ⟨S4096x3072, .f32⟩
  | 44 => ⟨S4096x1024, .f32⟩
  | 45 => ⟨S4096x256, .f32⟩
  | 46 => ⟨S4096x1792, .f32⟩
  | 47 => ⟨S4096x8x128, .f32⟩
  | 48 => ⟨S128, .f32⟩
  | 49 => ⟨S4096x8x128, .f32⟩
  | 50 => ⟨S_, .f32⟩
  | 51 => ⟨S4096x8, .f32⟩
  | 52 => ⟨S4096x8x1, .f32⟩
  | 53 => ⟨S_, .f32⟩
  | 54 => ⟨S4096x8x1, .f32⟩
  | 55 => ⟨S4096x8x1, .f32⟩
  | 56 => ⟨S_, .f32⟩
  | 57 => ⟨S4096x8x1, .f32⟩
  | 58 => ⟨S4096x8x1, .f32⟩
  | 59 => ⟨S4096x8x1, .f32⟩
  | 60 => ⟨S4096x8x128, .f32⟩
  | 61 => ⟨S4096x8x128, .f32⟩
  | 62 => ⟨S1x1x128, .f32⟩
  | 63 => ⟨S4096x8x128, .f32⟩
  | 64 => ⟨S4096x8x128, .f32⟩
  | 65 => ⟨S8x4096x128, .f32⟩
  | 66 => ⟨S8x4096x64, .f32⟩
  | 67 => ⟨S8x4096x32, .f32⟩
  | 68 => ⟨S8x4096x32, .f32⟩
  | 69 => ⟨S1x4096x32, .f32⟩
  | 70 => ⟨S8x4096x32, .f32⟩
  | 71 => ⟨S8x4096x32, .f32⟩
  | 72 => ⟨S1x4096x32, .f32⟩
  | 73 => ⟨S8x4096x32, .f32⟩
  | 74 => ⟨S8x4096x32, .f32⟩
  | 75 => ⟨S8x4096x32, .f32⟩
  | 76 => ⟨S1x4096x32, .f32⟩
  | 77 => ⟨S8x4096x32, .f32⟩
  | 78 => ⟨S8x4096x32, .f32⟩
  | 79 => ⟨S1x4096x32, .f32⟩
  | 80 => ⟨S8x4096x32, .f32⟩
  | 81 => ⟨S8x4096x32, .f32⟩
  | 82 => ⟨S8x4096x32, .f32⟩
  | 83 => ⟨S8x4096x64, .f32⟩
  | 84 => ⟨S8x4096x64, .f32⟩
  | 85 => ⟨S8x4096x32, .f32⟩
  | 86 => ⟨S8x4096x32, .f32⟩
  | 87 => ⟨S1x4096x32, .f32⟩
  | 88 => ⟨S8x4096x32, .f32⟩
  | 89 => ⟨S8x4096x32, .f32⟩
  | 90 => ⟨S1x4096x32, .f32⟩
  | 91 => ⟨S8x4096x32, .f32⟩
  | 92 => ⟨S8x4096x32, .f32⟩
  | 93 => ⟨S8x4096x32, .f32⟩
  | 94 => ⟨S1x4096x32, .f32⟩
  | 95 => ⟨S8x4096x32, .f32⟩
  | 96 => ⟨S8x4096x32, .f32⟩
  | 97 => ⟨S1x4096x32, .f32⟩
  | 98 => ⟨S8x4096x32, .f32⟩
  | 99 => ⟨S8x4096x32, .f32⟩
  | 100 => ⟨S8x4096x32, .f32⟩
  | 101 => ⟨S8x4096x64, .f32⟩
  | 102 => ⟨S8x4096x128, .f32⟩
  | 103 => ⟨S4096x2x128, .f32⟩
  | 104 => ⟨S128, .f32⟩
  | 105 => ⟨S4096x2x128, .f32⟩
  | 106 => ⟨S_, .f32⟩
  | 107 => ⟨S4096x2, .f32⟩
  | 108 => ⟨S4096x2x1, .f32⟩
  | 109 => ⟨S_, .f32⟩
  | 110 => ⟨S4096x2x1, .f32⟩
  | 111 => ⟨S4096x2x1, .f32⟩
  | 112 => ⟨S_, .f32⟩
  | 113 => ⟨S4096x2x1, .f32⟩
  | 114 => ⟨S4096x2x1, .f32⟩
  | 115 => ⟨S4096x2x1, .f32⟩
  | 116 => ⟨S4096x2x128, .f32⟩
  | 117 => ⟨S4096x2x128, .f32⟩
  | 118 => ⟨S1x1x128, .f32⟩
  | 119 => ⟨S4096x2x128, .f32⟩
  | 120 => ⟨S4096x2x128, .f32⟩
  | 121 => ⟨S2x4096x128, .f32⟩
  | 122 => ⟨S2x4096x64, .f32⟩
  | 123 => ⟨S2x4096x32, .f32⟩
  | 124 => ⟨S2x4096x32, .f32⟩
  | 125 => ⟨S1x4096x32, .f32⟩
  | 126 => ⟨S2x4096x32, .f32⟩
  | 127 => ⟨S2x4096x32, .f32⟩
  | _ => ⟨S4096x2048, .bf16⟩

abbrev hbmTy0_1 (i : Nat) : BufTy := match i % 128 with
  | 0 => ⟨S1x4096x32, .f32⟩
  | 1 => ⟨S2x4096x32, .f32⟩
  | 2 => ⟨S2x4096x32, .f32⟩
  | 3 => ⟨S2x4096x32, .f32⟩
  | 4 => ⟨S1x4096x32, .f32⟩
  | 5 => ⟨S2x4096x32, .f32⟩
  | 6 => ⟨S2x4096x32, .f32⟩
  | 7 => ⟨S1x4096x32, .f32⟩
  | 8 => ⟨S2x4096x32, .f32⟩
  | 9 => ⟨S2x4096x32, .f32⟩
  | 10 => ⟨S2x4096x32, .f32⟩
  | 11 => ⟨S2x4096x64, .f32⟩
  | 12 => ⟨S2x4096x64, .f32⟩
  | 13 => ⟨S2x4096x32, .f32⟩
  | 14 => ⟨S2x4096x32, .f32⟩
  | 15 => ⟨S1x4096x32, .f32⟩
  | 16 => ⟨S2x4096x32, .f32⟩
  | 17 => ⟨S2x4096x32, .f32⟩
  | 18 => ⟨S1x4096x32, .f32⟩
  | 19 => ⟨S2x4096x32, .f32⟩
  | 20 => ⟨S2x4096x32, .f32⟩
  | 21 => ⟨S2x4096x32, .f32⟩
  | 22 => ⟨S1x4096x32, .f32⟩
  | 23 => ⟨S2x4096x32, .f32⟩
  | 24 => ⟨S2x4096x32, .f32⟩
  | 25 => ⟨S1x4096x32, .f32⟩
  | 26 => ⟨S2x4096x32, .f32⟩
  | 27 => ⟨S2x4096x32, .f32⟩
  | 28 => ⟨S2x4096x32, .f32⟩
  | 29 => ⟨S2x4096x64, .f32⟩
  | 30 => ⟨S2x4096x128, .f32⟩
  | 31 => ⟨S4096x8x128, .f32⟩
  | 32 => ⟨S4096x1024, .f32⟩
  | 33 => ⟨S4096x2x128, .f32⟩
  | 34 => ⟨S4096x256, .f32⟩
  | 35 => ⟨S4096x3072, .f32⟩
  | 36 => ⟨S4096x1280, .f32⟩
  | 37 => ⟨S4096x3072, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_6 : Ref sig .tc := ⟨.hbm, 106, rfl⟩
abbrev main_v95 : Ref sig .tc := ⟨.hbm, 107, rfl⟩
abbrev main_v96 : Ref sig .tc := ⟨.hbm, 108, rfl⟩
abbrev main_cst_7 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩

abbrev nD : Nat := 1
abbrev τ : Topo := Topo.v7x

variable {F : FTy → Type} [FloatOps F]
-- ==== BiasBuild.lean ====
abbrev S32x8 : Shape := ⟨2, ![32, 8]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S256 : Shape := ⟨1, ![256]⟩
abbrev S8x128x384 : Shape := ⟨3, ![8, 128, 384]⟩
abbrev S1x128x384 : Shape := ⟨3, ![1, 128, 384]⟩
abbrev S1 : Shape := ⟨1, ![1]⟩

abbrev nBuf : Space → Nat
  | .hbm => 49
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S1x384, .i32⟩
  | .hbm, ⟨7, _⟩ => ⟨S1x384, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S_, .i32⟩
  | .hbm, ⟨12, _⟩ => ⟨S128x384, .i32⟩
  | .hbm, ⟨13, _⟩ => ⟨S128x384, .i1⟩
  | .hbm, ⟨14, _⟩ => ⟨S_, .i32⟩
  | .hbm, ⟨15, _⟩ => ⟨S_, .i32⟩
  | .hbm, ⟨16, _⟩ => ⟨S128x384, .i32⟩
  | .hbm, ⟨17, _⟩ => ⟨S128x384, .i32⟩
  | .hbm, ⟨18, _⟩ => ⟨S128x384, .i32⟩
  | .hbm, ⟨19, _⟩ => ⟨S128x384, .i32⟩
  | .hbm, ⟨20, _⟩ => ⟨S_, .i32⟩
  | .hbm, ⟨21, _⟩ => ⟨S128x384, .i32⟩
  | .hbm, ⟨22, _⟩ => ⟨S128x384, .i32⟩
  | .hbm, ⟨23, _⟩ => ⟨S128x384, .f32⟩
  | .hbm, ⟨24, _⟩ => ⟨S_, .f32⟩
  | .hbm, ⟨25, _⟩ => ⟨S128x384, .f32⟩
  | .hbm, ⟨26, _⟩ => ⟨S128x384, .f32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S128x384, .f32⟩
  | .hbm, ⟨33, _⟩ => ⟨S128x384, .f32⟩
  | .hbm, ⟨34, _⟩ => ⟨S128x384, .i32⟩
  | .hbm, ⟨35, _⟩ => ⟨S_, .i32⟩
  | .hbm, ⟨36, _⟩ => ⟨S128x384, .i32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i1⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S256, .f32⟩
  | .hbm, ⟨48, _⟩ => ⟨S8x128x384, .f32⟩
  | .local _ .vmem, ⟨0, _⟩ => ⟨S128x384, .i32⟩
  | .local _ .vmem, ⟨1, _⟩ => ⟨S1x128x384, .f32⟩
  | .local _ .vmem, ⟨2, _⟩ => ⟨S1x128x384, .f32⟩
  | .local _ .smem, ⟨0, _⟩ => ⟨S256, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) : Fin 1 → Nat :=
  let arg0 : BitVec 32 := BitVec.ofNat 32 (i 0).val
  let v5 : BitVec 32 := Scalar.addi c0_i32_1 arg0
  let v6 : Index := Scalar.indexCast v5
  ![v6.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasBuildRefIdeal.lean ====
abbrev S32x8 : Shape := ⟨2, ![32, 8]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩

abbrev nBuf : Space → Nat
  | .hbm => 66
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S384, .i32⟩
  | .hbm, ⟨2, _⟩ => ⟨S1x384, .i32⟩
  | .hbm, ⟨3, _⟩ => ⟨S_, .i32⟩
  | .hbm, ⟨4, _⟩ => ⟨S1x384, .i32⟩
  | .hbm, ⟨5, _⟩ => ⟨S1x384, .i32⟩
  | .hbm, ⟨6, _⟩ => ⟨S128, .i32⟩
  | .hbm, ⟨7, _⟩ => ⟨S128x1, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S_, .i32⟩
  | .hbm, ⟨13, _⟩ => ⟨S128x384, .i32⟩
  | .hbm, ⟨14, _⟩ => ⟨S128x384, .i1⟩
  | .hbm, ⟨15, _⟩ => ⟨S_, .i32⟩
  | .hbm, ⟨16, _⟩ => ⟨S128x384, .i32⟩
  | .hbm, ⟨17, _⟩ => ⟨S128x384, .i1⟩
  | .hbm, ⟨18, _⟩ => ⟨S_, .i32⟩
  | .hbm, ⟨19, _⟩ => ⟨S_, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S128x384, .i32⟩
  | .hbm, ⟨24, _⟩ => ⟨S_, .i32⟩
  | .hbm, ⟨25, _⟩ => ⟨S128x384, .i32⟩
  | .hbm, ⟨26, _⟩ => ⟨S128x384, .i32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S128x384, .f32⟩
  | .hbm, ⟨32, _⟩ => ⟨S_, .f32⟩
  | .hbm, ⟨33, _⟩ => ⟨S128x384, .f32⟩
  | .hbm, ⟨34, _⟩ => ⟨S128x384, .f32⟩
  | .hbm, ⟨35, _⟩ => ⟨S_, .f32⟩
  | .hbm, ⟨36, _⟩ => ⟨S128x384, .f32⟩
  | .hbm, ⟨37, _⟩ => ⟨S128x384, .f32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i32⟩
  | .hbm, ⟨42, _⟩ => ⟨S_, .i32⟩
  | .hbm, ⟨43, _⟩ => ⟨S128x384, .i32⟩
  | .hbm, ⟨44, _⟩ => ⟨S128x384, .i32⟩
  | .hbm, ⟨45, _⟩ => ⟨S_, .i32⟩
  | .hbm, ⟨46, _⟩ => ⟨S128x384, .i32⟩
  | .hbm, ⟨47, _⟩ => ⟨S128x384, .i1⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S_, .i32⟩
  | .hbm, ⟨55, _⟩ => ⟨S128x384, .i32⟩
  | .hbm, ⟨56, _⟩ => ⟨S128x384, .i32⟩
  | .hbm, ⟨57, _⟩ => ⟨S128x384, .i32⟩
  | .hbm, ⟨58, _⟩ => ⟨S128x384x1, .i32⟩
  | .hbm, ⟨59, _⟩ => ⟨S128x384x8, .f32⟩
  | .hbm, ⟨60, _⟩ => ⟨S8x128x384, .f32⟩
  | .hbm, ⟨61, _⟩ => ⟨S_, .f32⟩
  | .hbm, ⟨62, _⟩ => ⟨S_, .f32⟩
  | .hbm, ⟨63, _⟩ => ⟨S8x128x384, .i1⟩
  | .hbm, ⟨64, _⟩ => ⟨S8x128x384, .f32⟩
  | .hbm, ⟨65, _⟩ => ⟨S8x128x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== DownProj.lean ====
abbrev S4096x8192 : Shape := ⟨2, ![4096, 8192]⟩
abbrev S8192x2048 : Shape := ⟨2, ![8192, 2048]⟩
abbrev S4096x2048 : Shape := ⟨2, ![4096, 2048]⟩
abbrev S1024x8192 : Shape := ⟨2, ![1024, 8192]⟩
abbrev S8192x512 : Shape := ⟨2, ![8192, 512]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x8192, .bf16⟩
  | .local _ .vmem, ⟨1, _⟩ => ⟨S1024x8192, .bf16⟩
  | .local _ .vmem, ⟨2, _⟩ => ⟨S8192x512, .bf16⟩
  | .local _ .vmem, ⟨3, _⟩ => ⟨S8192x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMlpIn.lean ====
abbrev S4096x8192 : Shape := ⟨2, ![4096, 8192]⟩
abbrev S2048x8192 : Shape := ⟨2, ![2048, 8192]⟩
abbrev S4096x2048 : Shape := ⟨2, ![4096, 2048]⟩
abbrev S1024x8192 : Shape := ⟨2, ![1024, 8192]⟩
abbrev S512x8192 : Shape := ⟨2, ![512, 8192]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x8192, .bf16⟩
  | .local _ .vmem, ⟨1, _⟩ => ⟨S1024x8192, .bf16⟩
  | .local _ .vmem, ⟨2, _⟩ => ⟨S512x8192, .bf16⟩
  | .local _ .vmem, ⟨3, _⟩ => ⟨S512x8192, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMlpInRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradUp.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamSmall.lean ====
abbrev S1x2048 : Shape := ⟨2, ![1, 2048]⟩
abbrev S1x128 : Shape := ⟨2, ![1, 128]⟩
abbrev S1x8 : Shape := ⟨2, ![1, 8]⟩
abbrev S32x8 : Shape := ⟨2, ![32, 8]⟩
abbrev S2048 : Shape := ⟨1, ![2048]⟩
abbrev S8x32 : Shape := ⟨2, ![8, 32]⟩
abbrev S_ : Shape := ⟨0, ![]⟩
abbrev S8x128 : Shape := ⟨2, ![8, 128]⟩
abbrev S1x1024 : Shape := ⟨2, ![1, 1024]⟩
abbrev S1x11776 : Shape := ⟨2, ![1, 11776]⟩
abbrev S1x1 : Shape := ⟨2, ![1, 1]⟩

abbrev nBuf : Space → Nat
  | .hbm => 132
  | .vmem => 7
  | .smem => 0
  | _ => 0

abbrev hbmTy0_0 (i : Nat) : BufTy := match i % 128 with
  | 0 => ⟨S1x2048, .f32⟩
  | 1 => ⟨S1x128, .f32⟩
  | 2 => ⟨S1x128, .f32⟩
  | 3 => ⟨S1x8, .f32⟩
  | 4 => ⟨S1x2048, .f32⟩
  | 5 => ⟨S1x2048, .f32⟩
  | 6 => ⟨S1x2048, .f32⟩
  | 7 => ⟨S32x8, .f32⟩
  | 8 => ⟨S2048, .f32⟩
  | 9 => ⟨S1x2048, .f32⟩
  | 10 => ⟨S1x128, .f32⟩
  | 11 => ⟨S1x128, .f32⟩
  | 12 => ⟨S1x8, .f32⟩
  | 13 => ⟨S1x2048, .f32⟩
  | 14 => ⟨S1x2048, .f32⟩
  | 15 => ⟨S1x2048, .f32⟩
  | 16 => ⟨S32x8, .f32⟩
  | 17 => ⟨S2048, .f32⟩
  | 18 => ⟨S1x2048, .f32⟩
  | 19 => ⟨S1x128, .f32⟩
  | 20 => ⟨S1x128, .f32⟩
  | 21 => ⟨S1x8, .f32⟩
  | 22 => ⟨S1x2048, .f32⟩
  | 23 => ⟨S1x2048, .f32⟩
  | 24 => ⟨S1x2048, .f32⟩
  | 25 => ⟨S32x8, .f32⟩
  | 26 => ⟨S2048, .f32⟩
  | 27 => ⟨S1x2048, .f32⟩
  | 28 => ⟨S1x128, .f32⟩
  | 29 => ⟨S1x128, .f32⟩
  | 30 => ⟨S1x8, .f32⟩
  | 31 => ⟨S1x2048, .f32⟩
  | 32 => ⟨S1x2048, .f32⟩
  | 33 => ⟨S1x2048, .f32⟩
  | 34 => ⟨S32x8, .f32⟩
  | 35 => ⟨S2048, .f32⟩
  | 36 => ⟨S8x32, .f32⟩
  | 37 => ⟨S_, .i32⟩
  | 38 => ⟨S_, .f32⟩
  | 39 => ⟨S8x128, .f32⟩
  | 40 => ⟨S1x1024, .f32⟩
  | 41 => ⟨S1x2048, .f32⟩
  | 42 => ⟨S_, .i32⟩
  | 43 => ⟨S_, .f32⟩
  | 44 => ⟨S1x128, .f32⟩
  | 45 => ⟨S_, .f32⟩
  | 46 => ⟨S1x128, .f32⟩
  | 47 => ⟨S1x11776, .f32⟩
  | 48 => ⟨S8x32, .f32⟩
  | 49 => ⟨S_, .i32⟩
  | 50 => ⟨S_, .f32⟩
  | 51 => ⟨S8x128, .f32⟩
  | 52 => ⟨S1x1024, .f32⟩
  | 53 => ⟨S1x2048, .f32⟩
  | 54 => ⟨S_, .i32⟩
  | 55 => ⟨S_, .f32⟩
  | 56 => ⟨S1x128, .f32⟩
  | 57 => ⟨S_, .f32⟩
  | 58 => ⟨S1x128, .f32⟩
  | 59 => ⟨S1x11776, .f32⟩
  | 60 => ⟨S8x32, .f32⟩
  | 61 => ⟨S_, .i32⟩
  | 62 => ⟨S_, .f32⟩
  | 63 => ⟨S8x128, .f32⟩
  | 64 => ⟨S1x1024, .f32⟩
  | 65 => ⟨S1x2048, .f32⟩
  | 66 => ⟨S_, .i32⟩
  | 67 => ⟨S_, .f32⟩
  | 68 => ⟨S1x128, .f32⟩
  | 69 => ⟨S_, .f32⟩
  | 70 => ⟨S1x128, .f32⟩
  | 71 => ⟨S1x11776, .f32⟩
  | 72 => ⟨S8x32, .f32⟩
  | 73 => ⟨S_, .i32⟩
  | 74 => ⟨S_, .f32⟩
  | 75 => ⟨S8x128, .f32⟩
  | 76 => ⟨S1x1024, .f32⟩
  | 77 => ⟨S1x2048, .f32⟩
  | 78 => ⟨S_, .i32⟩
  | 79 => ⟨S_, .f32⟩
  | 80 => ⟨S1x128, .f32⟩
  | 81 => ⟨S_, .f32⟩
  | 82 => ⟨S1x128, .f32⟩
  | 83 => ⟨S1x11776, .f32⟩
  | 84 => ⟨S1x11776, .f32⟩
  | 85 => ⟨S1x11776, .f32⟩
  | 86 => ⟨S1x11776, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S2048, .f32⟩
  | 93 => ⟨S1x128, .f32⟩
  | 94 => ⟨S1x128, .f32⟩
  | 95 => ⟨S1x1024, .f32⟩
  | 96 => ⟨S8x128, .f32⟩
  | 97 => ⟨S8x32, .f32⟩
  | 98 => ⟨S32x8, .f32⟩
  | 99 => ⟨S1x8, .f32⟩
  | 100 => ⟨S1x1, .f32⟩
  | 101 => ⟨S_, .f32⟩
  | 102 => ⟨S1x2048, .f32⟩
  | 103 => ⟨S1x2048, .f32⟩
  | 104 => ⟨S1x2048, .f32⟩
  | 105 => ⟨S1x2048, .f32⟩
  | 106 => ⟨S1x2048, .f32⟩
  | 107 => ⟨S2048, .f32⟩
  | 108 => ⟨S1x128, .f32⟩
  | 109 => ⟨S1x128, .f32⟩
  | 110 => ⟨S1x1024, .f32⟩
  | 111 => ⟨S8x128, .f32⟩
  | 112 => ⟨S8x32, .f32⟩
  | 113 => ⟨S32x8, .f32⟩
  | 114 => ⟨S1x8, .f32⟩
  | 115 => ⟨S1x1, .f32⟩
  | 116 => ⟨S_, .f32⟩
  | 117 => ⟨S1x2048, .f32⟩
  | 118 => ⟨S1x2048, .f32⟩
  | 119 => ⟨S1x2048, .f32⟩
  | 120 => ⟨S1x2048, .f32⟩
  | 121 => ⟨S1x2048, .f32⟩
  | 122 => ⟨S2048, .f32⟩
  | 123 => ⟨S1x128, .f32⟩
  | 124 => ⟨S1x128, .f32⟩
  | 125 => ⟨S1x1024, .f32⟩
  | 126 => ⟨S8x128, .f32⟩
  | 127 => ⟨S8x32, .f32⟩
  | _ => ⟨S1x2048, .f32⟩

abbrev hbmTy0_1 (i : Nat) : BufTy := match i % 128 with
  | 0 => ⟨S32x8, .f32⟩
  | 1 => ⟨S1x8, .f32⟩
  | 2 => ⟨S1x1, .f32⟩
  | 3 => ⟨S_, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | .local _ .vmem, ⟨0, _⟩ => ⟨S1x11776, .f32⟩
  | .local _ .vmem, ⟨1, _⟩ => ⟨S1x11776, .f32⟩
  | .local _ .vmem, ⟨2, _⟩ => ⟨S1x11776, .f32⟩
  | .local _ .vmem, ⟨3, _⟩ => ⟨S1x11776, .f32⟩
  | .local _ .vmem, ⟨4, _⟩ => ⟨S1x11776, .f32⟩
  | .local _ .vmem, ⟨5, _⟩ => ⟨S1x11776, .f32⟩
  | .local _ .vmem, ⟨6, _⟩ => ⟨S1x11776, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_call0_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c_0 : Ref sig .tc := ⟨.hbm, 42, rfl⟩
abbrev main_call1_v0 : Ref sig .tc := ⟨.hbm, 43, rfl⟩
abbrev main_v4 : Ref sig .tc := ⟨.hbm, 44, rfl⟩
abbrev main_cst : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c_1 : Ref sig .tc := ⟨.hbm, 49, rfl⟩
abbrev main_call2_v0 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_c_2 : Ref sig .tc := ⟨.hbm, 54, rfl⟩
abbrev main_call3_v0 : Ref sig .tc := ⟨.hbm, 55, rfl⟩
abbrev main_v11 : Ref sig .tc := ⟨.hbm, 56, rfl⟩
abbrev main_cst_3 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_c_4 : Ref sig .tc := ⟨.hbm, 61, rfl⟩
abbrev main_call4_v0 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_5 : Ref sig .tc := ⟨.hbm, 66, rfl⟩
abbrev main_call5_v0 : Ref sig .tc := ⟨.hbm, 67, rfl⟩
abbrev main_v18 : Ref sig .tc := ⟨.hbm, 68, rfl⟩
abbrev main_cst_6 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_c_7 : Ref sig .tc := ⟨.hbm, 73, rfl⟩
abbrev main_call6_v0 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_c_8 : Ref sig .tc := ⟨.hbm, 78, rfl⟩
abbrev main_call7_v0 : Ref sig .tc := ⟨.hbm, 79, rfl⟩
abbrev main_v25 : Ref sig .tc := ⟨.hbm, 80, rfl⟩
abbrev main_cst_9 : Ref sig .tc := ⟨.hbm, 81, rfl⟩
abbrev main_v26 : Ref sig .tc := ⟨.hbm, 82, rfl⟩
abbrev main_v27 : Ref sig .tc := ⟨.hbm, 83, rfl⟩
abbrev main_v28_0 : Ref sig .tc := ⟨.hbm, 84, rfl⟩
abbrev main_v28_1 : Ref sig .tc := ⟨.hbm, 85, rfl⟩
abbrev main_v28_2 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x11776 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x11776 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x11776 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x11776 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11776 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x11776 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x11776 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S1x2048 : Shape := ⟨2, ![1, 2048]⟩
abbrev S1x128 : Shape := ⟨2, ![1, 128]⟩
abbrev S1x8 : Shape := ⟨2, ![1, 8]⟩
abbrev S32x8 : Shape := ⟨2, ![32, 8]⟩
abbrev S2048 : Shape := ⟨1, ![2048]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S1x2048, .f32⟩
  | 1 => ⟨S1x128, .f32⟩
  | 2 => ⟨S1x128, .f32⟩
  | 3 => ⟨S1x8, .f32⟩
  | 4 => ⟨S1x2048, .f32⟩
  | 5 => ⟨S1x2048, .f32⟩
  | 6 => ⟨S1x2048, .f32⟩
  | 7 => ⟨S32x8, .f32⟩
  | 8 => ⟨S2048, .f32⟩
  | 9 => ⟨S1x2048, .f32⟩
  | 10 => ⟨S1x128, .f32⟩
  | 11 => ⟨S1x128, .f32⟩
  | 12 => ⟨S1x8, .f32⟩
  | 13 => ⟨S1x2048, .f32⟩
  | 14 => ⟨S1x2048, .f32⟩
  | 15 => ⟨S1x2048, .f32⟩
  | 16 => ⟨S32x8, .f32⟩
  | 17 => ⟨S2048, .f32⟩
  | 18 => ⟨S1x2048, .f32⟩
  | 19 => ⟨S1x128, .f32⟩
  | 20 => ⟨S1x128, .f32⟩
  | 21 => ⟨S1x8, .f32⟩
  | 22 => ⟨S1x2048, .f32⟩
  | 23 => ⟨S1x2048, .f32⟩
  | 24 => ⟨S1x2048, .f32⟩
  | 25 => ⟨S32x8, .f32⟩
  | 26 => ⟨S2048, .f32⟩
  | 27 => ⟨S1x2048, .f32⟩
  | 28 => ⟨S1x128, .f32⟩
  | 29 => ⟨S1x128, .f32⟩
  | 30 => ⟨S1x8, .f32⟩
  | 31 => ⟨S1x2048, .f32⟩
  | 32 => ⟨S1x2048, .f32⟩
  | 33 => ⟨S1x2048, .f32⟩
  | 34 => ⟨S32x8, .f32⟩
  | 35 => ⟨S2048, .f32⟩
  | 36 => ⟨S_, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S1x2048, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x8, .f32⟩
  | 9 => ⟨S1x8, .f32⟩
  | 10 => ⟨S_, .f32⟩
  | 11 => ⟨S1x8, .f32⟩
  | 12 => ⟨S1x8, .f32⟩
  | 13 => ⟨S1x8, .f32⟩
  | 14 => ⟨S_, .f32⟩
  | 15 => ⟨S1x8, .f32⟩
  | 16 => ⟨S1x8, .f32⟩
  | 17 => ⟨S1x8, .f32⟩
  | 18 => ⟨S_, .f32⟩
  | 19 => ⟨S1x8, .f32⟩
  | 20 => ⟨S1x8, .f32⟩
  | 21 => ⟨S1x8, .f32⟩
  | 22 => ⟨S_, .f32⟩
  | 23 => ⟨S1x8, .f32⟩
  | 24 => ⟨S1x8, .f32⟩
  | 25 => ⟨S_, .f32⟩
  | 26 => ⟨S1x8, .f32⟩
  | 27 => ⟨S1x8, .f32⟩
  | 28 => ⟨S1x8, .f32⟩
  | 29 => ⟨S_, .f32⟩
  | 30 => ⟨S1x8, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S1x8, .f32⟩
  | 37 => ⟨S_, .f32⟩
  | 38 => ⟨S1x8, .f32⟩
  | 39 => ⟨S1x8, .f32⟩
  | 40 => ⟨S_, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S_, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S_, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S1x2048, .f32⟩

abbrev hbmTy0_2 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S_, .f32⟩
  | 12 => ⟨S32x8, .f32⟩
  | 13 => ⟨S32x8, .f32⟩
  | 14 => ⟨S_, .f32⟩
  | 15 => ⟨S32x8, .f32⟩
  | 16 => ⟨S32x8, .f32⟩
  | 17 => ⟨S32x8, .f32⟩
  | 18 => ⟨S_, .f32⟩
  | 19 => ⟨S32x8, .f32⟩
  | 20 => ⟨S32x8, .f32⟩
  | 21 => ⟨S32x8, .f32⟩
  | 22 => ⟨S_, .f32⟩
  | 23 => ⟨S32x8, .f32⟩
  | 24 => ⟨S32x8, .f32⟩
  | 25 => ⟨S32x8, .f32⟩
  | 26 => ⟨S_, .f32⟩
  | 27 => ⟨S32x8, .f32⟩
  | 28 => ⟨S32x8, .f32⟩
  | 29 => ⟨S_, .f32⟩
  | 30 => ⟨S32x8, .f32⟩
  | 31 => ⟨S32x8, .f32⟩
  | 32 => ⟨S32x8, .f32⟩
  | 33 => ⟨S_, .f32⟩
  | 34 => ⟨S32x8, .f32⟩
  | 35 => ⟨S32x8, .f32⟩
  | 36 => ⟨S32x8, .f32⟩
  | 37 => ⟨S_, .f32⟩
  | 38 => ⟨S32x8, .f32⟩
  | 39 => ⟨S32x8, .f32⟩
  | 40 => ⟨S32x8, .f32⟩
  | 41 => ⟨S_, .f32⟩
  | 42 => ⟨S32x8, .f32⟩
  | 43 => ⟨S32x8, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Proof.DAct.lean ====
module

public import proofs.«01_k».proof.Defs
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.Proof.DAct

open Cert.KernelIdeal Cert.KernelIdeal.Gen Idealize.ShloMosaic Idealize.ShloMosaic.TcCoe Idealize.SL.Sem

/-- Where each window's block sits at a grid point: dh2's row block, w_down's row block, and the same pair for a and
    the result. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val] :=
  (by decide +kernel : ∀ t : Fin grid0.N, _)

/-- The written array is the reference's term: where a > 0 the two sides are the same product of the same reads, and
    elsewhere max(a, 0) = 0 makes the kernel's product the zero the reference selects. -/
theorem out_eq (m : (ℓ : Loc nD τ sig) → Buf (Elt Ideal) ℓ) (c : Dev nD) :
    (dats m 0 c).arrAt 3 cfg0.N = Cert.ReferenceIdeal.Read.val_main_v15 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, ReferenceIdeal.Read.val_main_v15, ReferenceIdeal.Read.val_main_v14, ReferenceIdeal.Read.val_main_v13, ReferenceIdeal.Read.val_main_v12, ReferenceIdeal.Read.val_main_v11, ReferenceIdeal.Read.val_main_v10, ReferenceIdeal.Read.val_main_v8, ReferenceIdeal.Read.val_main_v7, ReferenceIdeal.Read.val_main_v4, ReferenceIdeal.Read.val_main_v3, ReferenceIdeal.Read.val_main_v2, ReferenceIdeal.Read.val_main_v1, ReferenceIdeal.Read.val_main_v0, ReferenceIdeal.Read.val_main_call0_v0, ReferenceIdeal.Read.val_main_call0_cst, ReferenceIdeal.Read.val_main_cst, ReferenceIdeal.Read.val_main_cst_0, ReferenceIdeal.Read.val_main_cst_1, ReferenceIdeal.Read.val_main_cst_2]
  have e : iblk m c 2 t y = m ((c : Thread nD τ).loc main_arg2) (((View.whole main_v0).slice (win0_3.rect t)).emb y) := by
    blk_ext [iblk, V, idx t]
  rw [← e]
  split_ifs with h
  · blk_point [iblk, V, idx t]
  · rw [max_eq_right (not_lt.mp h), mul_zero, mul_zero]

/-- The reference's frame: its run leaves the arguments, and it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs run and end with the same array. -/
theorem algebraic : Cert.algebraic_KernelIdeal_ReferenceIdeal := by
  pair_intro
  · run_from Cert.KernelIdeal.Gen.run_main m g
  · run_from Cert.ReferenceIdeal.Value.run m' g'
    exact (out_eq m c).symm

end Cert.Proof.DAct

end
-- ==== Proof.Lift.lean ====
module

public import Idealize.ShloMosaic.Lib.Pipeline.ValueKit
public import Idealize.ShloMosaic.Lib.IdealHost

@[expose] public section

noncomputable section

/-! Finite extended reals computed with as reals: sums, quotients and the transcendental functions of the programs, at arguments that
    are reals, are the reals' own. -/

namespace Cert.Proof.Lift

open Idealize.ShloMosaic

variable {ι : Type} [Fintype ι]

theorem sum_coe (f : ι → ℝ) : (∑ i, (f i : EReal)) = ((∑ i, f i : ℝ) : EReal) :=
  (map_sum (⟨⟨Real.toEReal, EReal.coe_zero⟩, EReal.coe_add⟩ : ℝ →+ EReal) f Finset.univ).symm

theorem div_coe' (a b : ℝ) (hb : b ≠ 0) : Ideal.div (a : EReal) (b : EReal) = ((a / b : ℝ) : EReal) := by
  rw [Ideal.div_coe hb, ← EReal.coe_mul, mul_one_div]

theorem log_coe_pos {a : ℝ} (ha : 0 < a) : Ideal.log (a : EReal) = (Real.log a : EReal) := by
  rw [Ideal.log_coe, if_neg (not_le.mpr ha)]

theorem negInf : Ideal.ofBits .f32 0xFF800000#32 = ⊥ := by simp [Ideal.ofBits, Ideal.ieee]

theorem max_coe (a b : ℝ) : max (a : EReal) (b : EReal) = ((max a b : ℝ) : EReal) :=
  (EReal.coe_strictMono.monotone.map_max).symm

/-- The maximum of finitely many reals, at least one, started from −∞, is a real. -/
theorem fold_max_real [Nonempty ι] (f : ι → ℝ) : ∃ M : ℝ, Finset.fold max (⊥ : EReal) (fun i => (f i : EReal)) Finset.univ = (M : EReal) := by
  classical
  have key : ∀ s : Finset ι, s = ∅ ∨ ∃ M : ℝ, Finset.fold max (⊥ : EReal) (fun i => (f i : EReal)) s = (M : EReal) := by
    intro s
    induction s using Finset.induction_on with
    | empty => exact .inl rfl
    | insert a s ha ih =>
      refine .inr ?_
      rw [Finset.fold_insert ha]
      rcases ih with rfl | ⟨M, hM⟩
      · exact ⟨f a, by rw [Finset.fold_empty]; exact max_eq_left bot_le⟩
      · exact ⟨max (f a) M, by rw [hM, max_coe]⟩
  rcases key Finset.univ with h | h
  · exact absurd h Finset.univ_nonempty.ne_empty
  · exact h

/-- A value of a finite argument: its absolute value lies below +∞. -/
theorem real_of_abs_lt {x : EReal} (h : max x (-x) < ⊤) : ∃ r : ℝ, x = (r : EReal) := by
  induction x using EReal.rec with
  | bot => simp at h
  | coe r => exact ⟨r, rfl⟩
  | top => simp at h

/-- An entry whose magnitude compares below +∞ is a real. -/
theorem real_of_lt_bit {φ : FTy} {x : Ideal φ} (h : BitVec.ofBool (decide (FloatOps.absf (F := Ideal) x < Ideal.ofBits .f32 0x7F800000#32)) = 1#1) :
    ∃ r : ℝ, x = (r : EReal) := by
  have e : Ideal.ofBits .f32 0x7F800000#32 = ⊤ := by simp [Ideal.ofBits, Ideal.ieee]
  rw [e] at h
  by_cases h' : FloatOps.absf (F := Ideal) x < (⊤ : EReal)
  · exact real_of_abs_lt h'
  · rw [decide_eq_false h'] at h; exact absurd h (by decide)

end Cert.Proof.Lift

end
-- ==== Proof.AttnA.Spec.lean ====
module

public import Idealize.ShloMosaic.Lib.Pipeline.ValueKit

@[expose] public section

noncomputable section

/-! Attention over the reals, one head's rows against all keys: the formulas both programs come to, and the sums that regroup them. -/

namespace Cert.Proof.AttnA

variable {a b n : ℕ}

/-- The scale 1/√128. -/
def σ : ℝ := (Real.sqrt 128)⁻¹

/-- The product of a query row with a key row. -/
def dot (q : Fin a → Fin n → ℝ) (k : Fin b → Fin n → ℝ) (r : Fin a) (x : Fin b) : ℝ := ∑ d, q r d * k x d
/-- The exponential of a scaled score. -/
def E (q : Fin a → Fin n → ℝ) (k : Fin b → Fin n → ℝ) (r : Fin a) (x : Fin b) : ℝ := Real.exp (σ * dot q k r x)
/-- A row's sum of exponentials. -/
def Z (q : Fin a → Fin n → ℝ) (k : Fin b → Fin n → ℝ) (r : Fin a) : ℝ := ∑ x, E q k r x
/-- A row of the output. -/
def O (q : Fin a → Fin n → ℝ) (k v : Fin b → Fin n → ℝ) (r : Fin a) (d : Fin n) : ℝ := (∑ x, E q k r x * v x d) / Z q k r
/-- A row's probabilities. -/
def P (q : Fin a → Fin n → ℝ) (k : Fin b → Fin n → ℝ) (r : Fin a) (x : Fin b) : ℝ := E q k r x / Z q k r
/-- The scores' gradient. -/
def DS (q : Fin a → Fin n → ℝ) (k v : Fin b → Fin n → ℝ) (g : Fin a → Fin n → ℝ) (r : Fin a) (x : Fin b) : ℝ :=
  P q k r x * (dot g v r x - ∑ x', P q k r x' * dot g v r x') * σ

theorem Z_pos [NeZero b] (q : Fin a → Fin n → ℝ) (k : Fin b → Fin n → ℝ) (r : Fin a) : 0 < Z q k r :=
  Finset.sum_pos (fun _ _ => Real.exp_pos _) Finset.univ_nonempty

/-- The gradient's correction by way of the output: the row sum of cotangent times output is the probabilities' average of the probabilities' cotangents. -/
theorem delta_eq (q : Fin a → Fin n → ℝ) (k v : Fin b → Fin n → ℝ) (g : Fin a → Fin n → ℝ) (r : Fin a) :
    (∑ d, g r d * O q k v r d) = ∑ x, P q k r x * dot g v r x := by
  unfold O P dot
  simp only [Finset.mul_sum, Finset.sum_div, ← mul_div_assoc]
  rw [Finset.sum_comm]
  exact Finset.sum_congr rfl fun _ _ => Finset.sum_congr rfl fun _ _ => by ring

/-- The probability by way of the row's log-sum. -/
theorem exp_sub_log [NeZero b] (q : Fin a → Fin n → ℝ) (k : Fin b → Fin n → ℝ) (r : Fin a) (x : Fin b) :
    Real.exp (σ * dot q k r x - Real.log (Z q k r)) = P q k r x := by
  rw [Real.exp_sub, Real.exp_log (Z_pos q k r)]; rfl

/-- The first half's keys among all. -/
def lo (x : Fin 2048) : Fin 4096 := ⟨x, Nat.lt_trans x.isLt (by decide)⟩
/-- The second half's. -/
def hi (x : Fin 2048) : Fin 4096 := ⟨2048 + x, Nat.add_lt_add_left x.isLt 2048⟩

/-- A sum over both halves. -/
theorem sum_halves {M : Type} [AddCommMonoid M] (f : Fin 4096 → M) : (∑ x, f (lo x)) + (∑ x, f (hi x)) = ∑ x, f x :=
  (Fin.sum_univ_add (a := 2048) (b := 2048) f).symm

end Cert.Proof.AttnA

end
-- ==== Proof.AttnA.Fwd.lean ====
module

public import proofs.«01_k».proof.Proof.Gen.AttnAIdeal.Frame
public import proofs.«01_k».proof.Proof.Lift
public import proofs.«01_k».proof.Proof.AttnA.Spec

@[expose] public section

set_option maxRecDepth 16384

noncomputable section

namespace Cert.Proof.AttnA

open Cert.AttnAIdeal Cert.AttnAIdeal.Gen Idealize.ShloMosaic Idealize.ShloMosaic.TcCoe Idealize.SL.Sem Cert.Proof.Lift

/-! ## The forward call on one quarter of a query tile -/

/-- The running row maximum after both key halves. -/
def mTile (q : Vec Ideal S512x128 .bf16) (k k' : Vec Ideal S2048x128 .bf16) : FVec Ideal S512x1 .f32 :=
  k0_pay27 q (k0_pay7 q k) k'
/-- The running row sum after both key halves. -/
def lTile (q : Vec Ideal S512x128 .bf16) (k k' : Vec Ideal S2048x128 .bf16) : FVec Ideal S512x1 .f32 :=
  k0_pay31 q (k0_pay7 q k) (k0_pay10 q k) k'
/-- The output rows. -/
def oTile (q : Vec Ideal S512x128 .bf16) (k k' v v' : Vec Ideal S2048x128 .bf16) : FVec Ideal S512x128 .bf16 :=
  k0_pay51 (lTile q k k') (k0_pay32 (k0_pay9 q k v) (k0_pay29 q (k0_pay7 q k) k' v') (k0_pay30 q (k0_pay7 q k) k'))
/-- The rows' log-sums. -/
def lseTile (q : Vec Ideal S512x128 .bf16) (k k' : Vec Ideal S2048x128 .bf16) : FVec Ideal S1x512x1 .f32 :=
  k0_pay52 (mTile q k k') (lTile q k k')

/-- The forward body stores four times the same function of its own quarter of the queries. -/
theorem out0_3_eq (x0 : Vec Ideal S2048x128 .bf16) (x1 x2 : Vec Ideal S4096x128 .bf16) :
    out0_3 x0 x1 x2 = View.canon [⟨r0_3, oTile (View.ld x0 r0_3) (View.ld x1 r0_4) (View.ld x1 r0_5) (View.ld x2 r0_4) (View.ld x2 r0_5)⟩,
      ⟨r0_2, oTile (View.ld x0 r0_2) (View.ld x1 r0_4) (View.ld x1 r0_5) (View.ld x2 r0_4) (View.ld x2 r0_5)⟩,
      ⟨r0_1, oTile (View.ld x0 r0_1) (View.ld x1 r0_4) (View.ld x1 r0_5) (View.ld x2 r0_4) (View.ld x2 r0_5)⟩,
      ⟨r0_0, oTile (View.ld x0 r0_0) (View.ld x1 r0_4) (View.ld x1 r0_5) (View.ld x2 r0_4) (View.ld x2 r0_5)⟩] := by
  unfold_out out0_3
  unfold oTile lTile
  unfold_payloads
  rfl
theorem out0_4_eq (x0 : Vec Ideal S2048x128 .bf16) (x1 x2 : Vec Ideal S4096x128 .bf16) :
    out0_4 x0 x1 x2 = View.canon [⟨r0_9, lseTile (View.ld x0 r0_3) (View.ld x1 r0_4) (View.ld x1 r0_5)⟩,
      ⟨r0_8, lseTile (View.ld x0 r0_2) (View.ld x1 r0_4) (View.ld x1 r0_5)⟩,
      ⟨r0_7, lseTile (View.ld x0 r0_1) (View.ld x1 r0_4) (View.ld x1 r0_5)⟩,
      ⟨r0_6, lseTile (View.ld x0 r0_0) (View.ld x1 r0_4) (View.ld x1 r0_5)⟩] := by
  unfold_out out0_4
  unfold lseTile mTile lTile
  unfold_payloads
  rfl

theorem named_c : Named.named (F := Ideal) κ "c" (φ := .f32) 0x3E0293EE#32 = ((σ * (Real.log 2)⁻¹ : ℝ) : EReal) :=
  IdealRules.named_const.ideal_named_scalar _ _ _ _ rfl
theorem named_scale : Named.named (F := Ideal) κ "scale" (φ := .f32) 0x3DB504F3#32 = (σ : EReal) :=
  IdealRules.named_const.ideal_named_scalar _ _ _ _ rfl
theorem named_log2e : Named.named (F := Ideal) κ "log2e" (φ := .f32) 0x3FB8AA3B#32 = (((Real.log 2)⁻¹ : ℝ) : EReal) :=
  IdealRules.named_const.ideal_named_scalar _ _ _ _ rfl

/-- A power of two with the binary logarithm's factor in the exponent is the exponential. -/
theorem exp2_log2e (x : ℝ) : (FloatOps.exp2 (φ := .f32) ((x * (Real.log 2)⁻¹ : ℝ) : EReal) : Ideal .f32) = (Real.exp x : EReal) := by
  show Ideal.exp2 _ = _
  rw [Ideal.exp2_coe]
  congr 1
  rw [Real.rpow_eq_pow]
  rw [Real.rpow_def_of_pos (by norm_num), mul_comm x, ← mul_assoc, mul_inv_cancel₀ (Real.log_pos (by norm_num)).ne', one_mul]

theorem exp2_c (s M : ℝ) : (FloatOps.exp2 (φ := .f32) (((s : EReal) - (M : EReal)) * Named.named (F := Ideal) κ "c" (φ := .f32) 0x3E0293EE#32) : Ideal .f32)
    = ((Real.exp (σ * s) * Real.exp (-(σ * M)) : ℝ) : EReal) := by
  rw [named_c, ← EReal.coe_sub, ← EReal.coe_mul, ← mul_assoc, exp2_log2e, ← Real.exp_add]
  congr 2; ring

variable {q : Vec Ideal S512x128 .bf16} {k k' v v' : Vec Ideal S2048x128 .bf16} {Q : Fin 2048 → Fin 128 → ℝ} {K W : Fin 4096 → Fin 128 → ℝ} {ρ : Fin 512 → Fin 2048}

section Rows

variable (hq : ∀ r d, q (ix2 r d) = (Q (ρ r) d : EReal)) (hk : ∀ x d, k (ix2 x d) = (K (lo x) d : EReal))
  (hk' : ∀ x d, k' (ix2 x d) = (K (hi x) d : EReal)) (hv : ∀ x d, v (ix2 x d) = (W (lo x) d : EReal))
  (hv' : ∀ x d, v' (ix2 x d) = (W (hi x) d : EReal))

include hq in
theorem max_half {w : Vec Ideal S2048x128 .bf16} (ξ : Fin 2048 → Fin 4096) (hw : ∀ x d, w (ix2 x d) = (K (ξ x) d : EReal)) (r : Fin 512) (c : Fin 1) :
    ∃ M : ℝ, k0_pay7 q w (ix2 r c) = (M : EReal) := by
  obtain ⟨M, hM⟩ := fold_max_real fun x : Fin 2048 => dot Q K (ρ r) (ξ x)
  refine ⟨M, ?_⟩
  rw [← hM]
  pointwise [k0_pay7, k0_pay6]
  simp only [hq, hw, ← EReal.coe_mul, sum_coe, negInf, dot]

include hq hk in
theorem max_first (r : Fin 512) (c : Fin 1) : ∃ M : ℝ, k0_pay7 q k (ix2 r c) = (M : EReal) := max_half hq _ hk r c

theorem max_step (m : FVec Ideal S512x1 .f32) : k0_pay27 q m k' = maximumf m (k0_pay7 q k') := by
  unfold_payloads
  rfl

include hq hk' in
theorem max_next {m : FVec Ideal S512x1 .f32} {M₁ : ℝ} {r : Fin 512} {c : Fin 1} (hm : m (ix2 r c) = (M₁ : EReal)) :
    ∃ M : ℝ, k0_pay27 q m k' (ix2 r c) = (M : EReal) := by
  obtain ⟨M', hM'⟩ := max_half hq _ hk' r c
  exact ⟨max M₁ M', by rw [max_step, ValueIdx.maximumf_apply, hm, hM', max_coe]⟩

include hq hk hk' in
theorem max_both (r : Fin 512) (c : Fin 1) : ∃ M : ℝ, mTile q k k' (ix2 r c) = (M : EReal) := by
  obtain ⟨M, hM⟩ := max_first hq hk r c
  exact max_next hq hk' hM

theorem scale_cancel (M : ℝ) : Real.exp (σ * M) * Real.exp (-(σ * M)) = 1 := by rw [← Real.exp_add, add_neg_cancel, Real.exp_zero]

/-- Two halves' sums under the running maximum: what the first half's rescaling leaves. -/
theorem rescale (f g : Fin 2048 → ℝ) (u w : Fin 2048 → ℝ) (M₁ M : ℝ) :
    Real.exp (σ * M₁) * Real.exp (-(σ * M)) * (∑ x, f x * Real.exp (-(σ * M₁)) * u x) + (∑ x, g x * Real.exp (-(σ * M)) * w x)
      = Real.exp (-(σ * M)) * ((∑ x, f x * u x) + ∑ x, g x * w x) := by
  have e : ∀ (f u : Fin 2048 → ℝ) (C : ℝ), (∑ x, f x * C * u x) = C * ∑ x, f x * u x := fun f u C => by
    rw [Finset.mul_sum]; exact Finset.sum_congr rfl fun _ _ => by ring
  rw [e, e]
  generalize (∑ x, f x * u x) = A
  generalize (∑ x, g x * w x) = B
  linear_combination (Real.exp (-(σ * M)) * A) * scale_cancel M₁

include hq hk in
/-- The first half's sum. -/
theorem l_first {r : Fin 512} {M₁ : ℝ} (hM : k0_pay7 q k (ix2 r 0) = (M₁ : EReal)) :
    k0_pay10 q k (ix2 r 0) = ((∑ x : Fin 2048, E Q K (ρ r) (lo x) * Real.exp (-(σ * M₁)) : ℝ) : EReal) := by
  pointwise [k0_pay10, k0_pay8, k0_pay6]
  simp only [hq, hk, hM, ← EReal.coe_mul, sum_coe, exp2_c]
  rfl

include hq hk' in
/-- The second half's sum, over the first's rescaled. -/
theorem l_next {m l : FVec Ideal S512x1 .f32} {M₁ M L : ℝ} {r : Fin 512} (hm : m (ix2 r 0) = (M₁ : EReal)) (hl : l (ix2 r 0) = (L : EReal))
    (hM : k0_pay27 q m k' (ix2 r 0) = (M : EReal)) :
    k0_pay31 q m l k' (ix2 r 0) = ((Real.exp (σ * M₁) * Real.exp (-(σ * M)) * L
      + ∑ x : Fin 2048, E Q K (ρ r) (hi x) * Real.exp (-(σ * M)) : ℝ) : EReal) := by
  pointwise [k0_pay31, k0_pay30, k0_pay28, k0_pay26]
  simp only [hq, hk', hm, hM, hl, ← EReal.coe_mul, sum_coe, exp2_c, ← EReal.coe_add]
  rfl

include hq hk hk' in
/-- The running sum is the row's sum of exponentials, scaled by the maximum's. -/
theorem l_eq (r : Fin 512) (c : Fin 1) {M : ℝ} (hM : mTile q k k' (ix2 r c) = (M : EReal)) :
    lTile q k k' (ix2 r c) = ((Real.exp (-(σ * M)) * Z Q K (ρ r) : ℝ) : EReal) := by
  obtain rfl : c = 0 := Subsingleton.elim _ _
  obtain ⟨M₁, hM₁⟩ := max_first hq hk r 0
  refine (l_next hq hk' hM₁ (l_first hq hk hM₁) hM).trans (congrArg Real.toEReal ?_)
  have := rescale (fun x => E Q K (ρ r) (lo x)) (fun x => E Q K (ρ r) (hi x)) (fun _ => 1) (fun _ => 1) M₁ M
  simp only [mul_one] at this
  rw [sum_halves (E Q K (ρ r))] at this
  exact this

theorem lse_log (m l : FVec Ideal S512x1 .f32) (u : Fin 1) (r : Fin 512) (w : Fin 1) :
    k0_pay52 m l (ix3 u r w) = m (ix2 r 0) * Named.named (F := Ideal) κ "scale" (φ := .f32) 0x3DB504F3#32 + Ideal.log (l (ix2 r 0)) := by
  pointwise [k0_pay52]

include hq hk hk' in
/-- A quarter's rows of the log-sum. -/
theorem lse_eq (u : Fin 1) (r : Fin 512) (w : Fin 1) : lseTile q k k' (ix3 u r w) = ((Real.log (Z Q K (ρ r)) : ℝ) : EReal) := by
  obtain ⟨M, hM⟩ := max_both hq hk hk' r 0
  have hz := Z_pos Q K (ρ r)
  unfold lseTile
  rw [lse_log, hM, l_eq hq hk hk' _ _ hM, log_coe_pos (mul_pos (Real.exp_pos _) hz), named_scale, ← EReal.coe_mul, ← EReal.coe_add,
    Real.log_mul (Real.exp_pos _).ne' hz.ne', Real.log_exp]
  exact congrArg Real.toEReal (by ring)

include hq hk hv in
theorem acc_first {r : Fin 512} {d : Fin 128} {M₁ : ℝ} (hM : k0_pay7 q k (ix2 r 0) = (M₁ : EReal)) :
    k0_pay9 q k v (ix2 r d) = ((∑ x : Fin 2048, E Q K (ρ r) (lo x) * Real.exp (-(σ * M₁)) * W (lo x) d : ℝ) : EReal) := by
  pointwise [k0_pay9, k0_pay8, k0_pay6]
  simp only [hq, hk, hv, hM, ← EReal.coe_mul, sum_coe, exp2_c]
  rfl

include hq hk' hv' in
theorem acc_next {m : FVec Ideal S512x1 .f32} {a : FVec Ideal S512x128 .f32} {M₁ M A : ℝ} {r : Fin 512} {d : Fin 128}
    (hm : m (ix2 r 0) = (M₁ : EReal)) (ha : a (ix2 r d) = (A : EReal)) (hM : k0_pay27 q m k' (ix2 r 0) = (M : EReal)) :
    k0_pay32 a (k0_pay29 q m k' v') (k0_pay30 q m k') (ix2 r d) = ((Real.exp (σ * M₁) * Real.exp (-(σ * M)) * A
      + ∑ x : Fin 2048, E Q K (ρ r) (hi x) * Real.exp (-(σ * M)) * W (hi x) d : ℝ) : EReal) := by
  pointwise [k0_pay32, k0_pay29, k0_pay30, k0_pay28, k0_pay26]
  simp only [hq, hk', hv', hm, ha, hM, ← EReal.coe_mul, sum_coe, exp2_c, ← EReal.coe_add]
  rfl

theorem o_div (l : FVec Ideal S512x1 .f32) (a : FVec Ideal S512x128 .f32) (r : Fin 512) (d : Fin 128) :
    k0_pay51 l a (ix2 r d) = Ideal.div (a (ix2 r d)) (l (ix2 r 0)) := by
  pointwise [k0_pay51]

include hq hk hk' hv hv' in
/-- A quarter's rows of the output: the values' average by the rows' exponentials. -/
theorem o_eq (r : Fin 512) (d : Fin 128) : oTile q k k' v v' (ix2 r d) = (O Q K W (ρ r) d : EReal) := by
  obtain ⟨M, hM⟩ := max_both hq hk hk' r 0
  obtain ⟨M₁, hM₁⟩ := max_first hq hk r 0
  have hz := Z_pos Q K (ρ r)
  unfold oTile
  rw [o_div, l_eq hq hk hk' _ _ hM, acc_next hq hk' hv' hM₁ (acc_first hq hk hv hM₁) hM, div_coe' _ _ (mul_pos (Real.exp_pos _) hz).ne']
  have := rescale (fun x => E Q K (ρ r) (lo x)) (fun x => E Q K (ρ r) (hi x)) (fun x => W (lo x) d)
    (fun x => W (hi x) d) M₁ M
  rw [sum_halves fun x => E Q K (ρ r) x * W x d] at this
  rw [this, mul_div_mul_left _ _ (Real.exp_pos _).ne']
  rfl

end Rows

end Cert.Proof.AttnA

end
-- ==== Proof.AttnA.FwdBlock.lean ====
module

public import proofs.«01_k».proof.Proof.AttnA.Fwd

@[expose] public section

set_option maxRecDepth 16384

noncomputable section

namespace Cert.Proof.AttnA

open Cert.AttnAIdeal Cert.AttnAIdeal.Gen Idealize.ShloMosaic Idealize.ShloMosaic.TcCoe Idealize.SL.Sem Cert.Proof.Lift

/-! ## The forward call on a whole query tile -/

/-- A load of a window of a matrix, by rows and columns. -/
theorem ld_window {α : EltTy → Type} {e : EltTy} {N n m l o p : ℕ} (inb : ∀ a, ![o, p] a + ![m, l] a ≤ (⟨2, ![N, n]⟩ : Shape).size a) (X : (⟨2, ![N, n]⟩ : Shape).Idx → α e) (r : Fin m)
    (d : Fin l) (hr : o + r < N) (hd : p + d < n) : View.ld X (Rect.unit ![o, p] ![m, l] inb) (ix2 r d) = X (ix2 ⟨o + r, hr⟩ ⟨p + d, hd⟩) := by
  refine congrArg X (funext fun a => Fin.ext ?_)
  fin_cases a <;> simp [Rect.unit, ix2]

/-- An index of a matrix is its row and column. -/
theorem idx2_eq {N n : ℕ} (x : (⟨2, ![N, n]⟩ : Shape).Idx) : ∃ r d, x = ix2 r d :=
  ⟨x 0, x 1, funext fun a => by fin_cases a <;> rfl⟩

variable {x0 : Vec Ideal S2048x128 .bf16} {x1 x2 : Vec Ideal S4096x128 .bf16} {Q : Fin 2048 → Fin 128 → ℝ} {K W : Fin 4096 → Fin 128 → ℝ}

variable (h0 : ∀ r d, x0 (ix2 r d) = (Q r d : EReal)) (h1 : ∀ x d, x1 (ix2 x d) = (K x d : EReal)) (h2 : ∀ x d, x2 (ix2 x d) = (W x d : EReal))

include h0 in
theorem rows_real {o : ℕ} (ho : o + 512 ≤ 2048) (inb) (r : Fin 512) (d : Fin 128) :
    View.ld x0 (Rect.unit ![o, 0] ![512, 128] inb) (ix2 r d) = (Q ⟨o + r, by omega⟩ d : EReal) := by
  rw [ld_window inb x0 r d (by omega) (by omega), ← h0]; simp only [zero_add]

include h1 in
theorem keys_lo (x : Fin 2048) (d : Fin 128) : View.ld x1 r0_4 (ix2 x d) = (K (lo x) d : EReal) := by
  rw [← h1]; pointwise; rfl

include h1 in
theorem keys_hi (x : Fin 2048) (d : Fin 128) : View.ld x1 r0_5 (ix2 x d) = (K (hi x) d : EReal) := by
  rw [← h1]; pointwise; rfl

include h0 h1 h2 in
theorem o_quarter {o : ℕ} (ho : o + 512 ≤ 2048) (inb) (x : S512x128.Idx) (r : Fin 2048) (d : Fin 128) (hr : (r : ℕ) = o + x 0) (hd : (d : ℕ) = x 1) :
    oTile (View.ld x0 (Rect.unit ![o, 0] ![512, 128] inb)) (View.ld x1 r0_4) (View.ld x1 r0_5) (View.ld x2 r0_4) (View.ld x2 r0_5) x = (O Q K W r d : EReal) := by
  obtain ⟨a, b, rfl⟩ := idx2_eq x
  obtain rfl : b = d := Fin.ext hd.symm
  rw [show r = ⟨o + a, by omega⟩ from Fin.ext hr]
  exact o_eq (ρ := fun a => ⟨o + a, by omega⟩) (rows_real h0 ho inb) (keys_lo h1) (keys_hi h1) (keys_lo h2) (keys_hi h2) a b

include h0 h1 in
theorem lse_quarter {o : ℕ} (ho : o + 512 ≤ 2048) (inb) (x : S1x512x1.Idx) (r : Fin 2048) (hr : (r : ℕ) = o + x 1) :
    lseTile (View.ld x0 (Rect.unit ![o, 0] ![512, 128] inb)) (View.ld x1 r0_4) (View.ld x1 r0_5) x = (Real.log (Z Q K r) : EReal) := by
  obtain ⟨u, a, w, rfl⟩ : ∃ u a w, x = ix3 u a w := ⟨x 0, x 1, x 2, funext fun a => by fin_cases a <;> rfl⟩
  rw [show r = ⟨o + a, by omega⟩ from Fin.ext hr]
  exact lse_eq (ρ := fun a => ⟨o + a, by omega⟩) (rows_real h0 ho inb) (keys_lo h1) (keys_hi h1) u a w

include h0 h1 h2 in
theorem out0_3_real (r : Fin 2048) (d : Fin 128) : out0_3 x0 x1 x2 (ix2 r d) = (O Q K W r d : EReal) := by
  rw [out0_3_eq]
  obtain ⟨y, e0, e1, hy⟩ : ∃ y : S2048x128.Idx, (y 0 : ℕ) = r ∧ (y 1 : ℕ) = d ∧ ix2 r d = y := ⟨_, rfl, rfl, rfl⟩
  rw [hy]
  clear hy
  canon_tiles x h
  all_goals exact o_quarter ‹_› ‹_› h2 (by decide) _ x r d (by omega) (by omega)

include h0 h1 in
theorem out0_4_real (u : Fin 1) (r : Fin 2048) (w : Fin 1) : out0_4 x0 x1 x2 (ix3 u r w) = (Real.log (Z Q K r) : EReal) := by
  rw [out0_4_eq]
  obtain ⟨y, e1, hy⟩ : ∃ y : S1x2048x1.Idx, (y 1 : ℕ) = r ∧ ix3 u r w = y := ⟨_, rfl, rfl⟩
  rw [hy]
  clear hy
  canon_tiles x h
  all_goals exact lse_quarter ‹_› ‹_› (by decide) _ x r (by omega)

end Cert.Proof.AttnA

end
-- ==== Proof.AttnA.Bwd.lean ====
module

public import proofs.«01_k».proof.Proof.AttnA.Fwd
import Idealize.ShloMosaic.Lib.Pipeline.ReadBack

@[expose] public section

set_option maxRecDepth 65536
set_option maxHeartbeats 4000000

noncomputable section

namespace Cert.Proof.AttnA

open Cert.AttnAIdeal Cert.AttnAIdeal.Gen Idealize.ShloMosaic Idealize.ShloMosaic.TcCoe Idealize.SL.Sem Cert.Proof.Lift

/-- Writes of one box four times over leave the last one. -/
theorem canon_four {s : Shape} {e : EltTy} {α : EltTy → Type} [∀ e, Nonempty (α e)] {r : Rect s} {a a' b c d : r.shape.Idx → α e} {L L' : List (View.Piece α s e)}
    (ha : a = a') (hL : View.canon L = View.canon L') :
    View.canon (⟨r, a⟩ :: ⟨r, b⟩ :: ⟨r, c⟩ :: ⟨r, d⟩ :: L) = View.canon (⟨r, a'⟩ :: L') := by
  subst ha
  funext y
  by_cases h : y ∈ r.set
  · obtain ⟨x, rfl⟩ : ∃ x, r.emb x = y := r.exists_idx_of_mem h
    rw [View.canon_cons_emb, View.canon_cons_emb]
  · have e (w : r.shape.Idx → α e) (M : List (View.Piece α s e)) : View.canon (⟨r, w⟩ :: M) y = View.canon M y := View.canon_cons_of_not_mem _ _ h
    rw [e, e, e, e, e, hL]

/-! ## The backward body, quarter by quarter and key block by key block -/

/-- The queries' quarter `h`: its rows. -/
def rowAt (h : Fin 4) : Rect S2048x128 := Rect.unit ![h.val * 512, 0] ![512, 128] (by revert h; decide)
/-- The queries' quarter `h` of the rows' log-sums. -/
def lseAt (h : Fin 4) : Rect S1x2048x1 := Rect.unit ![0, h.val * 512, 0] ![1, 512, 1] (by revert h; decide)
/-- The keys' block `j`: its rows. -/
def keyAt (j : Fin 8) : Rect S4096x128 := Rect.unit ![j.val * 512, 0] ![512, 128] (by revert j; decide)
/-- The keys' block `j` of a transposed array: its columns. -/
def colAt (j : Fin 8) : Rect S128x4096 := Rect.unit ![0, j.val * 512] ![128, 512] (by revert j; decide)

section Defs

variable (x0 x3 x4 : Vec Ideal S2048x128 .bf16) (x1 x2 : Vec Ideal S4096x128 .bf16) (x5 : Vec Ideal S1x2048x1 .f32) (s : Vec Ideal S128x4096 .f32)

/-- One quarter's share of a block of the values' gradient, added to what stood. -/
def vAdd (j : Fin 8) (h : Fin 4) (p : FVec Ideal S128x512 .f32) : FVec Ideal S128x512 .f32 :=
  k1_pay22 (View.ld x0 (rowAt h)) (k1_pay5 (View.ld x4 (rowAt h))) (k1_pay6 (View.ld x5 (lseAt h))) (View.ld x1 (keyAt j)) p
/-- One quarter's share of a block of the keys' gradient, added to what stood. -/
def kAdd (j : Fin 8) (h : Fin 4) (p : FVec Ideal S128x512 .f32) : FVec Ideal S128x512 .f32 :=
  k1_pay23 (View.ld x0 (rowAt h)) (View.ld x4 (rowAt h)) (k1_pay3 (View.ld x4 (rowAt h)) (View.ld x3 (rowAt h))) (k1_pay4 (View.ld x0 (rowAt h)))
    (k1_pay6 (View.ld x5 (lseAt h))) (View.ld x1 (keyAt j)) (View.ld x2 (keyAt j)) p
/-- One key block's share of a quarter of the queries' gradient. -/
def qPart (h : Fin 4) (j : Fin 8) : FVec Ideal S512x128 .f32 :=
  k1_pay21 (View.ld x0 (rowAt h)) (View.ld x4 (rowAt h)) (k1_pay3 (View.ld x4 (rowAt h)) (View.ld x3 (rowAt h))) (k1_pay6 (View.ld x5 (lseAt h)))
    (View.ld x1 (keyAt j)) (View.ld x2 (keyAt j))

/-- A block of the values' gradient after a point's four quarters. -/
def vBlk (j : Fin 8) : FVec Ideal S128x512 .f32 :=
  vAdd x0 x4 x1 x5 j 3 (vAdd x0 x4 x1 x5 j 2 (vAdd x0 x4 x1 x5 j 1 (vAdd x0 x4 x1 x5 j 0 (View.ld s (colAt j)))))
/-- A block of the keys' gradient after a point's four quarters. -/
def kBlk (j : Fin 8) : FVec Ideal S128x512 .f32 :=
  kAdd x0 x3 x4 x1 x2 x5 j 3 (kAdd x0 x3 x4 x1 x2 x5 j 2 (kAdd x0 x3 x4 x1 x2 x5 j 1 (kAdd x0 x3 x4 x1 x2 x5 j 0 (View.ld s (colAt j)))))
/-- A quarter of the queries' gradient. -/
def qBlk (h : Fin 4) : FVec Ideal S512x128 .f32 :=
  addf (addf (addf (addf (addf (addf (addf (qPart x0 x3 x4 x1 x2 x5 h 0) (qPart x0 x3 x4 x1 x2 x5 h 1)) (qPart x0 x3 x4 x1 x2 x5 h 2)) (qPart x0 x3 x4 x1 x2 x5 h 3))
    (qPart x0 x3 x4 x1 x2 x5 h 4)) (qPart x0 x3 x4 x1 x2 x5 h 5)) (qPart x0 x3 x4 x1 x2 x5 h 6)) (qPart x0 x3 x4 x1 x2 x5 h 7)

/-- Eight column blocks side by side, the last written first, over what lies below. -/
def cols (w : Fin 8 → FVec Ideal S128x512 .f32) (L : List (View.Piece (Elt Ideal) S128x4096 .f32)) : Vec Ideal S128x4096 .f32 :=
  View.canon (⟨colAt 7, w 7⟩ :: ⟨colAt 6, w 6⟩ :: ⟨colAt 5, w 5⟩ :: ⟨colAt 4, w 4⟩ :: ⟨colAt 3, w 3⟩ :: ⟨colAt 2, w 2⟩ :: ⟨colAt 1, w 1⟩ :: ⟨colAt 0, w 0⟩ :: L)

end Defs

variable (V : (c : Dev nD) → (b : Ref sig .tc) → Buf (Elt Ideal) ((c : Thread nD τ).loc b))

/-- The gradients' arrays are cleared at a head's first point. -/
def cleared (z : FVec Ideal S128x4096 .f32) : List (View.Piece (Elt Ideal) S128x4096 .f32) := [⟨Rect.unit ![0, 0] ![128, 4096] inb_S128x4096_S128x4096_0_0, z⟩]

theorem dv_A (c : Dev nD) (t : Fin cfg1.N) (h : t.val % 8 = 0) : (outsAt1 V c t.val t.isLt).2.2
    = cols (vBlk (iblk1 V c 0 t) (iblk1 V c 4 t) (iblk1 V c 1 t) (iblk1 V c 5 t) (k1_pay2 (F := Ideal))) (cleared k1_pay2) := by
  generalize hR : cols _ _ = R
  rw [outsAt1_A V c t h]
  frame_open; simp (disch := decide) only [↓ View.readCov_skip, ↓ View.readCov_cons_toLoadRect, ↓ View.readCov_fill]; frame_out
  subst hR
  unfold cols
  refine canon_four ?_ (canon_four ?_ (canon_four ?_ (canon_four ?_ (canon_four ?_ (canon_four ?_ (canon_four ?_ (canon_four ?_ rfl)))))))
  all_goals unfold_payloads
  all_goals rfl

theorem dv_B (c : Dev nD) (t : Fin cfg1.N) (h : ¬ t.val % 8 = 0) : (outsAt1 V c t.val t.isLt).2.2
    = cols (vBlk (iblk1 V c 0 t) (iblk1 V c 4 t) (iblk1 V c 1 t) (iblk1 V c 5 t) (outsAt1 V c (t.val - 1) (Nat.lt_of_le_of_lt (Nat.sub_le _ _) t.isLt)).2.2) [] := by
  generalize hR : cols _ _ = R
  rw [outsAt1_B V c t h]
  frame_open; simp (disch := decide) only [↓ View.readCov_skip, ↓ View.readCov_cons_toLoadRect, ↓ View.readCov_fill]; frame_out
  subst hR
  unfold cols
  refine canon_four ?_ (canon_four ?_ (canon_four ?_ (canon_four ?_ (canon_four ?_ (canon_four ?_ (canon_four ?_ (canon_four ?_ rfl)))))))
  all_goals unfold_payloads
  all_goals rfl

theorem dk_A (c : Dev nD) (t : Fin cfg1.N) (h : t.val % 8 = 0) : (outsAt1 V c t.val t.isLt).2.1
    = cols (kBlk (iblk1 V c 0 t) (iblk1 V c 3 t) (iblk1 V c 4 t) (iblk1 V c 1 t) (iblk1 V c 2 t) (iblk1 V c 5 t) (k1_pay1 (F := Ideal))) (cleared k1_pay1) := by
  generalize hR : cols _ _ = R
  rw [outsAt1_A V c t h]
  frame_open; simp (disch := decide) only [↓ View.readCov_skip, ↓ View.readCov_cons_toLoadRect, ↓ View.readCov_fill]; frame_out
  subst hR
  unfold cols
  refine canon_four ?_ (canon_four ?_ (canon_four ?_ (canon_four ?_ (canon_four ?_ (canon_four ?_ (canon_four ?_ (canon_four ?_ rfl)))))))
  all_goals unfold_payloads
  all_goals rfl

theorem dk_B (c : Dev nD) (t : Fin cfg1.N) (h : ¬ t.val % 8 = 0) : (outsAt1 V c t.val t.isLt).2.1
    = cols (kBlk (iblk1 V c 0 t) (iblk1 V c 3 t) (iblk1 V c 4 t) (iblk1 V c 1 t) (iblk1 V c 2 t) (iblk1 V c 5 t)
      (outsAt1 V c (t.val - 1) (Nat.lt_of_le_of_lt (Nat.sub_le _ _) t.isLt)).2.1) [] := by
  generalize hR : cols _ _ = R
  rw [outsAt1_B V c t h]
  frame_open; simp (disch := decide) only [↓ View.readCov_skip, ↓ View.readCov_cons_toLoadRect, ↓ View.readCov_fill]; frame_out
  subst hR
  unfold cols
  refine canon_four ?_ (canon_four ?_ (canon_four ?_ (canon_four ?_ (canon_four ?_ (canon_four ?_ (canon_four ?_ (canon_four ?_ rfl)))))))
  all_goals unfold_payloads
  all_goals rfl

/-- Four row blocks one below the other. -/
def rows (w : Fin 4 → FVec Ideal S512x128 .f32) : Vec Ideal S2048x128 .f32 :=
  View.canon (Val := Elt Ideal) (e := .f32) [⟨rowAt 3, w 3⟩, ⟨rowAt 2, w 2⟩, ⟨rowAt 1, w 1⟩, ⟨rowAt 0, w 0⟩]

theorem dq_eq (c : Dev nD) (t : Fin cfg1.N) : (outsAt1 V c t.val t.isLt).1
    = rows (qBlk (iblk1 V c 0 t) (iblk1 V c 3 t) (iblk1 V c 4 t) (iblk1 V c 1 t) (iblk1 V c 2 t) (iblk1 V c 5 t)) := by
  generalize hR : rows _ = R
  by_cases h : t.val % 8 = 0
  · rw [outsAt1_A V c t h]
    frame_out
    subst hR
    unfold rows qBlk qPart
    unfold_payloads
    rfl
  · rw [outsAt1_B V c t h]
    frame_out
    subst hR
    unfold rows qBlk qPart
    unfold_payloads
    rfl

end Cert.Proof.AttnA

end
-- ==== Proof.AttnA.BwdBlock.lean ====
module

public import proofs.«01_k».proof.Proof.AttnA.FwdBlock
public import proofs.«01_k».proof.Proof.AttnA.Bwd

@[expose] public section

set_option maxRecDepth 16384

noncomputable section

namespace Cert.Proof.AttnA

open Cert.AttnAIdeal Cert.AttnAIdeal.Gen Idealize.ShloMosaic Idealize.ShloMosaic.TcCoe Idealize.SL.Sem Cert.Proof.Lift

/-! ## One quarter of the queries against one block of the keys -/

section Tile

variable {q g o : Vec Ideal S512x128 .bf16} {l : Vec Ideal S1x512x1 .f32} {k v : Vec Ideal S512x128 .bf16} {δ m : FVec Ideal S512x1 .f32} {p : FVec Ideal S128x512 .f32}
  {Q G : Fin 2048 → Fin 128 → ℝ} {K W : Fin 4096 → Fin 128 → ℝ} {ρ : Fin 512 → Fin 2048} {ξ : Fin 512 → Fin 4096}
  (hq : ∀ r d, q (ix2 r d) = (Q (ρ r) d : EReal)) (hg : ∀ r d, g (ix2 r d) = (G (ρ r) d : EReal)) (ho : ∀ r d, o (ix2 r d) = (O Q K W (ρ r) d : EReal))
  (hl : ∀ u r w, l (ix3 u r w) = (Real.log (Z Q K (ρ r)) : EReal)) (hk : ∀ x d, k (ix2 x d) = (K (ξ x) d : EReal)) (hv : ∀ x d, v (ix2 x d) = (W (ξ x) d : EReal))
  (hm : ∀ r, m (ix2 r 0) = ((Real.log (Z Q K (ρ r)) * (Real.log 2)⁻¹ : ℝ) : EReal)) (hδ : ∀ r, δ (ix2 r 0) = ((∑ x, P Q K (ρ r) x * dot G W (ρ r) x : ℝ) : EReal))

include hl in
theorem m_eq (r : Fin 512) : k1_pay6 l (ix2 r 0) = ((Real.log (Z Q K (ρ r)) * (Real.log 2)⁻¹ : ℝ) : EReal) := by
  pointwise [k1_pay6]
  rw [hl, named_log2e, EReal.coe_mul]

include hg ho in
theorem δ_eq (r : Fin 512) : k1_pay3 g o (ix2 r 0) = ((∑ x, P Q K (ρ r) x * dot G W (ρ r) x : ℝ) : EReal) := by
  pointwise [k1_pay3]
  simp only [hg, ho, ← EReal.coe_mul, sum_coe, delta_eq]

include hq hk hm in
theorem p_eq (r x : Fin 512) : k1_pay19 q m k (ix2 r x) = (P Q K (ρ r) (ξ x) : EReal) := by
  pointwise [k1_pay19]
  simp only [hq, hk, hm, ← EReal.coe_mul, sum_coe, named_c, ← EReal.coe_sub]
  refine (congrArg (FloatOps.exp2 (F := Ideal) (φ := .f32)) (congrArg Real.toEReal ?_)).trans ((exp2_log2e _).trans (congrArg Real.toEReal (exp_sub_log Q K (ρ r) (ξ x))))
  unfold dot
  ring

include hq hg hk hv hm hδ in
theorem ds_eq (r x : Fin 512) : k1_pay20 q g δ m k v (ix2 r x) = (DS Q K W G (ρ r) (ξ x) : EReal) := by
  pointwise [k1_pay20]
  rw [p_eq hq hk hm]
  simp only [hg, hv, hδ, ← EReal.coe_mul, sum_coe, named_scale, ← EReal.coe_sub]
  rfl

include hq hg hk hm in
theorem v_add {a : ℝ} (d : Fin 128) (x : Fin 512) (hp : p (ix2 d x) = (a : EReal)) :
    k1_pay22 q (k1_pay5 g) m k p (ix2 d x) = ((a + ∑ r, G (ρ r) d * P Q K (ρ r) (ξ x) : ℝ) : EReal) := by
  pointwise [k1_pay22, k1_pay5]
  simp only [p_eq hq hk hm, hg, hp, ← EReal.coe_mul, sum_coe, ← EReal.coe_add]

include hq hg hk hv hm hδ in
theorem k_add {a : ℝ} (d : Fin 128) (x : Fin 512) (hp : p (ix2 d x) = (a : EReal)) :
    k1_pay23 q g δ (k1_pay4 q) m k v p (ix2 d x) = ((a + ∑ r, Q (ρ r) d * DS Q K W G (ρ r) (ξ x) : ℝ) : EReal) := by
  pointwise [k1_pay23, k1_pay4]
  simp only [ds_eq hq hg hk hv hm hδ, hq, hp, ← EReal.coe_mul, sum_coe, ← EReal.coe_add]

include hq hg hk hv hm hδ in
theorem q_part (r : Fin 512) (d : Fin 128) :
    k1_pay21 q g δ m k v (ix2 r d) = ((∑ x, DS Q K W G (ρ r) (ξ x) * K (ξ x) d : ℝ) : EReal) := by
  pointwise [k1_pay21]
  simp only [ds_eq hq hg hk hv hm hδ, hk, ← EReal.coe_mul, sum_coe]

end Tile

/-! ## A point's whole blocks -/

/-- Row `r` of the quarter `h`. -/
def rowOf (h : Fin 4) (r : Fin 512) : Fin 2048 := ⟨h.val * 512 + r.val, by omega⟩
/-- Key `x` of the block `j`. -/
def keyOf (j : Fin 8) (x : Fin 512) : Fin 4096 := ⟨j.val * 512 + x.val, by omega⟩

theorem sum_rows (f : Fin 2048 → ℝ) : (∑ r, f (rowOf 0 r)) + (∑ r, f (rowOf 1 r)) + (∑ r, f (rowOf 2 r)) + (∑ r, f (rowOf 3 r)) = ∑ r, f r := by
  rw [← Fin.sum_mul_add_fin 4 512 f, Fin.sum_univ_four]; rfl

theorem sum_keys (f : Fin 4096 → ℝ) : (∑ x, f (keyOf 0 x)) + (∑ x, f (keyOf 1 x)) + (∑ x, f (keyOf 2 x)) + (∑ x, f (keyOf 3 x))
    + (∑ x, f (keyOf 4 x)) + (∑ x, f (keyOf 5 x)) + (∑ x, f (keyOf 6 x)) + (∑ x, f (keyOf 7 x)) = ∑ x, f x := by
  rw [← Fin.sum_mul_add_fin 8 512 f, Fin.sum_univ_eight]; rfl

theorem keyOf_div (x : Fin 4096) : x = keyOf ⟨x.val / 512, by omega⟩ ⟨x.val % 512, by omega⟩ := Fin.ext (Nat.div_add_mod' x.val 512).symm
theorem rowOf_div (x : Fin 2048) : x = rowOf ⟨x.val / 512, by omega⟩ ⟨x.val % 512, by omega⟩ := Fin.ext (Nat.div_add_mod' x.val 512).symm

theorem row_emb (h : Fin 4) (r : Fin 512) (d : Fin 128) : (rowAt h).emb (ix2 r d) = ix2 (rowOf h r) d :=
  show (rowAt h).idx _ = _ from funext fun a => Fin.ext (by fin_cases a <;> simp [rowAt, rowOf, Rect.unit, ix2])
theorem key_emb (j : Fin 8) (x : Fin 512) (d : Fin 128) : (keyAt j).emb (ix2 x d) = ix2 (keyOf j x) d :=
  show (keyAt j).idx _ = _ from funext fun a => Fin.ext (by fin_cases a <;> simp [keyAt, keyOf, Rect.unit, ix2])
theorem col_emb (j : Fin 8) (d : Fin 128) (x : Fin 512) : (colAt j).emb (ix2 d x) = ix2 d (keyOf j x) :=
  show (colAt j).idx _ = _ from funext fun a => Fin.ext (by fin_cases a <;> simp [colAt, keyOf, Rect.unit, ix2])
theorem lse_emb (h : Fin 4) (u : Fin 1) (r : Fin 512) (w : Fin 1) : (lseAt h).emb (ix3 u r w) = ix3 u (rowOf h r) w :=
  show (lseAt h).idx _ = _ from funext fun a => Fin.ext (by fin_cases a <;> simp [lseAt, rowOf, Rect.unit, ix3])

/-- A read of a list of writes: what the first box holding the index has there. -/
theorem canon_or {s : Shape} {e : EltTy} {α : EltTy → Type} [∀ e, Nonempty (α e)] {r : Rect s} {w : r.shape.Idx → α e} {L : List (View.Piece α s e)} {y : s.Idx} {v : α e}
    (hr : ∀ x, r.emb x = y → w x = v) (hL : y ∉ r.set → View.canon L y = v) : View.canon (⟨r, w⟩ :: L) y = v := by
  by_cases h : y ∈ r.set
  · obtain ⟨x, rfl⟩ : ∃ x, r.emb x = y := r.exists_idx_of_mem h
    rw [View.canon_cons_emb]; exact hr x rfl
  · exact (View.canon_cons_of_not_mem _ _ h).trans (hL h)

theorem cols_eq {w : Fin 8 → FVec Ideal S128x512 .f32} {L} {f : Fin 128 → Fin 4096 → EReal} (hw : ∀ j d x, w j (ix2 d x) = f d (keyOf j x)) (d : Fin 128) (x : Fin 4096) :
    cols w L (ix2 d x) = f d x := by
  have key (j : Fin 8) (z : (colAt j).shape.Idx) (hz : (colAt j).emb z = ix2 d x) : w j z = f d x := by
    obtain ⟨d', x', rfl⟩ := idx2_eq (N := 128) (n := 512) z
    rw [col_emb] at hz
    have h0 : d' = d := congrFun hz 0
    have h1 : keyOf j x' = x := congrFun hz 1
    rw [hw, h0, h1]
  refine canon_or (key 7) fun h7 => canon_or (key 6) fun h6 => canon_or (key 5) fun h5 => canon_or (key 4) fun h4 => canon_or (key 3) fun h3 =>
    canon_or (key 2) fun h2 => canon_or (key 1) fun h1 => canon_or (key 0) fun h0 => ?_
  have hx : ∀ j x', x = keyOf j x' → ix2 d x ∈ (colAt j).set := fun j x' h => by
    rw [h, ← col_emb]; exact (colAt j).idx_mem _
  have := hx _ _ (keyOf_div x)
  generalize (⟨x.val / 512, _⟩ : Fin 8) = j at this
  fin_cases j
  exacts [absurd this h0, absurd this h1, absurd this h2, absurd this h3, absurd this h4, absurd this h5, absurd this h6, absurd this h7]

theorem rows_eq {w : Fin 4 → FVec Ideal S512x128 .f32} {f : Fin 2048 → Fin 128 → EReal} (hw : ∀ h r d, w h (ix2 r d) = f (rowOf h r) d) (r : Fin 2048) (d : Fin 128) :
    rows w (ix2 r d) = f r d := by
  have key (h : Fin 4) (z : (rowAt h).shape.Idx) (hz : (rowAt h).emb z = ix2 r d) : w h z = f r d := by
    obtain ⟨r', d', rfl⟩ := idx2_eq (N := 512) (n := 128) z
    rw [row_emb] at hz
    have h0 : rowOf h r' = r := congrFun hz 0
    have h1 : d' = d := congrFun hz 1
    rw [hw, h0, h1]
  refine canon_or (key 3) fun h3 => canon_or (key 2) fun h2 => canon_or (key 1) fun h1 => canon_or (key 0) fun h0 => ?_
  have hx : ∀ h r', r = rowOf h r' → ix2 r d ∈ (rowAt h).set := fun h r' e => by
    rw [e, ← row_emb]; exact (rowAt h).idx_mem _
  have := hx _ _ (rowOf_div r)
  generalize (⟨r.val / 512, _⟩ : Fin 4) = h at this
  fin_cases h
  exacts [absurd this h0, absurd this h1, absurd this h2, absurd this h3]

section Block

variable {x0 x3 x4 : Vec Ideal S2048x128 .bf16} {x1 x2 : Vec Ideal S4096x128 .bf16} {x5 : Vec Ideal S1x2048x1 .f32} {s : Vec Ideal S128x4096 .f32}
  {Q G : Fin 2048 → Fin 128 → ℝ} {K W : Fin 4096 → Fin 128 → ℝ}
  (h0 : ∀ r d, x0 (ix2 r d) = (Q r d : EReal)) (h1 : ∀ x d, x1 (ix2 x d) = (K x d : EReal)) (h2 : ∀ x d, x2 (ix2 x d) = (W x d : EReal))
  (h3 : ∀ r d, x3 (ix2 r d) = (O Q K W r d : EReal)) (h4 : ∀ r d, x4 (ix2 r d) = (G r d : EReal)) (h5 : ∀ u r w, x5 (ix3 u r w) = (Real.log (Z Q K r) : EReal))

theorem ld_row {x : Vec Ideal S2048x128 .bf16} {X : Fin 2048 → Fin 128 → ℝ} (hx : ∀ r d, x (ix2 r d) = (X r d : EReal)) (h : Fin 4) (r : Fin 512) (d : Fin 128) :
    View.ld x (rowAt h) (ix2 r d) = (X (rowOf h r) d : EReal) := (congrArg x (row_emb h r d)).trans (hx _ _)
theorem ld_key {x : Vec Ideal S4096x128 .bf16} {X : Fin 4096 → Fin 128 → ℝ} (hx : ∀ r d, x (ix2 r d) = (X r d : EReal)) (j : Fin 8) (r : Fin 512) (d : Fin 128) :
    View.ld x (keyAt j) (ix2 r d) = (X (keyOf j r) d : EReal) := (congrArg x (key_emb j r d)).trans (hx _ _)
include h5 in
theorem ld_lse (h : Fin 4) (u : Fin 1) (r : Fin 512) (w : Fin 1) : View.ld x5 (lseAt h) (ix3 u r w) = (Real.log (Z Q K (rowOf h r)) : EReal) :=
  (congrArg x5 (lse_emb h u r w)).trans (h5 _ _ _)

include h0 h1 h4 h5 in
theorem vBlk_eq {a : Fin 128 → Fin 4096 → ℝ} (ha : ∀ d x, s (ix2 d x) = (a d x : EReal)) (j : Fin 8) (d : Fin 128) (x : Fin 512) :
    vBlk x0 x4 x1 x5 s j (ix2 d x) = ((a d (keyOf j x) + ∑ r, G r d * P Q K r (keyOf j x) : ℝ) : EReal) := by
  have add (h : Fin 4) {p : FVec Ideal S128x512 .f32} {b : ℝ} (hb : p (ix2 d x) = (b : EReal)) :
      vAdd x0 x4 x1 x5 j h p (ix2 d x) = ((b + ∑ r, G (rowOf h r) d * P Q K (rowOf h r) (keyOf j x) : ℝ) : EReal) :=
    v_add (ρ := rowOf h) (ξ := keyOf j) (ld_row h0 h) (ld_row h4 h) (ld_key h1 j) (m_eq (ld_lse h5 h)) d x hb
  rw [← sum_rows fun r => G r d * P Q K r (keyOf j x), ← add_assoc, ← add_assoc, ← add_assoc]
  exact add 3 (add 2 (add 1 (add 0 ((congrArg s (col_emb j d x)).trans (ha _ _)))))

include h0 h1 h2 h3 h4 h5 in
theorem kBlk_eq {a : Fin 128 → Fin 4096 → ℝ} (ha : ∀ d x, s (ix2 d x) = (a d x : EReal)) (j : Fin 8) (d : Fin 128) (x : Fin 512) :
    kBlk x0 x3 x4 x1 x2 x5 s j (ix2 d x) = ((a d (keyOf j x) + ∑ r, Q r d * DS Q K W G r (keyOf j x) : ℝ) : EReal) := by
  have add (h : Fin 4) {p : FVec Ideal S128x512 .f32} {b : ℝ} (hb : p (ix2 d x) = (b : EReal)) :
      kAdd x0 x3 x4 x1 x2 x5 j h p (ix2 d x) = ((b + ∑ r, Q (rowOf h r) d * DS Q K W G (rowOf h r) (keyOf j x) : ℝ) : EReal) :=
    k_add (ρ := rowOf h) (ξ := keyOf j) (ld_row h0 h) (ld_row h4 h) (ld_key h1 j) (ld_key h2 j) (m_eq (ld_lse h5 h)) (δ_eq (ld_row h4 h) (ld_row h3 h)) d x hb
  rw [← sum_rows fun r => Q r d * DS Q K W G r (keyOf j x), ← add_assoc, ← add_assoc, ← add_assoc]
  exact add 3 (add 2 (add 1 (add 0 ((congrArg s (col_emb j d x)).trans (ha _ _)))))

include h0 h1 h2 h3 h4 h5 in
theorem qBlk_eq (h : Fin 4) (r : Fin 512) (d : Fin 128) :
    qBlk x0 x3 x4 x1 x2 x5 h (ix2 r d) = ((∑ x, DS Q K W G (rowOf h r) x * K x d : ℝ) : EReal) := by
  have part (j : Fin 8) : qPart x0 x3 x4 x1 x2 x5 h j (ix2 r d) = ((∑ x, DS Q K W G (rowOf h r) (keyOf j x) * K (keyOf j x) d : ℝ) : EReal) :=
    q_part (ρ := rowOf h) (ξ := keyOf j) (ld_row h0 h) (ld_row h4 h) (ld_key h1 j) (ld_key h2 j) (m_eq (ld_lse h5 h)) (δ_eq (ld_row h4 h) (ld_row h3 h)) r d
  unfold qBlk
  simp only [ValueIdx.addf_apply, part, ← EReal.coe_add]
  exact congrArg Real.toEReal (sum_keys fun x => DS Q K W G (rowOf h r) x * K x d)

end Block

end Cert.Proof.AttnA

end
-- ==== Proof.AttnA.Array.lean ====
module

public import proofs.«01_k».proof.Proof.AttnA.BwdBlock

@[expose] public section

set_option maxRecDepth 16384

noncomputable section

namespace Cert.Proof.AttnA

open Cert.AttnAIdeal Cert.AttnAIdeal.Gen Idealize.ShloMosaic Idealize.ShloMosaic.TcCoe Idealize.SL.Sem Cert.Proof.Lift

/-! ## From blocks to arrays -/

/-- A row of half `i`, among all rows. -/
def row (i : Fin 2) (r : Fin 2048) : Fin 4096 := ⟨i * 2048 + r, by omega⟩
/-- Column `d` of query head `h`, in the projections. -/
def qcol (h : Fin 8) (d : Fin 128) : Fin 3072 := ⟨h * 128 + d, by omega⟩
/-- Column `d` of key head `j`. -/
def kcol (j : Fin 2) (d : Fin 128) : Fin 3072 := ⟨(8 + j) * 128 + d, by omega⟩
/-- Column `d` of value head `j`. -/
def vcol (j : Fin 2) (d : Fin 128) : Fin 3072 := ⟨(10 + j) * 128 + d, by omega⟩
/-- Column `d` of head `h`, in the cotangent. -/
def gcol (h : Fin 8) (d : Fin 128) : Fin 2048 := ⟨h * 128 + d, by omega⟩
/-- Column `d` of head `h`, in the heads' own array. -/
def hcol (h : Fin 8) (d : Fin 128) : Fin 1024 := ⟨h * 128 + d, by omega⟩
/-- A row of key head `j`, in a transposed array. -/
def krow (j : Fin 2) (d : Fin 128) : Fin 256 := ⟨j * 128 + d, by omega⟩
/-- A grid point's query head. -/
def hdAt (t : ℕ) : Fin 8 := ⟨t / 2 % 8, Nat.mod_lt _ (by decide)⟩
/-- A grid point's half of the rows. -/
def hfAt (t : ℕ) : Fin 2 := ⟨t % 2, Nat.mod_lt _ (by decide)⟩
/-- A grid point's key head. -/
def kvAt (t : ℕ) : Fin 2 := ⟨t / 8 % 2, Nat.mod_lt _ (by decide)⟩

/-- Half `i` of head `h`'s queries. -/
def Qh (B : Fin 4096 → Fin 3072 → ℝ) (h : Fin 8) (i : Fin 2) : Fin 2048 → Fin 128 → ℝ := fun r d => B (row i r) (qcol h d)
/-- The keys of head `j`. -/
def Kh (B : Fin 4096 → Fin 3072 → ℝ) (j : Fin 2) : Fin 4096 → Fin 128 → ℝ := fun x d => B x (kcol j d)
/-- The values of head `j`. -/
def Vh (B : Fin 4096 → Fin 3072 → ℝ) (j : Fin 2) : Fin 4096 → Fin 128 → ℝ := fun x d => B x (vcol j d)
/-- Half `i` of head `h`'s cotangents. -/
def Gh (C : Fin 4096 → Fin 2048 → ℝ) (h : Fin 8) (i : Fin 2) : Fin 2048 → Fin 128 → ℝ := fun r d => C (row i r) (gcol h d)

theorem idx0 : ∀ t : Fin cfg0.N, win0_0.index t = ![t.val % 2, t.val / 2] ∧ win0_1.index t = ![0, 8 + t.val / 8] ∧ win0_2.index t = ![0, 10 + t.val / 8]
    ∧ win0_3.index t = ![t.val % 2, t.val / 2] ∧ win0_4.index t = ![t.val / 2, t.val % 2, 0] :=
  (by decide +kernel : ∀ t : Fin grid0.N, _)
theorem idx1 : ∀ t : Fin cfg1.N, win1_0.index t = ![t.val % 2, t.val / 2] ∧ win1_1.index t = ![0, 8 + t.val / 8] ∧ win1_2.index t = ![0, 10 + t.val / 8]
    ∧ win1_3.index t = ![t.val % 2, t.val / 2] ∧ win1_4.index t = ![t.val % 2, t.val / 2] ∧ win1_5.index t = ![t.val / 2, t.val % 2, 0]
    ∧ win1_6.index t = ![t.val % 2, t.val / 2] ∧ win1_7.index t = ![t.val / 8, 0] ∧ win1_8.index t = ![t.val / 8, 0] :=
  (by decide +kernel : ∀ t : Fin grid1.N, _)

/-- What point `t` adds to its head's keys' gradient. -/
def dkAt (B : Fin 4096 → Fin 3072 → ℝ) (C : Fin 4096 → Fin 2048 → ℝ) (t : ℕ) (d : Fin 128) (x : Fin 4096) : ℝ :=
  ∑ r, Qh B (hdAt t) (hfAt t) r d * DS (Qh B (hdAt t) (hfAt t)) (Kh B (kvAt t)) (Vh B (kvAt t)) (Gh C (hdAt t) (hfAt t)) r x
/-- What point `t` adds to its head's values' gradient. -/
def dvAt (B : Fin 4096 → Fin 3072 → ℝ) (C : Fin 4096 → Fin 2048 → ℝ) (t : ℕ) (d : Fin 128) (x : Fin 4096) : ℝ :=
  ∑ r, Gh C (hdAt t) (hfAt t) r d * P (Qh B (hdAt t) (hfAt t)) (Kh B (kvAt t)) r x

variable {m : (ℓ : Loc nD τ sig) → Buf (Elt Ideal) ℓ} {ρ : Dev nD → PrngReg} {c : Dev nD} {B : Fin 4096 → Fin 3072 → ℝ} {C : Fin 4096 → Fin 2048 → ℝ}
  (hB : ∀ r j, m ((c : Thread nD τ).loc main_arg0) (ix2 r j) = (B r j : EReal)) (hC : ∀ r j, m ((c : Thread nD τ).loc main_arg1) (ix2 r j) = (C r j : EReal))

section Blocks

include hB

/-! The forward call's blocks. -/

theorem q0 (t : Fin cfg0.N) (r : Fin 2048) (d : Fin 128) : iblk0 (V0 m ρ) c 0 t (ix2 r d) = (Qh B (hdAt t) (hfAt t) r d : EReal) :=
  (congrArg (m ((c : Thread nD τ).loc main_arg0)) (by blk_ext [idx0 t, row, qcol, hdAt, hfAt] : _ = ix2 (row (hfAt t) r) (qcol (hdAt t) d))).trans (hB _ _)
theorem k0 (t : Fin cfg0.N) (r : Fin 4096) (d : Fin 128) : iblk0 (V0 m ρ) c 1 t (ix2 r d) = (Kh B (kvAt t) r d : EReal) :=
  (congrArg (m ((c : Thread nD τ).loc main_arg0)) (by blk_ext [idx0 t, kcol, kvAt] : _ = ix2 r (kcol (kvAt t) d))).trans (hB _ _)
theorem v0 (t : Fin cfg0.N) (r : Fin 4096) (d : Fin 128) : iblk0 (V0 m ρ) c 2 t (ix2 r d) = (Vh B (kvAt t) r d : EReal) :=
  (congrArg (m ((c : Thread nD τ).loc main_arg0)) (by blk_ext [idx0 t, vcol, kvAt] : _ = ix2 r (vcol (kvAt t) d))).trans (hB _ _)

/-! The backward call's. -/

theorem B1 (r : Fin 4096) (j : Fin 3072) : V1 m ρ c main_arg0 (ix2 r j) = (B r j : EReal) :=
  (congrFun (W1_args m ρ c main_arg0 (by decide)) _).trans (hB r j)
theorem q1 (t : Fin cfg1.N) (r : Fin 2048) (d : Fin 128) : iblk1 (V1 m ρ) c 0 t (ix2 r d) = (Qh B (hdAt t) (hfAt t) r d : EReal) :=
  (congrArg (V1 m ρ c main_arg0) (by blk_ext [idx1 t, row, qcol, hdAt, hfAt] : _ = ix2 (row (hfAt t) r) (qcol (hdAt t) d))).trans (B1 hB _ _)
theorem k1 (t : Fin cfg1.N) (r : Fin 4096) (d : Fin 128) : iblk1 (V1 m ρ) c 1 t (ix2 r d) = (Kh B (kvAt t) r d : EReal) :=
  (congrArg (V1 m ρ c main_arg0) (by blk_ext [idx1 t, kcol, kvAt] : _ = ix2 r (kcol (kvAt t) d))).trans (B1 hB _ _)
theorem v1 (t : Fin cfg1.N) (r : Fin 4096) (d : Fin 128) : iblk1 (V1 m ρ) c 2 t (ix2 r d) = (Vh B (kvAt t) r d : EReal) :=
  (congrArg (V1 m ρ c main_arg0) (by blk_ext [idx1 t, vcol, kvAt] : _ = ix2 r (vcol (kvAt t) d))).trans (B1 hB _ _)
theorem o1 (t : Fin cfg1.N) (r : Fin 2048) (d : Fin 128) :
    iblk1 (V1 m ρ) c 3 t (ix2 r d) = (O (Qh B (hdAt t) (hfAt t)) (Kh B (kvAt t)) (Vh B (kvAt t)) r d : EReal) := by
  refine (congrArg (V1 m ρ c main_v0_0) (by blk_ext [idx1 t, idx0 ⟨t.val, t.isLt⟩] : _ = ((cfg0.win 3).blk ⟨t.val, t.isLt⟩).view.emb (ix2 r d))).trans ((congrFun (W1_arr m ρ c 3) _).trans ?_)
  refine ((dat0 (V0 m ρ) c).arrAt_emb_eq_flushed 3 (Pipeline.Window.hdisj_of_index_inj _ (by decide +kernel)) ⟨t.val, t.isLt⟩ ((by decide +kernel : ∀ t : Fin cfg0.N, (cfg0.win 3).flush t = true) ⟨t.val, t.isLt⟩) (ix2 r d)).trans ?_
  blk_simp
  rw [after0_3]
  exact out0_3_real (q0 hB _) (k0 hB _) (v0 hB _) r d
theorem l1 (t : Fin cfg1.N) (u : Fin 1) (r : Fin 2048) (w : Fin 1) :
    iblk1 (V1 m ρ) c 5 t (ix3 u r w) = (Real.log (Z (Qh B (hdAt t) (hfAt t)) (Kh B (kvAt t)) r) : EReal) := by
  refine (congrArg (V1 m ρ c main_v0_1) (by blk_ext [idx1 t, idx0 ⟨t.val, t.isLt⟩] : _ = ((cfg0.win 4).blk ⟨t.val, t.isLt⟩).view.emb (ix3 u r w))).trans ((congrFun (W1_arr m ρ c 4) _).trans ?_)
  refine ((dat0 (V0 m ρ) c).arrAt_emb_eq_flushed 4 (Pipeline.Window.hdisj_of_index_inj _ (by decide +kernel)) ⟨t.val, t.isLt⟩ ((by decide +kernel : ∀ t : Fin cfg0.N, (cfg0.win 4).flush t = true) ⟨t.val, t.isLt⟩) (ix3 u r w)).trans ?_
  blk_simp
  rw [after0_4]
  exact out0_4_real (q0 hB _) (k0 hB _) u r w

end Blocks

include hC in
theorem g1 (t : Fin cfg1.N) (r : Fin 2048) (d : Fin 128) : iblk1 (V1 m ρ) c 4 t (ix2 r d) = (Gh C (hdAt t) (hfAt t) r d : EReal) :=
  (congrArg (V1 m ρ c main_arg1) (by blk_ext [idx1 t, row, gcol, hdAt, hfAt] : _ = ix2 (row (hfAt t) r) (gcol (hdAt t) d))).trans
    ((congrFun (W1_args m ρ c main_arg1 (by decide)) _).trans (hC _ _))

/-! ## The gradients' blocks -/

include hB hC

theorem dq_block (t : Fin cfg1.N) (r : Fin 2048) (d : Fin 128) : (outsAt1 (V1 m ρ) c t.val t.isLt).1 (ix2 r d)
    = ((∑ x, DS (Qh B (hdAt t) (hfAt t)) (Kh B (kvAt t)) (Vh B (kvAt t)) (Gh C (hdAt t) (hfAt t)) r x * Kh B (kvAt t) x d : ℝ) : EReal) := by
  rw [dq_eq]
  exact rows_eq (f := fun r d => ((∑ x, DS (Qh B (hdAt t) (hfAt t)) (Kh B (kvAt t)) (Vh B (kvAt t)) (Gh C (hdAt t) (hfAt t)) r x * Kh B (kvAt t) x d : ℝ) : EReal))
    (fun h r d => qBlk_eq (q1 hB t) (k1 hB t) (v1 hB t) (o1 hB t) (g1 hC t) (l1 hB t) h r d) r d

theorem dv_run (n : ℕ) (hn : n < cfg1.N) (d : Fin 128) (x : Fin 4096) : (outsAt1 (V1 m ρ) c n hn).2.2 (ix2 d x)
    = ((∑ s ∈ Finset.range (n % 8 + 1), dvAt B C (n / 8 * 8 + s) d x : ℝ) : EReal) := by
  induction n using Nat.strong_induction_on generalizing d x with | _ n ih =>
  by_cases h : n % 8 = 0
  · rw [show n / 8 * 8 = n by omega, h]
    refine (congrFun (dv_A (V1 m ρ) c ⟨n, hn⟩ h) _).trans (cols_eq (f := fun d x => ((∑ s ∈ Finset.range 1, dvAt B C (n + s) d x : ℝ) : EReal)) (fun j d x => ?_) d x)
    rw [vBlk_eq (a := fun _ _ => 0) (q1 hB _) (k1 hB _) (g1 hC _) (l1 hB _) (fun _ _ => Ideal.ofBits_zero_f32), zero_add, Finset.sum_range_one]; rfl
  · have e : n - 1 < n := by omega
    rw [show n % 8 = (n - 1) % 8 + 1 by omega, show n / 8 = (n - 1) / 8 by omega]
    refine (congrFun (dv_B (V1 m ρ) c ⟨n, hn⟩ h) _).trans
      (cols_eq (f := fun d x => ((∑ s ∈ Finset.range ((n - 1) % 8 + 1 + 1), dvAt B C ((n - 1) / 8 * 8 + s) d x : ℝ) : EReal)) (fun j d x => ?_) d x)
    rw [vBlk_eq (q1 hB _) (k1 hB _) (g1 hC _) (l1 hB _) (ih _ e (Nat.lt_trans e hn)), Finset.sum_range_succ _ ((n - 1) % 8 + 1), show (n - 1) / 8 * 8 + ((n - 1) % 8 + 1) = n by omega]; rfl

theorem dk_run (n : ℕ) (hn : n < cfg1.N) (d : Fin 128) (x : Fin 4096) : (outsAt1 (V1 m ρ) c n hn).2.1 (ix2 d x)
    = ((∑ s ∈ Finset.range (n % 8 + 1), dkAt B C (n / 8 * 8 + s) d x : ℝ) : EReal) := by
  induction n using Nat.strong_induction_on generalizing d x with | _ n ih =>
  by_cases h : n % 8 = 0
  · rw [show n / 8 * 8 = n by omega, h]
    refine (congrFun (dk_A (V1 m ρ) c ⟨n, hn⟩ h) _).trans (cols_eq (f := fun d x => ((∑ s ∈ Finset.range 1, dkAt B C (n + s) d x : ℝ) : EReal)) (fun j d x => ?_) d x)
    rw [kBlk_eq (a := fun _ _ => 0) (q1 hB _) (k1 hB _) (v1 hB _) (o1 hB _) (g1 hC _) (l1 hB _) (fun _ _ => Ideal.ofBits_zero_f32), zero_add, Finset.sum_range_one]; rfl
  · have e : n - 1 < n := by omega
    rw [show n % 8 = (n - 1) % 8 + 1 by omega, show n / 8 = (n - 1) / 8 by omega]
    refine (congrFun (dk_B (V1 m ρ) c ⟨n, hn⟩ h) _).trans
      (cols_eq (f := fun d x => ((∑ s ∈ Finset.range ((n - 1) % 8 + 1 + 1), dkAt B C ((n - 1) / 8 * 8 + s) d x : ℝ) : EReal)) (fun j d x => ?_) d x)
    rw [kBlk_eq (q1 hB _) (k1 hB _) (v1 hB _) (o1 hB _) (g1 hC _) (l1 hB _) (ih _ e (Nat.lt_trans e hn)), Finset.sum_range_succ _ ((n - 1) % 8 + 1), show (n - 1) / 8 * 8 + ((n - 1) % 8 + 1) = n by omega]; rfl

end Cert.Proof.AttnA

end
-- ==== Proof.AttnA.Ref.lean ====
module

public import proofs.«01_k».proof.Proof.AttnA.Array
public import proofs.«01_k».proof.Proof.Gen.AttnARefIdeal.Run
public import proofs.«01_k».proof.Proof.Gen.AttnARefIdeal.Read

@[expose] public section

set_option maxRecDepth 16384

noncomputable section

namespace Cert.Proof.AttnA

open Cert.AttnARefIdeal Cert.AttnARefIdeal.Read Idealize.ShloMosaic Idealize.ShloMosaic.TcCoe Idealize.SL.Sem Cert.Proof.Lift

/-! ## The reference's terms over the reals -/

/-- The query head of a key head's group. -/
def hd (k : Fin 2) (g : Fin 4) : Fin 8 := ⟨k * 4 + g, by omega⟩
/-- A head's queries. -/
def Qf (B : Fin 4096 → Fin 3072 → ℝ) (k : Fin 2) (g : Fin 4) : Fin 4096 → Fin 128 → ℝ := fun r d => B r (qcol (hd k g) d)
/-- A head's cotangents. -/
def Gf (C : Fin 4096 → Fin 2048 → ℝ) (k : Fin 2) (g : Fin 4) : Fin 4096 → Fin 128 → ℝ := fun r d => C r (gcol (hd k g) d)

variable {x0 : (⟨S4096x3072, .bf16⟩ : BufTy).Contents (Elt Ideal)} {x1 : (⟨S4096x2048, .bf16⟩ : BufTy).Contents (Elt Ideal)} {B : Fin 4096 → Fin 3072 → ℝ} {C : Fin 4096 → Fin 2048 → ℝ}
  (hB : ∀ r j, x0 (ix2 r j) = (B r j : EReal)) (hC : ∀ r j, x1 (ix2 r j) = (C r j : EReal))

/-- The largest of real entries along the last axis is real. -/
theorem reduce_max_real {x : FVec Ideal S2x4x4096x4096 .f32} {f : Fin 2 → Fin 4 → Fin 4096 → Fin 4096 → ℝ} (hx : ∀ k g r s, x (ix4 k g r s) = (f k g r s : EReal))
    (h : S2x4x4096x4096.ReducesTo [3] S2x4x4096) (hu : 0 < S_.numel) (k : Fin 2) (g : Fin 4) (r : Fin 4096) :
    ∃ M : ℝ, Host.reduce FloatOps.maximumf x (constant (F := Ideal) S_ .f32 0xFF800000#32) h hu (ix3 k g r) = (M : EReal) := by
  obtain ⟨M, hM⟩ := fold_max_real (f k g r)
  refine ⟨M, ?_⟩
  rw [Host.reduce_eq_fold, Shape.ReducesTo.fold_fiber_r4_a3]
  show Finset.fold max (Ideal.ofBits .f32 0xFF800000#32) (fun s => x (ix4 k g r s)) Finset.univ = _
  rw [negInf, ← hM]
  exact congrArg (fun v => Finset.fold max ⊥ v Finset.univ) (funext fun s => hx k g r s)

theorem root_bits : Ideal.sqrt (Ideal.ofBits .f32 0x43000000#32) = (Real.sqrt 128 : EReal) := by
  have e : Ideal.ofBits .f32 0x43000000#32 = ((128 : ℝ) : EReal) := by simp [Ideal.ofBits, Ideal.ieee, ← EReal.coe_mul]; norm_num
  rw [e, Ideal.sqrt_coe, if_neg (by norm_num)]
theorem root_eq (i : S_.Idx) : val_main_v11 (F := Ideal) i = (Real.sqrt 128 : EReal) := by
  pointwise [val_main_v11, val_main_cst]
  exact root_bits

include hB in
theorem ref_q (k : Fin 2) (g : Fin 4) (r : Fin 4096) (d : Fin 128) : val_main_v3 (F := Ideal) x0 (ix4 k g r d) = (Qf B k g r d : EReal) := by
  pointwise [val_main_v3, val_main_v2, val_main_v1, val_main_v0]
  exact (congrArg (fun j => x0 (ix2 r j)) (Fin.ext (by simp only [qcol, hd]; omega))).trans (hB _ _)
include hB in
theorem ref_k (k : Fin 2) (x : Fin 4096) (d : Fin 128) : val_main_v6 (F := Ideal) x0 (ix3 k x d) = (Kh B k x d : EReal) := by
  pointwise [val_main_v6, val_main_v5, val_main_v4, val_main_v0]
  exact (congrArg (fun j => x0 (ix2 x j)) (Fin.ext (by simp only [kcol]; omega))).trans (hB _ _)
include hB in
theorem ref_v (k : Fin 2) (x : Fin 4096) (d : Fin 128) : val_main_v9 (F := Ideal) x0 (ix3 k x d) = (Vh B k x d : EReal) := by
  pointwise [val_main_v9, val_main_v8, val_main_v7, val_main_v0]
  exact (congrArg (fun j => x0 (ix2 x j)) (Fin.ext (by simp only [vcol]; omega))).trans (hB _ _)
include hC in
theorem ref_g (k : Fin 2) (g : Fin 4) (r : Fin 4096) (d : Fin 128) : val_main_v46 (F := Ideal) x1 (ix4 k g r d) = (Gf C k g r d : EReal) := by
  pointwise [val_main_v46, val_main_v45, val_main_v44, val_main_v43]
  exact (congrArg (fun j => x1 (ix2 r j)) (Fin.ext (by simp only [gcol, hd]; omega))).trans (hC _ _)

theorem root_ne : Real.sqrt 128 ≠ 0 := (Real.sqrt_pos.mpr (by norm_num)).ne'

include hB in
theorem ref_s (k : Fin 2) (g : Fin 4) (r x : Fin 4096) : val_main_v13 (F := Ideal) x0 (ix4 k g r x) = ((σ * dot (Qf B k g) (Kh B k) r x : ℝ) : EReal) := by
  pointwise [val_main_v13, val_main_v12, val_main_v10]
  simp only [ref_q hB, ref_k hB, ← EReal.coe_mul, sum_coe, root_eq]
  rw [div_coe' _ _ root_ne]
  exact congrArg Real.toEReal (div_eq_inv_mul _ _)

include hB in
/-- The exponentials are the scores' own, up to one factor a row. -/
theorem ref_e (k : Fin 2) (g : Fin 4) (r : Fin 4096) : ∃ a : ℝ, 0 < a ∧ ∀ x, val_main_v34 (F := Ideal) x0 (ix4 k g r x) = ((E (Qf B k g) (Kh B k) r x * a : ℝ) : EReal) := by
  obtain ⟨M, hM⟩ := reduce_max_real (ref_s hB) Gen.reducesTo_S2x4x4096x4096_S2x4x4096_d3 Gen.h_S_ k g r
  have h21 : val_main_v21 (F := Ideal) x0 (ix3 k g r) = (M : EReal) := by
    rw [val_main_v21, ValueIdx.maximumf_apply]
    refine (congr (congrArg max ?_) hM).trans (max_eq_right bot_le)
    pointwise [val_main_v20, val_main_cst_2]
    exact negInf
  refine ⟨Real.exp (-M), Real.exp_pos _, fun x => ?_⟩
  pointwise [val_main_v34, val_main_v33, val_main_v32, val_main_v31]
  rw [ref_s hB, h21, ← EReal.coe_sub, Ideal.exp_coe, sub_eq_add_neg, Real.exp_add]; rfl

include hB hC in
theorem ref_dp (k : Fin 2) (g : Fin 4) (r x : Fin 4096) : val_main_v49 (F := Ideal) x0 x1 (ix4 k g r x) = (dot (Gf C k g) (Vh B k) r x : EReal) := by
  pointwise [val_main_v49]
  simp only [ref_g hC, ref_v hB, ← EReal.coe_mul, sum_coe]; rfl

include hB in
theorem ref_p (k : Fin 2) (g : Fin 4) (r x : Fin 4096) : val_main_v38 (F := Ideal) x0 (ix4 k g r x) = (P (Qf B k g) (Kh B k) r x : EReal) := by
  obtain ⟨a, ha, he⟩ := ref_e hB k g r
  have hz := Z_pos (Qf B k g) (Kh B k) r
  pointwise [val_main_v38, val_main_v37, val_main_v36, val_main_v35, val_main_cst_8]
  simp only [he, sum_coe, ← Finset.sum_mul]
  refine (div_coe' _ _ (mul_pos hz ha).ne').trans (congrArg Real.toEReal ?_)
  exact mul_div_mul_right _ _ ha.ne'

/-- The scores' gradient as differentiation spells it, its exponentials scaled by one factor, is the probabilities' form. -/
theorem ds_real (f e : Fin 4096 → ℝ) {a : ℝ} (ha : 0 < a) (hz : 0 < ∑ x, e x) (x : Fin 4096) :
    Ideal.div ((Ideal.div (f x : EReal) (((∑ x, e x) * a : ℝ) : EReal)
      + ∑ _u : Fin 1, -∑ y, (f y : EReal) * Ideal.div 1 ((((∑ x, e x) * a : ℝ) : EReal) * (((∑ x, e x) * a : ℝ) : EReal)) * ((e y * a : ℝ) : EReal)) * ((e x * a : ℝ) : EReal))
      (Real.sqrt 128 : EReal) = ((e x / (∑ x, e x) * (f x - ∑ y, e y / (∑ x, e x) * f y) * σ : ℝ) : EReal) := by
  have hw : (∑ x, e x) * a ≠ 0 := (mul_pos hz ha).ne'
  have h1 : (1 : EReal) = ((1 : ℝ) : EReal) := rfl
  rw [Fin.sum_univ_one, ← EReal.coe_mul, div_coe' _ _ hw, h1, div_coe' _ _ (mul_ne_zero hw hw)]
  simp only [← EReal.coe_mul, sum_coe, ← EReal.coe_neg, ← EReal.coe_add]
  rw [div_coe' _ _ root_ne]
  refine congrArg Real.toEReal ?_
  have e1 : ∑ y, f y * (1 / ((∑ x, e x) * a * ((∑ x, e x) * a))) * (e y * a) = (∑ y, e y / (∑ x, e x) * f y) / ((∑ x, e x) * a) := by
    rw [Finset.sum_div]
    refine Finset.sum_congr rfl fun y _ => ?_
    have := hz.ne'; have := ha.ne'
    generalize (∑ x, e x) = z at *
    field_simp
  rw [e1]
  have := hz.ne'; have := ha.ne'
  generalize (∑ y, e y / (∑ x, e x) * f y) = u
  generalize (∑ x, e x) = z at *
  unfold σ
  have := root_ne
  field_simp
  ring

include hB hC in
theorem ref_ds (k : Fin 2) (g : Fin 4) (r x : Fin 4096) : val_main_v63 (F := Ideal) x0 x1 (ix4 k g r x)
    = (DS (Qf B k g) (Kh B k) (Vh B k) (Gf C k g) r x : EReal) := by
  obtain ⟨a, ha, he⟩ := ref_e hB k g r
  have hz := Z_pos (Qf B k g) (Kh B k) r
  pointwise [val_main_v63, val_main_v62, val_main_v61, val_main_v60, val_main_v59, val_main_v58, val_main_v57, val_main_v56, val_main_v55, val_main_v54, val_main_v53, val_main_v52, val_main_v51,
    val_main_v50, val_main_v41, val_main_v40, val_main_v39, val_main_v36, val_main_v35, val_main_cst_8, val_main_cst_9, val_main_cst_10, val_main_cst_11]
  simp only [he, ref_dp hB hC, root_eq, sum_coe, ← Finset.sum_mul]
  exact ds_real _ _ ha hz x

/-! ## The results -/

/-- The queries' gradient. -/
def dqVal (B : Fin 4096 → Fin 3072 → ℝ) (C : Fin 4096 → Fin 2048 → ℝ) (k : Fin 2) (g : Fin 4) (r : Fin 4096) (d : Fin 128) : ℝ :=
  ∑ x, DS (Qf B k g) (Kh B k) (Vh B k) (Gf C k g) r x * Kh B k x d
/-- The keys' gradient. -/
def dkVal (B : Fin 4096 → Fin 3072 → ℝ) (C : Fin 4096 → Fin 2048 → ℝ) (k : Fin 2) (d : Fin 128) (x : Fin 4096) : ℝ :=
  ∑ g, ∑ r, Qf B k g r d * DS (Qf B k g) (Kh B k) (Vh B k) (Gf C k g) r x
/-- The values' gradient. -/
def dvVal (B : Fin 4096 → Fin 3072 → ℝ) (C : Fin 4096 → Fin 2048 → ℝ) (k : Fin 2) (d : Fin 128) (x : Fin 4096) : ℝ :=
  ∑ g, ∑ r, Gf C k g r d * P (Qf B k g) (Kh B k) r x

/-- The output. -/
def oVal (B : Fin 4096 → Fin 3072 → ℝ) (k : Fin 2) (g : Fin 4) (r : Fin 4096) (d : Fin 128) : ℝ := O (Qf B k g) (Kh B k) (Vh B k) r d
/-- The rows' log-sums. -/
def lseVal (B : Fin 4096 → Fin 3072 → ℝ) (k : Fin 2) (g : Fin 4) (r : Fin 4096) : ℝ := Real.log (Z (Qf B k g) (Kh B k) r)

include hB

theorem ref_o (r : Fin 4096) (j : Fin 1024) : val_main_v75 (F := Ideal) x0 (ix2 r j)
    = (oVal B ⟨j / 512, by omega⟩ ⟨j / 128 % 4, by omega⟩ r ⟨j % 128, by omega⟩ : EReal) := by
  pointwise [val_main_v75, val_main_v74, val_main_v73, val_main_v42]
  simp only [ref_p hB, ref_v hB, ← EReal.coe_mul, sum_coe]
  refine congrArg Real.toEReal ?_
  unfold oVal O P
  rw [Finset.sum_div]
  exact Finset.sum_congr rfl fun _ _ => by ring

theorem ref_lse (h : Fin 8) (r : Fin 4096) (u : Fin 1) : val_main_v76 (F := Ideal) x0 (ix3 h r u)
    = (lseVal B ⟨h / 4, by omega⟩ ⟨h % 4, by omega⟩ r : EReal) := by
  pointwise [val_main_v76, val_main_v72, val_main_v71, val_main_v70, val_main_v69, val_main_v68, val_main_v67, val_main_v66, val_main_cst_12, val_main_cst_13]
  simp only [ref_q hB, ref_k hB, ← EReal.coe_mul, sum_coe, root_bits, div_coe' _ _ root_ne, Ideal.exp_coe]
  have e (x : Fin 4096) : Real.exp ((∑ d, Qf B ⟨h / 4, by omega⟩ ⟨h % 4, by omega⟩ r d * Kh B ⟨h / 4, by omega⟩ x d) / Real.sqrt 128)
      = E (Qf B ⟨h / 4, by omega⟩ ⟨h % 4, by omega⟩) (Kh B ⟨h / 4, by omega⟩) r x := congrArg Real.exp (div_eq_inv_mul _ _)
  simp only [e]
  exact log_coe_pos (Z_pos (Qf B _ _) (Kh B _) r)

include hC

theorem ref_dq (r : Fin 4096) (j : Fin 1024) : val_main_v78 (F := Ideal) x0 x1 (ix2 r j)
    = (dqVal B C ⟨j / 512, by omega⟩ ⟨j / 128 % 4, by omega⟩ r ⟨j % 128, by omega⟩ : EReal) := by
  pointwise [val_main_v78, val_main_v77, val_main_v65]
  simp only [ref_ds hB hC, ref_k hB, ← EReal.coe_mul, sum_coe]; rfl

theorem ref_dk (j : Fin 256) (x : Fin 4096) : val_main_v80 (F := Ideal) x0 x1 (ix2 j x) = (dkVal B C ⟨j / 128, by omega⟩ ⟨j % 128, by omega⟩ x : EReal) := by
  pointwise [val_main_v80, val_main_v79, val_main_v64]
  simp only [ref_ds hB hC, ref_q hB, ← EReal.coe_mul, sum_coe]
  exact congrArg Real.toEReal (Finset.sum_congr rfl fun _ _ => Finset.sum_congr rfl fun _ _ => mul_comm _ _)

theorem ref_dv (j : Fin 256) (x : Fin 4096) : val_main_v82 (F := Ideal) x0 x1 (ix2 j x) = (dvVal B C ⟨j / 128, by omega⟩ ⟨j % 128, by omega⟩ x : EReal) := by
  pointwise [val_main_v82, val_main_v81, val_main_v48, val_main_v47]
  simp only [ref_p hB, ref_g hC, ← EReal.coe_mul, sum_coe]; rfl

end Cert.Proof.AttnA

end
-- ==== Proof.AttnA.Run.lean ====
module

public import proofs.«01_k».proof.Proof.Gen.AttnAIdeal.Frame

@[expose] public section

set_option maxRecDepth 16384

noncomputable section

namespace Cert.Proof.AttnA

open Cert.AttnAIdeal Cert.AttnAIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (m : (ℓ : Loc nD τ sig) → Buf (Elt F) ℓ) (ρ : Dev nD → PrngReg)

/-- The last host line cuts the saved output, which the second call only reads. -/
theorem out_slice (c : Dev nD) : W3 m ρ c (Proc.devRef .tc main_v2)
    = extractStridedSlice S4096x1024 ![0, 0] ((dat0 (V0 m ρ) c).arrAt 3 cfg0.N) slices_S4096x2048_S4096x1024_0_0 := by
  have e : W2 m ρ c (Proc.devRef .tc main_v0_0) = (dat0 (V0 m ρ) c).arrAt 3 cfg0.N := (W2_of m ρ c _ (by decide)).trans (W1_arr m ρ c 3)
  rw [← e]
  rfl

set_option backward.isDefEq.respectTransparency.types false in
/-- The two calls run, one after the other, and leave the saved arrays at what the first one writes back (the output cut to its own heads) and the
    gradients' at what the second one does. -/
theorem run : θ_run defs (onTc (τ := τ) (main (F := F))) ⟨m, fun _ => 0, ρ⟩ (fun r => ∀ c : Dev nD,
      r.2.mem ((c.tc : Thread nD τ).loc main_v2) = extractStridedSlice S4096x1024 ![0, 0] ((dat0 (V0 m ρ) c).arrAt 3 cfg0.N) slices_S4096x2048_S4096x1024_0_0
      ∧ r.2.mem ((c.tc : Thread nD τ).loc main_v0_1) = (dat0 (V0 m ρ) c).arrAt 4 cfg0.N
      ∧ r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (out_slice m ρ c), (h c _ (mem_uc main_v0_1 (by decide))).trans
         ((W3_of m ρ c _ (by decide)).trans ((W2_of m ρ c _ (by decide)).trans (W1_arr m ρ c 4))),
       (h c _ (mem_uc main_v1_0 (by decide))).trans ((W3_of m ρ c _ (by decide)).trans (W2_arr m ρ c 6)),
       (h c _ (mem_uc main_v1_1 (by decide))).trans ((W3_of m ρ c _ (by decide)).trans (W2_arr m ρ c 7)),
       (h c _ (mem_uc main_v1_2 (by decide))).trans ((W3_of m ρ c _ (by decide)).trans (W2_arr m ρ c 8)),
       (h c _ (mem_uc main_arg0 (by decide))).trans (W3_main_arg0 m ρ c), (h c _ (mem_uc main_arg1 (by decide))).trans (W3_main_arg1 m ρ c)⟩)

end Cert.Proof.AttnA

end
-- ==== Proof.AttnA.Final.lean ====
module

public import proofs.«01_k».proof.Defs
public import proofs.«01_k».proof.Proof.AttnA.Ref
public import proofs.«01_k».proof.Proof.AttnA.Run
public import proofs.«01_k».proof.Proof.Gen.Pre_finite_attn_a
public import Idealize.ShloMosaic.Lib.Claim

@[expose] public section

set_option maxRecDepth 16384

noncomputable section

namespace Cert.Proof.AttnA

open Cert.AttnAIdeal Cert.AttnAIdeal.Gen Idealize.ShloMosaic Idealize.ShloMosaic.TcCoe Idealize.SL.Sem Cert.Proof.Lift

section Arrays

variable {m : (ℓ : Loc nD τ sig) → Buf (Elt Ideal) ℓ} {ρ : Dev nD → PrngReg} {c : Dev nD} {B : Fin 4096 → Fin 3072 → ℝ} {C : Fin 4096 → Fin 2048 → ℝ}
  (hB : ∀ r j, m ((c : Thread nD τ).loc main_arg0) (ix2 r j) = (B r j : EReal)) (hC : ∀ r j, m ((c : Thread nD τ).loc main_arg1) (ix2 r j) = (C r j : EReal))

/-- A head's rows by halves. -/
theorem sum_rows_halves (f : Fin 4096 → ℝ) : (∑ r, f (row 0 r)) + (∑ r, f (row 1 r)) = ∑ r, f r := by
  rw [← Fin.sum_mul_add_fin 2 2048 f, Fin.sum_univ_two]; rfl

/-- A key head's eight points are its four query heads, half by half. -/
theorem sum_points (k : Fin 2) (f : Fin 8 → Fin 2 → Fin 2048 → ℝ) (F : Fin 4 → Fin 4096 → ℝ) (hf : ∀ g i r, f (hd k g) i r = F g (row i r)) :
    (∑ s ∈ Finset.range 8, ∑ r, f (hdAt (k * 8 + s)) (hfAt (k * 8 + s)) r) = ∑ g, ∑ r, F g r := by
  simp only [Fin.sum_univ_four, ← sum_rows_halves, ← hf, Finset.sum_range_succ, Finset.sum_range_zero, zero_add, ← add_assoc]
  fin_cases k <;> rfl

include hB

theorem out_o (r : Fin 4096) (j : Fin 1024) : extractStridedSlice S4096x1024 ![0, 0] ((dat0 (V0 m ρ) c).arrAt 3 cfg0.N) slices_S4096x2048_S4096x1024_0_0 (ix2 r j)
    = (oVal B ⟨j / 512, by omega⟩ ⟨j / 128 % 4, by omega⟩ r ⟨j % 128, by omega⟩ : EReal) := by
  obtain ⟨t, ht⟩ : ∃ t : Fin cfg0.N, t.val = j / 128 * 2 + r / 2048 := ⟨⟨j / 128 * 2 + r / 2048, show _ < 16 by omega⟩, rfl⟩
  obtain ⟨y, hy⟩ : ∃ y : Fin 2048, y.val = r % 2048 := ⟨⟨r % 2048, by omega⟩, rfl⟩
  pointwise
  refine (congrArg ((dat0 (V0 m ρ) c).arrAt 3 cfg0.N) (by blk_ext [idx0 t] : _ = ((cfg0.win 3).blk t).view.emb (ix2 y (⟨j % 128, by omega⟩ : Fin 128)))).trans ?_
  refine ((dat0 (V0 m ρ) c).arrAt_emb_eq_flushed 3 (Pipeline.Window.hdisj_of_index_inj _ (by decide +kernel)) t ((by decide +kernel : ∀ t : Fin cfg0.N, (cfg0.win 3).flush t = true) t) _).trans ?_
  blk_simp
  rw [after0_3]
  refine (out0_3_real (q0 hB _) (k0 hB _) (v0 hB _) y _).trans ?_
  have e1 : hdAt t = hd ⟨j / 512, by omega⟩ ⟨j / 128 % 4, by omega⟩ := Fin.ext (by simp only [hdAt, hd, ht]; omega)
  have e2 : kvAt t = ⟨j / 512, by omega⟩ := Fin.ext (by simp only [kvAt, ht]; omega)
  have e3 : r = row (hfAt t) y := Fin.ext (by simp only [row, hfAt, ht, hy]; omega)
  rw [e1, e2, e3]; rfl

theorem out_lse (h : Fin 8) (r : Fin 4096) (u : Fin 1) : (dat0 (V0 m ρ) c).arrAt 4 cfg0.N (ix3 h r u)
    = (lseVal B ⟨h / 4, by omega⟩ ⟨h % 4, by omega⟩ r : EReal) := by
  obtain ⟨t, ht⟩ : ∃ t : Fin cfg0.N, t.val = h * 2 + r / 2048 := ⟨⟨h * 2 + r / 2048, show _ < 16 by omega⟩, rfl⟩
  obtain ⟨y, hy⟩ : ∃ y : Fin 2048, y.val = r % 2048 := ⟨⟨r % 2048, by omega⟩, rfl⟩
  refine (congrArg ((dat0 (V0 m ρ) c).arrAt 4 cfg0.N) (by blk_ext [idx0 t] : _ = ((cfg0.win 4).blk t).view.emb (ix3 (0 : Fin 1) y (0 : Fin 1)))).trans ?_
  refine ((dat0 (V0 m ρ) c).arrAt_emb_eq_flushed 4 (Pipeline.Window.hdisj_of_index_inj _ (by decide +kernel)) t ((by decide +kernel : ∀ t : Fin cfg0.N, (cfg0.win 4).flush t = true) t) _).trans ?_
  blk_simp
  rw [after0_4]
  refine (out0_4_real (q0 hB _) (k0 hB _) _ y _).trans ?_
  have e1 : hdAt t = hd ⟨h / 4, by omega⟩ ⟨h % 4, by omega⟩ := Fin.ext (by simp only [hdAt, hd, ht]; omega)
  have e2 : kvAt t = ⟨h / 4, by omega⟩ := Fin.ext (by simp only [kvAt, ht]; omega)
  have e3 : r = row (hfAt t) y := Fin.ext (by simp only [row, hfAt, ht, hy]; omega)
  rw [e1, e2, e3]; rfl

include hC

theorem out_dq (r : Fin 4096) (j : Fin 1024) : (dat1 (V1 m ρ) c).arrAt 6 cfg1.N (ix2 r j)
    = (dqVal B C ⟨j / 512, by omega⟩ ⟨j / 128 % 4, by omega⟩ r ⟨j % 128, by omega⟩ : EReal) := by
  obtain ⟨t, ht⟩ : ∃ t : Fin cfg1.N, t.val = j / 128 * 2 + r / 2048 := ⟨⟨j / 128 * 2 + r / 2048, show _ < 16 by omega⟩, rfl⟩
  obtain ⟨y, hy⟩ : ∃ y : Fin 2048, y.val = r % 2048 := ⟨⟨r % 2048, by omega⟩, rfl⟩
  refine (congrArg ((dat1 (V1 m ρ) c).arrAt 6 cfg1.N) (by blk_ext [idx1 t] : _ = ((cfg1.win 6).blk t).view.emb (ix2 y (⟨j % 128, by omega⟩ : Fin 128)))).trans ?_
  refine ((dat1 (V1 m ρ) c).arrAt_emb_eq_flushed 6 (Pipeline.Window.hdisj_of_index_inj _ (by decide +kernel)) t ((by decide +kernel : ∀ t : Fin cfg1.N, (cfg1.win 6).flush t = true) t) _).trans ?_
  blk_simp
  rw [after1_6]
  refine (dq_block hB hC t y _).trans ?_
  have e1 : hdAt t = hd ⟨j / 512, by omega⟩ ⟨j / 128 % 4, by omega⟩ := Fin.ext (by simp only [hdAt, hd, ht]; omega)
  have e2 : kvAt t = ⟨j / 512, by omega⟩ := Fin.ext (by simp only [kvAt, ht]; omega)
  have e3 : r = row (hfAt t) y := Fin.ext (by simp only [row, hfAt, ht, hy]; omega)
  rw [e1, e2, e3]; rfl

/-- A key head's array rows are what its last point leaves. -/
theorem out_dk (j : Fin 256) (x : Fin 4096) : (dat1 (V1 m ρ) c).arrAt 7 cfg1.N (ix2 j x) = (dkVal B C ⟨j / 128, by omega⟩ ⟨j % 128, by omega⟩ x : EReal) := by
  obtain ⟨t, ht⟩ : ∃ t : Fin cfg1.N, t.val = j / 128 * 8 + 7 := ⟨⟨j / 128 * 8 + 7, show _ < 16 by omega⟩, rfl⟩
  refine (congrArg ((dat1 (V1 m ρ) c).arrAt 7 cfg1.N) (by blk_ext [idx1 t] : _ = ((cfg1.win 7).blk t).view.emb (ix2 (⟨j % 128, by omega⟩ : Fin 128) x))).trans ?_
  refine ((dat1 (V1 m ρ) c).arrAt_emb_eq_flushed 7 (Pipeline.Window.hdisj_of_index_inj _ (by decide +kernel)) t ((flush1_7 t).mpr (by omega)) _).trans ?_
  blk_simp
  rw [after1_7]
  refine (dk_run hB hC _ _ _ _).trans (congrArg Real.toEReal ?_)
  rw [show t.val % 8 + 1 = 8 by omega, show t.val / 8 = j / 128 by omega]
  refine (Finset.sum_congr rfl fun s hs => ?_).trans (sum_points ⟨j / 128, by omega⟩
    (fun h i r => Qh B h i r ⟨j % 128, by omega⟩ * DS (Qh B h i) (Kh B ⟨j / 128, by omega⟩) (Vh B ⟨j / 128, by omega⟩) (Gh C h i) r x) _ fun _ _ _ => rfl)
  have := Finset.mem_range.mp hs
  unfold dkAt
  rw [show kvAt (j / 128 * 8 + s) = ⟨j / 128, by omega⟩ from Fin.ext (by simp only [kvAt]; omega)]

theorem out_dv (j : Fin 256) (x : Fin 4096) : (dat1 (V1 m ρ) c).arrAt 8 cfg1.N (ix2 j x) = (dvVal B C ⟨j / 128, by omega⟩ ⟨j % 128, by omega⟩ x : EReal) := by
  obtain ⟨t, ht⟩ : ∃ t : Fin cfg1.N, t.val = j / 128 * 8 + 7 := ⟨⟨j / 128 * 8 + 7, show _ < 16 by omega⟩, rfl⟩
  refine (congrArg ((dat1 (V1 m ρ) c).arrAt 8 cfg1.N) (by blk_ext [idx1 t] : _ = ((cfg1.win 8).blk t).view.emb (ix2 (⟨j % 128, by omega⟩ : Fin 128) x))).trans ?_
  refine ((dat1 (V1 m ρ) c).arrAt_emb_eq_flushed 8 (Pipeline.Window.hdisj_of_index_inj _ (by decide +kernel)) t ((flush1_8 t).mpr (by omega)) _).trans ?_
  blk_simp
  rw [after1_8]
  refine (dv_run hB hC _ _ _ _).trans (congrArg Real.toEReal ?_)
  rw [show t.val % 8 + 1 = 8 by omega, show t.val / 8 = j / 128 by omega]
  refine (Finset.sum_congr rfl fun s hs => ?_).trans (sum_points ⟨j / 128, by omega⟩
    (fun h i r => Gh C h i r ⟨j % 128, by omega⟩ * P (Qh B h i) (Kh B ⟨j / 128, by omega⟩) r x) _ fun _ _ _ => rfl)
  have := Finset.mem_range.mp hs
  unfold dvAt
  rw [show kvAt (j / 128 * 8 + s) = ⟨j / 128, by omega⟩ from Fin.ext (by simp only [kvAt]; omega)]

end Arrays

/-! ## The claims -/

/-- What the precondition says: the two arguments are real. -/
theorem real_args {x0 : (⟨S4096x3072, .bf16⟩ : BufTy).Contents (Elt Ideal)} {x1 : (⟨S4096x2048, .bf16⟩ : BufTy).Contents (Elt Ideal)}
    (h : (Cert.Pre_finite_attn_a.fn (F := Ideal) x0 x1).1 = (fun _ => 1#1) ∧ (Cert.Pre_finite_attn_a.fn (F := Ideal) x0 x1).2 = (fun _ => 1#1)) :
    (∃ B : Fin 4096 → Fin 3072 → ℝ, ∀ r j, x0 (ix2 r j) = (B r j : EReal)) ∧ (∃ C : Fin 4096 → Fin 2048 → ℝ, ∀ r j, x1 (ix2 r j) = (C r j : EReal)) := by
  have e0 (r : Fin 4096) (j : Fin 3072) : ∃ b : ℝ, x0 (ix2 r j) = (b : EReal) := by
    have := congrFun h.1 (ix2 r j)
    revert this
    pointwise [Pre_finite_attn_a.fn]
    exact real_of_lt_bit
  have e1 (r : Fin 4096) (j : Fin 2048) : ∃ b : ℝ, x1 (ix2 r j) = (b : EReal) := by
    have := congrFun h.2 (ix2 r j)
    revert this
    pointwise [Pre_finite_attn_a.fn]
    exact real_of_lt_bit
  choose B hB using e0
  choose C hC using e1
  exact ⟨⟨B, hB⟩, ⟨C, hC⟩⟩

theorem frame_ref : Cert.quiescent_AttnARefIdeal := fun m ρ _ =>
  (θ_run Cert.AttnARefIdeal.defs _ _).mono (fun r h => ⟨fun c => (h c).2.2.2.2.2, sem_eq_zero_of_no_sems (by decide) r.2⟩)
    (Cert.AttnARefIdeal.Value.run (F := Ideal) m ρ)

set_option maxHeartbeats 2000000 in
/-- The two programs run and end with the same output, log-sums and three gradients. -/
theorem algebraic : Cert.algebraic_AttnAIdeal_AttnARefIdeal_pre_finite_attn_a := by
  pair_intro
  · run_from run m g
  · run_from Cert.AttnARefIdeal.Value.run m' g'
    all_goals
      obtain ⟨⟨B, hB⟩, ⟨C, hC⟩⟩ := real_args (hpre c)
      have hB' := fun r j => (congrFun (hagree c).1 (ix2 r j)).trans (hB r j)
      have hC' := fun r j => (congrFun (hagree c).2 (ix2 r j)).trans (hC r j)
      refine funext fun y => ?_
    · obtain ⟨r, j, rfl⟩ := idx2_eq (N := 4096) (n := 1024) y
      exact (ref_o hB' r j).trans (out_o hB r j).symm
    · obtain ⟨h, r, u, rfl⟩ : ∃ (h : Fin 8) (r : Fin 4096) (u : Fin 1), y = ix3 h r u := ⟨y 0, y 1, y 2, funext fun a => by fin_cases a <;> rfl⟩
      exact (congrFun (Cert.AttnARefIdeal.Read.val_main_v76_eq (F := Ideal) _) _).trans <| (ref_lse hB h r u).trans (out_lse hB h r u).symm
    · obtain ⟨r, j, rfl⟩ := idx2_eq (N := 4096) (n := 1024) y
      exact (ref_dq hB' hC' r j).trans (out_dq hB hC r j).symm
    · obtain ⟨r, j, rfl⟩ := idx2_eq (N := 256) (n := 4096) y
      exact (ref_dk hB' hC' r j).trans (out_dk hB hC r j).symm
    · obtain ⟨r, j, rfl⟩ := idx2_eq (N := 256) (n := 4096) y
      exact (ref_dv hB' hC' r j).trans (out_dv hB hC r j).symm

end Cert.Proof.AttnA

end
-- ==== Proof.Norm.lean ====
module

public import proofs.«01_k».proof.Proof.Lift

@[expose] public section

noncomputable section

/-! The root-mean-square norm of a row of 2048 reals and its gradient: what the kernels compute and what the references compute are the
    same real function. -/

namespace Cert.Proof.Norm

open Idealize.ShloMosaic Cert.Proof.Lift

/-- The norm's additive constant, as the programs round it. -/
def eps : ℝ := 8796093 / 2 ^ 43

theorem eps_bits : Ideal.ofBits .f32 0x358637BD#32 = (eps : EReal) := by
  simp [Ideal.ofBits, Ideal.ieee, eps, ← EReal.coe_mul]; norm_num
theorem len_bits : Ideal.ofBits .f32 0x45000000#32 = ((2048 : ℝ) : EReal) := by
  simp [Ideal.ofBits, Ideal.ieee, ← EReal.coe_mul]; norm_num
theorem mhalf_bits : Ideal.ofBits .f32 0xBF000000#32 = ((-(1 / 2) : ℝ) : EReal) := by
  simp [Ideal.ofBits, Ideal.ieee, ← EReal.coe_mul]; norm_num

/-- A row's mean square, plus the constant. -/
def ms (x : Fin 2048 → ℝ) : ℝ := (∑ i, x i * x i) / 2048 + eps
/-- The reciprocal root the row is scaled with. -/
def rs (x : Fin 2048 → ℝ) : ℝ := (Real.sqrt (ms x))⁻¹
/-- The gradient at a row `x` of the scaled row, against the cotangent `y`. -/
def grad (x y : Fin 2048 → ℝ) (j : Fin 2048) : ℝ := rs x * (y j - x j * rs x * ((∑ i, y i * (x i * rs x)) / 2048))

theorem ms_pos (x : Fin 2048 → ℝ) : 0 < ms x :=
  add_pos_of_nonneg_of_pos (div_nonneg (Finset.sum_nonneg fun i _ => mul_self_nonneg (x i)) (by norm_num)) (by norm_num [eps])

/-- The reciprocal root squared is the reciprocal. -/
theorem rs_sq (x : Fin 2048 → ℝ) : rs x * rs x = (ms x)⁻¹ := by
  rw [rs, ← mul_inv, Real.mul_self_sqrt (ms_pos x).le]

theorem ms_val (x : Fin 2048 → ℝ) : Ideal.div (∑ i, (x i : EReal) * (x i : EReal)) (Ideal.ofBits .f32 0x45000000#32) + Ideal.ofBits .f32 0x358637BD#32
    = (ms x : EReal) := by
  simp only [← EReal.coe_mul, sum_coe, len_bits, eps_bits, div_coe' _ _ (by norm_num : (2048 : ℝ) ≠ 0), ← EReal.coe_add]; rfl

theorem rs_val (x : Fin 2048 → ℝ) : Ideal.rsqrt (ms x : EReal) = (rs x : EReal) := by
  rw [Ideal.rsqrt_coe, if_neg (not_lt.mpr (ms_pos x).le), if_neg (ms_pos x).ne']; rfl

/-- The kernels' form of the gradient. -/
theorem kernel_grad (x y : Fin 2048 → ℝ) (j : Fin 2048) :
    (rs x : EReal) * ((y j : EReal) - (x j : EReal) * (rs x : EReal) * Ideal.div (∑ i, (y i : EReal) * ((x i : EReal) * (rs x : EReal))) (Ideal.ofBits .f32 0x45000000#32))
      = (grad x y j : EReal) := by
  simp only [← EReal.coe_mul, sum_coe, len_bits, div_coe' _ _ (by norm_num : (2048 : ℝ) ≠ 0), ← EReal.coe_sub]; rfl

/-- The references' form of it, added to what came along the residual. -/
theorem ref_grad (r : EReal) (x y : Fin 2048 → ℝ) (j : Fin 2048) :
    r + (y j : EReal) * (rs x : EReal)
        + (x j : EReal) * ∑ _i : Fin 1, Ideal.div ((∑ i, (x i : EReal) * (y i : EReal)) * (Ideal.ofBits .f32 0xBF000000#32 * Ideal.div (rs x : EReal) (ms x : EReal))) (Ideal.ofBits .f32 0x45000000#32)
        + (∑ _i : Fin 1, Ideal.div ((∑ i, (x i : EReal) * (y i : EReal)) * (Ideal.ofBits .f32 0xBF000000#32 * Ideal.div (rs x : EReal) (ms x : EReal))) (Ideal.ofBits .f32 0x45000000#32)) * (x j : EReal)
      = r + (grad x y j : EReal) := by
  simp only [← EReal.coe_mul, sum_coe, len_bits, mhalf_bits, div_coe' _ _ (by norm_num : (2048 : ℝ) ≠ 0), div_coe' _ _ (ms_pos x).ne', Finset.univ_unique, Finset.sum_singleton]
  rw [add_assoc, add_assoc, ← EReal.coe_add, ← EReal.coe_add]
  refine congrArg (fun v : ℝ => r + (v : EReal)) ?_
  have e : (∑ i, y i * (x i * rs x)) = (∑ i, x i * y i) * rs x := by
    rw [Finset.sum_mul]; exact Finset.sum_congr rfl fun i _ => by ring
  rw [grad, e, div_eq_mul_inv (rs x), ← rs_sq]
  ring

/-- An index of a matrix is its two coordinates. -/
theorem idx2_eq {N n : ℕ} (x : (⟨2, ![N, n]⟩ : Shape).Idx) : ∃ r d, x = ix2 r d :=
  ⟨x 0, x 1, funext fun a => by fin_cases a <;> rfl⟩

/-- Rows by grid point, group of eight and place in the group. -/
theorem sum_sublanes (f : Fin 4096 → ℝ) : (∑ s : Fin 8, ∑ t : Fin 8, ∑ b : Fin 64, f ⟨t * 512 + (b * 8 + s), by omega⟩) = ∑ r, f r := by
  rw [Finset.sum_comm, ← Fin.sum_mul_add_fin 8 512 f]
  refine Finset.sum_congr rfl fun t _ => ?_
  rw [Finset.sum_comm, ← Fin.sum_mul_add_fin 64 8 (fun k : Fin 512 => f ⟨t * 512 + k, by omega⟩)]

/-- Row `y` of grid point `t`'s block. -/
def rowAt (t : ℕ) (y : Fin 512) : Fin 4096 := ⟨t % 8 * 512 + y, by omega⟩

/-- The norm's cotangent, times its gain. -/
def scaled (Y : Fin 4096 → Fin 2048 → ℝ) (G : Fin 2048 → ℝ) (r : Fin 4096) (j : Fin 2048) : ℝ := Y r j * G j
/-- The gain's gradient. -/
def gainGrad (X Y : Fin 4096 → Fin 2048 → ℝ) (j : Fin 2048) : ℝ := ∑ r, Y r j * (X r j * rs (X r))

/-- What a point adds to the gain's gradient. -/
def gainAt (X Y : Fin 4096 → Fin 2048 → ℝ) (t : ℕ) (s : Fin 8) (j : Fin 2048) : ℝ :=
  ∑ b : Fin 64, Y (rowAt t ⟨b * 8 + s, by omega⟩) j * (X (rowAt t ⟨b * 8 + s, by omega⟩) j * rs (X (rowAt t ⟨b * 8 + s, by omega⟩)))

/-- All points' additions make the gain's gradient. -/
theorem sum_gainAt (X Y : Fin 4096 → Fin 2048 → ℝ) (j : Fin 2048) : (∑ s, ∑ t : Fin 8, gainAt X Y t s j) = gainGrad X Y j := by
  refine (Finset.sum_congr rfl fun s _ => Finset.sum_congr rfl fun t _ => Finset.sum_congr rfl fun b _ => ?_).trans
    (sum_sublanes fun r => Y r j * (X r j * rs (X r)))
  have e : rowAt t.val ⟨b * 8 + s, by omega⟩ = ⟨t * 512 + (b * 8 + s), by omega⟩ := Fin.ext (by simp only [rowAt]; omega)
  rw [e]

/-- A row's products with the rows of a matrix. -/
def rowDot {n K : ℕ} (Z : Fin n → Fin K → ℝ) (W : Fin 2048 → Fin K → ℝ) (r : Fin n) (j : Fin 2048) : ℝ := ∑ k, Z r k * W j k

end Cert.Proof.Norm

end
-- ==== Proof.Rms.lean ====
module

public import proofs.«01_k».proof.Defs
public import proofs.«01_k».proof.Proof.Norm
public import proofs.«01_k».proof.Proof.Gen.RmsIdeal.Frame
public import proofs.«01_k».proof.Proof.Gen.RmsRefIdeal.Run
public import proofs.«01_k».proof.Proof.Gen.RmsRefIdeal.Read
public import proofs.«01_k».proof.Proof.Gen.Pre_finite_rms
public import Idealize.ShloMosaic.Lib.Pipeline.ValueKit
public import Idealize.ShloMosaic.Lib.Claim

@[expose] public section

set_option maxRecDepth 16384

noncomputable section

/-! The gradient of the MLP's norm. -/

namespace Cert.Proof.Rms

open Cert.RmsIdeal Cert.RmsIdeal.Gen Idealize.ShloMosaic Idealize.ShloMosaic.TcCoe Idealize.SL.Sem Cert.Proof.Lift Cert.Proof.Norm

/-! ## One block -/

section Block

variable {x : Vec Ideal S512x2048 .f32} {d : Vec Ideal S512x2048 .bf16} {g : Vec Ideal S1x2048 .f32} {r : Vec Ideal S512x2048 .f32}
  {X Y : Fin 512 → Fin 2048 → ℝ} {G : Fin 2048 → ℝ} (hx : ∀ i j, x (ix2 i j) = (X i j : EReal)) (hd : ∀ i j, d (ix2 i j) = (Y i j : EReal))
  (hg : ∀ j, g (ix2 0 j) = (G j : EReal))

include hx

theorem block_rs (i : Fin 512) : k0_pay2 (F := Ideal) x (ix2 i (0 : Fin 1)) = (rs (X i) : EReal) := by
  pointwise [k0_pay2]
  simp only [hx]
  rw [ms_val, rs_val]

include hd

theorem block_gain (s : Fin 8) (j : Fin 2048) :
    k0_pay7 (F := Ideal) x d (ix2 s j) = ((∑ b : Fin 64, Y ⟨b * 8 + s, by omega⟩ j * (X ⟨b * 8 + s, by omega⟩ j * rs (X ⟨b * 8 + s, by omega⟩)) : ℝ) : EReal) := by
  pointwise [k0_pay7, k0_pay3, k0_pay4]
  simp only [hx, hd, block_rs hx, ← EReal.coe_mul, sum_coe]

include hg

theorem block_dx (i : Fin 512) (j : Fin 2048) : k0_pay5 (F := Ideal) x d g r (ix2 i j) = r (ix2 i j) + (grad (X i) (fun k => Y i k * G k) j : EReal) := by
  pointwise [k0_pay5, k0_pay3, k0_pay4]
  simp only [hx, hd, hg, block_rs hx]
  refine congrArg (r (ix2 i j) + ·) ?_
  rw [← kernel_grad]
  simp only [EReal.coe_mul]

end Block

/-! ## The arrays -/

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

section Arrays

variable {m : (ℓ : Loc nD τ sig) → Buf (Elt Ideal) ℓ} {c : Dev nD} {X Y : Fin 4096 → Fin 2048 → ℝ} {G : Fin 2048 → ℝ}
  (hY : ∀ r j, m ((c : Thread nD τ).loc main_arg0) (ix2 r j) = (Y r j : EReal)) (hX : ∀ r j, m ((c : Thread nD τ).loc main_arg1) (ix2 r j) = (X r j : EReal))
  (hG : ∀ j, m ((c : Thread nD τ).loc main_arg2) (ix2 0 j) = (G j : EReal)) {R : Fin 4096 → Fin 2048 → EReal} (hR : ∀ r j, m ((c : Thread nD τ).loc main_arg3) (ix2 r j) = R r j)

include hY in
theorem in_dy (t : Fin cfg0.N) (y : Fin 512) (j : Fin 2048) : iblk m c 0 t (ix2 y j) = (Y (rowAt t y) j : EReal) :=
  (congrArg (m ((c : Thread nD τ).loc main_arg0)) (by blk_ext [idx t, rowAt] : _ = ix2 (rowAt t y) j)).trans (hY _ _)
include hX in
theorem in_x (t : Fin cfg0.N) (y : Fin 512) (j : Fin 2048) : iblk m c 1 t (ix2 y j) = (X (rowAt t y) j : EReal) :=
  (congrArg (m ((c : Thread nD τ).loc main_arg1)) (by blk_ext [idx t, rowAt] : _ = ix2 (rowAt t y) j)).trans (hX _ _)
include hG in
theorem in_g (t : Fin cfg0.N) (j : Fin 2048) : iblk m c 2 t (ix2 0 j) = (G j : EReal) :=
  (congrArg (m ((c : Thread nD τ).loc main_arg2)) (by blk_ext [idx t] : _ = ix2 0 j)).trans (hG _)
include hR in
theorem in_r (t : Fin cfg0.N) (y : Fin 512) (j : Fin 2048) : iblk m c 3 t (ix2 y j) = R (rowAt t y) j :=
  (congrArg (m ((c : Thread nD τ).loc main_arg3)) (by blk_ext [idx t, rowAt] : _ = ix2 (rowAt t y) j)).trans (hR _ _)

/-- What a point leaves of the row gradient, in both precisions. -/
theorem after_dx (t : Fin cfg0.N) : (outsAt0 m c t.val t.isLt).1 = k0_pay5 (F := Ideal) (iblk m c 1 t) (iblk m c 0 t) (iblk m c 2 t) (iblk m c 3 t)
    ∧ (outsAt0 m c t.val t.isLt).2.1 = k0_pay6 (F := Ideal) (iblk m c 1 t) (iblk m c 0 t) (iblk m c 2 t) (iblk m c 3 t) := by
  by_cases h : t.val % 8 = 0
  · rw [outsAt0_A m c t h (by have : t.val < 8 := t.isLt; omega)]
    constructor <;> frame_out
  · rw [outsAt0_B m c t h (by omega)]
    constructor <;> frame_out

include hY hX in
theorem gain_start (t : Fin cfg0.N) (h : t.val % 8 = 0) (s : Fin 8) (j : Fin 2048) : (outsAt0 m c t.val t.isLt).2.2 (ix2 s j) = 0 + (gainAt X Y t.val s j : EReal) := by
  rw [outsAt0_A m c t h (by have : t.val < 8 := t.isLt; omega)]
  frame_out
  exact (block_gain (in_x hX t) (in_dy hY t) s j).trans (zero_add _).symm
include hY hX in
theorem gain_step (t : Fin cfg0.N) (h : ¬t.val % 8 = 0) (s : Fin 8) (j : Fin 2048) :
    (outsAt0 m c t.val t.isLt).2.2 (ix2 s j) = (outsAt0 m c (t.val - 1) (Nat.lt_of_le_of_lt (Nat.sub_le _ _) t.isLt)).2.2 (ix2 s j) + (gainAt X Y t.val s j : EReal) := by
  rw [outsAt0_B m c t h (by omega)]
  frame_out
  pointwise [k0_pay1]
  exact congrArg (_ + ·) (block_gain (in_x hX t) (in_dy hY t) s j)

include hY hX in
/-- The array of partial sums, when the grid is done. -/
theorem out_gain (s : Fin 8) (j : Fin 2048) : (dats m 0 c).arrAt 6 cfg0.N (ix2 s j) = ((∑ t : Fin 8, gainAt X Y t s j : ℝ) : EReal) := by
  have key : (dats m 0 c).arrAt 6 cfg0.N = fun i : S8x2048.Idx => ((∑ t : Fin 8, gainAt X Y t (i 0) (i 1) : ℝ) : EReal) := by
    refine (dats m 0 c).arrAt_eq_of_after_last 6 t0_7 (by decide +kernel) _ fun i => ?_
    blk_simp
    obtain ⟨a, b, rfl⟩ := idx2_eq (N := 8) (n := 2048) i
    rw [after0_6, Pipeline.eq_sum_fin_of_reset_step_apply_last (fun n h (p : Fin 8 × Fin 2048) => (outsAt0 m c n h).2.2 (ix2 p.1 p.2)) 8 (fun _ => 0)
      (fun t p => (gainAt X Y t.val p.1 p.2 : EReal)) (fun t h p => gain_start hY hX t h p.1 p.2) (fun t h p => gain_step hY hX t h p.1 p.2) (by decide) t0_7 (by decide) (a, b)]
    rw [zero_add]
    exact sum_coe fun t : Fin 8 => gainAt X Y t a b
  rw [key]; rfl

include hY hX in
theorem tail (u : Fin 1) (j : Fin 2048) : Pipeline.afterTail₀ cfgs (dats m) 0 (V0 m) [hostOps1] c main_v2 (ix2 u j) = (gainGrad X Y j : EReal) := by
  show StableHlo.after hostOps1 _ _ _ = _
  after_results_simp
  have hP : ∀ s j, (Pipeline.withArrays (cfgs 0).spec c (V0 m c) (fun w => (dats m 0 c).arrAt w (cfgs 0).N) (Proc.tc.devRef main_v0_2) :
      (⟨S8x2048, .f32⟩ : BufTy).Contents (Elt Ideal)) (ix2 s j) = ((∑ t : Fin 8, gainAt X Y t s j : ℝ) : EReal) := fun s j =>
    (congrFun (Pipeline.withArrays_arr (cfgs 0).spec (by decide) c (V0 m c) _ 6) _).trans (out_gain hY hX s j)
  generalize Pipeline.withArrays (cfgs 0).spec c (V0 m c) (fun w => (dats m 0 c).arrAt w (cfgs 0).N) (Proc.tc.devRef main_v0_2) = P at hP ⊢
  pointwise
  simp only [hP, sum_coe]
  exact congrArg Real.toEReal (sum_gainAt X Y j)

include hY hX hG hR in
theorem out_dx (r : Fin 4096) (j : Fin 2048) : (dats m 0 c).arrAt 4 cfg0.N (ix2 r j) = R r j + (grad (X r) (scaled Y G r) j : EReal) := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 4 cfg0.N) (by blk_ext [idx t, rowAt] : _ = ((cfg0.win 4).blk t).view.emb (ix2 y j))).trans ?_
  refine ((dats m 0 c).arrAt_emb_eq_flushed 4 (Pipeline.Window.hdisj_of_index_inj _ (by decide +kernel)) t ((by decide +kernel : ∀ t : Fin cfg0.N, (cfg0.win 4).flush t = true) t) _).trans ?_
  blk_simp
  rw [after0_4, (after_dx t).1, block_dx (in_x hX t) (in_dy hY t) (in_g hG t), in_r hR]; rfl

include hY hX hG hR in
theorem out_dxb (r : Fin 4096) (j : Fin 2048) : (dats m 0 c).arrAt 5 cfg0.N (ix2 r j) = R r j + (grad (X r) (scaled Y G r) j : EReal) := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 5 cfg0.N) (by blk_ext [idx t, rowAt] : _ = ((cfg0.win 5).blk t).view.emb (ix2 y j))).trans ?_
  refine ((dats m 0 c).arrAt_emb_eq_flushed 5 (Pipeline.Window.hdisj_of_index_inj _ (by decide +kernel)) t ((by decide +kernel : ∀ t : Fin cfg0.N, (cfg0.win 5).flush t = true) t) _).trans ?_
  blk_simp
  rw [after0_5, (after_dx t).2]
  pointwise [k0_pay6]
  rw [block_dx (in_x hX t) (in_dy hY t) (in_g hG t), in_r hR]; rfl

end Arrays

section Reference

open Cert.RmsRefIdeal.Read

variable {x0 : (⟨S4096x2048, .bf16⟩ : BufTy).Contents (Elt Ideal)} {x1 x3 : (⟨S4096x2048, .f32⟩ : BufTy).Contents (Elt Ideal)} {x2 : (⟨S1x2048, .f32⟩ : BufTy).Contents (Elt Ideal)}
  {X Y : Fin 4096 → Fin 2048 → ℝ} {G : Fin 2048 → ℝ}
  (hY : ∀ r j, x0 (ix2 r j) = (Y r j : EReal)) (hX : ∀ r j, x1 (ix2 r j) = (X r j : EReal)) (hG : ∀ j, x2 (ix2 0 j) = (G j : EReal))

include hX

theorem ref_ms (r : Fin 4096) (u : Fin 1) : val_main_v7 (F := Ideal) x1 (ix2 r u) = (ms (X r) : EReal) := by
  pointwise [val_main_v7, val_main_v6, val_main_v5, val_main_v4, val_main_v3, val_main_v2, val_main_v1, val_main_cst, val_main_cst_0, val_main_cst_1]
  simp only [hX]
  exact ms_val (X r)
theorem ref_rs (r : Fin 4096) (u : Fin 1) : val_main_v8 (F := Ideal) x1 (ix2 r u) = (rs (X r) : EReal) := by
  pointwise [val_main_v8]
  rw [ref_ms hX, rs_val]

include hY

theorem ref_gain (u : Fin 1) (j : Fin 2048) : val_main_v39 (F := Ideal) x0 x1 (ix2 u j) = (gainGrad X Y j : EReal) := by
  pointwise [val_main_v39, val_main_v23, val_main_v20, val_main_v19, val_main_v18, val_main_v17, val_main_v13, val_main_v12, val_main_cst_4, val_main_cst_3]
  simp only [hX, hY, ref_rs hX, ← EReal.coe_mul, sum_coe, Finset.univ_unique, Finset.sum_singleton]
  exact congrArg Real.toEReal (Finset.sum_congr rfl fun r _ => mul_comm _ _)

include hG

theorem ref_dx (r : Fin 4096) (j : Fin 2048) : val_main_v38 (F := Ideal) x0 x1 x2 x3 (ix2 r j) = x3 (ix2 r j) + (grad (X r) (scaled Y G r) j : EReal) := by
  pointwise [val_main_v38, val_main_v37, val_main_v36, val_main_v35, val_main_v34, val_main_v33, val_main_v32, val_main_v31, val_main_v30, val_main_v29, val_main_v28,
    val_main_v27, val_main_v26, val_main_v25, val_main_v24, val_main_v22, val_main_v21, val_main_v17, val_main_v14, val_main_v12, val_main_v11, val_main_v10, val_main_v9,
    val_main_v0, val_main_cst_7, val_main_cst_5, val_main_cst_6, val_main_cst_2]
  simp only [hX, hY, hG, ref_rs hX, ref_ms hX]
  rw [← ref_grad]
  simp only [scaled, EReal.coe_mul]

end Reference

/-! ## The claims -/

/-- What the precondition says: the cotangent, the rows and the gain are real. -/
theorem real_args {x0 : (⟨S4096x2048, .bf16⟩ : BufTy).Contents (Elt Ideal)} {x1 x3 : (⟨S4096x2048, .f32⟩ : BufTy).Contents (Elt Ideal)}
    {x2 : (⟨S1x2048, .f32⟩ : BufTy).Contents (Elt Ideal)}
    (h : (Cert.Pre_finite_rms.fn (F := Ideal) x0 x1 x2 x3).1 = (fun _ => 1#1) ∧ (Cert.Pre_finite_rms.fn (F := Ideal) x0 x1 x2 x3).2.1 = (fun _ => 1#1)
      ∧ (Cert.Pre_finite_rms.fn (F := Ideal) x0 x1 x2 x3).2.2 = (fun _ => 1#1)) :
    (∃ Y : Fin 4096 → Fin 2048 → ℝ, ∀ r j, x0 (ix2 r j) = (Y r j : EReal)) ∧ (∃ X : Fin 4096 → Fin 2048 → ℝ, ∀ r j, x1 (ix2 r j) = (X r j : EReal))
      ∧ (∃ G : Fin 2048 → ℝ, ∀ j, x2 (ix2 0 j) = (G j : EReal)) := by
  have e0 (r : Fin 4096) (j : Fin 2048) : ∃ b : ℝ, x0 (ix2 r j) = (b : EReal) := by
    have := congrFun h.1 (ix2 r j)
    revert this
    pointwise [Pre_finite_rms.fn]
    exact real_of_lt_bit
  have e1 (r : Fin 4096) (j : Fin 2048) : ∃ b : ℝ, x1 (ix2 r j) = (b : EReal) := by
    have := congrFun h.2.1 (ix2 r j)
    revert this
    pointwise [Pre_finite_rms.fn]
    exact real_of_lt_bit
  have e2 (j : Fin 2048) : ∃ b : ℝ, x2 (ix2 0 j) = (b : EReal) := by
    have := congrFun h.2.2 (ix2 0 j)
    revert this
    pointwise [Pre_finite_rms.fn]
    exact real_of_lt_bit
  choose Y hY using e0
  choose X hX using e1
  choose G hG using e2
  exact ⟨⟨Y, hY⟩, ⟨X, hX⟩, ⟨G, hG⟩⟩

theorem frame_ref : Cert.quiescent_RmsRefIdeal := fun m ρ _ =>
  (θ_run Cert.RmsRefIdeal.defs _ _).mono (fun r h => ⟨fun c => (h c).2.2.2, sem_eq_zero_of_no_sems (by decide) r.2⟩)
    (Cert.RmsRefIdeal.Value.run (F := Ideal) m ρ)

/-- The two programs run and end with the same row gradient, in both precisions, and the same gain's gradient. -/
theorem algebraic : Cert.algebraic_RmsIdeal_RmsRefIdeal_pre_finite_rms := by
  pair_intro
  · run_from Cert.RmsIdeal.Gen.run_main m g
  · run_from Cert.RmsRefIdeal.Value.run m' g'
    all_goals
      obtain ⟨⟨Y, hY⟩, ⟨X, hX⟩, ⟨G, hG⟩⟩ := real_args (hpre c)
      have hY' := fun r j => (congrFun (hagree c).1 (ix2 r j)).trans (hY r j)
      have hX' := fun r j => (congrFun (hagree c).2.1 (ix2 r j)).trans (hX r j)
      have hG' := fun j => (congrFun (hagree c).2.2.1 (ix2 0 j)).trans (hG j)
      refine funext fun y => ?_
      first
        | obtain ⟨r, j, rfl⟩ := idx2_eq (N := 4096) (n := 2048) y
        | obtain ⟨r, j, rfl⟩ := idx2_eq (N := 1) (n := 2048) y
    · exact ((congrFun (Cert.RmsRefIdeal.Read.val_main_v38_eq m' c) _).trans (ref_dx hY' hX' hG' r j)).trans
        (out_dx hY hX hG (fun r j => (congrFun (hagree c).2.2.2 (ix2 r j)).symm) r j).symm
    · refine ((congrFun (Cert.RmsRefIdeal.Read.val_main_v40_eq m' c) _).trans ?_).trans (out_dxb hY hX hG (fun r j => (congrFun (hagree c).2.2.2 (ix2 r j)).symm) r j).symm
      pointwise [Cert.RmsRefIdeal.Read.val_main_v40]
      exact ref_dx hY' hX' hG' r j
    · exact (ref_gain hY hX r j).trans (tail hY hX r j).symm

end Cert.Proof.Rms

end
-- ==== Proof.DGate.lean ====
module

public import proofs.«01_k».proof.Defs
public import proofs.«01_k».proof.Proof.Norm
public import proofs.«01_k».proof.Proof.Gen.DGateIdeal.Frame
public import proofs.«01_k».proof.Proof.Gen.DGateRefIdeal.Run
public import proofs.«01_k».proof.Proof.Gen.DGateRefIdeal.Read
public import proofs.«01_k».proof.Proof.Gen.Pre_finite_d_gate
public import Idealize.ShloMosaic.Lib.Pipeline.ValueKit
public import Idealize.ShloMosaic.Lib.Claim

@[expose] public section

set_option maxRecDepth 16384

noncomputable section

/-! The gradient through the gate's input product and the norm before it. -/

namespace Cert.Proof.DGate

open Cert.DGateIdeal Cert.DGateIdeal.Gen Idealize.ShloMosaic Idealize.ShloMosaic.TcCoe Idealize.SL.Sem Cert.Proof.Lift Cert.Proof.Norm

/-! ## One block -/

section Block

variable {a : Vec Ideal S512x2048 .bf16} {w : Vec Ideal S2048x2048 .bf16} {x : Vec Ideal S512x2048 .f32} {g : Vec Ideal S1x2048 .f32} {r : Vec Ideal S512x2048 .f32}
  {Z : Fin 512 → Fin 2048 → ℝ} {W : Fin 2048 → Fin 2048 → ℝ} {X : Fin 512 → Fin 2048 → ℝ} {G : Fin 2048 → ℝ}
  (ha : ∀ i k, a (ix2 i k) = (Z i k : EReal)) (hw : ∀ j k, w (ix2 j k) = (W j k : EReal)) (hx : ∀ i j, x (ix2 i j) = (X i j : EReal)) (hg : ∀ j, g (ix2 0 j) = (G j : EReal))

include ha hw in
theorem block_dy (i : Fin 512) (j : Fin 2048) : k0_pay3 (F := Ideal) a w (ix2 i j) = (rowDot Z W i j : EReal) := by
  pointwise [k0_pay3]
  simp only [ha, hw, ← EReal.coe_mul, sum_coe]; rfl

include hx

theorem block_rs (i : Fin 512) : k0_pay4 (F := Ideal) x (ix2 i (0 : Fin 1)) = (rs (X i) : EReal) := by
  pointwise [k0_pay4]
  simp only [hx]
  rw [ms_val, rs_val]

include ha hw

theorem block_gain (s : Fin 8) (j : Fin 2048) : k0_pay1 (F := Ideal) (k0_pay8 a w x) (ix2 s j)
    = ((∑ b : Fin 64, rowDot Z W ⟨b * 8 + s, by omega⟩ j * (X ⟨b * 8 + s, by omega⟩ j * rs (X ⟨b * 8 + s, by omega⟩)) : ℝ) : EReal) := by
  pointwise [k0_pay1, k0_pay8, k0_pay5]
  simp only [hx, block_dy ha hw, block_rs hx, ← EReal.coe_mul, sum_coe]

include hg

theorem block_dx (i : Fin 512) (j : Fin 2048) : k0_pay6 (F := Ideal) a w x g r (ix2 i j) = r (ix2 i j) + (grad (X i) (fun k => rowDot Z W i k * G k) j : EReal) := by
  pointwise [k0_pay6, k0_pay5]
  simp only [hx, hg, block_dy ha hw, block_rs hx]
  refine congrArg (r (ix2 i j) + ·) ?_
  rw [← kernel_grad]
  simp only [EReal.coe_mul]

end Block

/-! ## The arrays -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

section Arrays

variable {m : (ℓ : Loc nD τ sig) → Buf (Elt Ideal) ℓ} {c : Dev nD} {Z : Fin 4096 → Fin 2048 → ℝ} {W : Fin 2048 → Fin 2048 → ℝ} {X : Fin 4096 → Fin 2048 → ℝ} {G : Fin 2048 → ℝ}
  (hZ : ∀ r k, m ((c : Thread nD τ).loc main_arg0) (ix2 r k) = (Z r k : EReal)) (hW : ∀ j k, m ((c : Thread nD τ).loc main_arg1) (ix2 j k) = (W j k : EReal))
  (hX : ∀ r j, m ((c : Thread nD τ).loc main_arg2) (ix2 r j) = (X r j : EReal))
  (hG : ∀ j, m ((c : Thread nD τ).loc main_arg3) (ix2 0 j) = (G j : EReal)) {R : Fin 4096 → Fin 2048 → EReal} (hR : ∀ r j, m ((c : Thread nD τ).loc main_arg4) (ix2 r j) = R r j)

include hZ in
theorem in_dz (t : Fin cfg0.N) (y : Fin 512) (k : Fin 2048) : iblk m c 0 t (ix2 y k) = (Z (rowAt t y) k : EReal) :=
  (congrArg (m ((c : Thread nD τ).loc main_arg0)) (by blk_ext [idx t, rowAt] : _ = ix2 (rowAt t y) k)).trans (hZ _ _)
include hW in
theorem in_w (t : Fin cfg0.N) (j : Fin 2048) (k : Fin 2048) : iblk m c 1 t (ix2 j k) = (W j k : EReal) :=
  (congrArg (m ((c : Thread nD τ).loc main_arg1)) (by blk_ext [idx t] : _ = ix2 j k)).trans (hW _ _)
include hX in
theorem in_x (t : Fin cfg0.N) (y : Fin 512) (j : Fin 2048) : iblk m c 2 t (ix2 y j) = (X (rowAt t y) j : EReal) :=
  (congrArg (m ((c : Thread nD τ).loc main_arg2)) (by blk_ext [idx t, rowAt] : _ = ix2 (rowAt t y) j)).trans (hX _ _)
include hG in
theorem in_g (t : Fin cfg0.N) (j : Fin 2048) : iblk m c 4 t (ix2 0 j) = (G j : EReal) :=
  (congrArg (m ((c : Thread nD τ).loc main_arg3)) (by blk_ext [idx t] : _ = ix2 0 j)).trans (hG _)
include hR in
theorem in_r (t : Fin cfg0.N) (y : Fin 512) (j : Fin 2048) : iblk m c 3 t (ix2 y j) = R (rowAt t y) j :=
  (congrArg (m ((c : Thread nD τ).loc main_arg4)) (by blk_ext [idx t, rowAt] : _ = ix2 (rowAt t y) j)).trans (hR _ _)

/-- What a point leaves of the row gradient, in both precisions. -/
theorem after_dx (t : Fin cfg0.N) : (outsAt0 m c t.val t.isLt).1 = k0_pay6 (F := Ideal) (iblk m c 0 t) (iblk m c 1 t) (iblk m c 2 t) (iblk m c 4 t) (iblk m c 3 t)
    ∧ (outsAt0 m c t.val t.isLt).2.1 = k0_pay7 (F := Ideal) (iblk m c 0 t) (iblk m c 1 t) (iblk m c 2 t) (iblk m c 4 t) (iblk m c 3 t) := by
  by_cases h : t.val % 8 = 0
  · rw [outsAt0_A m c t h (by have : t.val < 8 := t.isLt; omega)]
    constructor <;> frame_out
  · rw [outsAt0_B m c t h (by omega)]
    constructor <;> frame_out

include hZ hW hX in
theorem gain_start (t : Fin cfg0.N) (h : t.val % 8 = 0) (s : Fin 8) (j : Fin 2048) :
    (outsAt0 m c t.val t.isLt).2.2 (ix2 s j) = 0 + (gainAt X (rowDot Z W) t.val s j : EReal) := by
  rw [outsAt0_A m c t h (by have : t.val < 8 := t.isLt; omega)]
  frame_out
  exact (block_gain (in_dz hZ t) (in_w hW t) (in_x hX t) s j).trans (zero_add _).symm
include hZ hW hX in
theorem gain_step (t : Fin cfg0.N) (h : ¬t.val % 8 = 0) (s : Fin 8) (j : Fin 2048) : (outsAt0 m c t.val t.isLt).2.2 (ix2 s j)
    = (outsAt0 m c (t.val - 1) (Nat.lt_of_le_of_lt (Nat.sub_le _ _) t.isLt)).2.2 (ix2 s j) + (gainAt X (rowDot Z W) t.val s j : EReal) := by
  rw [outsAt0_B m c t h (by omega)]
  frame_out
  have e : k0_pay2 (F := Ideal) (k0_pay8 (iblk m c 0 t) (iblk m c 1 t) (iblk m c 2 t)) (outsAt0 m c (t.val - 1) (Nat.lt_of_le_of_lt (Nat.sub_le _ _) t.isLt)).2.2 (ix2 s j)
      = (outsAt0 m c (t.val - 1) (Nat.lt_of_le_of_lt (Nat.sub_le _ _) t.isLt)).2.2 (ix2 s j) + k0_pay1 (F := Ideal) (k0_pay8 (iblk m c 0 t) (iblk m c 1 t) (iblk m c 2 t)) (ix2 s j) := by
    pointwise [k0_pay2, k0_pay1]
  exact e.trans (congrArg (_ + ·) (block_gain (in_dz hZ t) (in_w hW t) (in_x hX t) s j))

include hZ hW hX in
/-- The array of partial sums, when the grid is done. -/
theorem out_gain (s : Fin 8) (j : Fin 2048) : (dats m 0 c).arrAt 7 cfg0.N (ix2 s j) = ((∑ t : Fin 8, gainAt X (rowDot Z W) t s j : ℝ) : EReal) := by
  have key : (dats m 0 c).arrAt 7 cfg0.N = fun i : S8x2048.Idx => ((∑ t : Fin 8, gainAt X (rowDot Z W) t (i 0) (i 1) : ℝ) : EReal) := by
    refine (dats m 0 c).arrAt_eq_of_after_last 7 t0_7 (by decide +kernel) _ fun i => ?_
    blk_simp
    obtain ⟨a, b, rfl⟩ := idx2_eq (N := 8) (n := 2048) i
    rw [after0_7, Pipeline.eq_sum_fin_of_reset_step_apply_last (fun n h (p : Fin 8 × Fin 2048) => (outsAt0 m c n h).2.2 (ix2 p.1 p.2)) 8 (fun _ => 0)
      (fun t p => (gainAt X (rowDot Z W) t.val p.1 p.2 : EReal)) (fun t h p => gain_start hZ hW hX t h p.1 p.2) (fun t h p => gain_step hZ hW hX t h p.1 p.2)
      (by decide) t0_7 (by decide) (a, b)]
    rw [zero_add]
    exact sum_coe fun t : Fin 8 => gainAt X (rowDot Z W) t a b
  rw [key]; rfl

include hZ hW hX in
/-- The host's sum over the partial sums. -/
theorem tail (u : Fin 1) (j : Fin 2048) : Pipeline.afterTail₀ cfgs (dats m) 0 (V0 m) [hostOps1] c main_v2 (ix2 u j) = (gainGrad X (rowDot Z W) j : EReal) := by
  show StableHlo.after hostOps1 _ _ _ = _
  after_results_simp
  have hP : ∀ s j, (Pipeline.withArrays (cfgs 0).spec c (V0 m c) (fun w => (dats m 0 c).arrAt w (cfgs 0).N) (Proc.tc.devRef main_v0_2) :
      (⟨S8x2048, .f32⟩ : BufTy).Contents (Elt Ideal)) (ix2 s j) = ((∑ t : Fin 8, gainAt X (rowDot Z W) t s j : ℝ) : EReal) := fun s j =>
    (congrFun (Pipeline.withArrays_arr (cfgs 0).spec (by decide) c (V0 m c) _ 7) _).trans (out_gain hZ hW hX s j)
  generalize Pipeline.withArrays (cfgs 0).spec c (V0 m c) (fun w => (dats m 0 c).arrAt w (cfgs 0).N) (Proc.tc.devRef main_v0_2) = P at hP ⊢
  pointwise
  simp only [hP, sum_coe]
  exact congrArg Real.toEReal (sum_gainAt X (rowDot Z W) j)

include hZ hW hX hG hR in
theorem out_dx (r : Fin 4096) (j : Fin 2048) : (dats m 0 c).arrAt 5 cfg0.N (ix2 r j) = R r j + (grad (X r) (scaled (rowDot Z W) G r) j : EReal) := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 5 cfg0.N) (by blk_ext [idx t, rowAt] : _ = ((cfg0.win 5).blk t).view.emb (ix2 y j))).trans ?_
  refine ((dats m 0 c).arrAt_emb_eq_flushed 5 (Pipeline.Window.hdisj_of_index_inj _ (by decide +kernel)) t ((by decide +kernel : ∀ t : Fin cfg0.N, (cfg0.win 5).flush t = true) t) _).trans ?_
  blk_simp
  rw [after0_5, (after_dx t).1, block_dx (in_dz hZ t) (in_w hW t) (in_x hX t) (in_g hG t), in_r hR]; rfl

include hZ hW hX hG hR in
theorem out_dxb (r : Fin 4096) (j : Fin 2048) : (dats m 0 c).arrAt 6 cfg0.N (ix2 r j) = R r j + (grad (X r) (scaled (rowDot Z W) G r) j : EReal) := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 6 cfg0.N) (by blk_ext [idx t, rowAt] : _ = ((cfg0.win 6).blk t).view.emb (ix2 y j))).trans ?_
  refine ((dats m 0 c).arrAt_emb_eq_flushed 6 (Pipeline.Window.hdisj_of_index_inj _ (by decide +kernel)) t ((by decide +kernel : ∀ t : Fin cfg0.N, (cfg0.win 6).flush t = true) t) _).trans ?_
  blk_simp
  rw [after0_6, (after_dx t).2]
  pointwise [k0_pay7]
  rw [block_dx (in_dz hZ t) (in_w hW t) (in_x hX t) (in_g hG t), in_r hR]; rfl

end Arrays

section Reference

open Cert.DGateRefIdeal.Read

variable {x0 : (⟨S4096x2048, .bf16⟩ : BufTy).Contents (Elt Ideal)} {x1 : (⟨S2048x2048, .bf16⟩ : BufTy).Contents (Elt Ideal)} {x2 x4 : (⟨S4096x2048, .f32⟩ : BufTy).Contents (Elt Ideal)}
  {x3 : (⟨S1x2048, .f32⟩ : BufTy).Contents (Elt Ideal)} {Z : Fin 4096 → Fin 2048 → ℝ} {W : Fin 2048 → Fin 2048 → ℝ} {X : Fin 4096 → Fin 2048 → ℝ} {G : Fin 2048 → ℝ}
  (hZ : ∀ r k, x0 (ix2 r k) = (Z r k : EReal)) (hW : ∀ j k, x1 (ix2 j k) = (W j k : EReal)) (hX : ∀ r j, x2 (ix2 r j) = (X r j : EReal)) (hG : ∀ j, x3 (ix2 0 j) = (G j : EReal))

include hX in
theorem ref_ms (r : Fin 4096) (u : Fin 1) : val_main_v7 (F := Ideal) x2 (ix2 r u) = (ms (X r) : EReal) := by
  pointwise [val_main_v7, val_main_v6, val_main_v5, val_main_v4, val_main_v3, val_main_v2, val_main_v1, val_main_cst, val_main_cst_0, val_main_cst_1]
  simp only [hX]
  exact ms_val (X r)
include hX in
theorem ref_rs (r : Fin 4096) (u : Fin 1) : val_main_v8 (F := Ideal) x2 (ix2 r u) = (rs (X r) : EReal) := by
  pointwise [val_main_v8]
  rw [ref_ms hX, rs_val]

include hZ hW

theorem ref_dy (r : Fin 4096) (j : Fin 2048) : val_main_v20 (F := Ideal) x0 x1 (ix2 r j) = (rowDot Z W r j : EReal) := by
  pointwise [val_main_v20, val_main_v19, val_main_v17]
  simp only [hZ, hW, ← EReal.coe_mul, sum_coe]; rfl

include hX

theorem ref_gain (u : Fin 1) (j : Fin 2048) : val_main_v42 (F := Ideal) x0 x1 x2 (ix2 u j) = (gainGrad X (rowDot Z W) j : EReal) := by
  pointwise [val_main_v42, val_main_v26, val_main_v23, val_main_v22, val_main_v21, val_main_v13, val_main_v12, val_main_cst_4, val_main_cst_3]
  simp only [hX, ref_dy hZ hW, ref_rs hX, ← EReal.coe_mul, sum_coe, Finset.univ_unique, Finset.sum_singleton]
  exact congrArg Real.toEReal (Finset.sum_congr rfl fun r _ => mul_comm _ _)

include hG

theorem ref_dx (r : Fin 4096) (j : Fin 2048) : val_main_v41 (F := Ideal) x0 x1 x2 x3 x4 (ix2 r j) = x4 (ix2 r j) + (grad (X r) (scaled (rowDot Z W) G r) j : EReal) := by
  pointwise [val_main_v41, val_main_v40, val_main_v39, val_main_v38, val_main_v37, val_main_v36, val_main_v35, val_main_v34, val_main_v33, val_main_v32, val_main_v31,
    val_main_v30, val_main_v29, val_main_v28, val_main_v27, val_main_v25, val_main_v24, val_main_v14, val_main_v12, val_main_v11, val_main_v10, val_main_v9,
    val_main_v0, val_main_cst_7, val_main_cst_5, val_main_cst_6, val_main_cst_2]
  simp only [hX, hG, ref_dy hZ hW, ref_rs hX, ref_ms hX]
  rw [← ref_grad]
  simp only [scaled, EReal.coe_mul]

end Reference

/-! ## The claims -/

/-- What the precondition says: the cotangent, the weights, the rows and the gain are real. -/
theorem real_args {x0 : (⟨S4096x2048, .bf16⟩ : BufTy).Contents (Elt Ideal)} {x1 : (⟨S2048x2048, .bf16⟩ : BufTy).Contents (Elt Ideal)} {x2 x4 : (⟨S4096x2048, .f32⟩ : BufTy).Contents (Elt Ideal)}
    {x3 : (⟨S1x2048, .f32⟩ : BufTy).Contents (Elt Ideal)}
    (h : (Cert.Pre_finite_d_gate.fn (F := Ideal) x0 x1 x2 x3 x4).1 = (fun _ => 1#1) ∧ (Cert.Pre_finite_d_gate.fn (F := Ideal) x0 x1 x2 x3 x4).2.1 = (fun _ => 1#1)
      ∧ (Cert.Pre_finite_d_gate.fn (F := Ideal) x0 x1 x2 x3 x4).2.2.1 = (fun _ => 1#1) ∧ (Cert.Pre_finite_d_gate.fn (F := Ideal) x0 x1 x2 x3 x4).2.2.2 = (fun _ => 1#1)) :
    (∃ Z : Fin 4096 → Fin 2048 → ℝ, ∀ r k, x0 (ix2 r k) = (Z r k : EReal)) ∧ (∃ W : Fin 2048 → Fin 2048 → ℝ, ∀ j k, x1 (ix2 j k) = (W j k : EReal))
      ∧ (∃ X : Fin 4096 → Fin 2048 → ℝ, ∀ r j, x2 (ix2 r j) = (X r j : EReal)) ∧ (∃ G : Fin 2048 → ℝ, ∀ j, x3 (ix2 0 j) = (G j : EReal)) := by
  have e0 (r : Fin 4096) (j : Fin 2048) : ∃ b : ℝ, x0 (ix2 r j) = (b : EReal) := by
    have := congrFun h.1 (ix2 r j)
    revert this
    pointwise [Pre_finite_d_gate.fn]
    exact real_of_lt_bit
  have e1 (r : Fin 2048) (j : Fin 2048) : ∃ b : ℝ, x1 (ix2 r j) = (b : EReal) := by
    have := congrFun h.2.1 (ix2 r j)
    revert this
    pointwise [Pre_finite_d_gate.fn]
    exact real_of_lt_bit
  have e2 (r : Fin 4096) (j : Fin 2048) : ∃ b : ℝ, x2 (ix2 r j) = (b : EReal) := by
    have := congrFun h.2.2.1 (ix2 r j)
    revert this
    pointwise [Pre_finite_d_gate.fn]
    exact real_of_lt_bit
  have e3 (j : Fin 2048) : ∃ b : ℝ, x3 (ix2 0 j) = (b : EReal) := by
    have := congrFun h.2.2.2 (ix2 0 j)
    revert this
    pointwise [Pre_finite_d_gate.fn]
    exact real_of_lt_bit
  choose Z hZ using e0
  choose W hW using e1
  choose X hX using e2
  choose G hG using e3
  exact ⟨⟨Z, hZ⟩, ⟨W, hW⟩, ⟨X, hX⟩, ⟨G, hG⟩⟩

theorem frame_ref : Cert.quiescent_DGateRefIdeal := fun m ρ _ =>
  (θ_run Cert.DGateRefIdeal.defs _ _).mono (fun r h => ⟨fun c => (h c).2.2.2, sem_eq_zero_of_no_sems (by decide) r.2⟩)
    (Cert.DGateRefIdeal.Value.run (F := Ideal) m ρ)

/-- The two programs run and end with the same row gradient, in both precisions, and the same gain's gradient. -/
theorem algebraic : Cert.algebraic_DGateIdeal_DGateRefIdeal_pre_finite_d_gate := by
  pair_intro
  · run_from Cert.DGateIdeal.Gen.run_main m g
  · run_from Cert.DGateRefIdeal.Value.run m' g'
    all_goals
      obtain ⟨⟨Z, hZ⟩, ⟨W, hW⟩, ⟨X, hX⟩, ⟨G, hG⟩⟩ := real_args (hpre c)
      have hZ' := fun r j => (congrFun (hagree c).1 (ix2 r j)).trans (hZ r j)
      have hW' := fun r j => (congrFun (hagree c).2.1 (ix2 r j)).trans (hW r j)
      have hX' := fun r j => (congrFun (hagree c).2.2.1 (ix2 r j)).trans (hX r j)
      have hG' := fun j => (congrFun (hagree c).2.2.2.1 (ix2 0 j)).trans (hG j)
      refine funext fun y => ?_
      first
        | obtain ⟨r, j, rfl⟩ := idx2_eq (N := 4096) (n := 2048) y
        | obtain ⟨r, j, rfl⟩ := idx2_eq (N := 1) (n := 2048) y
    · exact ((congrFun (Cert.DGateRefIdeal.Read.val_main_v41_eq m' c) _).trans (ref_dx hZ' hW' hX' hG' r j)).trans
        (out_dx hZ hW hX hG (fun r j => (congrFun (hagree c).2.2.2.2 (ix2 r j)).symm) r j).symm
    · refine ((congrFun (Cert.DGateRefIdeal.Read.val_main_v43_eq m' c) _).trans ?_).trans (out_dxb hZ hW hX hG (fun r j => (congrFun (hagree c).2.2.2.2 (ix2 r j)).symm) r j).symm
      pointwise [Cert.DGateRefIdeal.Read.val_main_v43]
      exact ref_dx hZ' hW' hX' hG' r j
    · exact (ref_gain hZ hW hX r j).trans (tail hZ hW hX r j).symm

end Cert.Proof.DGate

end
-- ==== Proof.DAttnIn.lean ====
module

public import proofs.«01_k».proof.Defs
public import proofs.«01_k».proof.Proof.Norm
public import proofs.«01_k».proof.Proof.Gen.DAttnInIdeal.Frame
public import proofs.«01_k».proof.Proof.Gen.DAttnInRefIdeal.Run
public import proofs.«01_k».proof.Proof.Gen.DAttnInRefIdeal.Read
public import proofs.«01_k».proof.Proof.Gen.Pre_finite_d_attn_in
public import Idealize.ShloMosaic.Lib.Pipeline.ValueKit
public import Idealize.ShloMosaic.Lib.Claim

@[expose] public section

set_option maxRecDepth 16384

noncomputable section

/-! The gradient through the attentions' input product and the norm before it. -/

namespace Cert.Proof.DAttnIn

open Cert.DAttnInIdeal Cert.DAttnInIdeal.Gen Idealize.ShloMosaic Idealize.ShloMosaic.TcCoe Idealize.SL.Sem Cert.Proof.Lift Cert.Proof.Norm

/-! ## One block -/

section Block

variable {a : Vec Ideal S512x3072 .bf16} {w : Vec Ideal S2048x3072 .bf16} {x : Vec Ideal S512x2048 .f32} {g : Vec Ideal S1x2048 .f32} {r : Vec Ideal S512x2048 .f32}
  {Z : Fin 512 → Fin 3072 → ℝ} {W : Fin 2048 → Fin 3072 → ℝ} {X : Fin 512 → Fin 2048 → ℝ} {G : Fin 2048 → ℝ}
  (ha : ∀ i k, a (ix2 i k) = (Z i k : EReal)) (hw : ∀ j k, w (ix2 j k) = (W j k : EReal)) (hx : ∀ i j, x (ix2 i j) = (X i j : EReal)) (hg : ∀ j, g (ix2 0 j) = (G j : EReal))

include ha hw in
theorem block_dy (i : Fin 512) (j : Fin 2048) : k0_pay2 (F := Ideal) a w (ix2 i j) = (rowDot Z W i j : EReal) := by
  pointwise [k0_pay2]
  simp only [ha, hw, ← EReal.coe_mul, sum_coe]; rfl

include hx

theorem block_rs (i : Fin 512) : k0_pay3 (F := Ideal) x (ix2 i (0 : Fin 1)) = (rs (X i) : EReal) := by
  pointwise [k0_pay3]
  simp only [hx]
  rw [ms_val, rs_val]

include ha hw

theorem block_gain (s : Fin 8) (j : Fin 2048) : k0_pay6 (F := Ideal) a w x (ix2 s j)
    = ((∑ b : Fin 64, rowDot Z W ⟨b * 8 + s, by omega⟩ j * (X ⟨b * 8 + s, by omega⟩ j * rs (X ⟨b * 8 + s, by omega⟩)) : ℝ) : EReal) := by
  pointwise [k0_pay6, k0_pay4]
  simp only [hx, block_dy ha hw, block_rs hx, ← EReal.coe_mul, sum_coe]

include hg

theorem block_dx (i : Fin 512) (j : Fin 2048) : k0_pay5 (F := Ideal) a w x g r (ix2 i j) = r (ix2 i j) + (grad (X i) (fun k => rowDot Z W i k * G k) j : EReal) := by
  pointwise [k0_pay5, k0_pay4]
  simp only [hx, hg, block_dy ha hw, block_rs hx]
  refine congrArg (r (ix2 i j) + ·) ?_
  rw [← kernel_grad]
  simp only [EReal.coe_mul]

end Block

/-! ## The arrays -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

section Arrays

variable {m : (ℓ : Loc nD τ sig) → Buf (Elt Ideal) ℓ} {c : Dev nD} {Z : Fin 4096 → Fin 3072 → ℝ} {W : Fin 2048 → Fin 3072 → ℝ} {X : Fin 4096 → Fin 2048 → ℝ} {G : Fin 2048 → ℝ}
  (hZ : ∀ r k, m ((c : Thread nD τ).loc main_arg0) (ix2 r k) = (Z r k : EReal)) (hW : ∀ j k, m ((c : Thread nD τ).loc main_arg1) (ix2 j k) = (W j k : EReal))
  (hX : ∀ r j, m ((c : Thread nD τ).loc main_arg2) (ix2 r j) = (X r j : EReal))
  (hG : ∀ j, m ((c : Thread nD τ).loc main_arg3) (ix2 0 j) = (G j : EReal)) {R : Fin 4096 → Fin 2048 → EReal} (hR : ∀ r j, m ((c : Thread nD τ).loc main_arg4) (ix2 r j) = R r j)

include hZ in
theorem in_dz (t : Fin cfg0.N) (y : Fin 512) (k : Fin 3072) : iblk m c 0 t (ix2 y k) = (Z (rowAt t y) k : EReal) :=
  (congrArg (m ((c : Thread nD τ).loc main_arg0)) (by blk_ext [idx t, rowAt] : _ = ix2 (rowAt t y) k)).trans (hZ _ _)
include hW in
theorem in_w (t : Fin cfg0.N) (j : Fin 2048) (k : Fin 3072) : iblk m c 1 t (ix2 j k) = (W j k : EReal) :=
  (congrArg (m ((c : Thread nD τ).loc main_arg1)) (by blk_ext [idx t] : _ = ix2 j k)).trans (hW _ _)
include hX in
theorem in_x (t : Fin cfg0.N) (y : Fin 512) (j : Fin 2048) : iblk m c 2 t (ix2 y j) = (X (rowAt t y) j : EReal) :=
  (congrArg (m ((c : Thread nD τ).loc main_arg2)) (by blk_ext [idx t, rowAt] : _ = ix2 (rowAt t y) j)).trans (hX _ _)
include hG in
theorem in_g (t : Fin cfg0.N) (j : Fin 2048) : iblk m c 4 t (ix2 0 j) = (G j : EReal) :=
  (congrArg (m ((c : Thread nD τ).loc main_arg3)) (by blk_ext [idx t] : _ = ix2 0 j)).trans (hG _)
include hR in
theorem in_r (t : Fin cfg0.N) (y : Fin 512) (j : Fin 2048) : iblk m c 3 t (ix2 y j) = R (rowAt t y) j :=
  (congrArg (m ((c : Thread nD τ).loc main_arg4)) (by blk_ext [idx t, rowAt] : _ = ix2 (rowAt t y) j)).trans (hR _ _)

/-- What a point leaves of the row gradient. -/
theorem after_dx (t : Fin cfg0.N) : (outsAt0 m c t.val t.isLt).1 = k0_pay5 (F := Ideal) (iblk m c 0 t) (iblk m c 1 t) (iblk m c 2 t) (iblk m c 4 t) (iblk m c 3 t) := by
  by_cases h : t.val % 8 = 0
  · rw [outsAt0_A m c t h (by have : t.val < 8 := t.isLt; omega)]
    frame_out
  · rw [outsAt0_B m c t h (by omega)]
    frame_out

include hZ hW hX in
theorem gain_start (t : Fin cfg0.N) (h : t.val % 8 = 0) (s : Fin 8) (j : Fin 2048) :
    (outsAt0 m c t.val t.isLt).2 (ix2 s j) = 0 + (gainAt X (rowDot Z W) t.val s j : EReal) := by
  rw [outsAt0_A m c t h (by have : t.val < 8 := t.isLt; omega)]
  frame_out
  exact (block_gain (in_dz hZ t) (in_w hW t) (in_x hX t) s j).trans (zero_add _).symm
include hZ hW hX in
theorem gain_step (t : Fin cfg0.N) (h : ¬t.val % 8 = 0) (s : Fin 8) (j : Fin 2048) : (outsAt0 m c t.val t.isLt).2 (ix2 s j)
    = (outsAt0 m c (t.val - 1) (Nat.lt_of_le_of_lt (Nat.sub_le _ _) t.isLt)).2 (ix2 s j) + (gainAt X (rowDot Z W) t.val s j : EReal) := by
  rw [outsAt0_B m c t h (by omega)]
  frame_out
  pointwise [k0_pay1]
  exact congrArg (_ + ·) (block_gain (in_dz hZ t) (in_w hW t) (in_x hX t) s j)

include hZ hW hX in
/-- The array of partial sums, when the grid is done. -/
theorem out_gain (s : Fin 8) (j : Fin 2048) : (dats m 0 c).arrAt 6 cfg0.N (ix2 s j) = ((∑ t : Fin 8, gainAt X (rowDot Z W) t s j : ℝ) : EReal) := by
  have key : (dats m 0 c).arrAt 6 cfg0.N = fun i : S8x2048.Idx => ((∑ t : Fin 8, gainAt X (rowDot Z W) t (i 0) (i 1) : ℝ) : EReal) := by
    refine (dats m 0 c).arrAt_eq_of_after_last 6 t0_7 (by decide +kernel) _ fun i => ?_
    blk_simp
    obtain ⟨a, b, rfl⟩ := idx2_eq (N := 8) (n := 2048) i
    rw [after0_6, Pipeline.eq_sum_fin_of_reset_step_apply_last (fun n h (p : Fin 8 × Fin 2048) => (outsAt0 m c n h).2 (ix2 p.1 p.2)) 8 (fun _ => 0)
      (fun t p => (gainAt X (rowDot Z W) t.val p.1 p.2 : EReal)) (fun t h p => gain_start hZ hW hX t h p.1 p.2) (fun t h p => gain_step hZ hW hX t h p.1 p.2)
      (by decide) t0_7 (by decide) (a, b)]
    rw [zero_add]
    exact sum_coe fun t : Fin 8 => gainAt X (rowDot Z W) t a b
  rw [key]; rfl

include hZ hW hX in
/-- The host's sum over the partial sums. -/
theorem tail (u : Fin 1) (j : Fin 2048) : Pipeline.afterTail₀ cfgs (dats m) 0 (V0 m) [hostOps1] c main_v2 (ix2 u j) = (gainGrad X (rowDot Z W) j : EReal) := by
  show StableHlo.after hostOps1 _ _ _ = _
  after_results_simp
  have hP : ∀ s j, (Pipeline.withArrays (cfgs 0).spec c (V0 m c) (fun w => (dats m 0 c).arrAt w (cfgs 0).N) (Proc.tc.devRef main_v0_1) :
      (⟨S8x2048, .f32⟩ : BufTy).Contents (Elt Ideal)) (ix2 s j) = ((∑ t : Fin 8, gainAt X (rowDot Z W) t s j : ℝ) : EReal) := fun s j =>
    (congrFun (Pipeline.withArrays_arr (cfgs 0).spec (by decide) c (V0 m c) _ 6) _).trans (out_gain hZ hW hX s j)
  generalize Pipeline.withArrays (cfgs 0).spec c (V0 m c) (fun w => (dats m 0 c).arrAt w (cfgs 0).N) (Proc.tc.devRef main_v0_1) = P at hP ⊢
  pointwise
  simp only [hP, sum_coe]
  exact congrArg Real.toEReal (sum_gainAt X (rowDot Z W) j)

include hZ hW hX hG hR in
theorem out_dx (r : Fin 4096) (j : Fin 2048) : (dats m 0 c).arrAt 5 cfg0.N (ix2 r j) = R r j + (grad (X r) (scaled (rowDot Z W) G r) j : EReal) := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 5 cfg0.N) (by blk_ext [idx t, rowAt] : _ = ((cfg0.win 5).blk t).view.emb (ix2 y j))).trans ?_
  refine ((dats m 0 c).arrAt_emb_eq_flushed 5 (Pipeline.Window.hdisj_of_index_inj _ (by decide +kernel)) t ((by decide +kernel : ∀ t : Fin cfg0.N, (cfg0.win 5).flush t = true) t) _).trans ?_
  blk_simp
  rw [after0_5, after_dx t, block_dx (in_dz hZ t) (in_w hW t) (in_x hX t) (in_g hG t), in_r hR]; rfl

end Arrays

section Reference

open Cert.DAttnInRefIdeal.Read

variable {x0 : (⟨S4096x3072, .bf16⟩ : BufTy).Contents (Elt Ideal)} {x1 : (⟨S2048x3072, .bf16⟩ : BufTy).Contents (Elt Ideal)} {x2 x4 : (⟨S4096x2048, .f32⟩ : BufTy).Contents (Elt Ideal)}
  {x3 : (⟨S1x2048, .f32⟩ : BufTy).Contents (Elt Ideal)} {Z : Fin 4096 → Fin 3072 → ℝ} {W : Fin 2048 → Fin 3072 → ℝ} {X : Fin 4096 → Fin 2048 → ℝ} {G : Fin 2048 → ℝ}
  (hZ : ∀ r k, x0 (ix2 r k) = (Z r k : EReal)) (hW : ∀ j k, x1 (ix2 j k) = (W j k : EReal)) (hX : ∀ r j, x2 (ix2 r j) = (X r j : EReal)) (hG : ∀ j, x3 (ix2 0 j) = (G j : EReal))

include hX in
theorem ref_ms (r : Fin 4096) (u : Fin 1) : val_main_v7 (F := Ideal) x2 (ix2 r u) = (ms (X r) : EReal) := by
  pointwise [val_main_v7, val_main_v6, val_main_v5, val_main_v4, val_main_v3, val_main_v2, val_main_v1, val_main_cst, val_main_cst_0, val_main_cst_1]
  simp only [hX]
  exact ms_val (X r)
include hX in
theorem ref_rs (r : Fin 4096) (u : Fin 1) : val_main_v8 (F := Ideal) x2 (ix2 r u) = (rs (X r) : EReal) := by
  pointwise [val_main_v8]
  rw [ref_ms hX, rs_val]

include hZ hW

theorem ref_dy (r : Fin 4096) (j : Fin 2048) : val_main_v20 (F := Ideal) x0 x1 (ix2 r j) = (rowDot Z W r j : EReal) := by
  pointwise [val_main_v20, val_main_v19, val_main_v17]
  simp only [hZ, hW, ← EReal.coe_mul, sum_coe]; rfl

include hX

theorem ref_gain (u : Fin 1) (j : Fin 2048) : val_main_v42 (F := Ideal) x0 x1 x2 (ix2 u j) = (gainGrad X (rowDot Z W) j : EReal) := by
  pointwise [val_main_v42, val_main_v26, val_main_v23, val_main_v22, val_main_v21, val_main_v13, val_main_v12, val_main_cst_4, val_main_cst_3]
  simp only [hX, ref_dy hZ hW, ref_rs hX, ← EReal.coe_mul, sum_coe, Finset.univ_unique, Finset.sum_singleton]
  exact congrArg Real.toEReal (Finset.sum_congr rfl fun r _ => mul_comm _ _)

include hG

theorem ref_dx (r : Fin 4096) (j : Fin 2048) : val_main_v41 (F := Ideal) x0 x1 x2 x3 x4 (ix2 r j) = x4 (ix2 r j) + (grad (X r) (scaled (rowDot Z W) G r) j : EReal) := by
  pointwise [val_main_v41, val_main_v40, val_main_v39, val_main_v38, val_main_v37, val_main_v36, val_main_v35, val_main_v34, val_main_v33, val_main_v32, val_main_v31,
    val_main_v30, val_main_v29, val_main_v28, val_main_v27, val_main_v25, val_main_v24, val_main_v14, val_main_v12, val_main_v11, val_main_v10, val_main_v9,
    val_main_v0, val_main_cst_7, val_main_cst_5, val_main_cst_6, val_main_cst_2]
  simp only [hX, hG, ref_dy hZ hW, ref_rs hX, ref_ms hX]
  rw [← ref_grad]
  simp only [scaled, EReal.coe_mul]

end Reference

/-! ## The claims -/

/-- What the precondition says: the cotangent, the weights, the rows and the gain are real. -/
theorem real_args {x0 : (⟨S4096x3072, .bf16⟩ : BufTy).Contents (Elt Ideal)} {x1 : (⟨S2048x3072, .bf16⟩ : BufTy).Contents (Elt Ideal)} {x2 x4 : (⟨S4096x2048, .f32⟩ : BufTy).Contents (Elt Ideal)}
    {x3 : (⟨S1x2048, .f32⟩ : BufTy).Contents (Elt Ideal)}
    (h : (Cert.Pre_finite_d_attn_in.fn (F := Ideal) x0 x1 x2 x3 x4).1 = (fun _ => 1#1) ∧ (Cert.Pre_finite_d_attn_in.fn (F := Ideal) x0 x1 x2 x3 x4).2.1 = (fun _ => 1#1)
      ∧ (Cert.Pre_finite_d_attn_in.fn (F := Ideal) x0 x1 x2 x3 x4).2.2.1 = (fun _ => 1#1) ∧ (Cert.Pre_finite_d_attn_in.fn (F := Ideal) x0 x1 x2 x3 x4).2.2.2 = (fun _ => 1#1)) :
    (∃ Z : Fin 4096 → Fin 3072 → ℝ, ∀ r k, x0 (ix2 r k) = (Z r k : EReal)) ∧ (∃ W : Fin 2048 → Fin 3072 → ℝ, ∀ j k, x1 (ix2 j k) = (W j k : EReal))
      ∧ (∃ X : Fin 4096 → Fin 2048 → ℝ, ∀ r j, x2 (ix2 r j) = (X r j : EReal)) ∧ (∃ G : Fin 2048 → ℝ, ∀ j, x3 (ix2 0 j) = (G j : EReal)) := by
  have e0 (r : Fin 4096) (j : Fin 3072) : ∃ b : ℝ, x0 (ix2 r j) = (b : EReal) := by
    have := congrFun h.1 (ix2 r j)
    revert this
    pointwise [Pre_finite_d_attn_in.fn]
    exact real_of_lt_bit
  have e1 (r : Fin 2048) (j : Fin 3072) : ∃ b : ℝ, x1 (ix2 r j) = (b : EReal) := by
    have := congrFun h.2.1 (ix2 r j)
    revert this
    pointwise [Pre_finite_d_attn_in.fn]
    exact real_of_lt_bit
  have e2 (r : Fin 4096) (j : Fin 2048) : ∃ b : ℝ, x2 (ix2 r j) = (b : EReal) := by
    have := congrFun h.2.2.1 (ix2 r j)
    revert this
    pointwise [Pre_finite_d_attn_in.fn]
    exact real_of_lt_bit
  have e3 (j : Fin 2048) : ∃ b : ℝ, x3 (ix2 0 j) = (b : EReal) := by
    have := congrFun h.2.2.2 (ix2 0 j)
    revert this
    pointwise [Pre_finite_d_attn_in.fn]
    exact real_of_lt_bit
  choose Z hZ using e0
  choose W hW using e1
  choose X hX using e2
  choose G hG using e3
  exact ⟨⟨Z, hZ⟩, ⟨W, hW⟩, ⟨X, hX⟩, ⟨G, hG⟩⟩

theorem frame_ref : Cert.quiescent_DAttnInRefIdeal := fun m ρ _ =>
  (θ_run Cert.DAttnInRefIdeal.defs _ _).mono (fun r h => ⟨fun c => (h c).2.2, sem_eq_zero_of_no_sems (by decide) r.2⟩)
    (Cert.DAttnInRefIdeal.Value.run (F := Ideal) m ρ)

/-- The two programs run and end with the same row gradient, and the same gain's gradient. -/
theorem algebraic : Cert.algebraic_DAttnInIdeal_DAttnInRefIdeal_pre_finite_d_attn_in := by
  pair_intro
  · run_from Cert.DAttnInIdeal.Gen.run_main m g
  · run_from Cert.DAttnInRefIdeal.Value.run m' g'
    all_goals
      obtain ⟨⟨Z, hZ⟩, ⟨W, hW⟩, ⟨X, hX⟩, ⟨G, hG⟩⟩ := real_args (hpre c)
      have hZ' := fun r j => (congrFun (hagree c).1 (ix2 r j)).trans (hZ r j)
      have hW' := fun r j => (congrFun (hagree c).2.1 (ix2 r j)).trans (hW r j)
      have hX' := fun r j => (congrFun (hagree c).2.2.1 (ix2 r j)).trans (hX r j)
      have hG' := fun j => (congrFun (hagree c).2.2.2.1 (ix2 0 j)).trans (hG j)
      refine funext fun y => ?_
      first
        | obtain ⟨r, j, rfl⟩ := idx2_eq (N := 4096) (n := 2048) y
        | obtain ⟨r, j, rfl⟩ := idx2_eq (N := 1) (n := 2048) y
    · exact ((congrFun (Cert.DAttnInRefIdeal.Read.val_main_v41_eq m' c) _).trans (ref_dx hZ' hW' hX' hG' r j)).trans
        (out_dx hZ hW hX hG (fun r j => (congrFun (hagree c).2.2.2.2 (ix2 r j)).symm) r j).symm
    · exact (ref_gain hZ hW hX r j).trans (tail hZ hW hX r j).symm

end Cert.Proof.DAttnIn

end
-- ==== Proof.GateTail.Math.lean ====
module

public import proofs.«01_k».proof.Proof.Norm

@[expose] public section

noncomputable section

/-! The gate, the last norm and the loss over real numbers, and their gradients. -/

namespace Cert.Proof.GateTail

open Idealize.ShloMosaic Cert.Proof.Lift Cert.Proof.Norm

theorem one_bits : Ideal.ofBits .f32 0x3F800000#32 = ((1 : ℝ) : EReal) := by
  simp [Ideal.ofBits, Ideal.ieee, ← EReal.coe_mul]; norm_num
theorem two_bits : Ideal.ofBits .f32 0x40000000#32 = ((2 : ℝ) : EReal) := by
  simp [Ideal.ofBits, Ideal.ieee, ← EReal.coe_mul]; norm_num
theorem half_bits : Ideal.ofBits .f32 0x3F000000#32 = ((1 / 2 : ℝ) : EReal) := by
  simp [Ideal.ofBits, Ideal.ieee, ← EReal.coe_mul]; norm_num
theorem inv_len_bits : Ideal.ofBits .f32 0x3A000000#32 = ((1 / 2048 : ℝ) : EReal) := by
  simp [Ideal.ofBits, Ideal.ieee, ← EReal.coe_mul]; norm_num
/-- The logistic function; it is real at the infinities too. -/
def logis (z : EReal) : ℝ := (Ideal.div 1 (1 + Ideal.exp (-z))).toReal

theorem logis_val (z : EReal) : Ideal.div 1 (1 + Ideal.exp (-z)) = (logis z : EReal) := by
  rw [logis]
  induction z using EReal.rec with
  | bot =>
    have e : Ideal.exp (-⊥) = ⊤ := by rw [EReal.neg_bot]; rfl
    have h : (1 : EReal) + ⊤ = ⊤ := EReal.coe_add_top 1
    simp [e, h, Ideal.div]
  | top =>
    have e : Ideal.exp (-⊤) = 0 := by rw [EReal.neg_top]; rfl
    rw [e, add_zero, ← EReal.coe_one, div_coe' _ _ one_ne_zero, EReal.toReal_coe]
  | coe z =>
    rw [← EReal.coe_neg]
    have e : Ideal.exp ((-z : ℝ) : EReal) = ((Real.exp (-z) : ℝ) : EReal) := rfl
    rw [e, ← EReal.coe_one, ← EReal.coe_add, div_coe' _ _ (by positivity), EReal.toReal_coe]

/-- What the rows bring: the gate, the rows before it, the embedding, the target, and the two gains. -/
structure Data (n : ℕ) where
  s : Fin n → Fin 2048 → ℝ
  h : Fin n → Fin 2048 → ℝ
  p : Fin n → Fin 2048 → ℝ
  t : Fin n → Fin 2048 → ℝ
  gp : Fin 2048 → ℝ
  gf : Fin 2048 → ℝ

namespace Data

variable {n : ℕ} (d : Data n)

/-- Some of the rows. -/
def at' {k : ℕ} (f : Fin k → Fin n) : Data k := ⟨d.s ∘ f, d.h ∘ f, d.p ∘ f, d.t ∘ f, d.gp, d.gf⟩

/-- The embedding, scaled to its norm and gain. -/
def emb (i : Fin n) (j : Fin 2048) : ℝ := d.p i j * rs (d.p i) * d.gp j
/-- The row after the gate. -/
def hid (i : Fin n) (j : Fin 2048) : ℝ := d.h i j + d.s i j * d.emb i j
/-- The last norm's distance to the target. -/
def err (i : Fin n) (j : Fin 2048) : ℝ := d.hid i j * rs (d.hid i) * d.gf j - d.t i j
/-- A row's loss. -/
def loss (i : Fin n) : ℝ := 1 / 2 * ((∑ j, d.err i j * d.err i j) / 2048)
/-- The loss's gradient at the last norm. -/
def dy (i : Fin n) (j : Fin 2048) : ℝ := d.err i j * (1 / 2048)
/-- The gradient at the row after the gate. -/
def dh (i : Fin n) (j : Fin 2048) : ℝ := grad (d.hid i) (fun k => d.dy i k * d.gf k) j
/-- The gradient at the gate's argument. -/
def dz (i : Fin n) (j : Fin 2048) : ℝ := d.dh i j * d.emb i j * d.s i j * (1 - d.s i j)
/-- The gradient at the scaled embedding. -/
def de (i : Fin n) (j : Fin 2048) : ℝ := d.dh i j * d.s i j
/-- The gradient at the embedding. -/
def dp (i : Fin n) (j : Fin 2048) : ℝ := grad (d.p i) (fun k => d.de i k * d.gp k) j

/-- A term of the last norm's gain gradient. -/
def gfAt (j : Fin 2048) (i : Fin n) : ℝ := d.dy i j * (d.hid i j * rs (d.hid i))
/-- A term of the embedding norm's gain gradient. -/
def gpAt (j : Fin 2048) (i : Fin n) : ℝ := d.de i j * (d.p i j * rs (d.p i))

end Data

/-- Row `y` of grid point `t`'s block. -/
def rowAt (t : ℕ) (y : Fin 256) : Fin 4096 := ⟨t % 16 * 256 + y, by omega⟩

/-- What a point adds to the loss: the first of eight rows alone holds it. -/
def lossAt (d : Data 4096) (t : ℕ) (s : Fin 8) : ℝ := if s = 0 then ∑ i, d.loss (rowAt t i) else 0

/-- What a point adds to a sum over rows, kept by place in the group of eight. -/
def partAt (f : Fin 4096 → ℝ) (t : ℕ) (s : Fin 8) : ℝ := ∑ b : Fin 32, f (rowAt t ⟨b * 8 + s, by omega⟩)

theorem sum_rows (f : Fin 4096 → ℝ) : (∑ t : Fin 16, ∑ i, f (rowAt t i)) = ∑ r, f r := by
  rw [← Fin.sum_mul_add_fin 16 256 f]
  refine Finset.sum_congr rfl fun t _ => Finset.sum_congr rfl fun i _ => congrArg f (Fin.ext ?_)
  simp only [rowAt]; omega

theorem sum_partAt (f : Fin 4096 → ℝ) : (∑ s, ∑ t : Fin 16, partAt f t s) = ∑ r, f r := by
  rw [Finset.sum_comm, ← sum_rows]
  refine Finset.sum_congr rfl fun t _ => ?_
  simp only [partAt]
  rw [Finset.sum_comm, ← Fin.sum_mul_add_fin 32 8 (fun k : Fin 256 => f (rowAt t k))]

end Cert.Proof.GateTail

end
-- ==== Proof.GateTail.Block.lean ====
module

public import proofs.«01_k».proof.Defs
public import proofs.«01_k».proof.Proof.GateTail.Math
public import proofs.«01_k».proof.Proof.Gen.GateTailIdeal.Frame
public import Idealize.ShloMosaic.Lib.Pipeline.ValueKit

@[expose] public section

set_option maxRecDepth 16384

noncomputable section

/-! What the kernel computes of one block of rows. -/

namespace Cert.Proof.GateTail

open Cert.GateTailIdeal Cert.GateTailIdeal.Gen Idealize.ShloMosaic Idealize.ShloMosaic.TcCoe Idealize.SL.Sem Cert.Proof.Lift Cert.Proof.Norm

section Block

variable {a : Vec Ideal S256x2048 .bf16} {w : Vec Ideal S2048x2048 .bf16} {h p g : Vec Ideal S256x2048 .f32} {e f : Vec Ideal S1x2048 .f32}
  {A : Fin 256 → Fin 2048 → EReal} {W : Fin 2048 → Fin 2048 → EReal} {d : Data 256}
  (ha : ∀ i k, a (ix2 i k) = A i k) (hw : ∀ k j, w (ix2 k j) = W k j) (hs : ∀ i j, logis (∑ k, A i k * W k j) = d.s i j)
  (hh : ∀ i j, h (ix2 i j) = (d.h i j : EReal)) (hp : ∀ i j, p (ix2 i j) = (d.p i j : EReal)) (hg : ∀ i j, g (ix2 i j) = (d.t i j : EReal))
  (he : ∀ j, e (ix2 0 j) = (d.gp j : EReal)) (hf : ∀ j, f (ix2 0 j) = (d.gf j : EReal))

include ha hw hs in
theorem block_s (i : Fin 256) (j : Fin 2048) : k0_pay5 (F := Ideal) a w (ix2 i j) = (d.s i j : EReal) := by
  pointwise [k0_pay5]
  simp only [ha, hw]
  rw [zero_sub, logis_val, hs]

include hp

theorem block_rp (i : Fin 256) : k0_pay2 (F := Ideal) p (ix2 i (0 : Fin 1)) = (rs (d.p i) : EReal) := by
  pointwise [k0_pay2]
  simp only [hp]
  rw [ms_val, rs_val]
theorem block_en (i : Fin 256) (j : Fin 2048) : k0_pay3 (F := Ideal) p (ix2 i j) = (d.p i j : EReal) * (rs (d.p i) : EReal) := by
  pointwise [k0_pay3]
  simp only [hp, block_rp hp]

include he

theorem block_emb (i : Fin 256) (j : Fin 2048) : k0_pay4 (F := Ideal) p e (ix2 i j) = (d.emb i j : EReal) := by
  pointwise [k0_pay4]
  simp only [block_en hp, he, ← EReal.coe_mul]; rfl

include ha hw hs hh

theorem block_hid (i : Fin 256) (j : Fin 2048) : k0_pay6 (F := Ideal) a w p e h (ix2 i j) = (d.hid i j : EReal) := by
  pointwise [k0_pay6]
  simp only [block_s ha hw hs, block_emb hp he, hh, ← EReal.coe_mul, ← EReal.coe_add]; rfl
theorem block_rh (i : Fin 256) : k0_pay7 (F := Ideal) a w p e h (ix2 i (0 : Fin 1)) = (rs (d.hid i) : EReal) := by
  pointwise [k0_pay7]
  simp only [block_hid ha hw hs hh hp he]
  rw [ms_val, rs_val]

end Block

/-! The rest of the block, from the row after the gate on. -/

section Rest

variable {v27 : FVec Ideal S256x2048 .f32} {v35 : FVec Ideal S256x1 .f32} {f : Vec Ideal S1x2048 .f32} {g : Vec Ideal S256x2048 .f32} {d : Data 256}
  (h27 : ∀ i j, v27 (ix2 i j) = (d.hid i j : EReal)) (h35 : ∀ i, v35 (ix2 i (0 : Fin 1)) = (rs (d.hid i) : EReal))
  (hf : ∀ j, f (ix2 0 j) = (d.gf j : EReal)) (hg : ∀ i j, g (ix2 i j) = (d.t i j : EReal))

include h27 h35

theorem block_hn (i : Fin 256) (j : Fin 2048) : k0_pay8 (F := Ideal) v27 v35 (ix2 i j) = (d.hid i j : EReal) * (rs (d.hid i) : EReal) := by
  pointwise [k0_pay8]
  simp only [h27, h35]

include hf hg

theorem block_err (i : Fin 256) (j : Fin 2048) : k0_pay9 (F := Ideal) v27 v35 f g (ix2 i j) = (d.err i j : EReal) := by
  pointwise [k0_pay9]
  simp only [block_hn h27 h35, hf, hg, ← EReal.coe_mul, ← EReal.coe_sub]; rfl
theorem block_dy (i : Fin 256) (j : Fin 2048) : k0_pay12 (F := Ideal) v27 v35 f g (ix2 i j) = (d.dy i j : EReal) := by
  pointwise [k0_pay12]
  simp only [block_err h27 h35 hf hg, inv_len_bits, ← EReal.coe_mul]; rfl
theorem block_dgf (s : Fin 8) (j : Fin 2048) : k0_pay13 (F := Ideal) v27 v35 f g (ix2 s j)
    = ((∑ b : Fin 32, d.dy ⟨b * 8 + s, by omega⟩ j * (d.hid ⟨b * 8 + s, by omega⟩ j * rs (d.hid ⟨b * 8 + s, by omega⟩)) : ℝ) : EReal) := by
  pointwise [k0_pay13]
  simp only [block_dy h27 h35 hf hg, block_hn h27 h35, ← EReal.coe_mul, sum_coe]
theorem block_loss (s : Fin 8) (l : Fin 128) : k0_pay10 (F := Ideal) v27 v35 f g (ix2 s l) = ((if s = 0 then ∑ i, d.loss i else 0 : ℝ) : EReal) := by
  pointwise [k0_pay10]
  simp only [block_err h27 h35 hf hg, half_bits, len_bits, div_coe' _ _ (by norm_num : (2048 : ℝ) ≠ 0), ← EReal.coe_mul, sum_coe, Finset.univ_unique, Finset.sum_singleton]
  fin_cases s
  · rfl
  all_goals rfl

end Rest

section Back

variable {v12 : FVec Ideal S256x1 .f32} {v14 v17 v24 v37 v66 : FVec Ideal S256x2048 .f32} {v35 : FVec Ideal S256x1 .f32} {f e : Vec Ideal S1x2048 .f32} {d : Data 256}
  (h35 : ∀ i, v35 (ix2 i (0 : Fin 1)) = (rs (d.hid i) : EReal)) (h37 : ∀ i j, v37 (ix2 i j) = (d.hid i j : EReal) * (rs (d.hid i) : EReal))
  (h66 : ∀ i j, v66 (ix2 i j) = (d.dy i j : EReal)) (hf : ∀ j, f (ix2 0 j) = (d.gf j : EReal)) (h24 : ∀ i j, v24 (ix2 i j) = (d.s i j : EReal))
  (h17 : ∀ i j, v17 (ix2 i j) = (d.emb i j : EReal)) (h14 : ∀ i j, v14 (ix2 i j) = (d.p i j : EReal) * (rs (d.p i) : EReal))
  (h12 : ∀ i, v12 (ix2 i (0 : Fin 1)) = (rs (d.p i) : EReal)) (he : ∀ j, e (ix2 0 j) = (d.gp j : EReal))

include h35 h37 h66 hf

theorem block_dh (i : Fin 256) (j : Fin 2048) : k0_pay15 (F := Ideal) v35 v37 v66 f (ix2 i j) = (d.dh i j : EReal) := by
  pointwise [k0_pay15]
  simp only [h35, h37, h66, hf]
  rw [Data.dh, ← kernel_grad]
  simp only [EReal.coe_mul]

include h24

theorem block_de (i : Fin 256) (j : Fin 2048) : k0_pay16 (F := Ideal) v24 v35 v37 v66 f (ix2 i j) = (d.de i j : EReal) := by
  pointwise [k0_pay16]
  simp only [block_dh h35 h37 h66 hf, h24, ← EReal.coe_mul]; rfl

include h17 in
theorem block_dz (i : Fin 256) (j : Fin 2048) : k0_pay17 (F := Ideal) v17 v24 v35 v37 v66 f (ix2 i j) = (d.dz i j : EReal) := by
  pointwise [k0_pay17]
  simp only [block_dh h35 h37 h66 hf, h24, h17, one_bits, ← EReal.coe_sub, ← EReal.coe_mul]; rfl

include h14

theorem block_dgp (s : Fin 8) (j : Fin 2048) : k0_pay18 (F := Ideal) v14 v24 v35 v37 v66 f (ix2 s j)
    = ((∑ b : Fin 32, d.de ⟨b * 8 + s, by omega⟩ j * (d.p ⟨b * 8 + s, by omega⟩ j * rs (d.p ⟨b * 8 + s, by omega⟩)) : ℝ) : EReal) := by
  pointwise [k0_pay18]
  simp only [block_de h35 h37 h66 hf h24, h14, ← EReal.coe_mul, sum_coe]

include h12 he

theorem block_dp (i : Fin 256) (j : Fin 2048) :
    k0_pay1 (F := Ideal) v12 v14 (k0_pay20 v24 v35 v37 v66 f e) (k0_pay21 v14 v24 v35 v37 v66 f e) (ix2 i j) = (d.dp i j : EReal) := by
  pointwise [k0_pay1, k0_pay20, k0_pay21]
  simp only [block_de h35 h37 h66 hf h24, h14, h12, he]
  rw [Data.dp, ← kernel_grad]
  simp only [EReal.coe_mul]

end Back

end Cert.Proof.GateTail

end
-- ==== Proof.GateTail.Arrays.lean ====
module

public import proofs.«01_k».proof.Proof.GateTail.Block

@[expose] public section

set_option maxRecDepth 16384

noncomputable section

/-! The kernel's arrays when its grid is done. -/

namespace Cert.Proof.GateTail

open Cert.GateTailIdeal Cert.GateTailIdeal.Gen Idealize.ShloMosaic Idealize.ShloMosaic.TcCoe Idealize.SL.Sem Cert.Proof.Lift Cert.Proof.Norm

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![0, 0] ∧ win0_7.index t = ![t.val, 0] ∧ win0_8.index t = ![t.val, 0]
    ∧ win0_9.index t = ![t.val, 0] ∧ win0_10.index t = ![0, 0] ∧ win0_11.index t = ![0, 0] ∧ win0_12.index t = ![0, 0] :=
  (by decide +kernel : ∀ t : Fin grid0.N, _)

section Arrays

variable {m : (ℓ : Loc nD τ sig) → Buf (Elt Ideal) ℓ} {c : Dev nD} {A : Fin 4096 → Fin 2048 → EReal} {W : Fin 2048 → Fin 2048 → EReal} {d : Data 4096}
  (hA : ∀ r k, m ((c : Thread nD τ).loc main_arg0) (ix2 r k) = A r k) (hW : ∀ k j, m ((c : Thread nD τ).loc main_arg1) (ix2 k j) = W k j)
  (hS : ∀ r j, logis (∑ k, A r k * W k j) = d.s r j)
  (hH : ∀ r j, m ((c : Thread nD τ).loc main_arg2) (ix2 r j) = (d.h r j : EReal)) (hP : ∀ r j, m ((c : Thread nD τ).loc main_arg3) (ix2 r j) = (d.p r j : EReal))
  (hT : ∀ r j, m ((c : Thread nD τ).loc main_arg4) (ix2 r j) = (d.t r j : EReal))
  (hE : ∀ j, m ((c : Thread nD τ).loc main_arg5) (ix2 0 j) = (d.gp j : EReal)) (hF : ∀ j, m ((c : Thread nD τ).loc main_arg6) (ix2 0 j) = (d.gf j : EReal))

/-- A point's rows. -/
def Data.blk (d : Data 4096) (t : Fin cfg0.N) : Data 256 := d.at' (rowAt t.val)

include hA in
theorem in_a (t : Fin cfg0.N) (y : Fin 256) (k : Fin 2048) : iblk m c 0 t (ix2 y k) = A (rowAt t y) k :=
  (congrArg (m ((c : Thread nD τ).loc main_arg0)) (by blk_ext [idx t, rowAt] : _ = ix2 (rowAt t y) k)).trans (hA _ _)
include hW in
theorem in_w (t : Fin cfg0.N) (k j : Fin 2048) : iblk m c 1 t (ix2 k j) = W k j :=
  (congrArg (m ((c : Thread nD τ).loc main_arg1)) (by blk_ext [idx t] : _ = ix2 k j)).trans (hW _ _)
include hH in
theorem in_h (t : Fin cfg0.N) (y : Fin 256) (j : Fin 2048) : iblk m c 2 t (ix2 y j) = ((d.blk t).h y j : EReal) :=
  (congrArg (m ((c : Thread nD τ).loc main_arg2)) (by blk_ext [idx t, rowAt] : _ = ix2 (rowAt t y) j)).trans (hH _ _)
include hP in
theorem in_p (t : Fin cfg0.N) (y : Fin 256) (j : Fin 2048) : iblk m c 3 t (ix2 y j) = ((d.blk t).p y j : EReal) :=
  (congrArg (m ((c : Thread nD τ).loc main_arg3)) (by blk_ext [idx t, rowAt] : _ = ix2 (rowAt t y) j)).trans (hP _ _)
include hT in
theorem in_t (t : Fin cfg0.N) (y : Fin 256) (j : Fin 2048) : iblk m c 4 t (ix2 y j) = ((d.blk t).t y j : EReal) :=
  (congrArg (m ((c : Thread nD τ).loc main_arg4)) (by blk_ext [idx t, rowAt] : _ = ix2 (rowAt t y) j)).trans (hT _ _)
include hE in
theorem in_e (t : Fin cfg0.N) (j : Fin 2048) : iblk m c 5 t (ix2 0 j) = ((d.blk t).gp j : EReal) :=
  (congrArg (m ((c : Thread nD τ).loc main_arg5)) (by blk_ext [idx t] : _ = ix2 0 j)).trans (hE _)
include hF in
theorem in_f (t : Fin cfg0.N) (j : Fin 2048) : iblk m c 6 t (ix2 0 j) = ((d.blk t).gf j : EReal) :=
  (congrArg (m ((c : Thread nD τ).loc main_arg6)) (by blk_ext [idx t] : _ = ix2 0 j)).trans (hF _)

/-- The values a point's later parts are computed from. -/
def hid (m : (ℓ : Loc nD τ sig) → Buf (Elt Ideal) ℓ) (c : Dev nD) (t : Fin cfg0.N) : FVec Ideal S256x2048 .f32 :=
  k0_pay6 (iblk m c 0 t) (iblk m c 1 t) (iblk m c 3 t) (iblk m c 5 t) (iblk m c 2 t)
def rh (m : (ℓ : Loc nD τ sig) → Buf (Elt Ideal) ℓ) (c : Dev nD) (t : Fin cfg0.N) : FVec Ideal S256x1 .f32 :=
  k0_pay7 (iblk m c 0 t) (iblk m c 1 t) (iblk m c 3 t) (iblk m c 5 t) (iblk m c 2 t)
def hn (m : (ℓ : Loc nD τ sig) → Buf (Elt Ideal) ℓ) (c : Dev nD) (t : Fin cfg0.N) : FVec Ideal S256x2048 .f32 := k0_pay8 (hid m c t) (rh m c t)
def dy (m : (ℓ : Loc nD τ sig) → Buf (Elt Ideal) ℓ) (c : Dev nD) (t : Fin cfg0.N) : FVec Ideal S256x2048 .f32 := k0_pay12 (hid m c t) (rh m c t) (iblk m c 6 t) (iblk m c 4 t)
def gate (m : (ℓ : Loc nD τ sig) → Buf (Elt Ideal) ℓ) (c : Dev nD) (t : Fin cfg0.N) : FVec Ideal S256x2048 .f32 := k0_pay5 (iblk m c 0 t) (iblk m c 1 t)
def en (m : (ℓ : Loc nD τ sig) → Buf (Elt Ideal) ℓ) (c : Dev nD) (t : Fin cfg0.N) : FVec Ideal S256x2048 .f32 := k0_pay3 (iblk m c 3 t)

/-- What a point leaves of the three arrays it writes a block of. -/
theorem after_blocks (t : Fin cfg0.N) : (outsAt0 m c t.val t.isLt).1 = k0_pay15 (F := Ideal) (rh m c t) (hn m c t) (dy m c t) (iblk m c 6 t)
    ∧ (outsAt0 m c t.val t.isLt).2.1 = k0_pay17 (F := Ideal) (k0_pay4 (iblk m c 3 t) (iblk m c 5 t)) (gate m c t) (rh m c t) (hn m c t) (dy m c t) (iblk m c 6 t)
    ∧ (outsAt0 m c t.val t.isLt).2.2.1 = k0_pay1 (F := Ideal) (k0_pay2 (iblk m c 3 t)) (en m c t)
        (k0_pay20 (gate m c t) (rh m c t) (hn m c t) (dy m c t) (iblk m c 6 t) (iblk m c 5 t))
        (k0_pay21 (en m c t) (gate m c t) (rh m c t) (hn m c t) (dy m c t) (iblk m c 6 t) (iblk m c 5 t)) := by
  have lt : t.val < 16 := t.isLt
  by_cases h : t.val % 16 = 0
  · rw [outsAt0_A m c t h (by omega) h (by omega) h (by omega)]
    refine ⟨?_, ?_, ?_⟩ <;> frame_out <;> rfl
  · rw [outsAt0_B m c t h (by omega) h (by omega) h (by omega)]
    refine ⟨?_, ?_, ?_⟩ <;> frame_out <;> rfl

/-- What the first point leaves of the three arrays summed over the points. -/
theorem after_first (t : Fin cfg0.N) (h : t.val % 16 = 0) : (outsAt0 m c t.val t.isLt).2.2.2.1 = k0_pay13 (F := Ideal) (hid m c t) (rh m c t) (iblk m c 6 t) (iblk m c 4 t)
    ∧ (outsAt0 m c t.val t.isLt).2.2.2.2.1 = k0_pay18 (F := Ideal) (en m c t) (gate m c t) (rh m c t) (hn m c t) (dy m c t) (iblk m c 6 t)
    ∧ (outsAt0 m c t.val t.isLt).2.2.2.2.2 = k0_pay10 (F := Ideal) (hid m c t) (rh m c t) (iblk m c 6 t) (iblk m c 4 t) := by
  have lt : t.val < 16 := t.isLt
  rw [outsAt0_A m c t h (by omega) h (by omega) h (by omega)]
  refine ⟨?_, ?_, ?_⟩ <;> frame_out <;> rfl

/-- What a later point adds to them. -/
theorem after_later (t : Fin cfg0.N) (h : ¬t.val % 16 = 0) :
    (∀ s j, (outsAt0 m c t.val t.isLt).2.2.2.1 (ix2 s j) = (outsAt0 m c (t.val - 1) (Nat.lt_of_le_of_lt (Nat.sub_le _ _) t.isLt)).2.2.2.1 (ix2 s j)
        + k0_pay13 (F := Ideal) (hid m c t) (rh m c t) (iblk m c 6 t) (iblk m c 4 t) (ix2 s j))
    ∧ (∀ s j, (outsAt0 m c t.val t.isLt).2.2.2.2.1 (ix2 s j) = (outsAt0 m c (t.val - 1) (Nat.lt_of_le_of_lt (Nat.sub_le _ _) t.isLt)).2.2.2.2.1 (ix2 s j)
        + k0_pay18 (F := Ideal) (en m c t) (gate m c t) (rh m c t) (hn m c t) (dy m c t) (iblk m c 6 t) (ix2 s j))
    ∧ (∀ s j, (outsAt0 m c t.val t.isLt).2.2.2.2.2 (ix2 s j) = (outsAt0 m c (t.val - 1) (Nat.lt_of_le_of_lt (Nat.sub_le _ _) t.isLt)).2.2.2.2.2 (ix2 s j)
        + k0_pay10 (F := Ideal) (hid m c t) (rh m c t) (iblk m c 6 t) (iblk m c 4 t) (ix2 s j)) := by
  have lt : t.val < 16 := t.isLt
  rw [outsAt0_B m c t h (by omega) h (by omega) h (by omega)]
  refine ⟨fun s j => ?_, fun s j => ?_, fun s j => ?_⟩ <;> frame_out
  · pointwise [k0_pay14]; rfl
  · pointwise [k0_pay19]; rfl
  · pointwise [k0_pay11]; rfl

include hA hW hS hH hP hE

theorem at_hid (t : Fin cfg0.N) (i : Fin 256) (j : Fin 2048) : hid m c t (ix2 i j) = ((d.blk t).hid i j : EReal) :=
  block_hid (in_a hA t) (in_w hW t) (fun _ _ => hS _ _) (in_h hH t) (in_p hP t) (in_e hE t) i j
theorem at_rh (t : Fin cfg0.N) (i : Fin 256) : rh m c t (ix2 i (0 : Fin 1)) = (rs ((d.blk t).hid i) : EReal) :=
  block_rh (in_a hA t) (in_w hW t) (fun _ _ => hS _ _) (in_h hH t) (in_p hP t) (in_e hE t) i
theorem at_hn (t : Fin cfg0.N) (i : Fin 256) (j : Fin 2048) : hn m c t (ix2 i j) = ((d.blk t).hid i j : EReal) * (rs ((d.blk t).hid i) : EReal) :=
  block_hn (at_hid hA hW hS hH hP hE t) (at_rh hA hW hS hH hP hE t) i j

include hT hF

theorem at_dy (t : Fin cfg0.N) (i : Fin 256) (j : Fin 2048) : dy m c t (ix2 i j) = ((d.blk t).dy i j : EReal) :=
  block_dy (at_hid hA hW hS hH hP hE t) (at_rh hA hW hS hH hP hE t) (in_f hF t) (in_t hT t) i j

/-- The three arrays summed over the points, when the grid is done. -/
theorem out_gf (s : Fin 8) (j : Fin 2048) : (dats m 0 c).arrAt 10 cfg0.N (ix2 s j) = ((∑ t : Fin 16, partAt (d.gfAt j) t s : ℝ) : EReal) := by
  have add (t : Fin cfg0.N) (s : Fin 8) (j : Fin 2048) : k0_pay13 (F := Ideal) (hid m c t) (rh m c t) (iblk m c 6 t) (iblk m c 4 t) (ix2 s j) = (partAt (d.gfAt j) t.val s : EReal) :=
    block_dgf (at_hid hA hW hS hH hP hE t) (at_rh hA hW hS hH hP hE t) (in_f hF t) (in_t hT t) s j
  have key : (dats m 0 c).arrAt 10 cfg0.N = fun i : S8x2048.Idx => ((∑ t : Fin 16, partAt (d.gfAt (i 1)) t (i 0) : ℝ) : EReal) := by
    refine (dats m 0 c).arrAt_eq_of_after_last 10 t0_15 (by decide +kernel) _ fun i => ?_
    blk_simp
    obtain ⟨a, b, rfl⟩ := idx2_eq (N := 8) (n := 2048) i
    rw [after0_10, Pipeline.eq_sum_fin_of_reset_step_apply_last (fun n h (p : Fin 8 × Fin 2048) => (outsAt0 m c n h).2.2.2.1 (ix2 p.1 p.2)) 16 (fun _ => 0)
      (fun t p => (partAt (d.gfAt p.2) t.val p.1 : EReal)) (fun t h p => (congrFun (after_first t h).1 _).trans ((add t _ _).trans (zero_add _).symm))
      (fun t h p => ((after_later t h).1 _ _).trans (congrArg (_ + ·) (add t _ _))) (by decide) t0_15 (by decide) (a, b)]
    rw [zero_add]
    exact sum_coe fun t : Fin 16 => partAt (d.gfAt b) t a
  rw [key]; rfl
theorem out_gp (s : Fin 8) (j : Fin 2048) : (dats m 0 c).arrAt 11 cfg0.N (ix2 s j) = ((∑ t : Fin 16, partAt (d.gpAt j) t s : ℝ) : EReal) := by
  have add (t : Fin cfg0.N) (s : Fin 8) (j : Fin 2048) : k0_pay18 (F := Ideal) (en m c t) (gate m c t) (rh m c t) (hn m c t) (dy m c t) (iblk m c 6 t) (ix2 s j)
      = (partAt (d.gpAt j) t.val s : EReal) :=
    block_dgp (at_rh hA hW hS hH hP hE t) (at_hn hA hW hS hH hP hE t) (at_dy hA hW hS hH hP hT hE hF t) (in_f hF t) (block_s (in_a hA t) (in_w hW t) fun _ _ => hS _ _)
      (block_en (in_p hP t)) s j
  have key : (dats m 0 c).arrAt 11 cfg0.N = fun i : S8x2048.Idx => ((∑ t : Fin 16, partAt (d.gpAt (i 1)) t (i 0) : ℝ) : EReal) := by
    refine (dats m 0 c).arrAt_eq_of_after_last 11 t0_15 (by decide +kernel) _ fun i => ?_
    blk_simp
    obtain ⟨a, b, rfl⟩ := idx2_eq (N := 8) (n := 2048) i
    rw [after0_11, Pipeline.eq_sum_fin_of_reset_step_apply_last (fun n h (p : Fin 8 × Fin 2048) => (outsAt0 m c n h).2.2.2.2.1 (ix2 p.1 p.2)) 16 (fun _ => 0)
      (fun t p => (partAt (d.gpAt p.2) t.val p.1 : EReal)) (fun t h p => (congrFun (after_first t h).2.1 _).trans ((add t _ _).trans (zero_add _).symm))
      (fun t h p => ((after_later t h).2.1 _ _).trans (congrArg (_ + ·) (add t _ _))) (by decide) t0_15 (by decide) (a, b)]
    rw [zero_add]
    exact sum_coe fun t : Fin 16 => partAt (d.gpAt b) t a
  rw [key]; rfl
theorem out_loss (s : Fin 8) (l : Fin 128) : (dats m 0 c).arrAt 12 cfg0.N (ix2 s l) = ((∑ t : Fin 16, lossAt d t s : ℝ) : EReal) := by
  have add (t : Fin cfg0.N) (s : Fin 8) (l : Fin 128) : k0_pay10 (F := Ideal) (hid m c t) (rh m c t) (iblk m c 6 t) (iblk m c 4 t) (ix2 s l)
      = (lossAt d t s : EReal) :=
    block_loss (at_hid hA hW hS hH hP hE t) (at_rh hA hW hS hH hP hE t) (in_f hF t) (in_t hT t) s l
  have key : (dats m 0 c).arrAt 12 cfg0.N = fun i : S8x128.Idx => ((∑ t : Fin 16, lossAt d t (i 0) : ℝ) : EReal) := by
    refine (dats m 0 c).arrAt_eq_of_after_last 12 t0_15 (by decide +kernel) _ fun i => ?_
    blk_simp
    obtain ⟨a, b, rfl⟩ := idx2_eq (N := 8) (n := 128) i
    rw [after0_12, Pipeline.eq_sum_fin_of_reset_step_apply_last (fun n h (p : Fin 8 × Fin 128) => (outsAt0 m c n h).2.2.2.2.2 (ix2 p.1 p.2)) 16 (fun _ => 0)
      (fun t p => (lossAt d t.val p.1 : EReal)) (fun t h p => (congrFun (after_first t h).2.2 _).trans ((add t _ _).trans (zero_add _).symm))
      (fun t h p => ((after_later t h).2.2 _ _).trans (congrArg (_ + ·) (add t _ _))) (by decide) t0_15 (by decide) (a, b)]
    rw [zero_add]
    exact sum_coe fun t : Fin 16 => lossAt d t a
  rw [key]; rfl

theorem out_dh (r : Fin 4096) (j : Fin 2048) : (dats m 0 c).arrAt 7 cfg0.N (ix2 r j) = (d.dh r j : EReal) := by
  obtain ⟨t, ht⟩ : ∃ t : Fin cfg0.N, t.val = r / 256 := ⟨⟨r / 256, show _ < 16 by omega⟩, rfl⟩
  obtain ⟨y, hy⟩ : ∃ y : Fin 256, y.val = r % 256 := ⟨⟨r % 256, by omega⟩, rfl⟩
  obtain rfl : rowAt t y = r := Fin.ext (by simp only [rowAt, ht, hy]; omega)
  refine (congrArg ((dats m 0 c).arrAt 7 cfg0.N) (by blk_ext [idx t, rowAt] : _ = ((cfg0.win 7).blk t).view.emb (ix2 y j))).trans ?_
  refine ((dats m 0 c).arrAt_emb_eq_flushed 7 (Pipeline.Window.hdisj_of_index_inj _ (by decide +kernel)) t ((by decide +kernel : ∀ t : Fin cfg0.N, (cfg0.win 7).flush t = true) t) _).trans ?_
  blk_simp
  rw [after0_7, (after_blocks t).1]
  exact block_dh (at_rh hA hW hS hH hP hE t) (at_hn hA hW hS hH hP hE t) (at_dy hA hW hS hH hP hT hE hF t) (in_f hF t) y j
theorem out_dz (r : Fin 4096) (j : Fin 2048) : (dats m 0 c).arrAt 8 cfg0.N (ix2 r j) = (d.dz r j : EReal) := by
  obtain ⟨t, ht⟩ : ∃ t : Fin cfg0.N, t.val = r / 256 := ⟨⟨r / 256, show _ < 16 by omega⟩, rfl⟩
  obtain ⟨y, hy⟩ : ∃ y : Fin 256, y.val = r % 256 := ⟨⟨r % 256, by omega⟩, rfl⟩
  obtain rfl : rowAt t y = r := Fin.ext (by simp only [rowAt, ht, hy]; omega)
  refine (congrArg ((dats m 0 c).arrAt 8 cfg0.N) (by blk_ext [idx t, rowAt] : _ = ((cfg0.win 8).blk t).view.emb (ix2 y j))).trans ?_
  refine ((dats m 0 c).arrAt_emb_eq_flushed 8 (Pipeline.Window.hdisj_of_index_inj _ (by decide +kernel)) t ((by decide +kernel : ∀ t : Fin cfg0.N, (cfg0.win 8).flush t = true) t) _).trans ?_
  blk_simp
  rw [after0_8, (after_blocks t).2.1]
  exact block_dz (at_rh hA hW hS hH hP hE t) (at_hn hA hW hS hH hP hE t) (at_dy hA hW hS hH hP hT hE hF t) (in_f hF t) (block_s (in_a hA t) (in_w hW t) fun _ _ => hS _ _)
    (block_emb (in_p hP t) (in_e hE t)) y j
theorem out_dp (r : Fin 4096) (j : Fin 2048) : (dats m 0 c).arrAt 9 cfg0.N (ix2 r j) = (d.dp r j : EReal) := by
  obtain ⟨t, ht⟩ : ∃ t : Fin cfg0.N, t.val = r / 256 := ⟨⟨r / 256, show _ < 16 by omega⟩, rfl⟩
  obtain ⟨y, hy⟩ : ∃ y : Fin 256, y.val = r % 256 := ⟨⟨r % 256, by omega⟩, rfl⟩
  obtain rfl : rowAt t y = r := Fin.ext (by simp only [rowAt, ht, hy]; omega)
  refine (congrArg ((dats m 0 c).arrAt 9 cfg0.N) (by blk_ext [idx t, rowAt] : _ = ((cfg0.win 9).blk t).view.emb (ix2 y j))).trans ?_
  refine ((dats m 0 c).arrAt_emb_eq_flushed 9 (Pipeline.Window.hdisj_of_index_inj _ (by decide +kernel)) t ((by decide +kernel : ∀ t : Fin cfg0.N, (cfg0.win 9).flush t = true) t) _).trans ?_
  blk_simp
  rw [after0_9, (after_blocks t).2.2]
  exact block_dp (at_rh hA hW hS hH hP hE t) (at_hn hA hW hS hH hP hE t) (at_dy hA hW hS hH hP hT hE hF t) (in_f hF t) (block_s (in_a hA t) (in_w hW t) fun _ _ => hS _ _)
    (block_en (in_p hP t)) (block_rp (in_p hP t)) (in_e hE t) y j

/-! What the host makes of the summed arrays. -/

theorem tail_gf (u : Fin 1) (j : Fin 2048) : Pipeline.afterTail₀ cfgs (dats m) 0 (V0 m) [hostOps1] c main_v2 (ix2 u j) = ((∑ r, d.gfAt j r : ℝ) : EReal) := by
  show StableHlo.after hostOps1 _ _ _ = _
  after_results_simp
  have hQ : ∀ s j, (Pipeline.withArrays (cfgs 0).spec c (V0 m c) (fun w => (dats m 0 c).arrAt w (cfgs 0).N) (Proc.tc.devRef main_v0_3) :
      (⟨S8x2048, .f32⟩ : BufTy).Contents (Elt Ideal)) (ix2 s j) = ((∑ t : Fin 16, partAt (d.gfAt j) t s : ℝ) : EReal) := fun s j =>
    (congrFun (Pipeline.withArrays_arr (cfgs 0).spec (by decide) c (V0 m c) _ 10) _).trans (out_gf hA hW hS hH hP hT hE hF s j)
  generalize Pipeline.withArrays (cfgs 0).spec c (V0 m c) (fun w => (dats m 0 c).arrAt w (cfgs 0).N) (Proc.tc.devRef main_v0_3) = Q at hQ ⊢
  pointwise
  simp only [hQ, sum_coe]
  exact congrArg Real.toEReal (sum_partAt (d.gfAt j))
theorem tail_gp (u : Fin 1) (j : Fin 2048) : Pipeline.afterTail₀ cfgs (dats m) 0 (V0 m) [hostOps1] c main_v4 (ix2 u j) = ((∑ r, d.gpAt j r : ℝ) : EReal) := by
  show StableHlo.after hostOps1 _ _ _ = _
  after_results_simp
  have hQ : ∀ s j, (Pipeline.withArrays (cfgs 0).spec c (V0 m c) (fun w => (dats m 0 c).arrAt w (cfgs 0).N) (Proc.tc.devRef main_v0_4) :
      (⟨S8x2048, .f32⟩ : BufTy).Contents (Elt Ideal)) (ix2 s j) = ((∑ t : Fin 16, partAt (d.gpAt j) t s : ℝ) : EReal) := fun s j =>
    (congrFun (Pipeline.withArrays_arr (cfgs 0).spec (by decide) c (V0 m c) _ 11) _).trans (out_gp hA hW hS hH hP hT hE hF s j)
  generalize Pipeline.withArrays (cfgs 0).spec c (V0 m c) (fun w => (dats m 0 c).arrAt w (cfgs 0).N) (Proc.tc.devRef main_v0_4) = Q at hQ ⊢
  pointwise
  simp only [hQ, sum_coe]
  exact congrArg Real.toEReal (sum_partAt (d.gpAt j))
theorem tail_loss (i : S_.Idx) : Pipeline.afterTail₀ cfgs (dats m) 0 (V0 m) [hostOps1] c main_v7 i = ((∑ r, d.loss r : ℝ) : EReal) := by
  show StableHlo.after hostOps1 _ _ _ = _
  after_results_simp
  have hQ : ∀ s, (Pipeline.withArrays (cfgs 0).spec c (V0 m c) (fun w => (dats m 0 c).arrAt w (cfgs 0).N) (Proc.tc.devRef main_v0_5) :
      (⟨S8x128, .f32⟩ : BufTy).Contents (Elt Ideal)) (ix2 s (0 : Fin 128)) = ((∑ t : Fin 16, lossAt d t s : ℝ) : EReal) := fun s =>
    (congrFun (Pipeline.withArrays_arr (cfgs 0).spec (by decide) c (V0 m c) _ 12) _).trans (out_loss hA hW hS hH hP hT hE hF s 0)
  generalize Pipeline.withArrays (cfgs 0).spec c (V0 m c) (fun w => (dats m 0 c).arrAt w (cfgs 0).N) (Proc.tc.devRef main_v0_5) = Q at hQ ⊢
  pointwise
  simp only [hQ, sum_coe, lossAt]
  rw [Finset.sum_eq_single_of_mem (0 : Fin 8) (Finset.mem_univ _) (fun b _ hb => by simp [hb])]
  simp only [if_true]
  rw [sum_rows]

end Arrays

end Cert.Proof.GateTail

end
-- ==== Proof.GateTail.Final.lean ====
module

public import proofs.«01_k».proof.Proof.GateTail.Arrays
public import proofs.«01_k».proof.Proof.Gen.GateTailRefIdeal.Run
public import proofs.«01_k».proof.Proof.Gen.GateTailRefIdeal.Read
public import proofs.«01_k».proof.Proof.Gen.Pre_finite_gate_tail
public import Idealize.ShloMosaic.Lib.Claim

@[expose] public section

set_option maxRecDepth 16384

noncomputable section

/-! The reference's values, and the claims. -/

namespace Cert.Proof.GateTail

open Cert.GateTailIdeal Idealize.ShloMosaic Idealize.ShloMosaic.TcCoe Idealize.SL.Sem Cert.Proof.Lift Cert.Proof.Norm

/-- The references' form of a norm's gradient. -/
theorem ref_grad₀ (x y : Fin 2048 → ℝ) (j : Fin 2048) :
    (y j : EReal) * (rs x : EReal)
        + (x j : EReal) * ∑ _i : Fin 1, Ideal.div ((∑ i, (x i : EReal) * (y i : EReal)) * (Ideal.ofBits .f32 0xBF000000#32 * Ideal.div (rs x : EReal) (ms x : EReal))) (Ideal.ofBits .f32 0x45000000#32)
        + (∑ _i : Fin 1, Ideal.div ((∑ i, (x i : EReal) * (y i : EReal)) * (Ideal.ofBits .f32 0xBF000000#32 * Ideal.div (rs x : EReal) (ms x : EReal))) (Ideal.ofBits .f32 0x45000000#32)) * (x j : EReal)
      = (grad x y j : EReal) := by
  have := ref_grad 0 x y j
  rwa [zero_add, zero_add] at this

section Reference

open Cert.GateTailRefIdeal.Read

variable {x0 : (⟨S4096x2048, .bf16⟩ : BufTy).Contents (Elt Ideal)} {x1 : (⟨S2048x2048, .bf16⟩ : BufTy).Contents (Elt Ideal)} {x2 x3 x4 : (⟨S4096x2048, .f32⟩ : BufTy).Contents (Elt Ideal)}
  {x5 x6 : (⟨S1x2048, .f32⟩ : BufTy).Contents (Elt Ideal)} {A : Fin 4096 → Fin 2048 → EReal} {W : Fin 2048 → Fin 2048 → EReal} {d : Data 4096}
  (hA : ∀ r k, x0 (ix2 r k) = A r k) (hW : ∀ k j, x1 (ix2 k j) = W k j) (hS : ∀ r j, logis (∑ k, A r k * W k j) = d.s r j)
  (hH : ∀ r j, x2 (ix2 r j) = (d.h r j : EReal)) (hP : ∀ r j, x3 (ix2 r j) = (d.p r j : EReal)) (hT : ∀ r j, x4 (ix2 r j) = (d.t r j : EReal))
  (hE : ∀ j, x5 (ix2 0 j) = (d.gp j : EReal)) (hF : ∀ j, x6 (ix2 0 j) = (d.gf j : EReal))

include hP in
theorem ref_msp (r : Fin 4096) (u : Fin 1) : val_main_v19 (F := Ideal) x3 (ix2 r u) = (ms (d.p r) : EReal) := by
  pointwise [val_main_v19, val_main_v18, val_main_v17, val_main_v16, val_main_v15, val_main_v14, val_main_v13, val_main_cst_2, val_main_cst_3, val_main_cst_4]
  simp only [hP]
  exact ms_val (d.p r)
include hP in
theorem ref_rp (r : Fin 4096) (u : Fin 1) : val_main_v20 (F := Ideal) x3 (ix2 r u) = (rs (d.p r) : EReal) := by
  pointwise [val_main_v20]
  rw [ref_msp hP, rs_val]
include hP in
theorem ref_en (r : Fin 4096) (j : Fin 2048) : val_main_v25 (F := Ideal) x3 (ix2 r j) = (d.p r j : EReal) * (rs (d.p r) : EReal) := by
  pointwise [val_main_v25, val_main_v24]
  simp only [hP, ref_rp hP]
include hP hE in
theorem ref_emb (r : Fin 4096) (j : Fin 2048) : val_main_v28 (F := Ideal) x3 x5 (ix2 r j) = (d.emb r j : EReal) := by
  pointwise [val_main_v28, val_main_v27, val_main_v26, val_main_v12]
  simp only [ref_en hP, hE, ← EReal.coe_mul]; rfl

include hA hW hS in
theorem ref_s (r : Fin 4096) (j : Fin 2048) : val_main_v8 (F := Ideal) x0 x1 (ix2 r j) = (d.s r j : EReal) := by
  pointwise [val_main_v8, val_main_v7, val_main_v6, val_main_v5, val_main_v4, val_main_v3, val_main_v2, val_main_v1, val_main_v0, val_main_cst, val_main_cst_0]
  simp only [hA, hW]
  rw [logis_val, hS]

include hA hW hS hH hP hE

theorem ref_hid (r : Fin 4096) (j : Fin 2048) : val_main_v30 (F := Ideal) x0 x1 x2 x3 x5 (ix2 r j) = (d.hid r j : EReal) := by
  pointwise [val_main_v30, val_main_v29]
  simp only [ref_s hA hW hS, ref_emb hP hE, hH, ← EReal.coe_mul, ← EReal.coe_add]; rfl
theorem ref_msh (r : Fin 4096) (u : Fin 1) : val_main_v38 (F := Ideal) x0 x1 x2 x3 x5 (ix2 r u) = (ms (d.hid r) : EReal) := by
  pointwise [val_main_v38, val_main_v37, val_main_v36, val_main_v35, val_main_v34, val_main_v33, val_main_v32, val_main_cst_6, val_main_cst_7, val_main_cst_8]
  simp only [ref_hid hA hW hS hH hP hE]
  exact ms_val (d.hid r)
theorem ref_rh (r : Fin 4096) (u : Fin 1) : val_main_v39 (F := Ideal) x0 x1 x2 x3 x5 (ix2 r u) = (rs (d.hid r) : EReal) := by
  pointwise [val_main_v39]
  rw [ref_msh hA hW hS hH hP hE, rs_val]
theorem ref_hn (r : Fin 4096) (j : Fin 2048) : val_main_v44 (F := Ideal) x0 x1 x2 x3 x5 (ix2 r j) = (d.hid r j : EReal) * (rs (d.hid r) : EReal) := by
  pointwise [val_main_v44, val_main_v43]
  simp only [ref_hid hA hW hS hH hP hE, ref_rh hA hW hS hH hP hE]

include hT hF

theorem ref_err (r : Fin 4096) (j : Fin 2048) : val_main_v48 (F := Ideal) x0 x1 x2 x3 x4 x5 x6 (ix2 r j) = (d.err r j : EReal) := by
  pointwise [val_main_v48, val_main_v47, val_main_v46, val_main_v45, val_main_v31]
  simp only [ref_hn hA hW hS hH hP hE, hT, hF, ← EReal.coe_mul, ← EReal.coe_sub]; rfl
theorem ref_loss (i : S_.Idx) : val_main_v56 (F := Ideal) x0 x1 x2 x3 x4 x5 x6 i = ((∑ r, d.loss r : ℝ) : EReal) := by
  pointwise [val_main_v56, val_main_v55, val_main_v54, val_main_v53, val_main_v52, val_main_v49, val_main_cst_11, val_main_cst_12, val_main_cst_13, val_main_cst_14]
  simp only [ref_err hA hW hS hH hP hT hE hF, half_bits, len_bits, div_coe' _ _ (by norm_num : (2048 : ℝ) ≠ 0), ← EReal.coe_mul, sum_coe]
  rw [Finset.mul_sum]; rfl
theorem ref_dy (r : Fin 4096) (j : Fin 2048) : val_main_v62 (F := Ideal) x0 x1 x2 x3 x4 x5 x6 (ix2 r j) = (d.dy r j : EReal) := by
  pointwise [val_main_v62, val_main_v61, val_main_v60, val_main_v59, val_main_v58, val_main_v57, val_main_v51, val_main_v50, val_main_cst_10, val_main_cst_15, val_main_cst_16, val_main_cst_17]
  rw [half_bits, len_bits, two_bits, ref_err hA hW hS hH hP hT hE hF, div_coe' _ _ (by norm_num : (2048 : ℝ) ≠ 0), ← EReal.coe_mul, ← EReal.coe_mul]
  refine congrArg Real.toEReal ?_
  rw [Data.dy]; ring
theorem ref_gf (u : Fin 1) (j : Fin 2048) : val_main_v83 (F := Ideal) x0 x1 x2 x3 x4 x5 x6 (ix2 u j) = ((∑ r, d.gfAt j r : ℝ) : EReal) := by
  pointwise [val_main_v83, val_main_v68, val_main_v65, val_main_v64, val_main_v63, val_main_cst_18, val_main_cst_19]
  simp only [ref_hn hA hW hS hH hP hE, ref_dy hA hW hS hH hP hT hE hF, ← EReal.coe_mul, sum_coe, Finset.univ_unique, Finset.sum_singleton]
  exact congrArg Real.toEReal (Finset.sum_congr rfl fun r _ => mul_comm _ _)
theorem ref_dh (r : Fin 4096) (j : Fin 2048) : val_main_v82 (F := Ideal) x0 x1 x2 x3 x4 x5 x6 (ix2 r j) = (d.dh r j : EReal) := by
  pointwise [val_main_v82, val_main_v81, val_main_v80, val_main_v79, val_main_v78, val_main_v77, val_main_v76, val_main_v75, val_main_v74, val_main_v73, val_main_v72,
    val_main_v71, val_main_v70, val_main_v69, val_main_v67, val_main_v66, val_main_v45, val_main_v42, val_main_v41, val_main_v40, val_main_v31,
    val_main_cst_9, val_main_cst_20, val_main_cst_21, val_main_cst_22]
  simp only [ref_hid hA hW hS hH hP hE, ref_rh hA hW hS hH hP hE, ref_msh hA hW hS hH hP hE, ref_dy hA hW hS hH hP hT hE hF, hF]
  rw [Data.dh, ← ref_grad₀]
  simp only [EReal.coe_mul]
theorem ref_dz (r : Fin 4096) (j : Fin 2048) : val_main_v108 (F := Ideal) x0 x1 x2 x3 x4 x5 x6 (ix2 r j) = (d.dz r j : EReal) := by
  pointwise [val_main_v108, val_main_v107, val_main_v85, val_main_v11, val_main_v10, val_main_v9, val_main_cst_1]
  simp only [ref_dh hA hW hS hH hP hT hE hF, ref_emb hP hE, ref_s hA hW hS]
  rw [← EReal.coe_one, ← EReal.coe_sub, ← EReal.coe_mul, ← EReal.coe_mul, ← EReal.coe_mul]
  exact congrArg Real.toEReal (mul_assoc _ _ _).symm
theorem ref_de (r : Fin 4096) (j : Fin 2048) : val_main_v84 (F := Ideal) x0 x1 x2 x3 x4 x5 x6 (ix2 r j) = (d.de r j : EReal) := by
  pointwise [val_main_v84]
  rw [ref_dh hA hW hS hH hP hT hE hF, ref_s hA hW hS, mul_comm, ← EReal.coe_mul]; rfl
theorem ref_gp (u : Fin 1) (j : Fin 2048) : val_main_v106 (F := Ideal) x0 x1 x2 x3 x4 x5 x6 (ix2 u j) = ((∑ r, d.gpAt j r : ℝ) : EReal) := by
  pointwise [val_main_v106, val_main_v91, val_main_v88, val_main_v87, val_main_v86, val_main_cst_23, val_main_cst_24]
  simp only [ref_en hP, ref_de hA hW hS hH hP hT hE hF, ← EReal.coe_mul, sum_coe, Finset.univ_unique, Finset.sum_singleton]
  exact congrArg Real.toEReal (Finset.sum_congr rfl fun r _ => mul_comm _ _)
theorem ref_dp (r : Fin 4096) (j : Fin 2048) : val_main_v109 (F := Ideal) x0 x1 x2 x3 x4 x5 x6 (ix2 r j) = (d.dp r j : EReal) := by
  pointwise [val_main_v109, val_main_v105, val_main_v104, val_main_v103, val_main_v102, val_main_v101, val_main_v100, val_main_v99, val_main_v98, val_main_v97, val_main_v96,
    val_main_v95, val_main_v94, val_main_v93, val_main_v92, val_main_v90, val_main_v89, val_main_v26, val_main_v23, val_main_v22, val_main_v21, val_main_v12,
    val_main_cst_5, val_main_cst_25, val_main_cst_26, val_main_cst_27]
  simp only [hP, ref_rp hP, ref_msp hP, ref_de hA hW hS hH hP hT hE hF, hE]
  rw [Data.dp, ← ref_grad₀]
  simp only [EReal.coe_mul]

end Reference

/-! ## The claims -/

/-- What the precondition says: all but the gate's factors are real. -/
theorem real_args {x0 : (⟨S4096x2048, .bf16⟩ : BufTy).Contents (Elt Ideal)} {x1 : (⟨S2048x2048, .bf16⟩ : BufTy).Contents (Elt Ideal)}
    {x2 x3 x4 : (⟨S4096x2048, .f32⟩ : BufTy).Contents (Elt Ideal)} {x5 x6 : (⟨S1x2048, .f32⟩ : BufTy).Contents (Elt Ideal)}
    (h : (Cert.Pre_finite_gate_tail.fn (F := Ideal) x0 x1 x2 x3 x4 x5 x6).1 = (fun _ => 1#1) ∧ (Cert.Pre_finite_gate_tail.fn (F := Ideal) x0 x1 x2 x3 x4 x5 x6).2.1 = (fun _ => 1#1)
      ∧ (Cert.Pre_finite_gate_tail.fn (F := Ideal) x0 x1 x2 x3 x4 x5 x6).2.2.1 = (fun _ => 1#1) ∧ (Cert.Pre_finite_gate_tail.fn (F := Ideal) x0 x1 x2 x3 x4 x5 x6).2.2.2.1 = (fun _ => 1#1)
      ∧ (Cert.Pre_finite_gate_tail.fn (F := Ideal) x0 x1 x2 x3 x4 x5 x6).2.2.2.2 = (fun _ => 1#1)) :
    ∃ d : Data 4096, (∀ r j, logis (∑ k, x0 (ix2 r k) * x1 (ix2 k j)) = d.s r j) ∧ (∀ r j, x2 (ix2 r j) = (d.h r j : EReal)) ∧ (∀ r j, x3 (ix2 r j) = (d.p r j : EReal))
      ∧ (∀ r j, x4 (ix2 r j) = (d.t r j : EReal)) ∧ (∀ j, x5 (ix2 0 j) = (d.gp j : EReal)) ∧ (∀ j, x6 (ix2 0 j) = (d.gf j : EReal)) := by
  have e2 (r : Fin 4096) (j : Fin 2048) : ∃ b : ℝ, x2 (ix2 r j) = (b : EReal) := by
    have := congrFun h.1 (ix2 r j)
    revert this
    pointwise [Pre_finite_gate_tail.fn]
    exact real_of_lt_bit
  have e3 (r : Fin 4096) (j : Fin 2048) : ∃ b : ℝ, x3 (ix2 r j) = (b : EReal) := by
    have := congrFun h.2.1 (ix2 r j)
    revert this
    pointwise [Pre_finite_gate_tail.fn]
    exact real_of_lt_bit
  have e4 (r : Fin 4096) (j : Fin 2048) : ∃ b : ℝ, x4 (ix2 r j) = (b : EReal) := by
    have := congrFun h.2.2.1 (ix2 r j)
    revert this
    pointwise [Pre_finite_gate_tail.fn]
    exact real_of_lt_bit
  have e5 (j : Fin 2048) : ∃ b : ℝ, x5 (ix2 0 j) = (b : EReal) := by
    have := congrFun h.2.2.2.1 (ix2 0 j)
    revert this
    pointwise [Pre_finite_gate_tail.fn]
    exact real_of_lt_bit
  have e6 (j : Fin 2048) : ∃ b : ℝ, x6 (ix2 0 j) = (b : EReal) := by
    have := congrFun h.2.2.2.2 (ix2 0 j)
    revert this
    pointwise [Pre_finite_gate_tail.fn]
    exact real_of_lt_bit
  choose H hH using e2
  choose P hP using e3
  choose T hT using e4
  choose E hE using e5
  choose G hG using e6
  exact ⟨⟨fun r j => logis (∑ k, x0 (ix2 r k) * x1 (ix2 k j)), H, P, T, E, G⟩, fun _ _ => rfl, hH, hP, hT, hE, hG⟩

theorem frame_ref : Cert.quiescent_GateTailRefIdeal := fun m ρ _ =>
  (θ_run Cert.GateTailRefIdeal.defs _ _).mono (fun r h => ⟨fun c => (h c).2.2.2.2.2.2, sem_eq_zero_of_no_sems (by decide) r.2⟩)
    (Cert.GateTailRefIdeal.Value.run (F := Ideal) m ρ)

set_option maxHeartbeats 2000000 in
/-- The two programs run and end with the same gradients and the same loss. -/
theorem algebraic : Cert.algebraic_GateTailIdeal_GateTailRefIdeal_pre_finite_gate_tail := by
  pair_intro
  · run_from Cert.GateTailIdeal.Gen.run_main m g
  · run_from Cert.GateTailRefIdeal.Value.run m' g'
    all_goals
      obtain ⟨d, hS, hH, hP, hT, hE, hF⟩ := real_args (hpre c)
      have hA := fun (r : Fin 4096) (k : Fin 2048) => congrFun (hagree c).1 (ix2 r k)
      have hW := fun (r k : Fin 2048) => congrFun (hagree c).2.1 (ix2 r k)
      have hH' := fun r j => (congrFun (hagree c).2.2.1 (ix2 r j)).trans (hH r j)
      have hP' := fun r j => (congrFun (hagree c).2.2.2.1 (ix2 r j)).trans (hP r j)
      have hT' := fun r j => (congrFun (hagree c).2.2.2.2.1 (ix2 r j)).trans (hT r j)
      have hE' := fun j => (congrFun (hagree c).2.2.2.2.2.1 (ix2 0 j)).trans (hE j)
      have hF' := fun j => (congrFun (hagree c).2.2.2.2.2.2 (ix2 0 j)).trans (hF j)
      refine funext fun y => ?_
    · obtain ⟨r, j, rfl⟩ := idx2_eq (N := 4096) (n := 2048) y
      exact ((congrFun (Cert.GateTailRefIdeal.Read.val_main_v82_eq (StableHlo.launchContents m' c)) _).trans (ref_dh hA hW hS hH' hP' hT' hE' hF' r j)).trans
        (out_dh (fun _ _ => rfl) (fun _ _ => rfl) hS hH hP hT hE hF r j).symm
    · obtain ⟨r, j, rfl⟩ := idx2_eq (N := 4096) (n := 2048) y
      exact ((congrFun (Cert.GateTailRefIdeal.Read.val_main_v108_eq (StableHlo.launchContents m' c)) _).trans (ref_dz hA hW hS hH' hP' hT' hE' hF' r j)).trans
        (out_dz (fun _ _ => rfl) (fun _ _ => rfl) hS hH hP hT hE hF r j).symm
    · obtain ⟨r, j, rfl⟩ := idx2_eq (N := 4096) (n := 2048) y
      rw [← (hagree c).2.2.2.1]
      exact ((congrFun (Cert.GateTailRefIdeal.Read.val_main_v109_eq (StableHlo.launchContents m' c)) _).trans (ref_dp hA hW hS hH' hP' hT' hE' hF' r j)).trans
        (out_dp (fun _ _ => rfl) (fun _ _ => rfl) hS hH hP hT hE hF r j).symm
    · obtain ⟨r, j, rfl⟩ := idx2_eq (N := 1) (n := 2048) y
      exact ((congrFun (Cert.GateTailRefIdeal.Read.val_main_v83_eq (StableHlo.launchContents m' c)) _).trans (ref_gf hA hW hS hH' hP' hT' hE' hF' r j)).trans
        (tail_gf (fun _ _ => rfl) (fun _ _ => rfl) hS hH hP hT hE hF r j).symm
    · obtain ⟨r, j, rfl⟩ := idx2_eq (N := 1) (n := 2048) y
      exact ((congrFun (Cert.GateTailRefIdeal.Read.val_main_v106_eq (StableHlo.launchContents m' c)) _).trans (ref_gp hA hW hS hH' hP' hT' hE' hF' r j)).trans
        (tail_gp (fun _ _ => rfl) (fun _ _ => rfl) hS hH hP hT hE hF r j).symm
    · exact ((congrFun (Cert.GateTailRefIdeal.Read.val_main_v56_eq (StableHlo.launchContents m' c)) _).trans (ref_loss hA hW hS hH' hP' hT' hE' hF' y)).trans
        (tail_loss (fun _ _ => rfl) (fun _ _ => rfl) hS hH hP hT hE hF y).symm

end Cert.Proof.GateTail

end
-- ==== Proof.DProj.Math.lean ====
module

public import proofs.«01_k».proof.Proof.Norm

@[expose] public section

noncomputable section

/-! The gradients of the rotary embedding and of the heads' norms, over the reals. -/

namespace Cert.Proof.DProj

open Idealize.ShloMosaic Cert.Proof.Lift Cert.Proof.Norm

theorem width_bits : Ideal.ofBits .f32 0x43000000#32 = ((128 : ℝ) : EReal) := by
  simp [Ideal.ofBits, Ideal.ieee, ← EReal.coe_mul]; norm_num

/-- A head's mean square, plus the constant. -/
def hms (x : Fin 128 → ℝ) : ℝ := (∑ i, x i * x i) / 128 + eps
/-- The reciprocal root the head is scaled with. -/
def hrs (x : Fin 128 → ℝ) : ℝ := (Real.sqrt (hms x))⁻¹
/-- The gradient at a head `x` of the scaled head, against the cotangent `y`. -/
def hgrad (x y : Fin 128 → ℝ) (j : Fin 128) : ℝ := hrs x * (y j - x j * hrs x * ((∑ i, y i * (x i * hrs x)) / 128))

theorem hms_pos (x : Fin 128 → ℝ) : 0 < hms x :=
  add_pos_of_nonneg_of_pos (div_nonneg (Finset.sum_nonneg fun i _ => mul_self_nonneg (x i)) (by norm_num)) (by norm_num [eps])

theorem hrs_sq (x : Fin 128 → ℝ) : hrs x * hrs x = (hms x)⁻¹ := by rw [hrs, ← mul_inv, Real.mul_self_sqrt (hms_pos x).le]

theorem hms_val (x : Fin 128 → ℝ) : Ideal.div (∑ i, (x i : EReal) * (x i : EReal)) (Ideal.ofBits .f32 0x43000000#32) + Ideal.ofBits .f32 0x358637BD#32
    = (hms x : EReal) := by
  simp only [← EReal.coe_mul, sum_coe, width_bits, eps_bits, div_coe' _ _ (by norm_num : (128 : ℝ) ≠ 0), ← EReal.coe_add]; rfl

theorem hrs_val (x : Fin 128 → ℝ) : Ideal.rsqrt (hms x : EReal) = (hrs x : EReal) := by
  rw [Ideal.rsqrt_coe, if_neg (not_lt.mpr (hms_pos x).le), if_neg (hms_pos x).ne']; rfl

/-- The kernel's form of the gradient. -/
theorem kernel_hgrad (x y : Fin 128 → ℝ) (j : Fin 128) :
    (hrs x : EReal) * ((y j : EReal) - (x j : EReal) * (hrs x : EReal) * Ideal.div (∑ i, (y i : EReal) * ((x i : EReal) * (hrs x : EReal))) (Ideal.ofBits .f32 0x43000000#32))
      = (hgrad x y j : EReal) := by
  simp only [← EReal.coe_mul, sum_coe, width_bits, div_coe' _ _ (by norm_num : (128 : ℝ) ≠ 0), ← EReal.coe_sub]; rfl

/-- The reference's factor of a head. -/
def slope (x y : Fin 128 → ℝ) : ℝ := (∑ i, x i * y i) * (-(1 / 2) * (hrs x / hms x)) / 128

theorem slope_val (x y : Fin 128 → ℝ) :
    Ideal.div ((∑ i, (x i : EReal) * (y i : EReal)) * (Ideal.ofBits .f32 0xBF000000#32 * Ideal.div (hrs x : EReal) (hms x : EReal))) (Ideal.ofBits .f32 0x43000000#32)
      = (slope x y : EReal) := by
  simp only [← EReal.coe_mul, sum_coe, width_bits, mhalf_bits, div_coe' _ _ (by norm_num : (128 : ℝ) ≠ 0), div_coe' _ _ (hms_pos x).ne']; rfl

/-- The reference's form of the gradient. -/
theorem ref_hgrad (x y : Fin 128 → ℝ) (j : Fin 128) : y j * hrs x + x j * slope x y + slope x y * x j = hgrad x y j := by
  have e : (∑ i, y i * (x i * hrs x)) = (∑ i, x i * y i) * hrs x := by
    rw [Finset.sum_mul]; exact Finset.sum_congr rfl fun i _ => by ring
  rw [hgrad, slope, e, div_eq_mul_inv (hrs x), ← hrs_sq]
  ring

/-- The lane a rotation pairs a lane with. -/
def pair (j : Fin 128) : Fin 128 := if h : j.val % 64 < 32 then ⟨j + 32, by omega⟩ else ⟨j - 32, by omega⟩

/-- The derivative of a head's rotation, against the cotangent `d`. -/
def turn (c s d : Fin 128 → ℝ) (j : Fin 128) : ℝ := d j * c j + d (pair j) * s (pair j)

/-! The tables. -/

/-- The frequencies of the rotation. -/
def freq (k : Fin 32) : ℝ := Real.rpow 10000 (-(2 * k) / 64)
/-- The angle of a lane of half a head: the first half turns with the row, the second with the column. -/
def angle (r : Fin 4096) (j : Fin 128) : ℝ := (if j.val < 64 then (r.val / 64 : ℕ) else (r.val % 64 : ℕ)) * freq ⟨j % 32, by omega⟩
def cosAt (r : Fin 4096) (j : Fin 128) : ℝ := Real.cos (angle r j)
/-- The sine, with the sign the kernel's table has. -/
def sinAt (r : Fin 4096) (j : Fin 128) : ℝ := if j.val % 64 < 32 then -Real.sin (angle r j) else Real.sin (angle r j)

/-- A head's columns. -/
def cols {W : ℕ} (a : Fin W → ℝ) (h : ℕ) (hW : h * 128 + 128 ≤ W) (j : Fin 128) : ℝ := a ⟨h * 128 + j, by omega⟩

/-- The rows the programs are given: real where a norm or a rotation reads them. -/
structure Data (n : ℕ) where
  z : Fin n → Fin 3072 → ℝ
  dq : Fin n → Fin 1024 → ℝ
  dk : Fin n → Fin 256 → ℝ
  c : Fin n → Fin 128 → ℝ
  s : Fin n → Fin 128 → ℝ
  gq : Fin 128 → ℝ
  gk : Fin 128 → ℝ
  va : Fin n → Fin 256 → EReal
  qb : Fin n → Fin 1024 → EReal
  kb : Fin n → Fin 256 → EReal
  vb : Fin n → Fin 256 → EReal

namespace Data

variable {n : ℕ} (d : Data n)

/-- Some of the rows. -/
def at' {k : ℕ} (f : Fin k → Fin n) : Data k :=
  ⟨fun i => d.z (f i), fun i => d.dq (f i), fun i => d.dk (f i), fun i => d.c (f i), fun i => d.s (f i), d.gq, d.gk,
    fun i => d.va (f i), fun i => d.qb (f i), fun i => d.kb (f i), fun i => d.vb (f i)⟩

/-- A head before its norm; the first eight are the queries', the last two the keys'. -/
def x (i : Fin n) (h : Fin 10) : Fin 128 → ℝ := cols (d.z i) h (by omega)
/-- The cotangent of a turned head. -/
def ct (i : Fin n) (h : Fin 10) : Fin 128 → ℝ := if hq : h.val < 8 then cols (d.dq i) h (by omega) else cols (d.dk i) (h - 8) (by omega)
/-- A head's gain. -/
def g (h : Fin 10) : Fin 128 → ℝ := if h.val < 8 then d.gq else d.gk
/-- The cotangent of a head before its rotation. -/
def dx (i : Fin n) (h : Fin 10) : Fin 128 → ℝ := turn (d.c i) (d.s i) (d.ct i h)
/-- A term of a gain's gradient. -/
def gain (i : Fin n) (h : Fin 10) (j : Fin 128) : ℝ := d.dx i h j * (d.x i h j * hrs (d.x i h))
/-- The gradient of a head. -/
def dhead (i : Fin n) (h : Fin 10) (j : Fin 128) : ℝ := hgrad (d.x i h) (fun l => d.dx i h l * d.g h l) j
/-- The projection's gradient: the heads' before the norm, and beside them what needs no gradient of its own. -/
def out (i : Fin n) (k : Fin 3072) : EReal :=
  if h : k.val < 1280 then (d.dhead i ⟨k / 128, by omega⟩ ⟨k % 128, by omega⟩ : EReal)
  else if h : k.val < 1536 then d.va i ⟨k - 1280, by omega⟩
  else if h : k.val < 2560 then d.qb i ⟨k - 1536, by omega⟩
  else if h : k.val < 2816 then d.kb i ⟨k - 2560, by omega⟩
  else d.vb i ⟨k - 2816, by omega⟩

end Data

/-- What a point adds to a sum over rows, kept by place in the group of eight. -/
def partAt (f : Fin 4096 → ℝ) (t : ℕ) (s : Fin 8) : ℝ := ∑ b : Fin 64, f (rowAt t ⟨b * 8 + s, by omega⟩)

theorem sum_partAt (f : Fin 4096 → ℝ) : (∑ s, ∑ t : Fin 8, partAt f t s) = ∑ r, f r := by
  refine (Finset.sum_congr rfl fun s _ => Finset.sum_congr rfl fun t _ => Finset.sum_congr rfl fun b _ => congrArg f (Fin.ext ?_)).trans (sum_sublanes f)
  simp only [rowAt]; omega

end Cert.Proof.DProj

end
-- ==== Proof.DProj.Block.lean ====
module

public import proofs.«01_k».proof.Defs
public import proofs.«01_k».proof.Proof.DProj.Math
public import proofs.«01_k».proof.Proof.Gen.DProjIdeal.Frame
public import Idealize.ShloMosaic.Lib.Pipeline.ValueKit

@[expose] public section

set_option maxRecDepth 16384

noncomputable section

/-! What the kernel computes of one block of rows. -/

namespace Cert.Proof.DProj

open Cert.DProjIdeal Cert.DProjIdeal.Gen Idealize.ShloMosaic Idealize.ShloMosaic.TcCoe Idealize.SL.Sem Cert.Proof.Lift Cert.Proof.Norm

/-- Whether a lane is in the first half of its rotation, as the kernel finds it. -/
def half (j : Fin 128) : BitVec 1 :=
  IntOp.cmpi .slt (Scalar.select (IntOp.andi (IntOp.xori
      (IntOp.cmpi .slt (IntOp.remsi .vector (BitVec.ofNat 32 j.val) (Scalar.select (Scalar.cmpi .eq 64#32 0#32) 1#32 64#32)) 0#32)
      (Scalar.cmpi .slt (Scalar.select (Scalar.cmpi .eq 64#32 0#32) 1#32 64#32) 0#32))
      (IntOp.cmpi .ne (IntOp.remsi .vector (BitVec.ofNat 32 j.val) (Scalar.select (Scalar.cmpi .eq 64#32 0#32) 1#32 64#32)) 0#32))
    (IntOp.addi (IntOp.remsi .vector (BitVec.ofNat 32 j.val) (Scalar.select (Scalar.cmpi .eq 64#32 0#32) 1#32 64#32)) (Scalar.select (Scalar.cmpi .eq 64#32 0#32) 1#32 64#32))
    (IntOp.remsi .vector (BitVec.ofNat 32 j.val) (Scalar.select (Scalar.cmpi .eq 64#32 0#32) 1#32 64#32))) 32#32

theorem half_val : ∀ j : Fin 128, half j = if j.val % 64 < 32 then 1#1 else 0#1 := by decide +kernel

theorem select_half {α : Type} (j : Fin 128) (f : Fin 128 → α) :
    Scalar.select (half j) (f ⟨(j.val + 128 - 96) % 128, Nat.mod_lt _ (by norm_num)⟩) (f ⟨(j.val + 128 - 32) % 128, Nat.mod_lt _ (by norm_num)⟩) = f (pair j) := by
  rw [half_val, pair]
  by_cases h : j.val % 64 < 32
  · rw [if_pos h, dif_pos h]; exact congrArg f (Fin.ext (by show (j.val + 128 - 96) % 128 = j.val + 32; omega))
  · rw [if_neg h, dif_neg h]; exact congrArg f (Fin.ext (by show (j.val + 128 - 32) % 128 = j.val - 32; omega))

/-- The output and the gain's part of one head, as the kernel writes its second. -/
def headOut (c s d x : Vec Ideal S512x128 .f32) (g : Vec Ideal S1x128 .f32) : FVec Ideal S512x128 .bf16 :=
  k0_pay27 (k0_pay5 c) (k0_pay6 s) (k0_pay23 x) (k0_pay24 x) d g
def headPart (a : FVec Ideal S8x128 .f32) (c s d x : Vec Ideal S512x128 .f32) : FVec Ideal S8x128 .f32 :=
  k0_pay26 (k0_pay5 c) (k0_pay6 s) a (k0_pay24 x) d

section Head

variable {x d c s : Vec Ideal S512x128 .f32} {g : Vec Ideal S1x128 .f32} {X D C S : Fin 512 → Fin 128 → ℝ} {G : Fin 128 → ℝ}
  (hx : ∀ i j, x (ix2 i j) = (X i j : EReal)) (hd : ∀ i j, d (ix2 i j) = (D i j : EReal)) (hc : ∀ i j, c (ix2 i j) = (C i j : EReal))
  (hs : ∀ i j, s (ix2 i j) = (S i j : EReal)) (hg : ∀ j, g (ix2 0 j) = (G j : EReal))

include hx in
theorem head_rs (i : Fin 512) : k0_pay23 (F := Ideal) x (ix2 i (0 : Fin 1)) = (hrs (X i) : EReal) := by
  pointwise [k0_pay23, k0_pay22]
  simp only [hx]
  rw [hms_val, hrs_val]
include hx in
theorem head_xn (i : Fin 512) (j : Fin 128) : k0_pay24 (F := Ideal) x (ix2 i j) = (X i j : EReal) * (hrs (X i) : EReal) := by
  pointwise [k0_pay24, k0_pay22]
  simp only [hx, head_rs hx]
include hd hc hs in
theorem head_turn (i : Fin 512) (j : Fin 128) : k0_pay25 (F := Ideal) (k0_pay5 c) (k0_pay6 s) d (ix2 i j) = (turn (C i) (S i) (D i) j : EReal) := by
  pointwise [k0_pay25, k0_pay5, k0_pay6]
  simp only [hd, hc, hs, ← EReal.coe_mul]
  refine (congrArg (_ + ·) (select_half j fun l => ((D i l * S i l : ℝ) : EReal))).trans ?_
  rw [← EReal.coe_add]; rfl
include hx hd hc hs in
theorem head_part (a : FVec Ideal S8x128 .f32) (u : Fin 8) (j : Fin 128) : headPart a c s d x (ix2 u j)
    = a (ix2 u j) + ((∑ b : Fin 64, turn (C ⟨b * 8 + u, by omega⟩) (S ⟨b * 8 + u, by omega⟩) (D ⟨b * 8 + u, by omega⟩) j
      * (X ⟨b * 8 + u, by omega⟩ j * hrs (X ⟨b * 8 + u, by omega⟩)) : ℝ) : EReal) := by
  show k0_pay26 (F := Ideal) _ _ _ _ _ _ = _
  pointwise [k0_pay26]
  simp only [head_turn hd hc hs, head_xn hx, ← EReal.coe_mul, sum_coe]
include hx hd hc hs hg in
theorem head_out (i : Fin 512) (j : Fin 128) : headOut c s d x g (ix2 i j) = (hgrad (X i) (fun l => turn (C i) (S i) (D i) l * G l) j : EReal) := by
  show k0_pay27 (F := Ideal) _ _ _ _ _ _ _ = _
  pointwise [k0_pay27]
  simp only [head_turn hd hc hs, head_xn hx, head_rs hx, hg, ← EReal.coe_mul]
  rw [← kernel_hgrad]
  simp only [← EReal.coe_mul]

end Head

/-! The block. -/

/-- A column of the part of the projection that holds the heads. -/
def wide (k : Fin 1280) : Fin 3072 := ⟨k, by omega⟩

section Block

variable {x0 : Vec Ideal S512x1280 .f32} {x1 : Vec Ideal S512x1024 .f32} {x2 : Vec Ideal S256x512 .f32} {x7 x8 : Vec Ideal S512x128 .f32} {x9 x10 : Vec Ideal S1x128 .f32} {d : Data 512}
  (h0 : ∀ i (k : Fin 1280), x0 (ix2 i k) = (d.z i (wide k) : EReal)) (h1 : ∀ i k, x1 (ix2 i k) = (d.dq i k : EReal))
  (h2 : ∀ i k, x2 (ix2 k i) = (d.dk i k : EReal)) (h7 : ∀ i j, x7 (ix2 i j) = (d.c i j : EReal)) (h8 : ∀ i j, x8 (ix2 i j) = (d.s i j : EReal))
  (h9 : ∀ j, x9 (ix2 0 j) = (d.gq j : EReal)) (h10 : ∀ j, x10 (ix2 0 j) = (d.gk j : EReal))

/-- A head's lanes of a block of rows. -/
def lanes {W : ℕ} (x : Vec Ideal ⟨2, ![512, W]⟩ .f32) (h : ℕ) (hW : h * 128 + 128 ≤ W) : Vec Ideal S512x128 .f32 :=
  View.ld x (Rect.unit (s := ⟨2, ![512, W]⟩) ![0, h * 128] ![512, 128] fun a => match a with | ⟨0, _⟩ => le_refl 512 | ⟨1, _⟩ => hW)

theorem lanes_at {W : ℕ} {x : Vec Ideal ⟨2, ![512, W]⟩ .f32} {X : Fin 512 → Fin W → ℝ} (hX : ∀ i k, x (ix2 i k) = (X i k : EReal)) (h : ℕ)
    (hW : h * 128 + 128 ≤ W) (i : Fin 512) (j : Fin 128) : lanes x h hW (ix2 i j) = (cols (X i) h hW j : EReal) := by
  refine (congrArg x (funext fun a => ?_)).trans (hX i ⟨h * 128 + j, by omega⟩)
  fin_cases a <;> exact Fin.ext (by simp [Rect.idx_unit_val])

/-- A key head's cotangent. -/
def keyLanes (x2 : Vec Ideal S256x512 .f32) (h : ℕ) (hs : S512x256.Slices ![0, h * 128] S512x128) : Vec Ideal S512x128 .f32 :=
  extractStridedSlice S512x128 ![0, h * 128] (k0_pay7 x2) hs

include h2 in
theorem keyLanes_at (h : ℕ) (hh : h < 2) (hs : S512x256.Slices ![0, h * 128] S512x128) (i : Fin 512) (j : Fin 128) :
    keyLanes x2 h hs (ix2 i j) = (cols (d.dk i) h (by omega) j : EReal) := by
  unfold keyLanes
  pointwise [k0_pay7]
  exact h2 i ⟨h * 128 + j, by omega⟩

include h0 in
theorem x_at (h : ℕ) (hh : h < 10) (i : Fin 512) (j : Fin 128) : lanes x0 h (by omega) (ix2 i j) = (d.x i ⟨h, hh⟩ j : EReal) :=
  lanes_at h0 h (by omega) i j
include h1 in
theorem ctq_at (h : ℕ) (hh : h < 8) (i : Fin 512) (j : Fin 128) : lanes x1 h (by omega) (ix2 i j) = (d.ct i ⟨h, by omega⟩ j : EReal) := by
  rw [lanes_at h1, Data.ct, dif_pos (show (⟨h, _⟩ : Fin 10).val < 8 from hh)]
include h2 in
theorem ctk_at (h : ℕ) (hh : h < 2) (hs : S512x256.Slices ![0, h * 128] S512x128) (i : Fin 512) (j : Fin 128) :
    keyLanes x2 h hs (ix2 i j) = (d.ct i ⟨h + 8, by omega⟩ j : EReal) := by
  rw [keyLanes_at h2 h hh, Data.ct, dif_neg (show ¬(⟨h + 8, _⟩ : Fin 10).val < 8 by simp)]
  rfl

include h0 h1 h7 h8 h9 in
theorem q_out (h : ℕ) (hh : h < 8) (i : Fin 512) (j : Fin 128) :
    headOut x7 x8 (lanes x1 h (by omega)) (lanes x0 h (by omega)) x9 (ix2 i j) = (d.dhead i ⟨h, by omega⟩ j : EReal) := by
  rw [head_out (x_at h0 h (by omega)) (ctq_at h1 h hh) h7 h8 h9, Data.dhead, Data.g, if_pos (show (⟨h, _⟩ : Fin 10).val < 8 from hh)]
  rfl
include h0 h2 h7 h8 h10 in
theorem k_out (h : ℕ) (hh : h < 2) (hs : S512x256.Slices ![0, h * 128] S512x128) (i : Fin 512) (j : Fin 128) :
    headOut x7 x8 (keyLanes x2 h hs) (lanes x0 (h + 8) (by omega)) x10 (ix2 i j) = (d.dhead i ⟨h + 8, by omega⟩ j : EReal) := by
  rw [head_out (x_at h0 (h + 8) (by omega)) (ctk_at h2 h hh hs) h7 h8 h10, Data.dhead, Data.g, if_neg (show ¬(⟨h + 8, _⟩ : Fin 10).val < 8 by simp)]
  rfl

/-- A head's part of its gain's gradient, by place in the group of eight rows. -/
def Data.part (d : Data 512) (h : Fin 10) (u : Fin 8) (j : Fin 128) : ℝ := ∑ b : Fin 64, d.gain ⟨b * 8 + u, by omega⟩ h j

include h0 h1 h7 h8 in
theorem q_part (a : FVec Ideal S8x128 .f32) (h : ℕ) (hh : h < 8) (u : Fin 8) (j : Fin 128) :
    headPart a x7 x8 (lanes x1 h (by omega)) (lanes x0 h (by omega)) (ix2 u j) = a (ix2 u j) + (d.part ⟨h, by omega⟩ u j : EReal) :=
  head_part (x_at h0 h (by omega)) (ctq_at h1 h hh) h7 h8 a u j
include h0 h2 h7 h8 in
theorem k_part (a : FVec Ideal S8x128 .f32) (h : ℕ) (hh : h < 2) (hs : S512x256.Slices ![0, h * 128] S512x128) (u : Fin 8) (j : Fin 128) :
    headPart a x7 x8 (keyLanes x2 h hs) (lanes x0 (h + 8) (by omega)) (ix2 u j) = a (ix2 u j) + (d.part ⟨h + 8, by omega⟩ u j : EReal) :=
  head_part (x_at h0 (h + 8) (by omega)) (ctk_at h2 h hh hs) h7 h8 a u j

/-- The block's part of the queries' gain's gradient after some of its heads. -/
def qSum (x0 : Vec Ideal S512x1280 .f32) (x1 : Vec Ideal S512x1024 .f32) (x7 x8 : Vec Ideal S512x128 .f32) : (n : ℕ) → n ≤ 8 → FVec Ideal S8x128 .f32
  | 0, _ => k0_pay8
  | n + 1, h => headPart (qSum x0 x1 x7 x8 n (by omega)) x7 x8 (lanes x1 n (by omega)) (lanes x0 n (by omega))
def kSum (x0 : Vec Ideal S512x1280 .f32) (x2 : Vec Ideal S256x512 .f32) (x7 x8 : Vec Ideal S512x128 .f32) : FVec Ideal S8x128 .f32 :=
  headPart (headPart k0_pay9 x7 x8 (keyLanes x2 0 slices_S512x256_o0_0_S512x128) (lanes x0 8 (by omega))) x7 x8
    (keyLanes x2 1 slices_S512x256_o0_128_S512x128) (lanes x0 9 (by omega))

include h0 h1 h7 h8 in
theorem qSum_at (u : Fin 8) (j : Fin 128) (n : ℕ) (hn : n ≤ 8) : qSum x0 x1 x7 x8 n hn (ix2 u j) = ((∑ h : Fin n, d.part ⟨h, by omega⟩ u j : ℝ) : EReal) := by
  induction n with
  | zero => unfold qSum; pointwise [k0_pay8]; simp
  | succ n ih =>
    rw [qSum, q_part h0 h1 h7 h8 _ n (by omega), ih (by omega), ← EReal.coe_add, Fin.sum_univ_castSucc]
    rfl
include h0 h2 h7 h8 in
theorem kSum_at (u : Fin 8) (j : Fin 128) : kSum x0 x2 x7 x8 (ix2 u j) = ((∑ h : Fin 2, d.part ⟨h + 8, by omega⟩ u j : ℝ) : EReal) := by
  have e : k0_pay9 (F := Ideal) (ix2 u j) = 0 := by pointwise [k0_pay9]
  rw [kSum, k_part h0 h2 h7 h8 _ 1 (by omega), k_part h0 h2 h7 h8 _ 0 (by omega), e, zero_add, ← EReal.coe_add, Fin.sum_univ_two]
  rfl

theorem Data.out_head (i : Fin 512) (h : ℕ) (hh : h < 10) (j : Fin 128) (k : Fin 3072) (hk : k.val = h * 128 + j) : d.out i k = (d.dhead i ⟨h, hh⟩ j : EReal) := by
  rw [Data.out, dif_pos (by omega), show (⟨k.val / 128, by omega⟩ : Fin 10) = ⟨h, hh⟩ from Fin.ext (by show k.val / 128 = h; omega),
    show (⟨k.val % 128, by omega⟩ : Fin 128) = j from Fin.ext (by show k.val % 128 = j; omega)]

end Block

section Point

variable {m : (ℓ : Loc nD τ sig) → Buf (Elt Ideal) ℓ} {c : Dev nD} (t : Fin cfg0.N) {d : Data 512}
  (h0 : ∀ i (k : Fin 1280), iblk m c 0 t (ix2 i k) = (d.z i (wide k) : EReal)) (h1 : ∀ i k, iblk m c 1 t (ix2 i k) = (d.dq i k : EReal))
  (h2 : ∀ i k, iblk m c 2 t (ix2 k i) = (d.dk i k : EReal)) (h3 : ∀ i k, iblk m c 3 t (ix2 k i) = d.va i k)
  (h4 : ∀ i k, iblk m c 4 t (ix2 i k) = d.qb i k) (h5 : ∀ i k, iblk m c 5 t (ix2 i k) = d.kb i k) (h6 : ∀ i k, iblk m c 6 t (ix2 i k) = d.vb i k)
  (h7 : ∀ i j, iblk m c 7 t (ix2 i j) = (d.c i j : EReal)) (h8 : ∀ i j, iblk m c 8 t (ix2 i j) = (d.s i j : EReal))
  (h9 : ∀ j, iblk m c 9 t (ix2 0 j) = (d.gq j : EReal)) (h10 : ∀ j, iblk m c 10 t (ix2 0 j) = (d.gk j : EReal))

/-- What a point leaves of the gains' sums: the first its own part. -/
theorem gain_first (h : t.val % 8 = 0) :
    (outsAt0 m c t.val t.isLt).2.1 = qSum (iblk m c 0 t) (iblk m c 1 t) (iblk m c 7 t) (iblk m c 8 t) 8 (le_refl 8)
    ∧ (outsAt0 m c t.val t.isLt).2.2 = kSum (iblk m c 0 t) (iblk m c 2 t) (iblk m c 7 t) (iblk m c 8 t) := by
  have lt : t.val < 8 := t.isLt
  rw [outsAt0_A m c t h (by omega) h (by omega)]
  refine ⟨?_, ?_⟩ <;> frame_out <;> rfl
/-- A later one adds its part. -/
theorem gain_later (h : ¬t.val % 8 = 0) :
    (∀ s j, (outsAt0 m c t.val t.isLt).2.1 (ix2 s j) = (outsAt0 m c (t.val - 1) (Nat.lt_of_le_of_lt (Nat.sub_le _ _) t.isLt)).2.1 (ix2 s j)
      + qSum (iblk m c 0 t) (iblk m c 1 t) (iblk m c 7 t) (iblk m c 8 t) 8 (le_refl 8) (ix2 s j))
    ∧ (∀ s j, (outsAt0 m c t.val t.isLt).2.2 (ix2 s j) = (outsAt0 m c (t.val - 1) (Nat.lt_of_le_of_lt (Nat.sub_le _ _) t.isLt)).2.2 (ix2 s j)
      + kSum (iblk m c 0 t) (iblk m c 2 t) (iblk m c 7 t) (iblk m c 8 t) (ix2 s j)) := by
  have lt : t.val < 8 := t.isLt
  rw [outsAt0_B m c t h (by omega) h (by omega)]
  refine ⟨fun s j => ?_, fun s j => ?_⟩ <;> frame_out
  · pointwise [k0_pay3]; rfl
  · pointwise [k0_pay4]; rfl

theorem Data.out_va {n : ℕ} (d : Data n) (i : Fin n) (k : Fin 3072) (b : Fin 256) (hk : k.val = 1280 + b) : d.out i k = d.va i b := by
  rw [Data.out, dif_neg (by omega), dif_pos (by omega)]; exact congrArg _ (Fin.ext (by show k.val - 1280 = b; omega))
theorem Data.out_qb {n : ℕ} (d : Data n) (i : Fin n) (k : Fin 3072) (b : Fin 1024) (hk : k.val = 1536 + b) : d.out i k = d.qb i b := by
  rw [Data.out, dif_neg (by omega), dif_neg (by omega), dif_pos (by omega)]; exact congrArg _ (Fin.ext (by show k.val - 1536 = b; omega))
theorem Data.out_kb {n : ℕ} (d : Data n) (i : Fin n) (k : Fin 3072) (b : Fin 256) (hk : k.val = 2560 + b) : d.out i k = d.kb i b := by
  rw [Data.out, dif_neg (by omega), dif_neg (by omega), dif_neg (by omega), dif_pos (by omega)]; exact congrArg _ (Fin.ext (by show k.val - 2560 = b; omega))
theorem Data.out_vb {n : ℕ} (d : Data n) (i : Fin n) (k : Fin 3072) (b : Fin 256) (hk : k.val = 2816 + b) : d.out i k = d.vb i b := by
  rw [Data.out, dif_neg (by omega), dif_neg (by omega), dif_neg (by omega), dif_neg (by omega)]; exact congrArg _ (Fin.ext (by show k.val - 2816 = b; omega))

include h0 h1 h2 h3 h4 h5 h6 h7 h8 h9 h10 in
/-- The gradient's block, the last store first. -/
theorem block_out (i : Fin 512) (k : Fin 3072) : (outsAt0 m c t.val t.isLt).1 (ix2 i k) = d.out i k := by
  have lt : t.val < 8 := t.isLt
  by_cases h : t.val % 8 = 0
  all_goals
    first | rw [outsAt0_A m c t h (by omega) h (by omega)] | rw [outsAt0_B m c t h (by omega) h (by omega)]
    frame_out
    canon_tiles x hx using View.cover_of_tiledBy _ ![512, 128] (by sl_kernel_rfl) _
    all_goals
      obtain ⟨a, b, rfl⟩ := idx2_eq x
      obtain rfl : i = a := Fin.ext hx0
      first | change k.val = _ + b.val at hx1 | change k.val = b.val at hx1
    case piece0 => refine Eq.trans ?_ ((h6 i b).trans (d.out_vb i k b hx1).symm); pointwise [k0_pay2]
    case piece1 => refine Eq.trans ?_ ((h5 i b).trans (d.out_kb i k b hx1).symm); pointwise [k0_pay1]
    case piece2 => exact (h4 i b).trans (d.out_qb i k b hx1).symm
    case piece3 => refine Eq.trans ?_ ((h3 i b).trans (d.out_va i k b hx1).symm); pointwise [k0_pay95]
    case piece4 => exact (k_out h0 h2 h7 h8 h10 1 (by decide) slices_S512x256_o0_128_S512x128 i b).trans (d.out_head i 9 (by decide) b k (by omega)).symm
    case piece5 => exact (k_out h0 h2 h7 h8 h10 0 (by decide) slices_S512x256_o0_0_S512x128 i b).trans (d.out_head i 8 (by decide) b k (by omega)).symm
    case piece6 => exact (q_out h0 h1 h7 h8 h9 7 (by decide) i b).trans (d.out_head i 7 (by decide) b k (by omega)).symm
    case piece7 => exact (q_out h0 h1 h7 h8 h9 6 (by decide) i b).trans (d.out_head i 6 (by decide) b k (by omega)).symm
    case piece8 => exact (q_out h0 h1 h7 h8 h9 5 (by decide) i b).trans (d.out_head i 5 (by decide) b k (by omega)).symm
    case piece9 => exact (q_out h0 h1 h7 h8 h9 4 (by decide) i b).trans (d.out_head i 4 (by decide) b k (by omega)).symm
    case piece10 => exact (q_out h0 h1 h7 h8 h9 3 (by decide) i b).trans (d.out_head i 3 (by decide) b k (by omega)).symm
    case piece11 => exact (q_out h0 h1 h7 h8 h9 2 (by decide) i b).trans (d.out_head i 2 (by decide) b k (by omega)).symm
    case piece12 => exact (q_out h0 h1 h7 h8 h9 1 (by decide) i b).trans (d.out_head i 1 (by decide) b k (by omega)).symm
    case piece13 => exact (q_out h0 h1 h7 h8 h9 0 (by decide) i b).trans (d.out_head i 0 (by decide) b k (by omega)).symm

end Point

end Cert.Proof.DProj

end
-- ==== Proof.DProj.Arrays.lean ====
module

public import proofs.«01_k».proof.Proof.DProj.Block

@[expose] public section

set_option maxRecDepth 16384

noncomputable section

/-! The kernel's arrays when its grid is done. -/

namespace Cert.Proof.DProj

open Cert.DProjIdeal Cert.DProjIdeal.Gen Idealize.ShloMosaic Idealize.ShloMosaic.TcCoe Idealize.SL.Sem Cert.Proof.Lift Cert.Proof.Norm

theorem idx : ∀ t : Fin cfg0.N, win0_0.index t = ![t.val, 0] ∧ win0_1.index t = ![t.val, 0] ∧ win0_2.index t = ![0, t.val] ∧ win0_3.index t = ![0, t.val]
    ∧ win0_4.index t = ![t.val, 0] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] ∧ win0_11.index t = ![t.val, 0] ∧ win0_12.index t = ![0, 0] ∧ win0_13.index t = ![0, 0] :=
  (by decide +kernel : ∀ t : Fin grid0.N, _)

/-! The tables. -/

theorem word (n : ℕ) (hn : n < 4096) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  push_cast; rfl
theorem row_word : ∀ r : Fin 4096, IntOp.divsi .host (BitVec.ofNat 32 r.val) 64#32 = BitVec.ofNat 32 (r.val / 64) := by decide +kernel
theorem col_word : ∀ r : Fin 4096, IntOp.remsi .host (BitVec.ofNat 32 r.val) 64#32 = BitVec.ofNat 32 (r.val % 64) := by decide +kernel

theorem two_bits : Ideal.ofBits .f32 1073741824#32 = ((2 : ℝ) : EReal) := by simp [Ideal.ofBits, Ideal.ieee, ← EReal.coe_mul]; norm_num
theorem half_bits : Ideal.ofBits .f32 1115684864#32 = ((64 : ℝ) : EReal) := by simp [Ideal.ofBits, Ideal.ieee, ← EReal.coe_mul]; norm_num
theorem base_bits : Ideal.ofBits .f32 1176256512#32 = ((10000 : ℝ) : EReal) := by simp [Ideal.ofBits, Ideal.ieee, ← EReal.coe_mul]; norm_num

theorem host_freq (b : Fin 32) : Ideal.pow (Ideal.ofBits .f32 1176256512#32)
    (Ideal.div (-(Ideal.ofBits .f32 1073741824#32 * (FloatOps.sitofp .f32 (BitVec.ofNat 32 b.val) : Ideal .f32))) (Ideal.ofBits .f32 1115684864#32)) = (freq b : EReal) := by
  rw [word b (by omega), two_bits, half_bits, base_bits, ← EReal.coe_mul, ← EReal.coe_neg, div_coe' _ _ (by norm_num : (64 : ℝ) ≠ 0), Ideal.pow_coe_coe, freq]

theorem row_angle (r : Fin 4096) (b : Fin 32) (k : Fin 128) (hk : k.val % 32 = b) (h : k.val < 64) : ((r.val / 64 : ℕ) : ℝ) * freq b = angle r k := by
  rw [angle, if_pos h]; exact congrArg _ (congrArg freq (Fin.ext hk.symm))
theorem col_angle (r : Fin 4096) (b : Fin 32) (k : Fin 128) (hk : k.val % 32 = b) (h : ¬k.val < 64) : ((r.val % 64 : ℕ) : ℝ) * freq b = angle r k := by
  rw [angle, if_neg h]; exact congrArg _ (congrArg freq (Fin.ext hk.symm))

section Arrays

variable {m : (ℓ : Loc nD τ sig) → Buf (Elt Ideal) ℓ} {c : Dev nD}

theorem host_z (r : Fin 4096) (k : Fin 1280) : V0 m c main_v39 (ix2 r k) = m ((c : Thread nD τ).loc main_arg0) (ix2 r (wide k)) := by
  show StableHlo.after hostOps0 _ _ _ = _
  after_results_simp
  pointwise
  rfl

/-- Four arrays side by side, at an index. -/
theorem four {x₀ x₁ x₂ x₃ : (⟨2, ![4096, 32]⟩ : Shape).Idx → EReal} (f : Fin 4096 → Fin 128 → EReal)
    (h : Shape.Concatenates [⟨2, ![4096, 32]⟩, ⟨2, ![4096, 32]⟩, ⟨2, ![4096, 32]⟩, ⟨2, ![4096, 32]⟩] ⟨2, ![4096, 128]⟩ 1)
    (h₀ : ∀ r (b : Fin 32), x₀ (ix2 r b) = f r ⟨b, by omega⟩) (h₁ : ∀ r (b : Fin 32), x₁ (ix2 r b) = f r ⟨32 + b, by omega⟩)
    (h₂ : ∀ r (b : Fin 32), x₂ (ix2 r b) = f r ⟨64 + b, by omega⟩) (h₃ : ∀ r (b : Fin 32), x₃ (ix2 r b) = f r ⟨96 + b, by omega⟩) (r : Fin 4096) (k : Fin 128) :
    concatenate ⟨2, ![4096, 128]⟩ 1 [⟨_, x₀⟩, ⟨_, x₁⟩, ⟨_, x₂⟩, ⟨_, x₃⟩] h (ix2 r k) = f r k := by
  have side (b : Fin 32) : ∀ a : Fin 2, a.cast rfl ≠ (1 : Fin 2) → ((ix2 r b : (⟨2, ![4096, 32]⟩ : Shape).Idx) a).val = ((ix2 r k : (⟨2, ![4096, 128]⟩ : Shape).Idx) (a.cast rfl)).val := by
    intro a ha; fin_cases a
    · rfl
    · exact absurd rfl ha
  obtain ⟨b, hb⟩ : ∃ b : Fin 32, b.val = k % 32 := ⟨⟨k % 32, by omega⟩, rfl⟩
  rcases (by omega : k.val = 0 + b ∨ k.val = 32 + b ∨ k.val = 64 + b ∨ k.val = 96 + b) with e | e | e | e
  · exact (concatenate_apply_piece _ _ _ (ix2 r k) 0 (by simp) _ x₀ rfl rfl 0 rfl (ix2 r b) (side b) e.symm).trans ((h₀ r b).trans (congrArg _ (Fin.ext (by show b.val = k; omega))))
  · exact (concatenate_apply_piece _ _ _ (ix2 r k) 1 (by simp) _ x₁ rfl rfl 32 rfl (ix2 r b) (side b) e.symm).trans ((h₁ r b).trans (congrArg _ (Fin.ext e.symm)))
  · exact (concatenate_apply_piece _ _ _ (ix2 r k) 2 (by simp) _ x₂ rfl rfl 64 rfl (ix2 r b) (side b) e.symm).trans ((h₂ r b).trans (congrArg _ (Fin.ext e.symm)))
  · exact (concatenate_apply_piece _ _ _ (ix2 r k) 3 (by simp) _ x₃ rfl rfl 96 rfl (ix2 r b) (side b) e.symm).trans ((h₃ r b).trans (congrArg _ (Fin.ext e.symm)))

theorem host_c (r : Fin 4096) (k : Fin 128) : V0 m c main_v31 (ix2 r k) = (cosAt r k : EReal) := by
  show StableHlo.after hostOps0 _ _ _ = _
  after_results_simp
  refine four (fun r k => (cosAt r k : EReal)) _ (fun r b => ?_) (fun r b => ?_) (fun r b => ?_) (fun r b => ?_) r k
  all_goals
    simp only [Matrix.cons_val]
    after_results_simp
    pointwise
    simp only [host_freq, row_word, col_word, word (r.val / 64) (by omega), word (r.val % 64) (by omega), ← EReal.coe_mul, Ideal.cos_coe, cosAt]
  · rw [row_angle r b ⟨b, by omega⟩ (by show b.val % 32 = b; omega) (by show b.val < 64; omega)]
  · rw [row_angle r b ⟨32 + b, by omega⟩ (by show (32 + b.val) % 32 = b; omega) (by show 32 + b.val < 64; omega)]
  · rw [col_angle r b ⟨64 + b, by omega⟩ (by show (64 + b.val) % 32 = b; omega) (by show ¬64 + b.val < 64; omega)]
  · rw [col_angle r b ⟨96 + b, by omega⟩ (by show (96 + b.val) % 32 = b; omega) (by show ¬96 + b.val < 64; omega)]

theorem host_s (r : Fin 4096) (k : Fin 128) : V0 m c main_v38 (ix2 r k) = (sinAt r k : EReal) := by
  show StableHlo.after hostOps0 _ _ _ = _
  after_results_simp
  refine four (fun r k => (sinAt r k : EReal)) _ (fun r b => ?_) (fun r b => ?_) (fun r b => ?_) (fun r b => ?_) r k
  all_goals
    simp only [Matrix.cons_val]
    after_results_simp
    pointwise
    simp only [host_freq, row_word, col_word, word (r.val / 64) (by omega), word (r.val % 64) (by omega), ← EReal.coe_mul, ← EReal.coe_neg, Ideal.sin_coe, sinAt]
  · rw [row_angle r b ⟨b, by omega⟩ (by show b.val % 32 = b; omega) (by show b.val < 64; omega), if_pos (by show b.val % 64 < 32; omega)]
  · rw [row_angle r b ⟨32 + b, by omega⟩ (by show (32 + b.val) % 32 = b; omega) (by show 32 + b.val < 64; omega), if_neg (by show ¬(32 + b.val) % 64 < 32; omega)]
  · rw [col_angle r b ⟨64 + b, by omega⟩ (by show (64 + b.val) % 32 = b; omega) (by show ¬64 + b.val < 64; omega), if_pos (by show (64 + b.val) % 64 < 32; omega)]
  · rw [col_angle r b ⟨96 + b, by omega⟩ (by show (96 + b.val) % 32 = b; omega) (by show ¬96 + b.val < 64; omega), if_neg (by show ¬(96 + b.val) % 64 < 32; omega)]

variable {d : Data 4096}
  (hz : ∀ r k, m ((c : Thread nD τ).loc main_arg0) (ix2 r k) = (d.z r k : EReal)) (hq : ∀ r k, m ((c : Thread nD τ).loc main_arg1) (ix2 r k) = (d.dq r k : EReal))
  (hk : ∀ r k, m ((c : Thread nD τ).loc main_arg2) (ix2 k r) = (d.dk r k : EReal)) (hva : ∀ r k, m ((c : Thread nD τ).loc main_arg3) (ix2 k r) = d.va r k)
  (hqb : ∀ r k, m ((c : Thread nD τ).loc main_arg4) (ix2 r k) = d.qb r k) (hkb : ∀ r k, m ((c : Thread nD τ).loc main_arg5) (ix2 r k) = d.kb r k)
  (hvb : ∀ r k, m ((c : Thread nD τ).loc main_arg6) (ix2 r k) = d.vb r k) (hc : ∀ r j, cosAt r j = d.c r j) (hs : ∀ r j, sinAt r j = d.s r j)
  (hgq : ∀ j, m ((c : Thread nD τ).loc main_arg7) (ix2 0 j) = (d.gq j : EReal)) (hgk : ∀ j, m ((c : Thread nD τ).loc main_arg8) (ix2 0 j) = (d.gk j : EReal))

/-- A point's rows. -/
def Data.blk (d : Data 4096) (t : Fin cfg0.N) : Data 512 := d.at' (rowAt t.val)

include hz in
theorem in_z (t : Fin cfg0.N) (y : Fin 512) (k : Fin 1280) : iblk m c 0 t (ix2 y k) = ((d.blk t).z y (wide k) : EReal) :=
  (congrArg (V0 m c main_v39) (by blk_ext [idx t, rowAt] : _ = ix2 (rowAt t y) k)).trans ((host_z _ _).trans (hz _ _))
include hq in
theorem in_q (t : Fin cfg0.N) (y : Fin 512) (k : Fin 1024) : iblk m c 1 t (ix2 y k) = ((d.blk t).dq y k : EReal) :=
  (congrArg (m ((c : Thread nD τ).loc main_arg1)) (by blk_ext [idx t, rowAt] : _ = ix2 (rowAt t y) k)).trans (hq _ _)

include hk in
theorem in_k (t : Fin cfg0.N) (y : Fin 512) (k : Fin 256) : iblk m c 2 t (ix2 k y) = ((d.blk t).dk y k : EReal) :=
  (congrArg (m ((c : Thread nD τ).loc main_arg2)) (by blk_ext [idx t, rowAt] : _ = ix2 k (rowAt t y))).trans (hk _ _)
include hva in
theorem in_va (t : Fin cfg0.N) (y : Fin 512) (k : Fin 256) : iblk m c 3 t (ix2 k y) = (d.blk t).va y k :=
  (congrArg (m ((c : Thread nD τ).loc main_arg3)) (by blk_ext [idx t, rowAt] : _ = ix2 k (rowAt t y))).trans (hva _ _)
include hqb in
theorem in_qb (t : Fin cfg0.N) (y : Fin 512) (k : Fin 1024) : iblk m c 4 t (ix2 y k) = (d.blk t).qb y k :=
  (congrArg (m ((c : Thread nD τ).loc main_arg4)) (by blk_ext [idx t, rowAt] : _ = ix2 (rowAt t y) k)).trans (hqb _ _)
include hkb in
theorem in_kb (t : Fin cfg0.N) (y : Fin 512) (k : Fin 256) : iblk m c 5 t (ix2 y k) = (d.blk t).kb y k :=
  (congrArg (m ((c : Thread nD τ).loc main_arg5)) (by blk_ext [idx t, rowAt] : _ = ix2 (rowAt t y) k)).trans (hkb _ _)
include hvb in
theorem in_vb (t : Fin cfg0.N) (y : Fin 512) (k : Fin 256) : iblk m c 6 t (ix2 y k) = (d.blk t).vb y k :=
  (congrArg (m ((c : Thread nD τ).loc main_arg6)) (by blk_ext [idx t, rowAt] : _ = ix2 (rowAt t y) k)).trans (hvb _ _)
include hc in
theorem in_c (t : Fin cfg0.N) (y : Fin 512) (k : Fin 128) : iblk m c 7 t (ix2 y k) = ((d.blk t).c y k : EReal) :=
  (congrArg (V0 m c main_v31) (by blk_ext [idx t, rowAt] : _ = ix2 (rowAt t y) k)).trans ((host_c _ _).trans (congrArg Real.toEReal (hc _ _)))
include hs in
theorem in_s (t : Fin cfg0.N) (y : Fin 512) (k : Fin 128) : iblk m c 8 t (ix2 y k) = ((d.blk t).s y k : EReal) :=
  (congrArg (V0 m c main_v38) (by blk_ext [idx t, rowAt] : _ = ix2 (rowAt t y) k)).trans ((host_s _ _).trans (congrArg Real.toEReal (hs _ _)))
include hgq in
theorem in_gq (t : Fin cfg0.N) (k : Fin 128) : iblk m c 9 t (ix2 0 k) = ((d.blk t).gq k : EReal) :=
  (congrArg (m ((c : Thread nD τ).loc main_arg7)) (by blk_ext [idx t] : _ = ix2 0 k)).trans (hgq _)
include hgk in
theorem in_gk (t : Fin cfg0.N) (k : Fin 128) : iblk m c 10 t (ix2 0 k) = ((d.blk t).gk k : EReal) :=
  (congrArg (m ((c : Thread nD τ).loc main_arg8)) (by blk_ext [idx t] : _ = ix2 0 k)).trans (hgk _)

include hz hq hk hva hqb hkb hvb hc hs hgq hgk in
theorem out_dproj (r : Fin 4096) (k : Fin 3072) : (dats m 0 c).arrAt 11 cfg0.N (ix2 r k) = d.out r k := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 11 cfg0.N) (by blk_ext [idx t, rowAt] : _ = ((cfg0.win 11).blk t).view.emb (ix2 y k))).trans ?_
  refine ((dats m 0 c).arrAt_emb_eq_flushed 11 (Pipeline.Window.hdisj_of_index_inj _ (by decide +kernel)) t ((by decide +kernel : ∀ t : Fin cfg0.N, (cfg0.win 11).flush t = true) t) _).trans ?_
  blk_simp
  rw [after0_11]
  exact block_out t (in_z hz t) (in_q hq t) (in_k hk t) (in_va hva t) (in_qb hqb t) (in_kb hkb t) (in_vb hvb t) (in_c hc t) (in_s hs t) (in_gq hgq t) (in_gk hgk t) y k

/-- A term of the queries' gain's gradient, summed over the heads; and of the keys'. -/
def Data.gainq (d : Data 4096) (j : Fin 128) (r : Fin 4096) : ℝ := ∑ h : Fin 8, d.gain r ⟨h, by omega⟩ j
def Data.gaink (d : Data 4096) (j : Fin 128) (r : Fin 4096) : ℝ := ∑ h : Fin 2, d.gain r ⟨h + 8, by omega⟩ j

include hz hq hc hs in
theorem add_q (t : Fin cfg0.N) (s : Fin 8) (j : Fin 128) : qSum (iblk m c 0 t) (iblk m c 1 t) (iblk m c 7 t) (iblk m c 8 t) 8 (le_refl 8) (ix2 s j)
    = (partAt (d.gainq j) t.val s : EReal) :=
  (qSum_at (in_z hz t) (in_q hq t) (in_c hc t) (in_s hs t) s j 8 (le_refl 8)).trans (congrArg Real.toEReal Finset.sum_comm)
include hz hk hc hs in
theorem add_k (t : Fin cfg0.N) (s : Fin 8) (j : Fin 128) : kSum (iblk m c 0 t) (iblk m c 2 t) (iblk m c 7 t) (iblk m c 8 t) (ix2 s j)
    = (partAt (d.gaink j) t.val s : EReal) :=
  (kSum_at (in_z hz t) (in_k hk t) (in_c hc t) (in_s hs t) s j).trans (congrArg Real.toEReal Finset.sum_comm)

include hz hq hc hs in
theorem out_gq (s : Fin 8) (j : Fin 128) : (dats m 0 c).arrAt 12 cfg0.N (ix2 s j) = ((∑ t : Fin 8, partAt (d.gainq j) t s : ℝ) : EReal) := by
  have key : (dats m 0 c).arrAt 12 cfg0.N = fun i : S8x128.Idx => ((∑ t : Fin 8, partAt (d.gainq (i 1)) t (i 0) : ℝ) : EReal) := by
    refine (dats m 0 c).arrAt_eq_of_after_last 12 t0_7 (by decide +kernel) _ fun i => ?_
    blk_simp
    obtain ⟨a, b, rfl⟩ := idx2_eq (N := 8) (n := 128) i
    rw [after0_12, Pipeline.eq_sum_fin_of_reset_step_apply_last (fun n h (p : Fin 8 × Fin 128) => (outsAt0 m c n h).2.1 (ix2 p.1 p.2)) 8 (fun _ => 0)
      (fun t p => (partAt (d.gainq p.2) t.val p.1 : EReal)) (fun t h p => (congrFun (gain_first t h).1 _).trans ((add_q hz hq hc hs t _ _).trans (zero_add _).symm))
      (fun t h p => ((gain_later t h).1 _ _).trans (congrArg (_ + ·) (add_q hz hq hc hs t _ _))) (by decide) t0_7 (by decide) (a, b)]
    rw [zero_add]
    exact sum_coe fun t : Fin 8 => partAt (d.gainq b) t a
  rw [key]; rfl
include hz hq hc hs in
theorem tail_gq (u : Fin 1) (j : Fin 128) : Pipeline.afterTail₀ cfgs (dats m) 0 (V0 m) [hostOps1] c main_v42 (ix2 u j) = ((∑ r, d.gainq j r : ℝ) : EReal) := by
  show StableHlo.after hostOps1 _ _ _ = _
  after_results_simp
  have hQ : ∀ s j, (Pipeline.withArrays (cfgs 0).spec c (V0 m c) (fun w => (dats m 0 c).arrAt w (cfgs 0).N) (Proc.tc.devRef main_v40_1) :
      (⟨S8x128, .f32⟩ : BufTy).Contents (Elt Ideal)) (ix2 s j) = ((∑ t : Fin 8, partAt (d.gainq j) t s : ℝ) : EReal) := fun s j =>
    (congrFun (Pipeline.withArrays_arr (cfgs 0).spec (by decide) c (V0 m c) _ 12) _).trans (out_gq hz hq hc hs s j)
  generalize Pipeline.withArrays (cfgs 0).spec c (V0 m c) (fun w => (dats m 0 c).arrAt w (cfgs 0).N) (Proc.tc.devRef main_v40_1) = Q at hQ ⊢
  pointwise
  simp only [hQ, sum_coe]
  exact congrArg Real.toEReal (sum_partAt (d.gainq j))

include hz hk hc hs in
theorem out_gk (s : Fin 8) (j : Fin 128) : (dats m 0 c).arrAt 13 cfg0.N (ix2 s j) = ((∑ t : Fin 8, partAt (d.gaink j) t s : ℝ) : EReal) := by
  have key : (dats m 0 c).arrAt 13 cfg0.N = fun i : S8x128.Idx => ((∑ t : Fin 8, partAt (d.gaink (i 1)) t (i 0) : ℝ) : EReal) := by
    refine (dats m 0 c).arrAt_eq_of_after_last 13 t0_7 (by decide +kernel) _ fun i => ?_
    blk_simp
    obtain ⟨a, b, rfl⟩ := idx2_eq (N := 8) (n := 128) i
    rw [after0_13, Pipeline.eq_sum_fin_of_reset_step_apply_last (fun n h (p : Fin 8 × Fin 128) => (outsAt0 m c n h).2.2 (ix2 p.1 p.2)) 8 (fun _ => 0)
      (fun t p => (partAt (d.gaink p.2) t.val p.1 : EReal)) (fun t h p => (congrFun (gain_first t h).2 _).trans ((add_k hz hk hc hs t _ _).trans (zero_add _).symm))
      (fun t h p => ((gain_later t h).2 _ _).trans (congrArg (_ + ·) (add_k hz hk hc hs t _ _))) (by decide) t0_7 (by decide) (a, b)]
    rw [zero_add]
    exact sum_coe fun t : Fin 8 => partAt (d.gaink b) t a
  rw [key]; rfl
include hz hk hc hs in
theorem tail_gk (u : Fin 1) (j : Fin 128) : Pipeline.afterTail₀ cfgs (dats m) 0 (V0 m) [hostOps1] c main_v44 (ix2 u j) = ((∑ r, d.gaink j r : ℝ) : EReal) := by
  show StableHlo.after hostOps1 _ _ _ = _
  after_results_simp
  have hQ : ∀ s j, (Pipeline.withArrays (cfgs 0).spec c (V0 m c) (fun w => (dats m 0 c).arrAt w (cfgs 0).N) (Proc.tc.devRef main_v40_2) :
      (⟨S8x128, .f32⟩ : BufTy).Contents (Elt Ideal)) (ix2 s j) = ((∑ t : Fin 8, partAt (d.gaink j) t s : ℝ) : EReal) := fun s j =>
    (congrFun (Pipeline.withArrays_arr (cfgs 0).spec (by decide) c (V0 m c) _ 13) _).trans (out_gk hz hk hc hs s j)
  generalize Pipeline.withArrays (cfgs 0).spec c (V0 m c) (fun w => (dats m 0 c).arrAt w (cfgs 0).N) (Proc.tc.devRef main_v40_2) = Q at hQ ⊢
  pointwise
  simp only [hQ, sum_coe]
  exact congrArg Real.toEReal (sum_partAt (d.gaink j))

end Arrays

end Cert.Proof.DProj

end
-- ==== Proof.DProj.Ref.lean ====
module

public import proofs.«01_k».proof.Proof.DProj.Arrays
public import proofs.«01_k».proof.Proof.Gen.DProjRefIdeal.Run
public import proofs.«01_k».proof.Proof.Gen.DProjRefIdeal.Read
public import Idealize.ShloMosaic.Lib.Claim

@[expose] public section

set_option maxRecDepth 16384

noncomputable section

/-! The reference's values. -/

namespace Cert.Proof.DProj

open Cert.DProjIdeal Idealize.ShloMosaic Idealize.ShloMosaic.TcCoe Idealize.SL.Sem Cert.Proof.Lift Cert.Proof.Norm
open Cert.DProjRefIdeal.Read

/-! The reference's tables. -/

theorem ref_angles (r : Fin 4096) (b : Fin 32) :
    val_main_v22 (F := Ideal) (ix2 r b) = ((((r.val / 64 : ℕ) : ℝ) * freq b : ℝ) : EReal) ∧ val_main_v28 (F := Ideal) (ix2 r b) = ((((r.val % 64 : ℕ) : ℝ) * freq b : ℝ) : EReal) := by
  constructor
  · pointwise [val_main_v22, val_main_v21, val_main_v20, val_main_v19, val_main_v18, val_main_v17, val_main_v16, val_main_v15, val_main_v14, val_main_v13, val_main_v12,
      val_main_v11, val_main_v10, val_main_v9, val_main_v8, val_main_v7, val_main_v2, val_main_v1, val_main_v0, val_main_cst, val_main_cst_0, val_main_cst_1, val_main_cst_2]
    rw [host_freq, word _ (by omega), ← EReal.coe_mul]
  · pointwise [val_main_v28, val_main_v27, val_main_v26, val_main_v25, val_main_v24, val_main_v23, val_main_v16, val_main_v15, val_main_v14, val_main_v13, val_main_v12,
      val_main_v11, val_main_v10, val_main_v9, val_main_v8, val_main_v7, val_main_v6, val_main_v5, val_main_v4, val_main_v3, val_main_cst, val_main_cst_0, val_main_cst_1, val_main_cst_2]
    rw [host_freq, word _ (by omega), ← EReal.coe_mul]

/-- The four tables: of the rows and of the columns. -/
def rowCos (r : Fin 4096) (b : Fin 32) : ℝ := Real.cos (((r.val / 64 : ℕ) : ℝ) * freq b)
def rowSin (r : Fin 4096) (b : Fin 32) : ℝ := Real.sin (((r.val / 64 : ℕ) : ℝ) * freq b)
def colCos (r : Fin 4096) (b : Fin 32) : ℝ := Real.cos (((r.val % 64 : ℕ) : ℝ) * freq b)
def colSin (r : Fin 4096) (b : Fin 32) : ℝ := Real.sin (((r.val % 64 : ℕ) : ℝ) * freq b)

theorem ref_rowCos (r : Fin 4096) (b : Fin 32) : val_main_v29 (F := Ideal) (ix2 r b) = (rowCos r b : EReal) := by
  pointwise [val_main_v29]; rw [(ref_angles r b).1, Ideal.cos_coe]; rfl
theorem ref_rowSin (r : Fin 4096) (b : Fin 32) : val_main_v30 (F := Ideal) (ix2 r b) = (rowSin r b : EReal) := by
  pointwise [val_main_v30]; rw [(ref_angles r b).1, Ideal.sin_coe]; rfl
theorem ref_colCos (r : Fin 4096) (b : Fin 32) : val_main_v31 (F := Ideal) (ix2 r b) = (colCos r b : EReal) := by
  pointwise [val_main_v31]; rw [(ref_angles r b).2, Ideal.cos_coe]; rfl
theorem ref_colSin (r : Fin 4096) (b : Fin 32) : val_main_v32 (F := Ideal) (ix2 r b) = (colSin r b : EReal) := by
  pointwise [val_main_v32]; rw [(ref_angles r b).2, Ideal.sin_coe]; rfl

theorem quarters {P : Fin 128 → Prop} (h : ∀ b : Fin 32, P ⟨b, by omega⟩ ∧ P ⟨32 + b, by omega⟩ ∧ P ⟨64 + b, by omega⟩ ∧ P ⟨96 + b, by omega⟩) (j : Fin 128) : P j := by
  obtain ⟨h₀, h₁, h₂, h₃⟩ := h ⟨j % 32, by omega⟩
  rcases (by omega : j.val = j % 32 ∨ j.val = 32 + j % 32 ∨ j.val = 64 + j % 32 ∨ j.val = 96 + j % 32) with f | f | f | f
  · exact (Fin.ext f : j = ⟨j % 32, by omega⟩) ▸ h₀
  · exact (Fin.ext f : j = ⟨32 + j % 32, by omega⟩) ▸ h₁
  · exact (Fin.ext f : j = ⟨64 + j % 32, by omega⟩) ▸ h₂
  · exact (Fin.ext f : j = ⟨96 + j % 32, by omega⟩) ▸ h₃

/-- A head's rotation undone, quarter by quarter. -/
theorem turn_quarters (r : Fin 4096) (x : Fin 128 → ℝ) (b : Fin 32) :
    turn (cosAt r) (sinAt r) x ⟨b, by omega⟩ = x ⟨32 + b, by omega⟩ * rowSin r b + x ⟨b, by omega⟩ * rowCos r b
    ∧ turn (cosAt r) (sinAt r) x ⟨32 + b, by omega⟩ = x ⟨32 + b, by omega⟩ * rowCos r b + -x ⟨b, by omega⟩ * rowSin r b
    ∧ turn (cosAt r) (sinAt r) x ⟨64 + b, by omega⟩ = x ⟨96 + b, by omega⟩ * colSin r b + x ⟨64 + b, by omega⟩ * colCos r b
    ∧ turn (cosAt r) (sinAt r) x ⟨96 + b, by omega⟩ = x ⟨96 + b, by omega⟩ * colCos r b + -x ⟨64 + b, by omega⟩ * colSin r b := by
  have hb := b.isLt
  have a₀ := row_angle r b ⟨b, by omega⟩ (by show b.val % 32 = b; omega) (by show b.val < 64; omega)
  have a₁ := row_angle r b ⟨32 + b, by omega⟩ (by show (32 + b.val) % 32 = b; omega) (by show 32 + b.val < 64; omega)
  have a₂ := col_angle r b ⟨64 + b, by omega⟩ (by show (64 + b.val) % 32 = b; omega) (by show ¬64 + b.val < 64; omega)
  have a₃ := col_angle r b ⟨96 + b, by omega⟩ (by show (96 + b.val) % 32 = b; omega) (by show ¬96 + b.val < 64; omega)
  have p₀ : pair ⟨b, by omega⟩ = ⟨32 + b, by omega⟩ := by rw [pair, dif_pos (by show b.val % 64 < 32; omega)]; exact Fin.ext (Nat.add_comm _ _)
  have p₁ : pair ⟨32 + b, by omega⟩ = ⟨b, by omega⟩ := by rw [pair, dif_neg (by show ¬(32 + b.val) % 64 < 32; omega)]; exact Fin.ext (by show 32 + b.val - 32 = b; omega)
  have p₂ : pair ⟨64 + b, by omega⟩ = ⟨96 + b, by omega⟩ := by rw [pair, dif_pos (by show (64 + b.val) % 64 < 32; omega)]; exact Fin.ext (by show 64 + b.val + 32 = 96 + b; omega)
  have p₃ : pair ⟨96 + b, by omega⟩ = ⟨64 + b, by omega⟩ := by rw [pair, dif_neg (by show ¬(96 + b.val) % 64 < 32; omega)]; exact Fin.ext (by show 96 + b.val - 32 = 64 + b; omega)
  refine ⟨?_, ?_, ?_, ?_⟩
  · rw [turn, p₀, cosAt, sinAt, ← a₀, ← a₁, if_neg (by show ¬(32 + b.val) % 64 < 32; omega), add_comm]; rfl
  · rw [turn, p₁, cosAt, sinAt, ← a₀, ← a₁, if_pos (by show b.val % 64 < 32; omega), neg_mul, mul_neg]; rfl
  · rw [turn, p₂, cosAt, sinAt, ← a₂, ← a₃, if_neg (by show ¬(96 + b.val) % 64 < 32; omega), add_comm]; rfl
  · rw [turn, p₃, cosAt, sinAt, ← a₂, ← a₃, if_pos (by show (64 + b.val) % 64 < 32; omega), neg_mul, mul_neg]; rfl

/-- The reference's form of a head's gradient. -/
theorem ref_hgrad' (x y : Fin 128 → ℝ) (j : Fin 128) :
    (y j : EReal) * (hrs x : EReal)
        + (x j : EReal) * ∑ _i : Fin 1, Ideal.div ((∑ i, (x i : EReal) * (y i : EReal)) * (Ideal.ofBits .f32 0xBF000000#32 * Ideal.div (hrs x : EReal) (hms x : EReal))) (Ideal.ofBits .f32 0x43000000#32)
        + (∑ _i : Fin 1, Ideal.div ((∑ i, (x i : EReal) * (y i : EReal)) * (Ideal.ofBits .f32 0xBF000000#32 * Ideal.div (hrs x : EReal) (hms x : EReal))) (Ideal.ofBits .f32 0x43000000#32)) * (x j : EReal)
      = (hgrad x y j : EReal) := by
  simp only [slope_val, Finset.univ_unique, Finset.sum_singleton]
  rw [← ref_hgrad x y j, EReal.coe_add, EReal.coe_add, EReal.coe_mul, EReal.coe_mul, EReal.coe_mul]

/-- Six blocks of columns side by side. -/
theorem six {x₀ x₃ : (⟨2, ![4096, 1024]⟩ : Shape).Idx → EReal} {x₁ x₂ x₄ x₅ : (⟨2, ![4096, 256]⟩ : Shape).Idx → EReal} (f : Fin 4096 → Fin 3072 → EReal)
    (H : Shape.Concatenates [⟨2, ![4096, 1024]⟩, ⟨2, ![4096, 256]⟩, ⟨2, ![4096, 256]⟩, ⟨2, ![4096, 1024]⟩, ⟨2, ![4096, 256]⟩, ⟨2, ![4096, 256]⟩] ⟨2, ![4096, 3072]⟩ 1)
    (h₀ : ∀ r (b : Fin 1024), x₀ (ix2 r b) = f r ⟨b, by omega⟩) (h₁ : ∀ r (b : Fin 256), x₁ (ix2 r b) = f r ⟨1024 + b, by omega⟩) (h₂ : ∀ r (b : Fin 256), x₂ (ix2 r b) = f r ⟨1280 + b, by omega⟩)
    (h₃ : ∀ r (b : Fin 1024), x₃ (ix2 r b) = f r ⟨1536 + b, by omega⟩) (h₄ : ∀ r (b : Fin 256), x₄ (ix2 r b) = f r ⟨2560 + b, by omega⟩) (h₅ : ∀ r (b : Fin 256), x₅ (ix2 r b) = f r ⟨2816 + b, by omega⟩)
    (r : Fin 4096) (k : Fin 3072) : concatenate ⟨2, ![4096, 3072]⟩ 1 [⟨_, x₀⟩, ⟨_, x₁⟩, ⟨_, x₂⟩, ⟨_, x₃⟩, ⟨_, x₄⟩, ⟨_, x₅⟩] H (ix2 r k) = f r k := by
  have side {n : ℕ} (b : Fin n) : ∀ a : Fin 2, a.cast rfl ≠ (1 : Fin 2) → ((ix2 r b : (⟨2, ![4096, n]⟩ : Shape).Idx) a).val = ((ix2 r k : (⟨2, ![4096, 3072]⟩ : Shape).Idx) (a.cast rfl)).val := by
    intro a ha; fin_cases a
    · rfl
    · exact absurd rfl ha
  by_cases b₀ : k.val < 1024
  · exact (concatenate_apply_piece _ _ _ (ix2 r k) 0 (by simp) _ x₀ rfl rfl 0 rfl (ix2 r ⟨k.val, by omega⟩) (side _) (by show 0 + k.val = k; omega)).trans (h₀ r _)
  by_cases b₁ : k.val < 1280
  · exact (concatenate_apply_piece _ _ _ (ix2 r k) 1 (by simp) _ x₁ rfl rfl 1024 rfl (ix2 r ⟨k.val - 1024, by omega⟩) (side _) (by show 1024 + (k.val - 1024) = k; omega)).trans ((h₁ r _).trans (congrArg _ (Fin.ext (by show 1024 + (k.val - 1024) = k; omega))))
  by_cases b₂ : k.val < 1536
  · exact (concatenate_apply_piece _ _ _ (ix2 r k) 2 (by simp) _ x₂ rfl rfl 1280 rfl (ix2 r ⟨k.val - 1280, by omega⟩) (side _) (by show 1280 + (k.val - 1280) = k; omega)).trans ((h₂ r _).trans (congrArg _ (Fin.ext (by show 1280 + (k.val - 1280) = k; omega))))
  by_cases b₃ : k.val < 2560
  · exact (concatenate_apply_piece _ _ _ (ix2 r k) 3 (by simp) _ x₃ rfl rfl 1536 rfl (ix2 r ⟨k.val - 1536, by omega⟩) (side _) (by show 1536 + (k.val - 1536) = k; omega)).trans ((h₃ r _).trans (congrArg _ (Fin.ext (by show 1536 + (k.val - 1536) = k; omega))))
  by_cases b₄ : k.val < 2816
  · exact (concatenate_apply_piece _ _ _ (ix2 r k) 4 (by simp) _ x₄ rfl rfl 2560 rfl (ix2 r ⟨k.val - 2560, by omega⟩) (side _) (by show 2560 + (k.val - 2560) = k; omega)).trans ((h₄ r _).trans (congrArg _ (Fin.ext (by show 2560 + (k.val - 2560) = k; omega))))
  exact (concatenate_apply_piece _ _ _ (ix2 r k) 5 (by simp) _ x₅ rfl rfl 2816 rfl (ix2 r ⟨k.val - 2816, by omega⟩) (side _) (by show 2816 + (k.val - 2816) = k; omega)).trans ((h₅ r _).trans (congrArg _ (Fin.ext (by show 2816 + (k.val - 2816) = k; omega))))

/-- The fourth quarter's first lane. -/
theorem fourth (n : ℕ) : 64 + (32 + n) = 96 + n := by omega
theorem fourth' (n : ℕ) : 96 + n - 64 - 32 = n := by omega

/-- A host's sum over the first two of three axes. -/
theorem sum_first_two {a b n : ℕ} (h : (⟨3, ![a, b, n]⟩ : Shape).ReducesTo [0, 1] ⟨1, ![n]⟩) (v : (⟨3, ![a, b, n]⟩ : Shape).Idx → EReal) (z : EReal) (j : Fin n) :
    Ideal.hostReduceAdd h v z (ix1 j) = z + ∑ r, ∑ k, v (ix3 r k j) := by
  refine congrArg (z + ·) ((Finset.sum_filter_eq_sum_of_fiber _ (fun k : Fin a × Fin b => ix3 k.1 k.2 j) (fun _ _ e => Prod.ext (congrFun e 0) (congrFun e 1)) (fun i => ?_) v).trans
    (by simp only [Fintype.sum_prod_type]))
  constructor
  · intro e
    refine ⟨(i 0, i 1), ?_⟩
    funext l
    apply Fin.ext
    match l with
    | ⟨0, _⟩ => rfl
    | ⟨1, _⟩ => rfl
    | ⟨2, _⟩ => exact (congrArg Fin.val (congrFun e 0)).symm
  · rintro ⟨k, rfl⟩
    funext l
    apply Fin.ext
    match l with
    | ⟨0, _⟩ => rfl

section Reference

variable {x0 : (⟨S4096x3072, .f32⟩ : BufTy).Contents (Elt Ideal)} {x1 : (⟨S4096x1024, .f32⟩ : BufTy).Contents (Elt Ideal)} {x2 x3 : (⟨S256x4096, .f32⟩ : BufTy).Contents (Elt Ideal)}
  {x4 : (⟨S4096x1024, .bf16⟩ : BufTy).Contents (Elt Ideal)} {x5 x6 : (⟨S4096x256, .f32⟩ : BufTy).Contents (Elt Ideal)} {x7 x8 : (⟨S1x128, .f32⟩ : BufTy).Contents (Elt Ideal)} {d : Data 4096}
  (hz : ∀ r k, x0 (ix2 r k) = (d.z r k : EReal)) (hq : ∀ r k, x1 (ix2 r k) = (d.dq r k : EReal)) (hk : ∀ r k, x2 (ix2 k r) = (d.dk r k : EReal))
  (hva : ∀ r k, x3 (ix2 k r) = d.va r k) (hqb : ∀ r k, x4 (ix2 r k) = d.qb r k) (hkb : ∀ r k, x5 (ix2 r k) = d.kb r k) (hvb : ∀ r k, x6 (ix2 r k) = d.vb r k)
  (hc : ∀ r j, cosAt r j = d.c r j) (hs : ∀ r j, sinAt r j = d.s r j) (hgq : ∀ j, x7 (ix2 0 j) = (d.gq j : EReal)) (hgk : ∀ j, x8 (ix2 0 j) = (d.gk j : EReal))

theorem out_head {n : ℕ} (d : Data n) (i : Fin n) (h : Fin 10) (j : Fin 128) (k : Fin 3072) (hk : k.val = h * 128 + j) : d.out i k = (d.dhead i h j : EReal) := by
  rw [Data.out, dif_pos (by omega), show (⟨k.val / 128, by omega⟩ : Fin 10) = h from Fin.ext (by show k.val / 128 = h; omega),
    show (⟨k.val % 128, by omega⟩ : Fin 128) = j from Fin.ext (by show k.val % 128 = j; omega)]

/-- The queries' heads. -/
def qh (h : Fin 8) : Fin 10 := ⟨h, by omega⟩
/-- The keys'. -/
def kh (h : Fin 2) : Fin 10 := ⟨h + 8, by omega⟩

include hz in
theorem q_x (r : Fin 4096) (h : Fin 8) (j : Fin 128) : val_main_v39 (F := Ideal) x0 (ix3 r h j) = (d.x r (qh h) j : EReal) := by
  pointwise [val_main_v39, val_main_v33]
  exact hz _ _
include hz in
theorem q_ms (r : Fin 4096) (h : Fin 8) (u : Fin 1) : val_main_v47 (F := Ideal) x0 (ix3 r h u) = (hms (d.x r (qh h)) : EReal) := by
  pointwise [val_main_v47, val_main_v46, val_main_v45, val_main_v44, val_main_v43, val_main_v42, val_main_v41, val_main_cst_3, val_main_cst_4, val_main_cst_5]
  simp only [q_x hz]
  exact hms_val _
include hz in
theorem q_rs (r : Fin 4096) (h : Fin 8) (u : Fin 1) : val_main_v48 (F := Ideal) x0 (ix3 r h u) = (hrs (d.x r (qh h)) : EReal) := by
  pointwise [val_main_v48]
  rw [q_ms hz, hrs_val]
include hz in
theorem q_xn (r : Fin 4096) (h : Fin 8) (j : Fin 128) : val_main_v53 (F := Ideal) x0 (ix3 r h j) = ((d.x r (qh h) j * hrs (d.x r (qh h)) : ℝ) : EReal) := by
  pointwise [val_main_v53, val_main_v52]
  rw [q_x hz, q_rs hz, EReal.coe_mul]
include hq in
theorem q_ct (h : Fin 8) (r : Fin 4096) (j : Fin 128) : val_main_v152 (F := Ideal) x1 (ix3 h r j) = (d.ct r (qh h) j : EReal) := by
  pointwise [val_main_v152, val_main_v151]
  rw [Data.ct, dif_pos (show (qh h).val < 8 from h.isLt)]
  exact hq _ _
include hq hc hs in
theorem q_dx (r : Fin 4096) (h : Fin 8) (j : Fin 128) : val_main_v255 (F := Ideal) x1 (ix3 r h j) = (d.dx r (qh h) j : EReal) := by
  have e : d.dx r (qh h) = turn (cosAt r) (sinAt r) (d.ct r (qh h)) := by rw [Data.dx, ← funext (hc r), ← funext (hs r)]
  rw [e]
  refine quarters (P := fun j => val_main_v255 (F := Ideal) x1 (ix3 r h j) = (turn (cosAt r) (sinAt r) (d.ct r (qh h)) j : EReal)) (fun b => ?_) j
  obtain ⟨t₀, t₁, t₂, t₃⟩ := turn_quarters r (d.ct r (qh h)) b
  rw [t₀, t₁, t₂, t₃]
  have hb := b.isLt
  refine ⟨?_, ?_, ?_, ?_⟩
  all_goals
    pointwise [val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v61, val_main_v64, val_main_v68, val_main_v71, val_main_v79, val_main_v82, val_main_v86, val_main_v89, val_main_cst_22, val_main_cst_23, val_main_cst_24, val_main_cst_25, val_main_cst_26, val_main_cst_27]
    try simp only [false_and, ↓reduceDIte]
    split_ifs
    all_goals first | (exfalso; omega) | skip
    all_goals try simp only [Nat.add_sub_cancel_left, fourth, fourth', q_ct hq, ref_rowCos, ref_rowSin, ref_colCos, ref_colSin, zero_add, add_zero, ← EReal.coe_mul, ← EReal.coe_neg, ← EReal.coe_add]
include hz hq hc hs hgq in
theorem q_grad (r : Fin 4096) (h : Fin 8) (j : Fin 128) : val_main_v275 (F := Ideal) x0 x1 x7 (ix3 r h j) = (d.dhead r (qh h) j : EReal) := by
  have g (i : Fin 128) : val_main_v260 (F := Ideal) x1 x7 (ix3 r h i) = ((d.dx r (qh h) i * d.g (qh h) i : ℝ) : EReal) := by
    pointwise [val_main_v260, val_main_v259, val_main_v54, val_main_v40]
    rw [q_dx hq hc hs, hgq, ← EReal.coe_mul, Data.g, if_pos (show (qh h).val < 8 from h.isLt)]
  pointwise [val_main_v275, val_main_v274, val_main_v273, val_main_v272, val_main_v271, val_main_v270, val_main_v269, val_main_v268, val_main_v267, val_main_v266, val_main_v265,
    val_main_v264, val_main_v263, val_main_v262, val_main_v51, val_main_v50, val_main_v49, val_main_cst_6, val_main_cst_30, val_main_cst_31, val_main_cst_32]
  simp only [g, q_x hz, q_rs hz, q_ms hz]
  exact ref_hgrad' (d.x r (qh h)) (fun l => d.dx r (qh h) l * d.g (qh h) l) j
include hz hq hc hs in
theorem q_gain (u : Fin 1) (j : Fin 128) : val_main_v276 (F := Ideal) x0 x1 (ix2 u j) = ((∑ r, d.gainq j r : ℝ) : EReal) := by
  have sum (i : Fin 128) : val_main_v257 (F := Ideal) x0 x1 (ix1 i) = ((∑ r, d.gainq i r : ℝ) : EReal) := by
    refine (sum_first_two _ _ _ _).trans ?_
    pointwise [val_main_v256, val_main_cst_28]
    simp only [q_dx hq hc hs, q_xn hz, ← EReal.coe_mul, sum_coe]
    exact congrArg _ (Finset.sum_congr rfl fun r _ => Finset.sum_congr rfl fun h _ => mul_comm _ _)
  have e : val_main_v276 (F := Ideal) x0 x1 (ix2 u j) = val_main_v261 (F := Ideal) x0 x1 (ix1 j) := by pointwise [val_main_v276]
  refine e.trans ((sum_first_two _ _ _ _).trans ?_)
  pointwise [val_main_v258, val_main_cst_29]
  simp only [Finset.univ_unique, Finset.sum_singleton]
  exact sum j
include hz in
theorem k_x (r : Fin 4096) (h : Fin 2) (j : Fin 128) : val_main_v95 (F := Ideal) x0 (ix3 r h j) = (d.x r (kh h) j : EReal) := by
  pointwise [val_main_v95, val_main_v34]
  exact (hz _ _).trans (congrArg (fun k : Fin 3072 => (d.z r k : EReal)) (Fin.ext (by show 1024 + (h.val * 128 + j) = (h + 8) * 128 + j; omega)))
include hz in
theorem k_ms (r : Fin 4096) (h : Fin 2) (u : Fin 1) : val_main_v103 (F := Ideal) x0 (ix3 r h u) = (hms (d.x r (kh h)) : EReal) := by
  pointwise [val_main_v103, val_main_v102, val_main_v101, val_main_v100, val_main_v99, val_main_v98, val_main_v97, val_main_cst_7, val_main_cst_8, val_main_cst_9]
  simp only [k_x hz]
  exact hms_val _
include hz in
theorem k_rs (r : Fin 4096) (h : Fin 2) (u : Fin 1) : val_main_v104 (F := Ideal) x0 (ix3 r h u) = (hrs (d.x r (kh h)) : EReal) := by
  pointwise [val_main_v104]
  rw [k_ms hz, hrs_val]
include hz in
theorem k_xn (r : Fin 4096) (h : Fin 2) (j : Fin 128) : val_main_v109 (F := Ideal) x0 (ix3 r h j) = ((d.x r (kh h) j * hrs (d.x r (kh h)) : ℝ) : EReal) := by
  pointwise [val_main_v109, val_main_v108]
  rw [k_x hz, k_rs hz, EReal.coe_mul]
include hk in
theorem k_ct (h : Fin 2) (r : Fin 4096) (j : Fin 128) : val_main_v155 (F := Ideal) x2 (ix3 h r j) = (d.ct r (kh h) j : EReal) := by
  pointwise [val_main_v155, val_main_v154, val_main_v153]
  rw [Data.ct, dif_neg (show ¬(kh h).val < 8 by show ¬h.val + 8 < 8; omega)]
  exact hk _ _
include hk hc hs in
theorem k_dx (r : Fin 4096) (h : Fin 2) (j : Fin 128) : val_main_v195 (F := Ideal) x2 (ix3 r h j) = (d.dx r (kh h) j : EReal) := by
  have e : d.dx r (kh h) = turn (cosAt r) (sinAt r) (d.ct r (kh h)) := by rw [Data.dx, ← funext (hc r), ← funext (hs r)]
  rw [e]
  refine quarters (P := fun j => val_main_v195 (F := Ideal) x2 (ix3 r h j) = (turn (cosAt r) (sinAt r) (d.ct r (kh h)) j : EReal)) (fun b => ?_) j
  obtain ⟨t₀, t₁, t₂, t₃⟩ := turn_quarters r (d.ct r (kh h)) b
  rw [t₀, t₁, t₂, t₃]
  have hb := b.isLt
  refine ⟨?_, ?_, ?_, ?_⟩
  all_goals
    pointwise [val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v117, val_main_v120, val_main_v124, val_main_v127, val_main_v135, val_main_v138, val_main_v142, val_main_v145, val_main_cst_11, val_main_cst_12, val_main_cst_13, val_main_cst_14, val_main_cst_15, val_main_cst_16]
    try simp only [false_and, ↓reduceDIte]
    split_ifs
    all_goals first | (exfalso; omega) | skip
    all_goals try simp only [Nat.add_sub_cancel_left, fourth, fourth', k_ct hk, ref_rowCos, ref_rowSin, ref_colCos, ref_colSin, zero_add, add_zero, ← EReal.coe_mul, ← EReal.coe_neg, ← EReal.coe_add]
include hz hk hc hs hgk in
theorem k_grad (r : Fin 4096) (h : Fin 2) (j : Fin 128) : val_main_v215 (F := Ideal) x0 x2 x8 (ix3 r h j) = (d.dhead r (kh h) j : EReal) := by
  have g (i : Fin 128) : val_main_v200 (F := Ideal) x2 x8 (ix3 r h i) = ((d.dx r (kh h) i * d.g (kh h) i : ℝ) : EReal) := by
    pointwise [val_main_v200, val_main_v199, val_main_v110, val_main_v96]
    rw [k_dx hk hc hs, hgk, ← EReal.coe_mul, Data.g, if_neg (show ¬(kh h).val < 8 by show ¬h.val + 8 < 8; omega)]
  pointwise [val_main_v215, val_main_v214, val_main_v213, val_main_v212, val_main_v211, val_main_v210, val_main_v209, val_main_v208, val_main_v207, val_main_v206, val_main_v205,
    val_main_v204, val_main_v203, val_main_v202, val_main_v107, val_main_v106, val_main_v105, val_main_cst_10, val_main_cst_19, val_main_cst_20, val_main_cst_21]
  simp only [g, k_x hz, k_rs hz, k_ms hz]
  exact ref_hgrad' (d.x r (kh h)) (fun l => d.dx r (kh h) l * d.g (kh h) l) j
include hz hk hc hs in
theorem k_gain (u : Fin 1) (j : Fin 128) : val_main_v216 (F := Ideal) x0 x2 (ix2 u j) = ((∑ r, d.gaink j r : ℝ) : EReal) := by
  have sum (i : Fin 128) : val_main_v197 (F := Ideal) x0 x2 (ix1 i) = ((∑ r, d.gaink i r : ℝ) : EReal) := by
    refine (sum_first_two _ _ _ _).trans ?_
    pointwise [val_main_v196, val_main_cst_17]
    simp only [k_dx hk hc hs, k_xn hz, ← EReal.coe_mul, sum_coe]
    exact congrArg _ (Finset.sum_congr rfl fun r _ => Finset.sum_congr rfl fun h _ => mul_comm _ _)
  have e : val_main_v216 (F := Ideal) x0 x2 (ix2 u j) = val_main_v201 (F := Ideal) x0 x2 (ix1 j) := by pointwise [val_main_v216]
  refine e.trans ((sum_first_two _ _ _ _).trans ?_)
  pointwise [val_main_v198, val_main_cst_18]
  simp only [Finset.univ_unique, Finset.sum_singleton]
  exact sum j

include hz hq hk hva hqb hkb hvb hc hs hgq hgk in
theorem ref_out (r : Fin 4096) (k : Fin 3072) : val_main_v279 (F := Ideal) x0 x1 x2 x3 x4 x5 x6 x7 x8 (ix2 r k) = d.out r k := by
  refine Eq.trans (by pointwise [val_main_v279]) (show val_main_v278 (F := Ideal) x0 x1 x2 x3 x4 x5 x6 x7 x8 (ix2 r k) = d.out r k from ?_)
  refine six d.out _ (fun r b => ?_) (fun r b => ?_) (fun r b => ?_) (fun r b => ?_) (fun r b => ?_) (fun r b => ?_) r k
  · pointwise [val_main_v277]
    rw [q_grad hz hq hc hs hgq]
    exact (out_head d r _ _ _ (by show b.val = b / 128 * 128 + b % 128; omega)).symm
  · pointwise [val_main_v217]
    rw [k_grad hz hk hc hs hgk]
    exact (out_head d r _ _ _ (by show 1024 + b.val = (b / 128 + 8) * 128 + b % 128; omega)).symm
  · exact Eq.trans (by pointwise [val_main_v156]) ((hva r b).trans (d.out_va r _ b rfl).symm)
  · exact Eq.trans (by pointwise [val_main_v157]) ((hqb r b).trans (d.out_qb r _ b rfl).symm)
  · exact (hkb r b).trans (d.out_kb r _ b rfl).symm
  · exact (hvb r b).trans (d.out_vb r _ b rfl).symm

end Reference

end Cert.Proof.DProj

end
-- ==== Proof.DProj.Final.lean ====
module

public import proofs.«01_k».proof.Proof.DProj.Ref
public import proofs.«01_k».proof.Proof.Gen.Pre_finite_dproj

@[expose] public section

set_option maxRecDepth 16384

noncomputable section

/-! The claims. -/

namespace Cert.Proof.DProj

open Cert.DProjIdeal Idealize.ShloMosaic Idealize.ShloMosaic.TcCoe Idealize.SL.Sem Cert.Proof.Lift Cert.Proof.Norm

/-- What the precondition says: all but the columns passed through are real. -/
theorem real_args {x0 : (⟨S4096x3072, .f32⟩ : BufTy).Contents (Elt Ideal)} {x1 : (⟨S4096x1024, .f32⟩ : BufTy).Contents (Elt Ideal)} {x2 x3 : (⟨S256x4096, .f32⟩ : BufTy).Contents (Elt Ideal)} {x4 : (⟨S4096x1024, .bf16⟩ : BufTy).Contents (Elt Ideal)} {x5 x6 : (⟨S4096x256, .f32⟩ : BufTy).Contents (Elt Ideal)} {x7 x8 : (⟨S1x128, .f32⟩ : BufTy).Contents (Elt Ideal)}
    (h : (Cert.Pre_finite_dproj.fn (F := Ideal) x0 x1 x2 x3 x4 x5 x6 x7 x8).1 = (fun _ => 1#1) ∧ (Cert.Pre_finite_dproj.fn (F := Ideal) x0 x1 x2 x3 x4 x5 x6 x7 x8).2.1 = (fun _ => 1#1) ∧ (Cert.Pre_finite_dproj.fn (F := Ideal) x0 x1 x2 x3 x4 x5 x6 x7 x8).2.2.1 = (fun _ => 1#1) ∧ (Cert.Pre_finite_dproj.fn (F := Ideal) x0 x1 x2 x3 x4 x5 x6 x7 x8).2.2.2.1 = (fun _ => 1#1) ∧ (Cert.Pre_finite_dproj.fn (F := Ideal) x0 x1 x2 x3 x4 x5 x6 x7 x8).2.2.2.2 = (fun _ => 1#1)) :
    ∃ d : Data 4096, (∀ r k, x0 (ix2 r k) = (d.z r k : EReal)) ∧ (∀ r k, x1 (ix2 r k) = (d.dq r k : EReal)) ∧ (∀ r k, x2 (ix2 k r) = (d.dk r k : EReal))
      ∧ (∀ r k, x3 (ix2 k r) = d.va r k) ∧ (∀ r k, x4 (ix2 r k) = d.qb r k) ∧ (∀ r k, x5 (ix2 r k) = d.kb r k) ∧ (∀ r k, x6 (ix2 r k) = d.vb r k)
      ∧ (∀ r j, cosAt r j = d.c r j) ∧ (∀ r j, sinAt r j = d.s r j) ∧ (∀ j, x7 (ix2 0 j) = (d.gq j : EReal)) ∧ (∀ j, x8 (ix2 0 j) = (d.gk j : EReal)) := by
  have e_z (r : Fin 4096) (k : Fin 3072) : ∃ b : ℝ, x0 (ix2 r k) = (b : EReal) := by
    have := congrFun h.1 (ix2 r k)
    revert this
    pointwise [Pre_finite_dproj.fn]
    exact real_of_lt_bit
  have e_dq (r : Fin 4096) (k : Fin 1024) : ∃ b : ℝ, x1 (ix2 r k) = (b : EReal) := by
    have := congrFun h.2.1 (ix2 r k)
    revert this
    pointwise [Pre_finite_dproj.fn]
    exact real_of_lt_bit
  have e_dk (r : Fin 4096) (k : Fin 256) : ∃ b : ℝ, x2 (ix2 k r) = (b : EReal) := by
    have := congrFun h.2.2.1 (ix2 k r)
    revert this
    pointwise [Pre_finite_dproj.fn]
    exact real_of_lt_bit
  have e_gq (k : Fin 128) : ∃ b : ℝ, x7 (ix2 0 k) = (b : EReal) := by
    have := congrFun h.2.2.2.1 (ix2 0 k)
    revert this
    pointwise [Pre_finite_dproj.fn]
    exact real_of_lt_bit
  have e_gk (k : Fin 128) : ∃ b : ℝ, x8 (ix2 0 k) = (b : EReal) := by
    have := congrFun h.2.2.2.2 (ix2 0 k)
    revert this
    pointwise [Pre_finite_dproj.fn]
    exact real_of_lt_bit
  choose z_ h_z using e_z
  choose dq_ h_dq using e_dq
  choose dk_ h_dk using e_dk
  choose gq_ h_gq using e_gq
  choose gk_ h_gk using e_gk
  exact ⟨⟨z_, dq_, dk_, cosAt, sinAt, gq_, gk_, fun r k => x3 (ix2 k r), fun r k => x4 (ix2 r k), fun r k => x5 (ix2 r k), fun r k => x6 (ix2 r k)⟩,
    h_z, h_dq, h_dk, fun _ _ => rfl, fun _ _ => rfl, fun _ _ => rfl, fun _ _ => rfl, fun _ _ => rfl, fun _ _ => rfl, h_gq, h_gk⟩

theorem frame_ref : Cert.quiescent_DProjRefIdeal := fun m ρ _ =>
  (θ_run Cert.DProjRefIdeal.defs _ _).mono (fun r h => ⟨fun c => (h c).2.2.2, sem_eq_zero_of_no_sems (by decide) r.2⟩)
    (Cert.DProjRefIdeal.Value.run (F := Ideal) m ρ)

set_option maxHeartbeats 2000000 in
/-- The two programs run and end with the same gradients. -/
theorem algebraic : Cert.algebraic_DProjIdeal_DProjRefIdeal_pre_finite_dproj := by
  pair_intro
  · run_from Cert.DProjIdeal.Gen.run_main m g
    exact Cert.DProjIdeal.Gen.W_main_arg0 m (Cert.DProjIdeal.Gen.dats m) c
  · run_from Cert.DProjRefIdeal.Value.run m' g'
    all_goals
      obtain ⟨d, hz, hq, hk, hva, hqb, hkb, hvb, hc, hs, hgq, hgk⟩ := real_args (hpre c)
      have hz' := fun r k => (congrFun (hagree c).1 (ix2 r k)).trans (hz r k)
      have hq' := fun r k => (congrFun (hagree c).2.1 (ix2 r k)).trans (hq r k)
      have hk' := fun r k => (congrFun (hagree c).2.2.1 (ix2 k r)).trans (hk r k)
      refine funext fun y => ?_
    · obtain ⟨r, k, rfl⟩ := idx2_eq (N := 4096) (n := 3072) y
      exact ((congrFun (Cert.DProjRefIdeal.Read.val_main_v279_eq (StableHlo.launchContents m' c)) _).trans (ref_out hz' hq' hk'
        (fun r k => (congrFun (hagree c).2.2.2.1 (ix2 k r)).trans (hva r k)) (fun r k => (congrFun (hagree c).2.2.2.2.1 (ix2 r k)).trans (hqb r k))
        (fun r k => (congrFun (hagree c).2.2.2.2.2.1 (ix2 r k)).trans (hkb r k)) (fun r k => (congrFun (hagree c).2.2.2.2.2.2.1 (ix2 r k)).trans (hvb r k)) hc hs
        (fun j => (congrFun (hagree c).2.2.2.2.2.2.2.1 (ix2 0 j)).trans (hgq j)) (fun j => (congrFun (hagree c).2.2.2.2.2.2.2.2 (ix2 0 j)).trans (hgk j)) r k)).trans
        (out_dproj hz hq hk hva hqb hkb hvb hc hs hgq hgk r k).symm
    · obtain ⟨u, j, rfl⟩ := idx2_eq (N := 1) (n := 128) y
      exact ((congrFun (Cert.DProjRefIdeal.Read.val_main_v276_eq (StableHlo.launchContents m' c)) _).trans (q_gain hz' hq' hc hs u j)).trans (tail_gq hz hq hc hs u j).symm
    · obtain ⟨u, j, rfl⟩ := idx2_eq (N := 1) (n := 128) y
      exact ((congrFun (Cert.DProjRefIdeal.Read.val_main_v216_eq (StableHlo.launchContents m' c)) _).trans (k_gain hz' hk' hc hs u j)).trans (tail_gk hz hk hc hs u j).symm

end Cert.Proof.DProj

end
-- ==== Proof.TableGrads.Block.lean ====
module

public import proofs.«01_k».proof.Defs
public import proofs.«01_k».proof.Proof.Norm
public import proofs.«01_k».proof.Proof.Gen.TableGradsIdeal.Frame
public import Idealize.ShloMosaic.Lib.Pipeline.ValueKit
public import Idealize.ShloMosaic.Lib.Claim

@[expose] public section

set_option maxRecDepth 16384

noncomputable section

/-! What the one grid point of the table gradients leaves: per head a row with the sum of each bucket, and a row of the sinks' gradients. -/

namespace Cert.Proof.TableGrads

open Cert.TableGradsIdeal Cert.TableGradsIdeal.Gen Idealize.ShloMosaic Idealize.ShloMosaic.TcCoe Idealize.SL.Sem Cert.Proof.Lift Cert.Proof.Norm

/-- `acc` with the number `x` set at row 0 of column `b`. -/
def put (b : BitVec 32) (x : Ideal .f32) (acc : FVec Ideal S8x128 .f32) : FVec Ideal S8x128 .f32 :=
  select (andi (cmpi .eq (iota .tc S8x128 32 [0] iota_S8x128_d0_w32) (broadcast S8x128 0#32)) (cmpi .eq (iota .tc S8x128 32 [1] iota_S8x128_d1_w32) (broadcast S8x128 b)))
    (broadcast S8x128 x) acc

/-- The sum of a head's numbers over the pairs of bucket `b`. -/
def bucketSum (iv : IVec S128x384 32) (d : FVec Ideal S128x384 .f32) (b : BitVec 32) : Ideal .f32 :=
  extractAt ![0, 0, 0] (shapeCast S1x1x1 (multiReduction .add [1, 2] S1 (shapeCast S1x128x384 (select (cmpi .eq iv (broadcast S128x384 b)) d
    (broadcast S128x384 (Scalar.ofBits .f32 0x00000000#32))) shapeCasts_S128x384_S1x128x384) 0x00000000#32 reduces_S1x128x384_S1 (.inl rfl) rfl) shapeCasts_S1_S1x1x1) inpos_S1x1x1_p0_0_0

/-- The row after the first `n` buckets. -/
def chain (iv : IVec S128x384 32) (d : FVec Ideal S128x384 .f32) : ℕ → FVec Ideal S8x128 .f32
  | 0 => broadcast S8x128 (Scalar.ofBits .f32 0x00000000#32)
  | n + 1 => put (BitVec.ofNat 32 n) (bucketSum iv d (BitVec.ofNat 32 n)) (chain iv d n)

/-- The number at row `g` of column 0. -/
def sinkAt (x : FVec Ideal S8x128 .f32) (g : BitVec 32) : Ideal .f32 :=
  extractAt ![0, 0, 0] (shapeCast S1x1x1 (multiReduction .add [1, 2] S1 (shapeCast S1x8x128 (select (andi (cmpi .eq (iota .tc S8x128 32 [0] iota_S8x128_d0_w32) (broadcast S8x128 g))
    (cmpi .eq (iota .tc S8x128 32 [1] iota_S8x128_d1_w32) (broadcast S8x128 0#32))) x
    (broadcast S8x128 (Scalar.ofBits .f32 0x00000000#32))) shapeCasts_S8x128_S1x8x128) 0x00000000#32 reduces_S1x8x128_S1 (.inl rfl) rfl) shapeCasts_S1_S1x1x1) inpos_S1x1x1_p0_0_0

/-- One row of a group of two, as an array of its own. -/
def plane (x : FVec Ideal S1x8x128 .f32) : FVec Ideal S8x128 .f32 := shapeCast S8x128 x shapeCasts_S1x8x128_S8x128
/-- One head of eight, as an array of its own. -/
def head (x : FVec Ideal S1x128x384 .f32) : FVec Ideal S128x384 .f32 := shapeCast S128x384 x shapeCasts_S1x128x384_S128x384

theorem select_eq (a b : BitVec 32) (x y : EReal) : Scalar.select (IntOp.cmpi .eq a b) x y = if a = b then x else y := by
  by_cases h : a = b
  · simp [Scalar.select, IntOp.cmpi, h]
  · simp [Scalar.select, IntOp.cmpi, beq_eq_false_iff_ne.mpr h, h]

theorem put_at (b : ℕ) (x : EReal) (acc : FVec Ideal S8x128 .f32) (j : Fin 128) (hb : b < 128) :
    put (BitVec.ofNat 32 b) x acc (ix2 (0 : Fin 8) j) = if j.val = b then x else acc (ix2 (0 : Fin 8) j) := by
  pointwise [put]
  by_cases h : j.val = b
  · subst h; simp [Scalar.select, IntOp.cmpi, IntOp.andi]
  · have : BitVec.ofNat 32 j.val ≠ BitVec.ofNat 32 b := fun e => h (by
      have := congrArg BitVec.toNat e; simp only [BitVec.toNat_ofNat] at this; omega)
    simp [Scalar.select, IntOp.cmpi, IntOp.andi, beq_eq_false_iff_ne.mpr this, h]

theorem bucketSum_val (iv : IVec S128x384 32) (d : FVec Ideal S128x384 .f32) (b : BitVec 32) :
    bucketSum iv d b = ∑ r : Fin 128, ∑ k : Fin 384, if iv (ix2 r k) = b then d (ix2 r k) else 0 := by
  pointwise [bucketSum]
  exact Finset.sum_congr rfl fun r _ => Finset.sum_congr rfl fun k _ => select_eq _ _ _ _

theorem sinkAt_val (x : FVec Ideal S8x128 .f32) (g : Fin 8) : sinkAt x (BitVec.ofNat 32 g.val) = x (ix2 g 0) := by
  pointwise [sinkAt]
  rw [Finset.sum_eq_single g, Finset.sum_eq_single 0]
  · simp [Scalar.select, IntOp.cmpi, IntOp.andi]
  · intro b _ hb
    have : BitVec.ofNat 32 b.val ≠ 0#32 := fun e => hb (Fin.ext (by
      have := congrArg BitVec.toNat e; simp only [BitVec.toNat_ofNat] at this; show b.val = 0; omega))
    simp [Scalar.select, IntOp.cmpi, IntOp.andi, beq_eq_false_iff_ne.mpr this]
  · simp
  · intro a _ ha
    have : BitVec.ofNat 32 a.val ≠ BitVec.ofNat 32 g.val := fun e => ha (Fin.ext (by
      have := congrArg BitVec.toNat e; simp only [BitVec.toNat_ofNat] at this; omega))
    exact Finset.sum_eq_zero fun b _ => by simp [Scalar.select, IntOp.cmpi, IntOp.andi, beq_eq_false_iff_ne.mpr this]
  · simp

theorem chain_at (iv : IVec S128x384 32) (d : FVec Ideal S128x384 .f32) (b : Fin 128) : ∀ n : ℕ, n ≤ 32 → b.val < n →
    chain iv d n (ix2 (0 : Fin 8) b) = bucketSum iv d (BitVec.ofNat 32 b.val)
  | n + 1, hn, hb => by
    refine (put_at n _ _ b (by omega)).trans ?_
    by_cases h : b.val = n
    · rw [if_pos h, h]
    · rw [if_neg h]
      exact chain_at iv d b n (by omega) (by omega)

/-- A head's block of the whole array. -/
theorem ld_head (x0 : Vec Ideal S8x128x384 .f32) (g : ℕ) (hg : g < 8) (hi) (r : Fin 128) (k : Fin 384) :
    View.ld x0 (Rect.unit (s := S8x128x384) ![g, 0, 0] S1x128x384.size hi) (ix3 (0 : Fin 1) r k) = x0 (ix3 ⟨g, hg⟩ r k) :=
  View.ld_unit_apply_of x0 _ _ hi _ _ fun a => by fin_cases a <;> simp [ix3]

/-- The sink's number of one key head of a group. -/
theorem sink_val (x1 : Vec Ideal S2x8x128 .f32) (u g : ℕ) (hu : u < 2) (hg : g < 8) (hi) :
    sinkAt (plane (View.ld x1 (Rect.unit (s := S2x8x128) ![u, 0, 0] S1x8x128.size hi))) (BitVec.ofNat 32 g) = x1 (ix3 ⟨u, hu⟩ ⟨g, hg⟩ 0) := by
  rw [sinkAt_val _ ⟨g, hg⟩]
  pointwise [plane]

variable (x0 : Vec Ideal S8x128x384 .f32) (x1 : Vec Ideal S2x8x128 .f32) (x2 : Vec Ideal S128x384 .i32)

/-- The row of sinks after all the heads. -/
def sinks : FVec Ideal S8x128 .f32 :=
  put 7#32 (sinkAt (plane (View.ld x1 r0_12)) 3#32) <| put 6#32 (sinkAt (plane (View.ld x1 r0_12)) 2#32) <|
  put 5#32 (sinkAt (plane (View.ld x1 r0_12)) 1#32) <| put 4#32 (sinkAt (plane (View.ld x1 r0_12)) 0#32) <|
  put 3#32 (sinkAt (plane (View.ld x1 r0_3)) 3#32) <| put 2#32 (sinkAt (plane (View.ld x1 r0_3)) 2#32) <|
  put 1#32 (sinkAt (plane (View.ld x1 r0_3)) 1#32) <| put 0#32 (sinkAt (plane (View.ld x1 r0_3)) 0#32) <| broadcast S8x128 (Scalar.ofBits .f32 0x00000000#32)

set_option maxHeartbeats 4000000 in
theorem out_sinks : out0_4 (F := Ideal) x0 x1 x2 = View.canon [⟨r0_19, sinks x1⟩] := rfl

set_option maxHeartbeats 4000000 in
theorem out_rows : out0_3 (F := Ideal) x0 x1 x2 = View.canon [
    ⟨r0_18, chain (k0_pay2 (F := Ideal) (View.ld x2 r0_0)) (head (View.ld x0 r0_17)) 32⟩, ⟨r0_16, chain (k0_pay2 (F := Ideal) (View.ld x2 r0_0)) (head (View.ld x0 r0_15)) 32⟩,
    ⟨r0_14, chain (k0_pay2 (F := Ideal) (View.ld x2 r0_0)) (head (View.ld x0 r0_13)) 32⟩, ⟨r0_11, chain (k0_pay2 (F := Ideal) (View.ld x2 r0_0)) (head (View.ld x0 r0_10)) 32⟩,
    ⟨r0_9, chain (k0_pay2 (F := Ideal) (View.ld x2 r0_0)) (head (View.ld x0 r0_8)) 32⟩, ⟨r0_7, chain (k0_pay2 (F := Ideal) (View.ld x2 r0_0)) (head (View.ld x0 r0_6)) 32⟩,
    ⟨r0_5, chain (k0_pay2 (F := Ideal) (View.ld x2 r0_0)) (head (View.ld x0 r0_4)) 32⟩, ⟨r0_2, chain (k0_pay2 (F := Ideal) (View.ld x2 r0_0)) (head (View.ld x0 r0_1)) 32⟩] := rfl

end Cert.Proof.TableGrads

end
-- ==== Proof.TableGrads.Arrays.lean ====
module

public import proofs.«01_k».proof.Proof.TableGrads.Block
public import proofs.«01_k».proof.Proof.Gen.TableGradsRefIdeal.Run
public import proofs.«01_k».proof.Proof.Gen.TableGradsRefIdeal.Read

@[expose] public section

set_option maxRecDepth 16384

noncomputable section

/-! The two results of the table gradients, from the arrays the grid leaves. -/

namespace Cert.Proof.TableGrads

open Cert.TableGradsIdeal Cert.TableGradsIdeal.Gen Idealize.ShloMosaic Idealize.ShloMosaic.TcCoe Idealize.SL.Sem Cert.Proof.Lift Cert.Proof.Norm

/-- The bucket of query row `r` and key column `k`. -/
abbrev bucketOf (r : Fin 128) (k : Fin 384) : BitVec 32 := TableGradsRefIdeal.Read.val_main_v33 (F := Ideal) (ix2 r k)

/-- The gradient of a table entry: the sum of its head's numbers over the pairs of its bucket. -/
def entry (B : Fin 128 → Fin 384 → BitVec 32) (D : Fin 8 → Fin 128 → Fin 384 → EReal) (b : Fin 32) (h : Fin 8) : EReal :=
  ∑ r : Fin 128, ∑ k : Fin 384, if B r k = BitVec.ofNat 32 b.val then D h r k else 0

theorem idx : ∀ t : Fin cfg0.N, win0_0.index t = ![0, 0, 0] ∧ win0_1.index t = ![0, 0, 0] ∧ win0_2.index t = ![0, 0] ∧ win0_3.index t = ![0, 0] ∧ win0_4.index t = ![0, 0] :=
  (by decide +kernel : ∀ t : Fin grid0.N, _)

variable {m : (ℓ : Loc nD τ sig) → Buf (Elt Ideal) ℓ} {c : Dev nD}

theorem host_index : V0 m c main_v32 = TableGradsRefIdeal.Read.val_main_v33 (F := Ideal) := by
  simp only [V0, hostOps0, hostOps0_1, hostOps0_2, hostOps0_3, hostOps0_4, List.flatten_cons, List.flatten_nil, List.append_nil, List.cons_append, List.nil_append]
  after_results_simp
  rfl

theorem in_index (t : Fin cfg0.N) (r : Fin 128) (k : Fin 384) : iblk m c 2 t (ix2 r k) = bucketOf r k :=
  (congrArg (V0 m c main_v32) (by blk_ext [idx t] : _ = ix2 r k)).trans (congrFun host_index _)

variable {D : Fin 8 → Fin 128 → Fin 384 → EReal} (hD : ∀ h r k, m ((c : Thread nD τ).loc main_arg0) (ix3 h r k) = D h r k)
  {S : Fin 2 → Fin 8 → Fin 128 → EReal} (hS : ∀ u g k, m ((c : Thread nD τ).loc main_arg1) (ix3 u g k) = S u g k)

include hD in
theorem in_d (t : Fin cfg0.N) (h : Fin 8) (r : Fin 128) (k : Fin 384) : iblk m c 0 t (ix3 h r k) = D h r k :=
  (congrArg (m ((c : Thread nD τ).loc main_arg0)) (by blk_ext [idx t] : _ = ix3 h r k)).trans (hD _ _ _)
include hS in
theorem in_s (t : Fin cfg0.N) (u : Fin 2) (g : Fin 8) (k : Fin 128) : iblk m c 1 t (ix3 u g k) = S u g k :=
  (congrArg (m ((c : Thread nD τ).loc main_arg1)) (by blk_ext [idx t] : _ = ix3 u g k)).trans (hS _ _ _)

/-- A head's row of sums, from what the head's block and the index block hold. -/
theorem row_val {B : Fin 128 → Fin 384 → BitVec 32} {x2 : Vec Ideal S128x384 .i32} {d : Vec Ideal S1x128x384 .f32} (h2 : ∀ r k, x2 (ix2 r k) = B r k) {h : Fin 8}
    (hd : ∀ r k, d (ix3 0 r k) = D h r k) (b : Fin 32) {x : S8x128.Idx} (e0 : (x 0 : ℕ) = 0) (e1 : (x 1 : ℕ) = b) : chain (k0_pay2 (F := Ideal) x2) (head d) 32 x = entry B D b h := by
  obtain ⟨p, q, rfl⟩ := idx2_eq (N := 8) (n := 128) x
  obtain rfl : p = 0 := Fin.ext e0
  have e : q.val = b.val := e1
  rw [chain_at _ _ q 32 le_rfl (by omega), bucketSum_val, e]
  refine Finset.sum_congr rfl fun r _ => Finset.sum_congr rfl fun k _ => ?_
  have e1 : k0_pay2 (F := Ideal) x2 (ix2 r k) = B r k := by
    pointwise [k0_pay2]
    exact h2 r k
  have e2 : head d (ix2 r k) = D h r k := by
    pointwise [head]
    exact hd r k
  rw [e1, e2]

/-- The rows of sums the point leaves. -/
theorem rows_val {B : Fin 128 → Fin 384 → BitVec 32} {x0 : Vec Ideal S8x128x384 .f32} {x1 : Vec Ideal S2x8x128 .f32} {x2 : Vec Ideal S128x384 .i32}
    (h0 : ∀ h r k, x0 (ix3 h r k) = D h r k) (h2 : ∀ r k, x2 (ix2 r k) = B r k) (h : Fin 8) (b : Fin 32) (q : Fin 1024) (hq : q.val = h.val * 128 + b.val) :
    out0_3 (F := Ideal) x0 x1 x2 (ix2 (0 : Fin 8) q) = entry B D b h := by
  have h2' : ∀ r k, View.ld x2 r0_0 (ix2 r k) = B r k := fun r k => (View.ld_unit_apply_of x2 _ _ _ _ (ix2 r k) fun a => by fin_cases a <;> simp [ix2]).trans (h2 r k)
  rw [out_rows]
  obtain ⟨y, e0, e1, hy⟩ : ∃ y : S8x1024.Idx, (y 0 : ℕ) = 0 ∧ (y 1 : ℕ) = h.val * 128 + b.val ∧ ix2 (0 : Fin 8) q = y := ⟨_, rfl, hq, rfl⟩
  rw [hy]
  clear hy
  canon_tiles x hx
  all_goals
    refine (row_val h2' (fun r k => (ld_head _ _ (by decide) _ r k).trans (h0 _ r k)) b (by omega) (by omega)).trans (congrArg (entry B D b) (Fin.ext ?_))
    dsimp only
    omega

include hD in
theorem out_row (h : Fin 8) (b : Fin 32) : (dats m 0 c).arrAt 3 cfg0.N (ix2 (0 : Fin 8) (⟨h.val * 128 + b.val, by omega⟩ : Fin 1024)) = entry bucketOf D b h := by
  refine (congrArg ((dats m 0 c).arrAt 3 cfg0.N) (by blk_ext [idx t0_0] : _ = ((cfg0.win 3).blk t0_0).view.emb (ix2 (0 : Fin 8) (⟨h.val * 128 + b.val, by omega⟩ : Fin 1024)))).trans ?_
  refine ((dats m 0 c).arrAt_emb_eq_flushed 3 (Pipeline.Window.hdisj_of_index_inj _ (by decide +kernel)) t0_0 ((by decide +kernel : ∀ t : Fin cfg0.N, (cfg0.win 3).flush t = true) t0_0) _).trans ?_
  blk_simp
  rw [after0_3]
  exact rows_val (in_d hD t0_0) (in_index t0_0) h b _ rfl

include hS in
theorem out_sink (h : Fin 8) : (dats m 0 c).arrAt 4 cfg0.N (ix2 (0 : Fin 8) (⟨h.val, by omega⟩ : Fin 128)) = S ⟨h.val / 4, by omega⟩ ⟨h.val % 4, by omega⟩ 0 := by
  refine (congrArg ((dats m 0 c).arrAt 4 cfg0.N) (by blk_ext [idx t0_0] : _ = ((cfg0.win 4).blk t0_0).view.emb (ix2 (0 : Fin 8) (⟨h.val, by omega⟩ : Fin 128)))).trans ?_
  refine ((dats m 0 c).arrAt_emb_eq_flushed 4 (Pipeline.Window.hdisj_of_index_inj _ (by decide +kernel)) t0_0 ((by decide +kernel : ∀ t : Fin cfg0.N, (cfg0.win 4).flush t = true) t0_0) _).trans ?_
  blk_simp
  rw [after0_4, out_sinks]
  frame_out
  simp (disch := decide) only [sinks, put_at, sink_val, in_s hS]
  fin_cases h <;> rfl

include hD in
theorem tail_rows (b : Fin 32) (h : Fin 8) : Pipeline.afterTail₀ cfgs (dats m) 0 (V0 m) [hostOps1] c main_v37 (ix2 b h) = entry bucketOf D b h := by
  show StableHlo.after hostOps1 _ _ _ = _
  after_results_simp
  have hP : ∀ h b, (Pipeline.withArrays (cfgs 0).spec c (V0 m c) (fun w => (dats m 0 c).arrAt w (cfgs 0).N) (Proc.tc.devRef main_v33_0) :
      (⟨S8x1024, .f32⟩ : BufTy).Contents (Elt Ideal)) (ix2 (0 : Fin 8) (⟨h.val * 128 + b.val, by omega⟩ : Fin 1024)) = entry bucketOf D b h := fun h b =>
    (congrFun (Pipeline.withArrays_arr (cfgs 0).spec (by decide) c (V0 m c) _ 3) _).trans (out_row hD h b)
  generalize Pipeline.withArrays (cfgs 0).spec c (V0 m c) (fun w => (dats m 0 c).arrAt w (cfgs 0).N) (Proc.tc.devRef main_v33_0) = P at hP ⊢
  pointwise
  exact hP h b

include hS in
theorem tail_sinks (h : Fin 8) : Pipeline.afterTail₀ cfgs (dats m) 0 (V0 m) [hostOps1] c main_v39 (ix1 h) = S ⟨h.val / 4, by omega⟩ ⟨h.val % 4, by omega⟩ 0 := by
  show StableHlo.after hostOps1 _ _ _ = _
  after_results_simp
  have hP : ∀ h : Fin 8, (Pipeline.withArrays (cfgs 0).spec c (V0 m c) (fun w => (dats m 0 c).arrAt w (cfgs 0).N) (Proc.tc.devRef main_v33_1) :
      (⟨S8x128, .f32⟩ : BufTy).Contents (Elt Ideal)) (ix2 (0 : Fin 8) (⟨h.val, by omega⟩ : Fin 128)) = S ⟨h.val / 4, by omega⟩ ⟨h.val % 4, by omega⟩ 0 := fun h =>
    (congrFun (Pipeline.withArrays_arr (cfgs 0).spec (by decide) c (V0 m c) _ 4) _).trans (out_sink hS h)
  generalize Pipeline.withArrays (cfgs 0).spec c (V0 m c) (fun w => (dats m 0 c).arrAt w (cfgs 0).N) (Proc.tc.devRef main_v33_1) = P at hP ⊢
  pointwise
  exact hP h

end Cert.Proof.TableGrads

end
-- ==== Proof.TableGrads.Bucket.lean ====
module

public import proofs.«01_k».proof.Proof.TableGrads.Arrays

@[expose] public section

set_option maxRecDepth 16384

noncomputable section

/-! Every bucket is one of the table's rows. -/

namespace Cert.Proof.TableGrads

open Cert.TableGradsRefIdeal Idealize.ShloMosaic Idealize.ShloMosaic.TcCoe Idealize.SL.Sem Cert.Proof.Lift Cert.Proof.Norm

theorem eight_bits : Ideal.ofBits .f32 1090519040#32 = ((8 : ℝ) : EReal) := by
  simp [Ideal.ofBits, Ideal.ieee, ← EReal.coe_mul]; norm_num
/-- The constant the logarithm is divided by. -/
def span : ℝ := 11629080 / 4194304
theorem span_bits : Ideal.ofBits .f32 1076982296#32 = (span : EReal) := by
  simp [Ideal.ofBits, Ideal.ieee, span, ← EReal.coe_mul]; norm_num

/-- The distance, as a number. -/
def dist (r : Fin 128) (k : Fin 384) : BitVec 32 := IntOp.absi (IntOp.subi (IntOp.subi (BitVec.ofNat 32 k.val) 128#32) (BitVec.ofNat 32 r.val))

theorem dist_lt : ∀ (r : Fin 128) (k : Fin 384), (dist r k).toNat < 512 := by
  intro r k
  have hr := r.isLt
  have hk := k.isLt
  unfold dist IntOp.absi IntOp.subi
  have e1 : (BitVec.ofNat 32 k.val - 128#32 - BitVec.ofNat 32 r.val).toNat = (k.val + 4294967296 * 2 - 128 - r.val) % 4294967296 := by
    simp only [BitVec.toNat_sub, BitVec.toNat_ofNat]; omega
  split
  · next h =>
    rw [BitVec.msb_eq_decide] at h
    rw [BitVec.toNat_neg]
    simp only [decide_eq_true_eq] at h
    omega
  · next h =>
    rw [BitVec.msb_eq_decide] at h
    simp only [decide_eq_true_eq] at h
    omega

/-- The bucket of a distance of eight or more, before the cut at fifteen. -/
def far (n : BitVec 32) : BitVec 32 :=
  Ideal.fptosi 32 (Ideal.div (Ideal.log (Ideal.div (((IntOp.maxsi n 1#32).toInt : ℝ) : EReal) (Ideal.ofBits .f32 1090519040#32))) (Ideal.ofBits .f32 1076982296#32) * Ideal.ofBits .f32 1090519040#32)

theorem far_lt (n : BitVec 32) (h8 : 8 ≤ n.toNat) (h : n.toNat < 512) : (far n).toNat < 2000 := by
  have em : IntOp.maxsi n 1#32 = n := by
    unfold IntOp.maxsi
    rw [if_pos]
    rw [BitVec.slt_eq_decide, decide_eq_true_eq, BitVec.toInt_eq_toNat_of_lt (by omega : 2 * n.toNat < 2 ^ 32)]
    show (1 : ℤ) < _
    omega
  have ei : ((n.toInt : ℝ)) = (n.toNat : ℝ) := by
    rw [BitVec.toInt_eq_toNat_of_lt (by omega : 2 * n.toNat < 2 ^ 32)]; simp
  have hn : (8 : ℝ) ≤ n.toNat := by exact_mod_cast h8
  have hn' : (n.toNat : ℝ) < 512 := by exact_mod_cast h
  have hs : span ≠ 0 := by norm_num [span]
  have hpos : 0 < (n.toNat : ℝ) / 8 := by positivity
  have l0 : 0 ≤ Real.log ((n.toNat : ℝ) / 8) := Real.log_nonneg (by linarith)
  have l1 : Real.log ((n.toNat : ℝ) / 8) ≤ (n.toNat : ℝ) / 8 - 1 := Real.log_le_sub_one_of_pos hpos
  have e : far n = Ideal.fptosi 32 ((Real.log ((n.toNat : ℝ) / 8) / span * 8 : ℝ) : EReal) := by
    unfold far
    rw [em, ei, eight_bits, span_bits, div_coe' _ _ (by norm_num : (8 : ℝ) ≠ 0)]
    show Ideal.fptosi 32 (Ideal.div (if (n.toNat : ℝ) / 8 ≤ 0 then ⊥ else (Real.log ((n.toNat : ℝ) / 8) : EReal)) _ * _) = _
    rw [if_neg (not_le.mpr hpos), div_coe' _ _ hs, ← EReal.coe_mul]
  have z0 : 0 ≤ Real.log ((n.toNat : ℝ) / 8) / span * 8 := by
    have : (0 : ℝ) < span := by norm_num [span]
    positivity
  have z1 : Real.log ((n.toNat : ℝ) / 8) / span * 8 < 2000 := by
    have : Real.log ((n.toNat : ℝ) / 8) / span ≤ Real.log ((n.toNat : ℝ) / 8) := div_le_self l0 (by norm_num [span])
    linarith
  rw [e]
  generalize Real.log ((n.toNat : ℝ) / 8) / span * 8 = z at z0 z1
  have f0 : 0 ≤ ⌊z⌋ := Int.floor_nonneg.mpr z0
  have f1 : ⌊z⌋ < 2000 := Int.floor_lt.mpr (by exact_mod_cast z1)
  show (BitVec.ofInt 32 (max (-(2 ^ (32 - 1) : ℕ)) (min ((2 ^ (32 - 1) : ℕ) - 1) (if 0 ≤ z then ⌊z⌋ else ⌈z⌉)))).toNat < 2000
  rw [if_pos z0, BitVec.toNat_ofInt]
  norm_num
  omega

/-- The bucket within one direction. -/
def near (n : BitVec 32) : BitVec 32 :=
  Scalar.select (IntOp.cmpi .slt n 8#32) n (IntOp.minsi (IntOp.addi 8#32 (far n)) 15#32)

theorem near_lt (n : BitVec 32) (h : n.toNat < 512) : (near n).toNat < 16 := by
  have hs : n.slt 8#32 = decide (n.toNat < 8) := by
    rw [BitVec.slt_eq_decide, BitVec.toInt_eq_toNat_of_lt (by omega : 2 * n.toNat < 2 ^ 32)]
    show decide ((n.toNat : ℤ) < 8) = _
    simp
  unfold near Scalar.select IntOp.cmpi
  by_cases h8 : n.toNat < 8
  · simp only [hs, h8, decide_true]
    simpa using (by omega : n.toNat < 16)
  · have hf := far_lt n (by omega) h
    have e : (8#32 + far n).toNat = 8 + (far n).toNat := by
      rw [BitVec.toNat_add]; show (8 + _) % 4294967296 = _; omega
    simp only [hs, h8, decide_false]
    unfold IntOp.minsi IntOp.addi
    simp only [BitVec.slt_eq_decide, BitVec.toInt_eq_toNat_of_lt (by omega : 2 * (8#32 + far n).toNat < 2 ^ 32), e]
    show (if (0#1 : BitVec 1) = 1 then n else if decide (((8 + (far n).toNat : ℕ) : ℤ) < 15) = true then _ else _).toNat < 16
    rw [if_neg (by decide)]
    split
    · next h => simp only [decide_eq_true_eq] at h; omega
    · decide

open Cert.TableGradsRefIdeal.Read in
theorem bucket_form (r : Fin 128) (k : Fin 384) : ∃ c : BitVec 1, bucketOf r k = Scalar.select c 16#32 0#32 + near (dist r k) := by
  show ∃ c : BitVec 1, val_main_v33 (F := Ideal) (ix2 r k) = _
  refine ⟨val_main_v11 (F := Ideal) (ix2 r k), ?_⟩
  have e : val_main_v32 (F := Ideal) (ix2 r k) = Scalar.select (val_main_v11 (F := Ideal) (ix2 r k)) 16#32 0#32 := by
    show val_main_v12 (F := Ideal) (ix2 r k) = _
    pointwise [val_main_v12, val_main_call0_v0, val_main_call0_v1, val_main_c_1, val_main_c_2]
  pointwise [val_main_v33, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v8, val_main_v7, val_main_v6, val_main_v5, val_main_v4, val_main_v3, val_main_v2, val_main_v1, val_main_v0, val_main_c, val_main_c_3, val_main_c_7, val_main_c_8, val_main_c_9, val_main_cst_4, val_main_cst_5, val_main_cst_6]
  rw [e]
  rfl

theorem bucket_lt (r : Fin 128) (k : Fin 384) : (bucketOf r k).toNat < 32 := by
  obtain ⟨c, e⟩ := bucket_form r k
  have hn := near_lt _ (dist_lt r k)
  rw [e, BitVec.toNat_add]
  unfold Scalar.select
  split
  · show (16 + _) % 4294967296 < 32; omega
  · show (0 + _) % 4294967296 < 32; omega

end Cert.Proof.TableGrads

end
-- ==== Proof.TableGrads.Ref.lean ====
module

public import proofs.«01_k».proof.Proof.TableGrads.Bucket

@[expose] public section

set_option maxRecDepth 16384

noncomputable section

/-! The reference's gradient of the table: a scatter that adds each pair's number at its bucket. -/

namespace Cert.Proof.TableGrads

open Cert.TableGradsRefIdeal Idealize.ShloMosaic Idealize.ShloMosaic.TcCoe Idealize.SL.Sem Cert.Proof.Lift Cert.Proof.Norm

variable [Facts₀]

theorem scatter_lands (idx : IVec S128x384x1 32) (r : Fin 128) (k : Fin 384) (h h' : Fin 8) (b : Fin 32) :
    (scatter_S32x8_S128x384x1_S128x384x8_2_0_0_2.resultIdx? (ix3 r k h) idx = some (ix2 b h')) ↔ ((idx (ix3 r k 0)).toInt = b.val ∧ h = h') := by
  have s0 : scatter_S32x8_S128x384x1_S128x384x8_2_0_0_2.start (ix3 r k h) idx 0 = (idx (ix3 r k 0)).toInt := by
    refine (dif_pos (show (0 : Fin 2) ∈ [(0 : Fin 2)] by decide)).trans (congrArg (fun i => (idx i).toInt) (funext fun a => ?_))
    fin_cases a <;> rfl
  have s1 : scatter_S32x8_S128x384x1_S128x384x8_2_0_0_2.start (ix3 r k h) idx 1 = 0 := dif_neg (show (1 : Fin 2) ∉ [(0 : Fin 2)] by decide)
  have w0 : scatter_S32x8_S128x384x1_S128x384x8_2_0_0_2.window (ix3 r k h) 0 = 0 := dif_neg (show (0 : Fin 2) ∉ S32x8.kept [0] by decide)
  have w1 : scatter_S32x8_S128x384x1_S128x384x8_2_0_0_2.window (ix3 r k h) 1 = h.val := (dif_pos (show (1 : Fin 2) ∈ S32x8.kept [0] by decide)).trans rfl
  unfold ScatterDims.resultIdx?
  constructor
  · intro e
    split at e
    · next hr =>
      have e' := Option.some.inj e
      have h0 := congrArg Fin.val (congrFun e' 0)
      have h1 := congrArg Fin.val (congrFun e' 1)
      have hr0 := hr 0
      simp only [s0, s1, w0, w1] at h0 h1 hr0
      change _ = b.val at h0
      change _ = h'.val at h1
      exact ⟨by omega, Fin.ext (by omega)⟩
    · exact absurd e (by simp)
  · rintro ⟨e, rfl⟩
    have hr : ∀ a, 0 ≤ scatter_S32x8_S128x384x1_S128x384x8_2_0_0_2.start (ix3 r k h) idx a + scatter_S32x8_S128x384x1_S128x384x8_2_0_0_2.window (ix3 r k h) a
        ∧ scatter_S32x8_S128x384x1_S128x384x8_2_0_0_2.start (ix3 r k h) idx a + scatter_S32x8_S128x384x1_S128x384x8_2_0_0_2.window (ix3 r k h) a < S32x8.size a := by
      intro a
      fin_cases a
      · show 0 ≤ scatter_S32x8_S128x384x1_S128x384x8_2_0_0_2.start (ix3 r k h) idx 0 + scatter_S32x8_S128x384x1_S128x384x8_2_0_0_2.window (ix3 r k h) 0
          ∧ scatter_S32x8_S128x384x1_S128x384x8_2_0_0_2.start (ix3 r k h) idx 0 + scatter_S32x8_S128x384x1_S128x384x8_2_0_0_2.window (ix3 r k h) 0 < (32 : ℕ)
        rw [s0, w0]; omega
      · show 0 ≤ scatter_S32x8_S128x384x1_S128x384x8_2_0_0_2.start (ix3 r k h) idx 1 + scatter_S32x8_S128x384x1_S128x384x8_2_0_0_2.window (ix3 r k h) 1
          ∧ scatter_S32x8_S128x384x1_S128x384x8_2_0_0_2.start (ix3 r k h) idx 1 + scatter_S32x8_S128x384x1_S128x384x8_2_0_0_2.window (ix3 r k h) 1 < (8 : ℕ)
        rw [s1, w1]; omega
    rw [dif_pos hr]
    refine congrArg some (funext fun a => Fin.ext ?_)
    fin_cases a
    · show (scatter_S32x8_S128x384x1_S128x384x8_2_0_0_2.start (ix3 r k h) idx 0 + scatter_S32x8_S128x384x1_S128x384x8_2_0_0_2.window (ix3 r k h) 0).toNat = b.val
      rw [s0, w0]; omega
    · show (scatter_S32x8_S128x384x1_S128x384x8_2_0_0_2.start (ix3 r k h) idx 1 + scatter_S32x8_S128x384x1_S128x384x8_2_0_0_2.window (ix3 r k h) 1).toNat = h.val
      rw [s1, w1]; omega

/-- A sum over the rank-three indices is the sum over its three coordinates. -/
theorem sum_idx3 {n0 n1 n2 : ℕ} (f : (⟨3, ![n0, n1, n2]⟩ : Shape).Idx → EReal) : ∑ i, f i = ∑ a : Fin n0, ∑ b : Fin n1, ∑ c : Fin n2, f (ix3 a b c) := by
  rw [← Fintype.sum_prod_type', ← Fintype.sum_prod_type']
  refine (Fintype.sum_equiv ⟨fun p : (Fin n0 × Fin n1) × Fin n2 => (ix3 p.1.1 p.1.2 p.2 : (⟨3, ![n0, n1, n2]⟩ : Shape).Idx), fun i => ((i 0, i 1), i 2), fun _ => rfl, fun i => ?_⟩ _ _ fun _ => rfl).symm
  funext a
  fin_cases a <;> rfl

theorem scatter_val (x : FVec Ideal S32x8 .f32) (idx : IVec S128x384x1 32) (u : FVec Ideal S128x384x8 .f32) (b : Fin 32) (h : Fin 8) :
    Host.scatterAdd scatter_S32x8_S128x384x1_S128x384x8_2_0_0_2 x idx u (ix2 b h)
      = x (ix2 b h) + ∑ r : Fin 128, ∑ k : Fin 384, if (idx (ix3 r k 0)).toInt = b.val then u (ix3 r k h) else 0 := by
  show Ideal.hostScatterAdd _ x idx u (ix2 b h) = _
  unfold Ideal.hostScatterAdd
  rw [Finset.sum_filter, sum_idx3]
  refine congrArg (x (ix2 b h) + ·) (Finset.sum_congr rfl fun r _ => Finset.sum_congr rfl fun k _ => ?_)
  rw [Finset.sum_eq_single h]
  · exact if_congr ((scatter_lands idx r k h h b).trans (and_iff_left rfl)) rfl rfl
  · exact fun h2 _ hne => if_neg fun e => hne ((scatter_lands idx r k h2 h b).mp e).2
  · simp

/-- A bucket is already a row of the table: the reference's wrap of negative ones changes none. -/
theorem wrapped (r : Fin 128) (k : Fin 384) : Read.val_main_v39 (F := Ideal) (ix3 r k 0) = bucketOf r k := by
  have h : (Read.val_main_v33 (F := Ideal) (ix2 r k)).toNat < 32 := bucket_lt r k
  pointwise [Read.val_main_v39, Read.val_main_v38, Read.val_main_v37, Read.val_main_v36, Read.val_main_v35, Read.val_main_v34, Read.val_main_c_10, Read.val_main_c_11]
  have e : (Read.val_main_v33 (F := Ideal) (ix2 r k)).slt 0#32 = false := by
    rw [BitVec.slt_eq_decide, BitVec.toInt_eq_toNat_of_lt (by omega), decide_eq_false_iff_not]
    show ¬(_ : ℤ) < 0
    omega
  unfold Scalar.select IntOp.cmpi
  simp only [e]
  exact if_neg (by decide)

theorem bucket_iff (r : Fin 128) (k : Fin 384) (b : Fin 32) : (bucketOf r k).toInt = b.val ↔ bucketOf r k = BitVec.ofNat 32 b.val := by
  have h := bucket_lt r k
  rw [BitVec.toInt_eq_toNat_of_lt (by omega), ← BitVec.toNat_inj, BitVec.toNat_ofNat]
  omega

theorem ref_table {x : FVec Ideal S8x128x384 .f32} {D : Fin 8 → Fin 128 → Fin 384 → EReal} (hD : ∀ h r k, x (ix3 h r k) = D h r k) (b : Fin 32) (h : Fin 8) :
    Read.val_main_v44 (F := Ideal) x (ix2 b h) = entry bucketOf D b h := by
  have z : Read.val_main_v43 (F := Ideal) (ix2 b h) = 0 := by pointwise [Read.val_main_v43, Read.val_main_cst_12]
  refine (scatter_val _ _ _ b h).trans ?_
  rw [z, zero_add]
  refine Finset.sum_congr rfl fun r _ => Finset.sum_congr rfl fun k _ => ?_
  have u : Read.val_main_v42 (F := Ideal) x (ix3 r k h) = D h r k := by
    pointwise [Read.val_main_v42]
    exact hD h r k
  rw [u, wrapped]
  exact if_congr (bucket_iff r k b) rfl rfl

theorem ref_sink {x : FVec Ideal S2x8x128 .f32} {S : Fin 2 → Fin 8 → Fin 128 → EReal} (hS : ∀ u g k, x (ix3 u g k) = S u g k) (h : Fin 8) :
    Read.val_main_v47 (F := Ideal) x (ix1 h) = S ⟨h.val / 4, by omega⟩ ⟨h.val % 4, by omega⟩ 0 := by
  pointwise [Read.val_main_v47, Read.val_main_v46, Read.val_main_v45]
  exact hS _ _ _

end Cert.Proof.TableGrads

end
-- ==== Proof.TableGrads.Final.lean ====
module

public import proofs.«01_k».proof.Proof.TableGrads.Ref

@[expose] public section

set_option maxRecDepth 16384

noncomputable section

/-! The claims. -/

namespace Cert.Proof.TableGrads

open Cert.TableGradsIdeal Idealize.ShloMosaic Idealize.ShloMosaic.TcCoe Idealize.SL.Sem Cert.Proof.Norm

theorem frame_ref : Cert.quiescent_TableGradsRefIdeal := fun m ρ _ =>
  (θ_run Cert.TableGradsRefIdeal.defs _ _).mono (fun r h => ⟨fun c => (h c).2.2, sem_eq_zero_of_no_sems (by decide) r.2⟩)
    (Cert.TableGradsRefIdeal.Value.run (F := Ideal) m ρ)

set_option maxHeartbeats 2000000 in
/-- The two programs run and end with the same gradients. -/
theorem algebraic : Cert.algebraic_TableGradsIdeal_TableGradsRefIdeal := by
  pair_intro
  · run_from Cert.TableGradsIdeal.Gen.run_main m g
  · run_from Cert.TableGradsRefIdeal.Value.run m' g'
    all_goals refine funext fun y => ?_
    · obtain ⟨b, h, rfl⟩ := idx2_eq (N := 32) (n := 8) y
      exact ((congrFun (Cert.TableGradsRefIdeal.Read.val_main_v44_eq m' c) _).trans (ref_table (fun h r k => congrFun (hagree c).1 (ix3 h r k)) b h)).trans
        (tail_rows (fun _ _ _ => rfl) b h).symm
    · obtain ⟨h, rfl⟩ : ∃ h : Fin 8, y = ix1 h := ⟨y 0, funext fun a => by fin_cases a; rfl⟩
      exact (ref_sink (fun _ _ _ => rfl) h).trans (tail_sinks (fun _ _ _ => rfl) h).symm

end Cert.Proof.TableGrads

end
-- ==== Proof.RmsFwd.lean ====
module

public import proofs.«01_k».proof.Defs
public import proofs.«01_k».proof.Proof.Gen.RmsFwdIdeal.Frame
public import proofs.«01_k».proof.Proof.Gen.RmsFwdRefIdeal.Run
public import proofs.«01_k».proof.Proof.Gen.RmsFwdRefIdeal.Read
public import Idealize.ShloMosaic.Lib.Pipeline.ValueKit
public import Idealize.ShloMosaic.Lib.Claim

@[expose] public section

set_option maxRecDepth 16384

noncomputable section

/-! The forward norm of the attention and of the gate. -/

namespace Cert.Proof.RmsFwd

open Cert.RmsFwdIdeal Cert.RmsFwdIdeal.Gen Idealize.ShloMosaic Idealize.ShloMosaic.TcCoe Idealize.SL.Sem Cert.RmsFwdRefIdeal.Read

theorem idx : ∀ t : Fin cfg0.N, win0_0.index t = ![t.val, 0] ∧ win0_1.index t = ![0, 0] ∧ win0_2.index t = ![t.val, 0] :=
  (by decide +kernel : ∀ t : Fin grid0.N, _)

set_option maxHeartbeats 1000000 in
/-- The written array is the reference's term. -/
theorem out_2 (m : (ℓ : Loc nD τ sig) → Buf (Elt Ideal) ℓ) (c : Dev nD) :
    (dats m 0 c).arrAt 2 cfg0.N = val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [k0_pay1, val_main_v0, val_main_v1, val_main_cst, val_main_v2, val_main_v3, val_main_cst_0, val_main_v4, val_main_v5, val_main_cst_1, val_main_v6,
      val_main_v7, val_main_v8, val_main_v9, val_main_v10, val_main_v11, val_main_v12, val_main_v13, val_main_v14]
  blk_point [iblk, V, idx t]

theorem frame_ref : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

/-- The two programs run and end with the same array. -/
theorem algebraic : Cert.algebraic_RmsFwdIdeal_RmsFwdRefIdeal := by
  pair_intro
  · run_from Cert.RmsFwdIdeal.Gen.run_main m g
  · run_from Cert.RmsFwdRefIdeal.Value.run m' g'
    exact (out_2 m c).symm

end Cert.Proof.RmsFwd

end
-- ==== Proof.OutProj.lean ====
module

public import proofs.«01_k».proof.Defs
public import proofs.«01_k».proof.Proof.Gen.OutProjIdeal.Frame
public import proofs.«01_k».proof.Proof.Gen.OutProjRefIdeal.Run
public import proofs.«01_k».proof.Proof.Gen.OutProjRefIdeal.Read
public import Idealize.ShloMosaic.Lib.Pipeline.ValueKit
public import Idealize.ShloMosaic.Lib.Claim

@[expose] public section

set_option maxRecDepth 16384

noncomputable section

/-! The product that joins the heads, added to the residual, and the norm of the sum. -/

namespace Cert.Proof.OutProj

open Cert.OutProjIdeal Cert.OutProjIdeal.Gen Idealize.ShloMosaic Idealize.ShloMosaic.TcCoe Idealize.SL.Sem Cert.OutProjRefIdeal.Read

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

set_option maxHeartbeats 1000000 in
/-- The sum. -/
theorem out_4 (m : (ℓ : Loc nD τ sig) → Buf (Elt Ideal) ℓ) (c : Dev nD) :
    (dats m 0 c).arrAt 4 cfg0.N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  pointwise [k0_pay1, val_main_v0, val_main_v1, val_main_v2, val_main_v3, val_main_v4, val_main_v5, val_main_cst, val_main_v6, val_main_v7, val_main_cst_0,
      val_main_v8, val_main_v9, val_main_cst_1, val_main_v10, val_main_v11, val_main_v12, val_main_v13, val_main_v14, val_main_v15, val_main_v16,
      val_main_v17, val_main_v18]
  blk_point [iblk, V, idx t]

set_option maxHeartbeats 1000000 in
/-- Its norm. -/
theorem out_5 (m : (ℓ : Loc nD τ sig) → Buf (Elt Ideal) ℓ) (c : Dev nD) :
    (dats m 0 c).arrAt 5 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_out
  pointwise [k0_pay2, k0_pay1, val_main_v0, val_main_v1, val_main_v2, val_main_v3, val_main_v4, val_main_v5, val_main_cst, val_main_v6, val_main_v7, val_main_cst_0,
      val_main_v8, val_main_v9, val_main_cst_1, val_main_v10, val_main_v11, val_main_v12, val_main_v13, val_main_v14, val_main_v15, val_main_v16,
      val_main_v17, val_main_v18]
  blk_point [iblk, V, idx t]

theorem frame_ref : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- The two programs run and end with the same arrays. -/
theorem algebraic : Cert.algebraic_OutProjIdeal_OutProjRefIdeal := by
  pair_intro
  · run_from Cert.OutProjIdeal.Gen.run_main m g
  · run_from Cert.OutProjRefIdeal.Value.run m' g'
    · exact (out_4 m c).symm
    · exact (out_5 m c).symm

end Cert.Proof.OutProj

end
-- ==== Proof.UpProj.lean ====
module

public import proofs.«01_k».proof.Defs
public import proofs.«01_k».proof.Proof.Gen.UpProjIdeal.Frame
public import proofs.«01_k».proof.Proof.Gen.UpProjRefIdeal.Run
public import proofs.«01_k».proof.Proof.Gen.UpProjRefIdeal.Read
public import Idealize.ShloMosaic.Lib.Pipeline.ValueKit
public import Idealize.ShloMosaic.Lib.Claim

@[expose] public section

set_option maxRecDepth 16384

noncomputable section

/-! The MLP's first product and its squared ReLU. -/

namespace Cert.Proof.UpProj

open Cert.UpProjIdeal Cert.UpProjIdeal.Gen Idealize.ShloMosaic Idealize.ShloMosaic.TcCoe Idealize.SL.Sem Cert.UpProjRefIdeal.Read

theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

set_option maxHeartbeats 1000000 in
/-- The product. -/
theorem out_2 (m : (ℓ : Loc nD τ sig) → Buf (Elt Ideal) ℓ) (c : Dev nD) :
    (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v0, val_main_v1, val_main_v2, val_main_v3, val_main_call0_cst, val_main_call0_v0, val_main_v4, val_main_v5, val_main_v6]
  blk_point [iblk, V, idx t]

set_option maxHeartbeats 1000000 in
/-- The square of its positive part. -/
theorem out_3 (m : (ℓ : Loc nD τ sig) → Buf (Elt Ideal) ℓ) (c : Dev nD) :
    (dats m 0 c).arrAt 3 cfg0.N = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  pointwise [k0_pay3, k0_pay1, val_main_v0, val_main_v1, val_main_v2, val_main_v3, val_main_call0_cst, val_main_call0_v0, val_main_v4, val_main_v5, val_main_v6]
  blk_point [iblk, V, idx t]

theorem frame_ref : Cert.quiescent_UpProjRefIdeal := fun m ρ _ =>
  (θ_run Cert.UpProjRefIdeal.defs _ _).mono (fun r h => ⟨fun c => (h c).2.2, sem_eq_zero_of_no_sems (by decide) r.2⟩)
    (Cert.UpProjRefIdeal.Value.run (F := Ideal) m ρ)

/-- The two programs run and end with the same arrays. -/
theorem algebraic : Cert.algebraic_UpProjIdeal_UpProjRefIdeal := by
  pair_intro
  · run_from Cert.UpProjIdeal.Gen.run_main m g
  · run_from Cert.UpProjRefIdeal.Value.run m' g'
    · exact (out_2 m c).symm
    · exact (out_3 m c).symm

end Cert.Proof.UpProj

end
-- ==== Proof.InProj.Block.lean ====
module

public import proofs.«01_k».proof.Defs
public import proofs.«01_k».proof.Proof.DProj.Ref
public import proofs.«01_k».proof.Proof.Gen.InProjIdeal.Frame
public import Idealize.ShloMosaic.Lib.Pipeline.ValueKit

@[expose] public section

set_option maxRecDepth 16384

noncomputable section

/-! What the kernel computes of the projection: one block of rows, then its arrays. -/

namespace Cert.Proof.InProj

open Cert.InProjIdeal Cert.InProjIdeal.Gen Idealize.ShloMosaic Idealize.ShloMosaic.TcCoe Idealize.SL.Sem Cert.Proof.Norm Cert.Proof.DProj

/-- A head scaled by the reciprocal root of its mean square, and by its gain. -/
def scaled (x g : Fin 128 → EReal) (j : Fin 128) : EReal :=
  x j * Ideal.rsqrt (Ideal.div (∑ i, x i * x i) (Ideal.ofBits .f32 0x43000000#32) + Ideal.ofBits .f32 0x358637BD#32) * g j
/-- A head's rotation. -/
def turned (c s : Fin 128 → ℝ) (x : Fin 128 → EReal) (j : Fin 128) : EReal := x j * (c j : EReal) + x (pair j) * (s j : EReal)
/-- A head of a row of the projection. -/
def headOf (z : Fin 3072 → EReal) (h : Fin 10) (j : Fin 128) : EReal := z ⟨h.val * 128 + j, by omega⟩
/-- The row with its ten heads turned; the first eight are the queries', the next two the keys'. -/
def rowOut (c s : Fin 128 → ℝ) (gq gk : Fin 128 → EReal) (z : Fin 3072 → EReal) (k : Fin 3072) : EReal :=
  if h : k.val < 1280 then turned c s (scaled (headOf z ⟨k / 128, by omega⟩) (if k.val / 128 < 8 then gq else gk)) ⟨k % 128, by omega⟩ else z k

theorem rowOut_head (c s : Fin 128 → ℝ) (gq gk : Fin 128 → EReal) (z : Fin 3072 → EReal) (h : ℕ) (hh : h < 10) (j : Fin 128) (k : Fin 3072) (hk : k.val = h * 128 + j) :
    rowOut c s gq gk z k = turned c s (scaled (headOf z ⟨h, hh⟩) (if h < 8 then gq else gk)) j := by
  obtain rfl : h = k.val / 128 := by omega
  rw [rowOut, dif_pos (by omega), show (⟨k.val % 128, by omega⟩ : Fin 128) = j from Fin.ext (by show k.val % 128 = j; omega)]

/-- The kernel's lines for one head: the slice, the norm, the choice of the paired lane, the rotation. -/
def slice (z : FVec Ideal S512x3072 .f32) (h : ℕ) (hs : S512x3072.Slices ![0, h * 128] S512x128) : FVec Ideal S512x128 .f32 :=
  extractStridedSlice S512x128 ![0, h * 128] z hs
def normed (x : FVec Ideal S512x128 .f32) (g : Vec Ideal S1x128 .f32) : FVec Ideal S512x128 .f32 :=
  mulf (mulf x (broadcastTo S512x128 (rsqrt (addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128)) (broadcastTo S512x128 g broadcasts_S1x128_S512x128)
def side : IVec S512x128 1 :=
  have w : BitVec 32 := Scalar.select (Scalar.cmpi .eq 64#32 0#32) 1#32 64#32
  have r : IVec S512x128 32 := remsi (iota .tc S512x128 32 [1] iota_S512x128_d1_w32) (broadcast S512x128 w)
  cmpi .slt (select (andi (xori (cmpi .slt r (broadcast S512x128 0#32)) (broadcast S512x128 (Scalar.cmpi .slt w 0#32))) (cmpi .ne r (broadcast S512x128 0#32))) (addi r (broadcast S512x128 w)) r) (broadcast S512x128 32#32)
def head (z : FVec Ideal S512x3072 .f32) (c s : Vec Ideal S512x128 .f32) (g : Vec Ideal S1x128 .f32) (h : ℕ) (hs : S512x3072.Slices ![0, h * 128] S512x128) : FVec Ideal S512x128 .bf16 :=
  truncf .bf16 (addf (mulf (normed (slice z h hs) g) (k0_pay3 c)) (mulf (select side (dynamicRotate 1 96#32 none (normed (slice z h hs) g) rotates_S512x128_d1)
    (dynamicRotate 1 32#32 none (normed (slice z h hs) g) rotates_S512x128_d1)) (k0_pay4 s))) bitsLt_bf16_f32

/-- A column of the part of the projection that holds the heads. -/
def wide (k : Fin 1280) : Fin 3072 := ⟨k, by omega⟩

section Block

variable {u : Vec Ideal S512x2048 .bf16} {w : Vec Ideal S2048x3072 .bf16} {c s : Vec Ideal S512x128 .f32} {C S : Fin 512 → Fin 128 → ℝ} {Z : Fin 512 → Fin 3072 → EReal}
  (hc : ∀ i j, c (ix2 i j) = (C i j : EReal)) (hs : ∀ i j, s (ix2 i j) = (S i j : EReal)) (hz : ∀ i k, k0_pay2 u w (ix2 i k) = Z i k)

include hz in
theorem normed_at (g : Vec Ideal S1x128 .f32) (h : ℕ) (hh : h < 10) (hl : S512x3072.Slices ![0, h * 128] S512x128) (i : Fin 512) (j : Fin 128) :
    normed (slice (k0_pay2 u w) h hl) g (ix2 i j) = scaled (headOf (Z i) ⟨h, hh⟩) (fun j => g (ix2 0 j)) j := by
  have e (j : Fin 128) : slice (k0_pay2 u w) h hl (ix2 i j) = headOf (Z i) ⟨h, hh⟩ j := by
    unfold slice
    pointwise
    exact hz _ _
  unfold normed
  pointwise
  simp only [e]
  rfl

include hc hs hz in
theorem head_at (g : Vec Ideal S1x128 .f32) (h : ℕ) (hh : h < 10) (hl : S512x3072.Slices ![0, h * 128] S512x128) (i : Fin 512) (j : Fin 128) :
    head (k0_pay2 u w) c s g h hl (ix2 i j) = turned (C i) (S i) (scaled (headOf (Z i) ⟨h, hh⟩) (fun j => g (ix2 0 j))) j := by
  unfold head side
  pointwise [k0_pay3, k0_pay4]
  simp only [hc, hs, normed_at hz g h hh hl]
  exact congrArg (_ + · * _) (select_half j fun l => scaled (headOf (Z i) ⟨h, hh⟩) (fun j => g (ix2 0 j)) l)

end Block

/-! The windows. -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, _)

section Arrays

variable (m : (ℓ : Loc nD τ sig) → Buf (Elt Ideal) ℓ) (c : Dev nD)

/-- The projection. -/
def product (u : (⟨S4096x2048, .bf16⟩ : BufTy).Contents (Elt Ideal)) (w : (⟨S2048x3072, .bf16⟩ : BufTy).Contents (Elt Ideal)) (r : Fin 4096) (k : Fin 3072) : EReal :=
  ∑ l : Fin 2048, (u (ix2 r l) : EReal) * (w (ix2 l k) : EReal)
abbrev proj (r : Fin 4096) (k : Fin 3072) : EReal := product (m ((c : Thread nD τ).loc main_arg0)) (m ((c : Thread nD τ).loc main_arg1)) r k

theorem host_c (r : Fin 4096) (k : Fin 128) : V m c main_v31 (ix2 r k) = (cosAt r k : EReal) := by
  show StableHlo.after hostOps0 _ _ _ = _
  after_results_simp
  refine four (fun r k => (cosAt r k : EReal)) _ (fun r b => ?_) (fun r b => ?_) (fun r b => ?_) (fun r b => ?_) r k
  all_goals
    simp only [Matrix.cons_val]
    after_results_simp
    pointwise
    simp only [host_freq, row_word, col_word, word (r.val / 64) (by omega), word (r.val % 64) (by omega), ← EReal.coe_mul, Ideal.cos_coe, cosAt]
  · rw [row_angle r b ⟨b, by omega⟩ (by show b.val % 32 = b; omega) (by show b.val < 64; omega)]
  · rw [row_angle r b ⟨32 + b, by omega⟩ (by show (32 + b.val) % 32 = b; omega) (by show 32 + b.val < 64; omega)]
  · rw [col_angle r b ⟨64 + b, by omega⟩ (by show (64 + b.val) % 32 = b; omega) (by show ¬64 + b.val < 64; omega)]
  · rw [col_angle r b ⟨96 + b, by omega⟩ (by show (96 + b.val) % 32 = b; omega) (by show ¬96 + b.val < 64; omega)]

theorem host_s (r : Fin 4096) (k : Fin 128) : V m c main_v38 (ix2 r k) = (sinAt r k : EReal) := by
  show StableHlo.after hostOps0 _ _ _ = _
  after_results_simp
  refine four (fun r k => (sinAt r k : EReal)) _ (fun r b => ?_) (fun r b => ?_) (fun r b => ?_) (fun r b => ?_) r k
  all_goals
    simp only [Matrix.cons_val]
    after_results_simp
    pointwise
    simp only [host_freq, row_word, col_word, word (r.val / 64) (by omega), word (r.val % 64) (by omega), ← EReal.coe_mul, ← EReal.coe_neg, Ideal.sin_coe, sinAt]
  · rw [row_angle r b ⟨b, by omega⟩ (by show b.val % 32 = b; omega) (by show b.val < 64; omega), if_pos (by show b.val % 64 < 32; omega)]
  · rw [row_angle r b ⟨32 + b, by omega⟩ (by show (32 + b.val) % 32 = b; omega) (by show 32 + b.val < 64; omega), if_neg (by show ¬(32 + b.val) % 64 < 32; omega)]
  · rw [col_angle r b ⟨64 + b, by omega⟩ (by show (64 + b.val) % 32 = b; omega) (by show ¬64 + b.val < 64; omega), if_pos (by show (64 + b.val) % 64 < 32; omega)]
  · rw [col_angle r b ⟨96 + b, by omega⟩ (by show (96 + b.val) % 32 = b; omega) (by show ¬96 + b.val < 64; omega), if_neg (by show ¬(96 + b.val) % 64 < 32; omega)]

theorem in_c (t : Fin cfg0.N) (y : Fin 512) (k : Fin 128) : iblk m c 2 t (ix2 y k) = (cosAt (rowAt t y) k : EReal) :=
  (congrArg (V m c main_v31) (by blk_ext [idx t, rowAt] : _ = ix2 (rowAt t y) k)).trans (host_c m c _ _)
theorem in_s (t : Fin cfg0.N) (y : Fin 512) (k : Fin 128) : iblk m c 3 t (ix2 y k) = (sinAt (rowAt t y) k : EReal) :=
  (congrArg (V m c main_v38) (by blk_ext [idx t, rowAt] : _ = ix2 (rowAt t y) k)).trans (host_s m c _ _)
theorem in_gq (t : Fin cfg0.N) (k : Fin 128) : iblk m c 4 t (ix2 0 k) = m ((c : Thread nD τ).loc main_arg2) (ix2 0 k) :=
  congrArg (m ((c : Thread nD τ).loc main_arg2)) (by blk_ext [idx t] : _ = ix2 0 k)
theorem in_gk (t : Fin cfg0.N) (k : Fin 128) : iblk m c 5 t (ix2 0 k) = m ((c : Thread nD τ).loc main_arg3) (ix2 0 k) :=
  congrArg (m ((c : Thread nD τ).loc main_arg3)) (by blk_ext [idx t] : _ = ix2 0 k)

theorem in_z (t : Fin cfg0.N) (y : Fin 512) (k : Fin 3072) : k0_pay2 (F := Ideal) (iblk m c 0 t) (iblk m c 1 t) (ix2 y k) = proj m c (rowAt t y) k := by
  have eu (l : Fin 2048) : iblk m c 0 t (ix2 y l) = m ((c : Thread nD τ).loc main_arg0) (ix2 (rowAt t y) l) :=
    congrArg (m ((c : Thread nD τ).loc main_arg0)) (by blk_ext [idx t, rowAt] : _ = ix2 (rowAt t y) l)
  have ew (l : Fin 2048) : iblk m c 1 t (ix2 l k) = m ((c : Thread nD τ).loc main_arg1) (ix2 l k) :=
    congrArg (m ((c : Thread nD τ).loc main_arg1)) (by blk_ext [idx t] : _ = ix2 l k)
  pointwise [k0_pay2]
  simp only [eu, ew]
  rfl

/-- The projection's heads, as the first output keeps them. -/
theorem out_raw (r : Fin 4096) (k : Fin 1280) : (dats m 0 c).arrAt 6 cfg0.N (ix2 r k) = proj m c r (wide k) := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 6 cfg0.N) (by blk_ext [idx t, rowAt] : _ = ((cfg0.win 6).blk t).view.emb (ix2 y k))).trans ?_
  refine ((dats m 0 c).arrAt_emb_eq_flushed 6 (Pipeline.Window.hdisj_of_index_inj _ (by decide +kernel)) t ((by decide +kernel : ∀ t : Fin cfg0.N, (cfg0.win 6).flush t = true) t) _).trans ?_
  blk_simp
  rw [after0_6]
  unfold outsAt0
  frame_out
  pointwise [k0_pay5]
  exact in_z m c t y (wide k)

set_option maxHeartbeats 2000000 in
/-- The second output: the row with its heads turned. -/
theorem out_turned (r : Fin 4096) (k : Fin 3072) : (dats m 0 c).arrAt 7 cfg0.N (ix2 r k)
    = rowOut (cosAt r) (sinAt r) (fun j => m ((c : Thread nD τ).loc main_arg2) (ix2 0 j)) (fun j => m ((c : Thread nD τ).loc main_arg3) (ix2 0 j)) (proj m c r) k := by
  obtain ⟨t, ht⟩ : ∃ t : Fin cfg0.N, t.val = r / 512 := ⟨⟨r / 512, show _ < 8 by omega⟩, rfl⟩
  obtain ⟨y, hy⟩ : ∃ y : Fin 512, y.val = r % 512 := ⟨⟨r % 512, by omega⟩, rfl⟩
  obtain rfl : rowAt t y = r := Fin.ext (by simp only [rowAt, ht, hy]; omega)
  refine (congrArg ((dats m 0 c).arrAt 7 cfg0.N) (by blk_ext [idx t, rowAt] : _ = ((cfg0.win 7).blk t).view.emb (ix2 y k))).trans ?_
  refine ((dats m 0 c).arrAt_emb_eq_flushed 7 (Pipeline.Window.hdisj_of_index_inj _ (by decide +kernel)) t ((by decide +kernel : ∀ t : Fin cfg0.N, (cfg0.win 7).flush t = true) t) _).trans ?_
  blk_simp
  rw [after0_7]
  have q (h : ℕ) (hh : h < 8) (hl : S512x3072.Slices ![0, h * 128] S512x128) (b : Fin 128) (hk : k.val = h * 128 + b) :
      head (k0_pay2 (iblk m c 0 t) (iblk m c 1 t)) (iblk m c 2 t) (iblk m c 3 t) (iblk m c 4 t) h hl (ix2 y b) = _ :=
    ((head_at (in_c m c t) (in_s m c t) (in_z m c t) (iblk m c 4 t) h (by omega) hl y b).trans
      (by rw [funext (in_gq m c t), if_pos hh])).trans (rowOut_head (cosAt (rowAt t y)) (sinAt (rowAt t y)) (fun j => m ((c : Thread nD τ).loc main_arg2) (ix2 0 j)) (fun j => m ((c : Thread nD τ).loc main_arg3) (ix2 0 j)) (proj m c (rowAt t y)) h _ b k hk).symm
  have kk (h : ℕ) (hh : h < 10) (h8 : ¬h < 8) (hl : S512x3072.Slices ![0, h * 128] S512x128) (b : Fin 128) (hk : k.val = h * 128 + b) :
      head (k0_pay2 (iblk m c 0 t) (iblk m c 1 t)) (iblk m c 2 t) (iblk m c 3 t) (iblk m c 5 t) h hl (ix2 y b) = _ :=
    ((head_at (in_c m c t) (in_s m c t) (in_z m c t) (iblk m c 5 t) h hh hl y b).trans
      (by rw [funext (in_gk m c t), if_neg h8])).trans (rowOut_head (cosAt (rowAt t y)) (sinAt (rowAt t y)) (fun j => m ((c : Thread nD τ).loc main_arg2) (ix2 0 j)) (fun j => m ((c : Thread nD τ).loc main_arg3) (ix2 0 j)) (proj m c (rowAt t y)) h hh b k hk).symm
  unfold outsAt0
  frame_out
  canon_tiles x hx using View.cover_of_tiledBy _ ![512, 128] (by sl_kernel_rfl) _
  all_goals
    obtain ⟨a, b, rfl⟩ := idx2_eq x
    obtain rfl : y = a := Fin.ext hx0
    first | change k.val = _ + b.val at hx1 | change k.val = b.val at hx1
  case piece0 =>
    rw [rowOut, dif_neg (by omega)]
    pointwise [k0_pay1]
    exact (in_z m c t y _).trans (congrArg (proj m c _) (Fin.ext hx1.symm))
  case piece1 => exact kk 9 (by decide) (by decide) slices_S512x3072_o0_1152_S512x128 b hx1
  case piece2 => exact kk 8 (by decide) (by decide) slices_S512x3072_o0_1024_S512x128 b hx1
  case piece3 => exact q 7 (by decide) slices_S512x3072_o0_896_S512x128 b hx1
  case piece4 => exact q 6 (by decide) slices_S512x3072_o0_768_S512x128 b hx1
  case piece5 => exact q 5 (by decide) slices_S512x3072_o0_640_S512x128 b hx1
  case piece6 => exact q 4 (by decide) slices_S512x3072_o0_512_S512x128 b hx1
  case piece7 => exact q 3 (by decide) slices_S512x3072_o0_384_S512x128 b hx1
  case piece8 => exact q 2 (by decide) slices_S512x3072_o0_256_S512x128 b hx1
  case piece9 => exact q 1 (by decide) slices_S512x3072_o0_128_S512x128 b hx1
  case piece10 => exact q 0 (by decide) slices_S512x3072_o0_0_S512x128 b (by omega)

end Arrays

end Cert.Proof.InProj

end
-- ==== Proof.InProj.Final.lean ====
module

public import proofs.«01_k».proof.Proof.InProj.Block
public import proofs.«01_k».proof.Proof.Gen.InProjRefIdeal.Run
public import proofs.«01_k».proof.Proof.Gen.InProjRefIdeal.Read
public import Idealize.ShloMosaic.Lib.Claim

@[expose] public section

set_option maxRecDepth 16384

noncomputable section

/-! The reference's values, and the claim. -/

namespace Cert.Proof.InProj

open Cert.InProjIdeal Idealize.ShloMosaic Idealize.ShloMosaic.TcCoe Idealize.SL.Sem Cert.Proof.Norm Cert.Proof.DProj
open Cert.InProjRefIdeal.Read

theorem ref_angles (r : Fin 4096) (b : Fin 32) :
    val_main_v22 (F := Ideal) (ix2 r b) = ((((r.val / 64 : ℕ) : ℝ) * freq b : ℝ) : EReal) ∧ val_main_v28 (F := Ideal) (ix2 r b) = ((((r.val % 64 : ℕ) : ℝ) * freq b : ℝ) : EReal) := by
  constructor
  · pointwise [val_main_v22, val_main_v21, val_main_v20, val_main_v19, val_main_v18, val_main_v17, val_main_v16, val_main_v15, val_main_v14, val_main_v13, val_main_v12,
      val_main_v11, val_main_v10, val_main_v9, val_main_v8, val_main_v7, val_main_v2, val_main_v1, val_main_v0, val_main_cst, val_main_cst_0, val_main_cst_1, val_main_cst_2]
    rw [host_freq, word _ (by omega), ← EReal.coe_mul]
  · pointwise [val_main_v28, val_main_v27, val_main_v26, val_main_v25, val_main_v24, val_main_v23, val_main_v16, val_main_v15, val_main_v14, val_main_v13, val_main_v12,
      val_main_v11, val_main_v10, val_main_v9, val_main_v8, val_main_v7, val_main_v6, val_main_v5, val_main_v4, val_main_v3, val_main_cst, val_main_cst_0, val_main_cst_1, val_main_cst_2]
    rw [host_freq, word _ (by omega), ← EReal.coe_mul]

theorem ref_tables (r : Fin 4096) (b : Fin 32) : val_main_v29 (F := Ideal) (ix2 r b) = (rowCos r b : EReal) ∧ val_main_v30 (F := Ideal) (ix2 r b) = (rowSin r b : EReal)
    ∧ val_main_v31 (F := Ideal) (ix2 r b) = (colCos r b : EReal) ∧ val_main_v32 (F := Ideal) (ix2 r b) = (colSin r b : EReal) := by
  refine ⟨?_, ?_, ?_, ?_⟩
  · pointwise [val_main_v29]; rw [(ref_angles r b).1, Ideal.cos_coe]; rfl
  · pointwise [val_main_v30]; rw [(ref_angles r b).1, Ideal.sin_coe]; rfl
  · pointwise [val_main_v31]; rw [(ref_angles r b).2, Ideal.cos_coe]; rfl
  · pointwise [val_main_v32]; rw [(ref_angles r b).2, Ideal.sin_coe]; rfl

/-- A head's rotation, quarter by quarter, as the reference has it. -/
theorem turned_quarters (r : Fin 4096) (x : Fin 128 → EReal) (b : Fin 32) :
    turned (cosAt r) (sinAt r) x ⟨b, by omega⟩ = x ⟨b, by omega⟩ * (rowCos r b : EReal) - x ⟨32 + b, by omega⟩ * (rowSin r b : EReal)
    ∧ turned (cosAt r) (sinAt r) x ⟨32 + b, by omega⟩ = x ⟨32 + b, by omega⟩ * (rowCos r b : EReal) + x ⟨b, by omega⟩ * (rowSin r b : EReal)
    ∧ turned (cosAt r) (sinAt r) x ⟨64 + b, by omega⟩ = x ⟨64 + b, by omega⟩ * (colCos r b : EReal) - x ⟨96 + b, by omega⟩ * (colSin r b : EReal)
    ∧ turned (cosAt r) (sinAt r) x ⟨96 + b, by omega⟩ = x ⟨96 + b, by omega⟩ * (colCos r b : EReal) + x ⟨64 + b, by omega⟩ * (colSin r b : EReal) := by
  have hb := b.isLt
  have a₀ := row_angle r b ⟨b, by omega⟩ (by show b.val % 32 = b; omega) (by show b.val < 64; omega)
  have a₁ := row_angle r b ⟨32 + b, by omega⟩ (by show (32 + b.val) % 32 = b; omega) (by show 32 + b.val < 64; omega)
  have a₂ := col_angle r b ⟨64 + b, by omega⟩ (by show (64 + b.val) % 32 = b; omega) (by show ¬64 + b.val < 64; omega)
  have a₃ := col_angle r b ⟨96 + b, by omega⟩ (by show (96 + b.val) % 32 = b; omega) (by show ¬96 + b.val < 64; omega)
  have p₀ : pair ⟨b, by omega⟩ = ⟨32 + b, by omega⟩ := by rw [pair, dif_pos (by show b.val % 64 < 32; omega)]; exact Fin.ext (Nat.add_comm _ _)
  have p₁ : pair ⟨32 + b, by omega⟩ = ⟨b, by omega⟩ := by rw [pair, dif_neg (by show ¬(32 + b.val) % 64 < 32; omega)]; exact Fin.ext (by show 32 + b.val - 32 = b; omega)
  have p₂ : pair ⟨64 + b, by omega⟩ = ⟨96 + b, by omega⟩ := by rw [pair, dif_pos (by show (64 + b.val) % 64 < 32; omega)]; exact Fin.ext (by show 64 + b.val + 32 = 96 + b; omega)
  have p₃ : pair ⟨96 + b, by omega⟩ = ⟨64 + b, by omega⟩ := by rw [pair, dif_neg (by show ¬(96 + b.val) % 64 < 32; omega)]; exact Fin.ext (by show 96 + b.val - 32 = 64 + b; omega)
  refine ⟨?_, ?_, ?_, ?_⟩
  · rw [turned, p₀, cosAt, sinAt, ← a₀, if_pos (by show b.val % 64 < 32; omega), EReal.coe_neg, mul_neg, ← sub_eq_add_neg]; rfl
  · rw [turned, p₁, cosAt, sinAt, ← a₁, if_neg (by show ¬(32 + b.val) % 64 < 32; omega)]; rfl
  · rw [turned, p₂, cosAt, sinAt, ← a₂, if_pos (by show (64 + b.val) % 64 < 32; omega), EReal.coe_neg, mul_neg, ← sub_eq_add_neg]; rfl
  · rw [turned, p₃, cosAt, sinAt, ← a₃, if_neg (by show ¬(96 + b.val) % 64 < 32; omega)]; rfl

/-- Three blocks of columns side by side. -/
theorem three {x₀ : (⟨2, ![4096, 1024]⟩ : Shape).Idx → EReal} {x₁ : (⟨2, ![4096, 256]⟩ : Shape).Idx → EReal} {x₂ : (⟨2, ![4096, 1792]⟩ : Shape).Idx → EReal} (f : Fin 4096 → Fin 3072 → EReal)
    (H : Shape.Concatenates [⟨2, ![4096, 1024]⟩, ⟨2, ![4096, 256]⟩, ⟨2, ![4096, 1792]⟩] ⟨2, ![4096, 3072]⟩ 1)
    (h₀ : ∀ r (b : Fin 1024), x₀ (ix2 r b) = f r ⟨b, by omega⟩) (h₁ : ∀ r (b : Fin 256), x₁ (ix2 r b) = f r ⟨1024 + b, by omega⟩) (h₂ : ∀ r (b : Fin 1792), x₂ (ix2 r b) = f r ⟨1280 + b, by omega⟩)
    (r : Fin 4096) (k : Fin 3072) : concatenate ⟨2, ![4096, 3072]⟩ 1 [⟨_, x₀⟩, ⟨_, x₁⟩, ⟨_, x₂⟩] H (ix2 r k) = f r k := by
  have side {n : ℕ} (b : Fin n) : ∀ a : Fin 2, a.cast rfl ≠ (1 : Fin 2) → ((ix2 r b : (⟨2, ![4096, n]⟩ : Shape).Idx) a).val = ((ix2 r k : (⟨2, ![4096, 3072]⟩ : Shape).Idx) (a.cast rfl)).val := by
    intro a ha; fin_cases a
    · rfl
    · exact absurd rfl ha
  by_cases b₀ : k.val < 1024
  · exact (concatenate_apply_piece _ _ _ (ix2 r k) 0 (by simp) _ x₀ rfl rfl 0 rfl (ix2 r ⟨k.val, by omega⟩) (side _) (by show 0 + k.val = k; omega)).trans (h₀ r _)
  by_cases b₁ : k.val < 1280
  · exact (concatenate_apply_piece _ _ _ (ix2 r k) 1 (by simp) _ x₁ rfl rfl 1024 rfl (ix2 r ⟨k.val - 1024, by omega⟩) (side _) (by show 1024 + (k.val - 1024) = k; omega)).trans ((h₁ r _).trans (congrArg _ (Fin.ext (by show 1024 + (k.val - 1024) = k; omega))))
  exact (concatenate_apply_piece _ _ _ (ix2 r k) 2 (by simp) _ x₂ rfl rfl 1280 rfl (ix2 r ⟨k.val - 1280, by omega⟩) (side _) (by show 1280 + (k.val - 1280) = k; omega)).trans ((h₂ r _).trans (congrArg _ (Fin.ext (by show 1280 + (k.val - 1280) = k; omega))))

section Reference

variable (x0 : (⟨S4096x2048, .bf16⟩ : BufTy).Contents (Elt Ideal)) (x1 : (⟨S2048x3072, .bf16⟩ : BufTy).Contents (Elt Ideal)) (x2 x3 : (⟨S1x128, .f32⟩ : BufTy).Contents (Elt Ideal))

/-- A gain. -/
def gain (x : (⟨S1x128, .f32⟩ : BufTy).Contents (Elt Ideal)) (j : Fin 128) : EReal := x (ix2 0 j)

theorem ref_z (r : Fin 4096) (k : Fin 3072) : val_main_v35 (F := Ideal) x0 x1 (ix2 r k) = product x0 x1 r k := by
  pointwise [val_main_v35, val_main_v34, val_main_v33]
  rfl

theorem q_x (r : Fin 4096) (h : Fin 8) (j : Fin 128) : val_main_v39 (F := Ideal) x0 x1 (ix3 r h j) = headOf (product x0 x1 r) ⟨h, by omega⟩ j := by
  pointwise [val_main_v39, val_main_v36]
  exact ref_z x0 x1 _ _
theorem k_x (r : Fin 4096) (h : Fin 2) (j : Fin 128) : val_main_v92 (F := Ideal) x0 x1 (ix3 r h j) = headOf (product x0 x1 r) ⟨h + 8, by omega⟩ j := by
  pointwise [val_main_v92, val_main_v37]
  exact (ref_z x0 x1 _ _).trans (congrArg (product x0 x1 r) (Fin.ext (by show 1024 + (h.val * 128 + j) = (h + 8) * 128 + j; omega)))

theorem q_norm (h : Fin 8) (r : Fin 4096) (j : Fin 128) : val_main_v54 (F := Ideal) x0 x1 x2 (ix3 h r j) = scaled (headOf (product x0 x1 r) ⟨h, by omega⟩) (gain x2) j := by
  pointwise [val_main_v54, val_main_v53, val_main_v52, val_main_v51, val_main_v50, val_main_v49, val_main_v48, val_main_v47, val_main_v46, val_main_v45, val_main_v44, val_main_v43,
    val_main_v42, val_main_v41, val_main_v40, val_main_cst_3, val_main_cst_4, val_main_cst_5]
  simp only [q_x]
  rfl
theorem k_norm (h : Fin 2) (r : Fin 4096) (j : Fin 128) : val_main_v107 (F := Ideal) x0 x1 x3 (ix3 h r j) = scaled (headOf (product x0 x1 r) ⟨h + 8, by omega⟩) (gain x3) j := by
  pointwise [val_main_v107, val_main_v106, val_main_v105, val_main_v104, val_main_v103, val_main_v102, val_main_v101, val_main_v100, val_main_v99, val_main_v98, val_main_v97, val_main_v96,
    val_main_v95, val_main_v94, val_main_v93, val_main_cst_6, val_main_cst_7, val_main_cst_8]
  simp only [k_x]
  rfl

theorem q_turned (h : Fin 8) (r : Fin 4096) (j : Fin 128) : val_main_v91 (F := Ideal) x0 x1 x2 (ix3 h r j)
    = turned (cosAt r) (sinAt r) (scaled (headOf (product x0 x1 r) ⟨h, by omega⟩) (gain x2)) j := by
  refine quarters (P := fun j => val_main_v91 (F := Ideal) x0 x1 x2 (ix3 h r j) = turned (cosAt r) (sinAt r) (scaled (headOf (product x0 x1 r) ⟨h, by omega⟩) (gain x2)) j) (fun b => ?_) j
  obtain ⟨t₀, t₁, t₂, t₃⟩ := turned_quarters r (scaled (headOf (product x0 x1 r) ⟨h, by omega⟩) (gain x2)) b
  rw [t₀, t₁, t₂, t₃]
  have hb := b.isLt
  refine ⟨?_, ?_, ?_, ?_⟩
  all_goals
    pointwise [val_main_v91, val_main_v90, val_main_v89, val_main_v88, val_main_v87, val_main_v86, val_main_v85, val_main_v84, val_main_v83, val_main_v82, val_main_v81, val_main_v80, val_main_v79,
      val_main_v78, val_main_v77, val_main_v76, val_main_v75, val_main_v74, val_main_v73, val_main_v72, val_main_v71, val_main_v70, val_main_v69, val_main_v68, val_main_v67, val_main_v66, val_main_v65,
      val_main_v64, val_main_v63, val_main_v62, val_main_v61, val_main_v60, val_main_v59, val_main_v58, val_main_v57, val_main_v56, val_main_v55]
    try simp only [false_and, ↓reduceDIte]
    try split_ifs
    all_goals first | (exfalso; omega) | skip
    all_goals simp only [Nat.add_sub_cancel_left, fourth, fourth', q_norm, ref_tables]
theorem k_turned (h : Fin 2) (r : Fin 4096) (j : Fin 128) : val_main_v144 (F := Ideal) x0 x1 x3 (ix3 h r j)
    = turned (cosAt r) (sinAt r) (scaled (headOf (product x0 x1 r) ⟨h + 8, by omega⟩) (gain x3)) j := by
  refine quarters (P := fun j => val_main_v144 (F := Ideal) x0 x1 x3 (ix3 h r j) = turned (cosAt r) (sinAt r) (scaled (headOf (product x0 x1 r) ⟨h + 8, by omega⟩) (gain x3)) j) (fun b => ?_) j
  obtain ⟨t₀, t₁, t₂, t₃⟩ := turned_quarters r (scaled (headOf (product x0 x1 r) ⟨h + 8, by omega⟩) (gain x3)) b
  rw [t₀, t₁, t₂, t₃]
  have hb := b.isLt
  refine ⟨?_, ?_, ?_, ?_⟩
  all_goals
    pointwise [val_main_v144, val_main_v143, val_main_v142, val_main_v141, val_main_v140, val_main_v139, val_main_v138, val_main_v137, val_main_v136, val_main_v135, val_main_v134, val_main_v133, val_main_v132,
      val_main_v131, val_main_v130, val_main_v129, val_main_v128, val_main_v127, val_main_v126, val_main_v125, val_main_v124, val_main_v123, val_main_v122, val_main_v121, val_main_v120, val_main_v119,
      val_main_v118, val_main_v117, val_main_v116, val_main_v115, val_main_v114, val_main_v113, val_main_v112, val_main_v111, val_main_v110, val_main_v109, val_main_v108]
    try simp only [false_and, ↓reduceDIte]
    try split_ifs
    all_goals first | (exfalso; omega) | skip
    all_goals simp only [Nat.add_sub_cancel_left, fourth, fourth', k_norm, ref_tables]

theorem ref_turned (r : Fin 4096) (k : Fin 3072) : val_main_v151 (F := Ideal) x0 x1 x2 x3 (ix2 r k) = rowOut (cosAt r) (sinAt r) (gain x2) (gain x3) (product x0 x1 r) k := by
  have e : val_main_v151 (F := Ideal) x0 x1 x2 x3 (ix2 r k) = val_main_v149 (F := Ideal) x0 x1 x2 x3 (ix2 r k) := by pointwise [val_main_v151]
  refine e.trans (three (fun r k => rowOut (cosAt r) (sinAt r) (gain x2) (gain x3) (product x0 x1 r) k) _ (fun r b => ?_) (fun r b => ?_) (fun r b => ?_) r k)
  · rw [rowOut_head _ _ _ _ _ (b.val / 128) (by omega) ⟨b.val % 128, by omega⟩ ⟨b, by omega⟩ (by show b.val = b.val / 128 * 128 + b.val % 128; omega), if_pos (by omega)]
    pointwise [val_main_v146, val_main_v145]
    exact q_turned x0 x1 x2 ⟨b.val / 128, by omega⟩ r _
  · rw [rowOut_head _ _ _ _ _ (b.val / 128 + 8) (by omega) ⟨b.val % 128, by omega⟩ ⟨1024 + b, by omega⟩ (by show 1024 + b.val = (b.val / 128 + 8) * 128 + b.val % 128; omega), if_neg (by omega)]
    pointwise [val_main_v148, val_main_v147]
    exact k_turned x0 x1 x3 ⟨b.val / 128, by omega⟩ r _
  · rw [rowOut, dif_neg (by show ¬1280 + b.val < 1280; omega)]
    pointwise [val_main_v38]
    exact ref_z x0 x1 _ _

theorem ref_raw (r : Fin 4096) (k : Fin 1280) : val_main_v150 (F := Ideal) x0 x1 (ix2 r k) = product x0 x1 r (wide k) := by
  pointwise [val_main_v150]
  exact ref_z x0 x1 _ _

/-- Equal arguments have equal outputs. -/
theorem rowOut_congr {u u' : (⟨S4096x2048, .bf16⟩ : BufTy).Contents (Elt Ideal)} {w w' : (⟨S2048x3072, .bf16⟩ : BufTy).Contents (Elt Ideal)} {a a' b b' : (⟨S1x128, .f32⟩ : BufTy).Contents (Elt Ideal)}
    (hu : u' = u) (hw : w' = w) (ha : a' = a) (hb : b' = b) (r : Fin 4096) (k : Fin 3072) :
    rowOut (cosAt r) (sinAt r) (gain a') (gain b') (product u' w' r) k = rowOut (cosAt r) (sinAt r) (gain a) (gain b) (product u w r) k := by
  subst hu hw ha hb; rfl

end Reference

theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

set_option maxHeartbeats 2000000 in
/-- The two programs run and end with the same arrays. -/
theorem algebraic : Cert.algebraic_InProjIdeal_InProjRefIdeal := by
  pair_intro
  · run_from Cert.InProjIdeal.Gen.run_main m g
  · run_from Cert.InProjRefIdeal.Value.run m' g'
    · refine funext fun y => ?_
      obtain ⟨r, k, rfl⟩ := idx2_eq (N := 4096) (n := 1280) y
      exact (ref_raw _ _ r k).trans (out_raw m c r k).symm
    · refine funext fun y => ?_
      obtain ⟨r, k, rfl⟩ := idx2_eq (N := 4096) (n := 3072) y
      exact ((congrFun (Cert.InProjRefIdeal.Read.val_main_v151_eq m' c) _).trans (ref_turned _ _ _ _ r k)).trans
        ((rowOut_congr (hagree c).1 (hagree c).2.1 (hagree c).2.2.1 (hagree c).2.2.2 r k).trans (out_turned m c r k).symm)

end Cert.Proof.InProj

end
-- ==== Proof.BiasBuild.lean ====
module

public import proofs.«01_k».proof.Defs
public import proofs.«01_k».proof.Proof.TableGrads.Bucket
public import proofs.«01_k».proof.Proof.Gen.BiasBuildIdeal.Frame
public import proofs.«01_k».proof.Proof.Gen.BiasBuildRefIdeal.Run
public import proofs.«01_k».proof.Proof.Gen.BiasBuildRefIdeal.Read
public import Idealize.ShloMosaic.Lib.Pipeline.ValueKit
public import Idealize.ShloMosaic.Lib.Claim

@[expose] public section

set_option maxRecDepth 16384

noncomputable section

/-! The windowed attention's bias: each pair's table entry, picked by a ladder of comparisons in the kernel and by its bucket in the reference. -/

namespace Cert.Proof.BiasBuild

open Cert.BiasBuildIdeal Cert.BiasBuildIdeal.Gen Idealize.ShloMosaic Idealize.ShloMosaic.TcCoe Idealize.SL.Sem
open Cert.Proof.TableGrads (bucketOf bucket_lt)

theorem idx : ∀ t : Fin cfg0.N, win0_0.index t = ![0, 0] ∧ win0_1.index t = ![0] ∧ win0_2.index t = ![t.val, 0, 0] :=
  (by decide +kernel : ∀ t : Fin grid0.N, _)

/-- The head a grid point works on. -/
theorem head_of : ∀ t : Fin cfg0.N, (grid0.coords t 0).val = t.val :=
  (by decide +kernel : ∀ t : Fin grid0.N, _)

/-- The pairs within the window. -/
def inside (r : Fin 128) (k : Fin 384) : BitVec 1 :=
  IntOp.cmpi .sle (IntOp.absi (IntOp.subi (IntOp.subi (BitVec.ofNat 32 k.val) 128#32) (BitVec.ofNat 32 r.val))) 128#32

/-- A pair's bias, from the table. -/
def bias (f : Fin 32 → Fin 8 → EReal) (h : Fin 8) (r : Fin 128) (k : Fin 384) : EReal :=
  Scalar.select (inside r k) (f ⟨(bucketOf r k).toNat, bucket_lt r k⟩ h) (Ideal.ofBits .f32 0xF149F2CA#32)

variable {m : (ℓ : Loc nD τ sig) → Buf (Elt Ideal) ℓ} {c : Dev nD}

/-- The head of a grid point. -/
def hd (t : Fin cfg0.N) : Fin 8 := ⟨t.val, t.isLt⟩

theorem host_index : V m c main_v32 = BiasBuildRefIdeal.Read.val_main_v35 (F := Ideal) := by
  simp only [V, hostOps0, hostOps0_1, hostOps0_2, hostOps0_3, hostOps0_4, List.flatten_cons, List.flatten_nil, List.append_nil, List.cons_append, List.nil_append]
  after_results_simp
  rfl

theorem host_table (b : Fin 32) (h : Fin 8) : V m c main_v33 (ix1 ⟨8 * b.val + h.val, by omega⟩ : S256.Idx) = m ((c : Thread nD τ).loc main_arg0) (ix2 b h) := by
  simp only [V, hostOps0, hostOps0_1, hostOps0_2, hostOps0_3, hostOps0_4, List.flatten_cons, List.flatten_nil, List.append_nil, List.cons_append, List.nil_append]
  after_results_simp
  exact shapeCast_apply _ _ _ (ix2 b h) (by show ((⟨2, ![32, 8]⟩ : Shape).rowMajor (ix2 b h)).val = ((⟨1, ![256]⟩ : Shape).rowMajor (ix1 _)).val; rw [Shape.rowMajor_val_two, Shape.rowMajor_val_one]; show b.val * 8 + h.val = 8 * b.val + h.val; omega)

theorem in_index (t : Fin cfg0.N) (r : Fin 128) (k : Fin 384) : iblk m c 0 t (ix2 r k) = bucketOf r k :=
  (congrArg (V m c main_v32) (by blk_ext [idx t] : _ = ix2 r k)).trans (congrFun host_index _)
theorem in_table (t : Fin cfg0.N) (b : Fin 32) (h : Fin 8) : iblk m c 1 t (ix1 ⟨8 * b.val + h.val, by omega⟩ : S256.Idx) = m ((c : Thread nD τ).loc main_arg0) (ix2 b h) :=
  (congrArg (V m c main_v33) (by blk_ext [idx t] : _ = (ix1 ⟨8 * b.val + h.val, by omega⟩ : S256.Idx))).trans (host_table b h)

/-- The ladder of comparisons picks the entry of the index. -/
theorem ladder (x0 : Vec Ideal S128x384 .i32) (a : Fin 32 → EReal) (r : Fin 128) (k : Fin 384) (w : Fin 32) (h : x0 (ix2 r k) = BitVec.ofNat 32 w.val) :
    k0_pay1 (F := Ideal) (k0_pay13 (k0_pay2 x0) (k0_pay10 (k0_pay2 x0) (k0_pay8 (k0_pay2 x0) (k0_pay6 (k0_pay2 x0) (k0_pay3 x0 (a 0) (a 1) (a 2) (a 3) (a 4)) (k0_pay4 x0) (k0_pay5 (a 5)) (a 6) (a 7) (a 8) (a 9) (a 10) (a 11))
      (k0_pay7 (k0_pay2 x0)) (a 12) (a 13) (a 14) (a 15) (a 16) (a 17) (a 18)) k0_pay9 (a 19) (a 20) (a 21) (a 22) (a 23) (a 24)) (k0_pay11 (k0_pay2 x0)) (k0_pay12 (a 25)) (a 26) (a 27) (a 28) (a 29) (a 30) (a 31)) (iota Kind.tc S128x384 32 [0] iota_S128x384_d0_w32) k0_pay14 (ix3 0 r k)
      = Scalar.select (inside r k) (a w) (Ideal.ofBits .f32 0xF149F2CA#32) := by
  pointwise [k0_pay1, k0_pay2, k0_pay3, k0_pay4, k0_pay5, k0_pay6, k0_pay7, k0_pay8, k0_pay9, k0_pay10, k0_pay11, k0_pay12, k0_pay13, k0_pay14]
  rw [h]
  refine congrArg₂ (Scalar.select · · _) rfl ?_
  fin_cases w <;> rfl

/-- An entry the kernel loads from the flat table. -/
theorem loaded (t : Fin cfg0.N) (b : Fin 32) (H) (y) :
    View.ld (iblk m c 1 t) (Rect.unit (s := S256) (k0_off1 (grid0.coords t) (BitVec.ofNat 32 (8 * b.val))) ![1] H) y = m ((c : Thread nD τ).loc main_arg0) (ix2 b (hd t)) := by
  refine (View.ld_unit_apply_of _ _ _ H y (ix1 ⟨8 * b.val + t.val, by have := t.isLt; change t.val < 8 at this; omega⟩ : S256.Idx) fun a => ?_).trans (in_table t b (hd t))
  fin_cases a
  have hy : (y 0).val = 0 := by have := (y 0).isLt; change (y 0).val < 1 at this; omega
  have := t.isLt
  change t.val < 8 at this
  simp only [ix1, k0_off1, head_of, Scalar.addi, Scalar.indexCast]
  show 8 * b.val + t.val = (BitVec.ofNat 32 (8 * b.val) + BitVec.ofNat 32 t.val).toNat + (y 0).val
  rw [hy, BitVec.toNat_add, BitVec.toNat_ofNat, BitVec.toNat_ofNat]
  omega

theorem block (t : Fin cfg0.N) (r : Fin 128) (k : Fin 384) : outsAt0 m c t (ix3 0 r k) = bias (fun b h => m ((c : Thread nD τ).loc main_arg0) (ix2 b h)) (hd t) r k := by
  unfold outsAt0
  frame_out
  refine (ladder (iblk m c 0 t) (fun b => View.ld (iblk m c 1 t) (Rect.unit (k0_off1 (grid0.coords t) (BitVec.ofNat 32 (8 * b.val))) ![1] (k0_off1_inb (grid0.coords t) b)) (Shape.Idx.first Nat.one_pos)) r k ⟨(bucketOf r k).toNat, bucket_lt r k⟩ ((in_index t r k).trans (by simp))).trans ?_
  exact congrArg (Scalar.select _ · _) (loaded t _ _ _)

/-- The kernel's array. -/
theorem out (h : Fin 8) (r : Fin 128) (k : Fin 384) : (dats m 0 c).arrAt 2 cfg0.N (ix3 h r k) = bias (fun b h => m ((c : Thread nD τ).loc main_arg0) (ix2 b h)) h r k := by
  obtain ⟨t, rfl⟩ : ∃ t : Fin cfg0.N, hd t = h := ⟨⟨h.val, h.isLt⟩, rfl⟩
  refine (congrArg ((dats m 0 c).arrAt 2 cfg0.N) (by blk_ext [idx t, hd] : _ = ((cfg0.win 2).blk t).view.emb (ix3 0 r k))).trans ?_
  refine ((dats m 0 c).arrAt_emb_eq_flushed 2 (Pipeline.Window.hdisj_of_index_inj _ (by decide +kernel)) t ((by decide +kernel : ∀ t : Fin cfg0.N, (cfg0.win 2).flush t = true) t) _).trans ?_
  blk_simp
  rw [after0_2]
  exact block t r k

section Reference

open BiasBuildRefIdeal.Read

/-- The reference's gather, read at a pair and a head. -/
theorem gathered (x : (⟨BiasBuildRefIdeal.S32x8, .f32⟩ : BufTy).Contents (Elt Ideal)) (v : IVec BiasBuildRefIdeal.S128x384x1 32) (r : Fin 128) (k : Fin 384) (h : Fin 8) (b : Fin 32) (hb : v (ix3 r k 0) = BitVec.ofNat 32 b.val) :
    Host.gather BiasBuildRefIdeal.gather_S32x8_S128x384x1_S128x384x8_2_0_n_n_0_2_18 x v (ix3 r k h) = x (ix2 b h) := by
  unfold Host.gather
  refine congrArg x (funext fun a => Fin.ext ?_)
  show BiasBuildRefIdeal.gather_S32x8_S128x384x1_S128x384x8_2_0_n_n_0_2_18.start (ix3 r k h) v a + BiasBuildRefIdeal.gather_S32x8_S128x384x1_S128x384x8_2_0_n_n_0_2_18.batchCoord (ix3 r k h) a
      + BiasBuildRefIdeal.gather_S32x8_S128x384x1_S128x384x8_2_0_n_n_0_2_18.offCoord (ix3 r k h) a = _
  rw [GatherDims.batchCoord_eq_zero _ _ _ List.not_mem_nil]
  have hs : BiasBuildRefIdeal.gather_S32x8_S128x384x1_S128x384x8_2_0_n_n_0_2_18.start (ix3 r k h) v 0 = b.val := by
    unfold GatherDims.start
    rw [dif_pos (show (0 : Fin 2) ∈ BiasBuildRefIdeal.gather_S32x8_S128x384x1_S128x384x8_2_0_n_n_0_2_18.startIndexMap from List.mem_singleton.mpr rfl)]
    have e : BiasBuildRefIdeal.gather_S32x8_S128x384x1_S128x384x8_2_0_n_n_0_2_18.siIdx (ix3 r k h) ⟨List.idxOf (0 : Fin 2) [0], List.idxOf_lt_length_iff.2 (List.mem_singleton.mpr rfl)⟩ = ix3 r k 0 := by
      funext a; refine Fin.ext ?_; fin_cases a <;> rfl
    refine (congrArg (fun z : BitVec 32 => min z.toInt.toNat 31) ((congrArg v e).trans hb)).trans ?_
    clear hb e
    fin_cases b <;> rfl
  fin_cases a
  · refine (congrArg (· + 0 + _) hs).trans ?_
    exact congrArg (b.val + 0 + ·) (GatherDims.offCoord_eq_zero _ _ _ (fun h => ((GatherDims.mem_sKept _ _).mp h).1 (List.mem_singleton.mpr rfl)))
  · have h1 : BiasBuildRefIdeal.gather_S32x8_S128x384x1_S128x384x8_2_0_n_n_0_2_18.start (ix3 r k h) v 1 = 0 := by
      unfold GatherDims.start
      rw [dif_neg (by decide)]
    refine (congrArg (· + 0 + _) h1).trans ?_
    unfold GatherDims.offCoord
    rw [dif_pos (by decide)]
    exact Nat.zero_add _

theorem ref_val (x : (⟨BiasBuildRefIdeal.S32x8, .f32⟩ : BufTy).Contents (Elt Ideal)) (h : Fin 8) (r : Fin 128) (k : Fin 384) :
    val_main_v44 (F := Ideal) x (ix3 h r k) = bias (fun b h => x (ix2 b h)) h r k := by
  pointwise [val_main_v44, val_main_v43, val_main_call2_v2, val_main_call2_v1, val_main_call2_v0, val_main_cst_12, val_main_v11, val_main_v10, val_main_v9, val_main_v8, val_main_v7, val_main_v6, val_main_v5, val_main_v4, val_main_v3, val_main_v2, val_main_v1, val_main_v0,
    val_main_c, val_main_c_0]
  refine congrArg (Scalar.select (inside r k) · _) (gathered x _ r k h ⟨(bucketOf r k).toNat, bucket_lt r k⟩ ?_)
  pointwise [val_main_v41, val_main_v40, val_main_v39, val_main_v38, val_main_v37, val_main_v36, val_main_c_10, val_main_c_11]
  show Scalar.select (IntOp.cmpi .slt (bucketOf r k) 0#32) _ (bucketOf r k) = _
  have hb := bucket_lt r k
  have e : (bucketOf r k).slt 0#32 = false := by
    rw [BitVec.slt_eq_decide, BitVec.toInt_eq_toNat_of_lt (by omega : 2 * (bucketOf r k).toNat < 2 ^ 32)]
    exact decide_eq_false (by show ¬((bucketOf r k).toNat : ℤ) < 0; omega)
  have e' : IntOp.cmpi .slt (bucketOf r k) 0#32 = 0#1 := by
    unfold IntOp.cmpi
    simp [e]
  rw [e']
  show bucketOf r k = _
  simp

end Reference

theorem frame_ref : Cert.quiescent_BiasBuildRefIdeal := fun m ρ _ =>
  (θ_run Cert.BiasBuildRefIdeal.defs _ _).mono (fun r h => ⟨fun c => (h c).2, sem_eq_zero_of_no_sems (by decide) r.2⟩)
    (Cert.BiasBuildRefIdeal.Value.run (F := Ideal) m ρ)

set_option maxHeartbeats 2000000 in
/-- The two programs run and end with the same array. -/
theorem algebraic : Cert.algebraic_BiasBuildIdeal_BiasBuildRefIdeal := by
  pair_intro
  · run_from Cert.BiasBuildIdeal.Gen.run_main m g
    exact V_main_arg0 m c
  · run_from Cert.BiasBuildRefIdeal.Value.run m' g'
    refine funext fun y => ?_
    obtain ⟨h, r, k, rfl⟩ : ∃ (h : Fin 8) (r : Fin 128) (k : Fin 384), y = ix3 h r k := ⟨y 0, y 1, y 2, funext fun a => by fin_cases a <;> rfl⟩
    exact ((congrFun (Cert.BiasBuildRefIdeal.Read.val_main_v44_eq m' c) _).trans ((ref_val _ h r k).trans
      (congrArg (fun x : (⟨S32x8, .f32⟩ : BufTy).Contents (Elt Ideal) => bias (fun b h => x (ix2 b h)) h r k) (hagree c)))).trans (out h r k).symm

end Cert.Proof.BiasBuild

end
-- ==== Proof.DownProj.lean ====
module

public import proofs.«01_k».proof.Defs
public import proofs.«01_k».proof.Proof.Gen.DownProjIdeal.Frame
public import proofs.«01_k».proof.Proof.Gen.DownProjRefIdeal.Run
public import proofs.«01_k».proof.Proof.Gen.DownProjRefIdeal.Read
public import Idealize.ShloMosaic.Lib.Pipeline.ValueKit
public import Idealize.ShloMosaic.Lib.Claim

@[expose] public section

set_option maxRecDepth 16384

noncomputable section

/-! A plain product with a sum: the MLP's second product and the residual. -/

namespace Cert.Proof.DownProj

open Cert.DownProjIdeal Cert.DownProjIdeal.Gen Idealize.ShloMosaic Idealize.ShloMosaic.TcCoe Idealize.SL.Sem Cert.DownProjRefIdeal.Read

theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

set_option maxHeartbeats 1000000 in
/-- The written array is the reference's term. -/
theorem out_3 (m : (ℓ : Loc nD τ sig) → Buf (Elt Ideal) ℓ) (c : Dev nD) :
    (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, val_main_v0, val_main_v1, val_main_v2, val_main_v3]
  blk_point [iblk, V, idx t]

theorem frame_ref : Cert.quiescent_DownProjRefIdeal := fun m ρ _ =>
  (θ_run Cert.DownProjRefIdeal.defs _ _).mono (fun r h => ⟨fun c => (h c).2, sem_eq_zero_of_no_sems (by decide) r.2⟩)
    (Cert.DownProjRefIdeal.Value.run (F := Ideal) m ρ)

/-- The two programs run and end with the same array. -/
theorem algebraic : Cert.algebraic_DownProjIdeal_DownProjRefIdeal := by
  pair_intro
  · run_from Cert.DownProjIdeal.Gen.run_main m g
  · run_from Cert.DownProjRefIdeal.Value.run m' g'
    exact (out_3 m c).symm

end Cert.Proof.DownProj

end
-- ==== Proof.DMlpIn.lean ====
module

public import proofs.«01_k».proof.Defs
public import proofs.«01_k».proof.Proof.Gen.DMlpInIdeal.Frame
public import proofs.«01_k».proof.Proof.Gen.DMlpInRefIdeal.Run
public import proofs.«01_k».proof.Proof.Gen.DMlpInRefIdeal.Read
public import Idealize.ShloMosaic.Lib.Pipeline.ValueKit
public import Idealize.ShloMosaic.Lib.Claim

@[expose] public section

set_option maxRecDepth 16384

noncomputable section

/-! A plain product with a transposed factor: the gradient of the MLP's input. -/

namespace Cert.Proof.DMlpIn

open Cert.DMlpInIdeal Cert.DMlpInIdeal.Gen Idealize.ShloMosaic Idealize.ShloMosaic.TcCoe Idealize.SL.Sem Cert.DMlpInRefIdeal.Read

theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

set_option maxHeartbeats 1000000 in
/-- The written array is the reference's term. -/
theorem out_2 (m : (ℓ : Loc nD τ sig) → Buf (Elt Ideal) ℓ) (c : Dev nD) :
    (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, val_main_cst, val_main_v0, val_main_v1, val_main_v2, val_main_v3, val_main_v4, val_main_v5]
  blk_point [iblk, V, idx t]

theorem frame_ref : Cert.quiescent_DMlpInRefIdeal := fun m ρ _ =>
  (θ_run Cert.DMlpInRefIdeal.defs _ _).mono (fun r h => ⟨fun c => (h c).2, sem_eq_zero_of_no_sems (by decide) r.2⟩)
    (Cert.DMlpInRefIdeal.Value.run (F := Ideal) m ρ)

/-- The two programs run and end with the same array. -/
theorem algebraic : Cert.algebraic_DMlpInIdeal_DMlpInRefIdeal := by
  pair_intro
  · run_from Cert.DMlpInIdeal.Gen.run_main m g
  · run_from Cert.DMlpInRefIdeal.Value.run m' g'
    exact (out_2 m c).symm

end Cert.Proof.DMlpIn

end
-- ==== Proof.GradUp.lean ====
module

public import proofs.«01_k».proof.Defs
public import proofs.«01_k».proof.Proof.Gen.GradUpIdeal.Frame
public import proofs.«01_k».proof.Proof.Gen.GradUpRefIdeal.Run
public import proofs.«01_k».proof.Proof.Gen.GradUpRefIdeal.Read
public import Idealize.ShloMosaic.Lib.Pipeline.ValueKit
public import Idealize.ShloMosaic.Lib.Claim

@[expose] public section

set_option maxRecDepth 16384

noncomputable section

/-! A plain product over the tokens: the gradient of the MLP's first weights. -/

namespace Cert.Proof.GradUp

open Cert.GradUpIdeal Cert.GradUpIdeal.Gen Idealize.ShloMosaic Idealize.ShloMosaic.TcCoe Idealize.SL.Sem Cert.GradUpRefIdeal.Read

theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

set_option maxHeartbeats 1000000 in
/-- The written array is the reference's term. -/
theorem out_2 (m : (ℓ : Loc nD τ sig) → Buf (Elt Ideal) ℓ) (c : Dev nD) :
    (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, val_main_cst, val_main_v0, val_main_v1, val_main_v2, val_main_v3, val_main_v4, val_main_v5, val_main_v6]
  refine Finset.sum_congr (M := EReal) rfl fun k _ => (mul_comm (G := EReal) _ _).trans ?_
  blk_point [iblk, V, idx t]

theorem frame_ref : Cert.quiescent_GradUpRefIdeal := fun m ρ _ =>
  (θ_run Cert.GradUpRefIdeal.defs _ _).mono (fun r h => ⟨fun c => (h c).2, sem_eq_zero_of_no_sems (by decide) r.2⟩)
    (Cert.GradUpRefIdeal.Value.run (F := Ideal) m ρ)

/-- The two programs run and end with the same array. -/
theorem algebraic : Cert.algebraic_GradUpIdeal_GradUpRefIdeal := by
  pair_intro
  · run_from Cert.GradUpIdeal.Gen.run_main m g
  · run_from Cert.GradUpRefIdeal.Value.run m' g'
    exact (out_2 m c).symm

end Cert.Proof.GradUp

end
-- ==== Proof.AdamSmall.Pack.lean ====
module

public import proofs.«01_k».proof.Defs
public import proofs.«01_k».proof.Proof.Gen.AdamSmallIdeal.Frame
public import Idealize.ShloMosaic.Lib.Pipeline.ValueKit
public import Idealize.ShloMosaic.Lib.StableHlo.RunClose
public import Idealize.ShloMosaic.Lib.Claim

@[expose] public section

set_option maxRecDepth 16384

noncomputable section

/-! The optimiser on one entry, and the row which holds the nine small arrays. -/

namespace Cert.Proof.AdamSmall

open Cert.AdamSmallIdeal Cert.AdamSmallIdeal.Gen Idealize.ShloMosaic Idealize.ShloMosaic.TcCoe Idealize.SL.Sem

/-- The new mean of an entry. -/
def mean (g m : Ideal .f32) : Ideal .f32 :=
  FloatOps.addf (FloatOps.mulf (FloatOps.ofBits .f32 0x3F666666#32) m) (FloatOps.mulf (FloatOps.ofBits .f32 0x3DCCCCCD#32) g)
/-- The new mean square of an entry. -/
def square (g v : Ideal .f32) : Ideal .f32 :=
  FloatOps.addf (FloatOps.mulf (FloatOps.ofBits .f32 0x3F7FBE77#32) v) (FloatOps.mulf (FloatOps.ofBits .f32 0x3A83126F#32) (FloatOps.mulf g g))
/-- The change of an entry. -/
def change (w g m v : Ideal .f32) : Ideal .f32 :=
  FloatOps.mulf (FloatOps.ofBits .f32 0xBA83126F#32) (FloatOps.addf
    (FloatOps.divf (FloatOps.divf (mean g m) (FloatOps.ofBits .f32 0x3F26BD02#32))
      (FloatOps.addf (FloatOps.sqrt (FloatOps.divf (square g v) (FloatOps.ofBits .f32 0x3C231ACC#32))) (FloatOps.ofBits .f32 0x322BCC77#32)))
    (FloatOps.mulf (FloatOps.ofBits .f32 0x3C23D70A#32) w))

/-- A row made of pieces, read inside one of them. -/
theorem piece {n : Nat} (xs : List ((s : Shape) × (s.Idx → Ideal .f32))) (h : Shape.Concatenates (xs.map (·.1)) S1x11776 1) (q : Nat) (hq : q < xs.length)
    (x : (⟨2, ![1, n]⟩ : Shape).Idx → Ideal .f32) (hx : xs[q] = ⟨⟨2, ![1, n]⟩, x⟩) (pre : Nat)
    (hpre : (((xs.take q).map (·.1)).map fun s => if h : s.rank = S1x11776.rank then s.size ((1 : Fin S1x11776.rank).cast h.symm) else 0).sum = pre)
    (k : Fin n) (hk : pre + k.val < 11776) : concatenate S1x11776 1 xs h (ix2 0 ⟨pre + k.val, hk⟩) = x (ix2 0 k) := by
  refine concatenate_apply_piece (t := S1x11776) 1 xs h _ q hq _ x hx rfl pre hpre (ix2 0 k) ?_ rfl
  intro b hb
  fin_cases b
  · rfl
  · exact absurd rfl hb

section
variable (x0 : (⟨S1x2048, .f32⟩ : BufTy).Contents (Elt Ideal)) (x1 x2 : (⟨S1x128, .f32⟩ : BufTy).Contents (Elt Ideal)) (x3 : (⟨S1x8, .f32⟩ : BufTy).Contents (Elt Ideal))
  (x4 x5 x6 : (⟨S1x2048, .f32⟩ : BufTy).Contents (Elt Ideal)) (x7 : (⟨S32x8, .f32⟩ : BufTy).Contents (Elt Ideal)) (x8 : (⟨S2048, .f32⟩ : BufTy).Contents (Elt Ideal))

/-- The nine arrays in one row. -/
def pack : (⟨S1x11776, .f32⟩ : BufTy).Contents (Elt Ideal) :=
  concatenate S1x11776 1 [⟨S1x2048, x0⟩, ⟨S1x2048, x4⟩, ⟨S1x2048, x5⟩, ⟨S1x2048, x6⟩, ⟨S1x2048, shapeCast S1x2048 x8 shapeCasts_S2048_S1x2048⟩, ⟨S1x128, x1⟩, ⟨S1x128, x2⟩,
    ⟨S1x1024, shapeCast S1x1024 (pad S8x128 ![0, 0] ![0, 96] ![0, 0] (transpose S8x32 [1, 0] x7 transposes_S32x8_S8x32_1_0) (sitofp (F := Ideal) .f32 (constantI S_ 32 0#32))
      pads_S8x32_S8x128_000_0960 h_S_) shapeCasts_S8x128_S1x1024⟩,
    ⟨S1x128, pad S1x128 ![0, 0] ![0, 120] ![0, 0] x3 (sitofp (F := Ideal) .f32 (constantI S_ 32 0#32)) pads_S1x8_S1x128_000_01200 h_S_⟩,
    ⟨S1x128, broadcastInDim S1x128 ![] bcast_S_S1x128 (constant (F := Ideal) S_ .f32 0x00000000#32)⟩]
    concatenates_S1x2048_S1x2048_S1x2048_S1x2048_S1x2048_S1x128_S1x128_S1x1024_S1x128_S1x128_S1x11776_d1

theorem pack_0 (k : Fin 2048) : pack x0 x1 x2 x3 x4 x5 x6 x7 x8 (ix2 0 ⟨k.val, by omega⟩) = x0 (ix2 0 k) := by
  unfold pack
  pointwise
theorem pack_4 (k : Fin 2048) : pack x0 x1 x2 x3 x4 x5 x6 x7 x8 (ix2 0 ⟨2048 + k.val, by omega⟩) = x4 (ix2 0 k) := by
  unfold pack
  refine (piece _ _ 1 ?_ x4 ?_ 2048 ?_ ⟨k.val, by omega⟩ _).trans ?_
  · exact (by decide : 1 < 10)
  · rfl
  · rfl
  · pointwise
theorem pack_5 (k : Fin 2048) : pack x0 x1 x2 x3 x4 x5 x6 x7 x8 (ix2 0 ⟨4096 + k.val, by omega⟩) = x5 (ix2 0 k) := by
  unfold pack
  refine (piece _ _ 2 ?_ x5 ?_ 4096 ?_ ⟨k.val, by omega⟩ _).trans ?_
  · exact (by decide : 2 < 10)
  · rfl
  · rfl
  · pointwise
theorem pack_6 (k : Fin 2048) : pack x0 x1 x2 x3 x4 x5 x6 x7 x8 (ix2 0 ⟨6144 + k.val, by omega⟩) = x6 (ix2 0 k) := by
  unfold pack
  refine (piece _ _ 3 ?_ x6 ?_ 6144 ?_ ⟨k.val, by omega⟩ _).trans ?_
  · exact (by decide : 3 < 10)
  · rfl
  · rfl
  · pointwise
theorem pack_8 (k : Fin 2048) : pack x0 x1 x2 x3 x4 x5 x6 x7 x8 (ix2 0 ⟨8192 + k.val, by omega⟩) = x8 (ix1 k) := by
  unfold pack
  refine (piece _ _ 4 ?_ (shapeCast S1x2048 x8 shapeCasts_S2048_S1x2048) ?_ 8192 ?_ ⟨k.val, by omega⟩ _).trans ?_
  · exact (by decide : 4 < 10)
  · rfl
  · rfl
  · pointwise
theorem pack_1 (k : Fin 128) : pack x0 x1 x2 x3 x4 x5 x6 x7 x8 (ix2 0 ⟨10240 + k.val, by omega⟩) = x1 (ix2 0 k) := by
  unfold pack
  refine (piece _ _ 5 ?_ x1 ?_ 10240 ?_ ⟨k.val, by omega⟩ _).trans ?_
  · exact (by decide : 5 < 10)
  · rfl
  · rfl
  · pointwise
theorem pack_2 (k : Fin 128) : pack x0 x1 x2 x3 x4 x5 x6 x7 x8 (ix2 0 ⟨10368 + k.val, by omega⟩) = x2 (ix2 0 k) := by
  unfold pack
  refine (piece _ _ 6 ?_ x2 ?_ 10368 ?_ ⟨k.val, by omega⟩ _).trans ?_
  · exact (by decide : 6 < 10)
  · rfl
  · rfl
  · pointwise
theorem pack_7 (b : Fin 32) (h : Fin 8) : pack x0 x1 x2 x3 x4 x5 x6 x7 x8 (ix2 0 ⟨10496 + (h.val * 128 + b.val), by omega⟩) = x7 (ix2 b h) := by
  unfold pack
  refine (piece _ _ 7 ?_ (shapeCast S1x1024 (pad S8x128 ![0, 0] ![0, 96] ![0, 0] (transpose S8x32 [1, 0] x7 transposes_S32x8_S8x32_1_0) (sitofp (F := Ideal) .f32 (constantI S_ 32 0#32))
      pads_S8x32_S8x128_000_0960 h_S_) shapeCasts_S8x128_S1x1024) ?_ 10496 ?_ ⟨(h.val * 128 + b.val), by omega⟩ _).trans ?_
  · exact (by decide : 7 < 10)
  · rfl
  · rfl
  · pointwise
    exact (dif_pos (by omega)).trans (congrArg (fun r => x7 (ix2 r h)) (Fin.ext (by show (h.val * 128 + b.val) % 128 = b.val; omega)))
theorem pack_3 (k : Fin 8) : pack x0 x1 x2 x3 x4 x5 x6 x7 x8 (ix2 0 ⟨11520 + k.val, by omega⟩) = x3 (ix2 0 k) := by
  unfold pack
  refine (piece _ _ 8 ?_ (pad S1x128 ![0, 0] ![0, 120] ![0, 0] x3 (sitofp (F := Ideal) .f32 (constantI S_ 32 0#32)) pads_S1x8_S1x128_000_01200 h_S_) ?_ 11520 ?_ ⟨k.val, by omega⟩ _).trans ?_
  · exact (by decide : 8 < 10)
  · rfl
  · rfl
  · pointwise
end

section
variable (m : (ℓ : Loc nD τ sig) → Buf (Elt Ideal) ℓ) (c : Dev nD)

/-- The packed row of the weights. -/
abbrev row_w : (⟨S1x11776, .f32⟩ : BufTy).Contents (Elt Ideal) := pack (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
/-- The packed row of the gradients. -/
abbrev row_g : (⟨S1x11776, .f32⟩ : BufTy).Contents (Elt Ideal) := pack (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17))
/-- The packed row of the means. -/
abbrev row_m : (⟨S1x11776, .f32⟩ : BufTy).Contents (Elt Ideal) := pack (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26))
/-- The packed row of the mean squares. -/
abbrev row_v : (⟨S1x11776, .f32⟩ : BufTy).Contents (Elt Ideal) := pack (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35))
set_option maxHeartbeats 2000000 in
theorem host_w : V m c main_v6 = row_w m c := by
  simp only [V, V0, hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, List.flatten_cons, List.flatten_nil, List.append_nil, List.cons_append, List.nil_append]
  after_results_entrywise (rounds := 1) []
set_option maxHeartbeats 2000000 in
theorem host_g : V m c main_v13 = row_g m c := by
  simp only [V, V0, hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, List.flatten_cons, List.flatten_nil, List.append_nil, List.cons_append, List.nil_append]
  after_results_entrywise (rounds := 1) []
set_option maxHeartbeats 2000000 in
theorem host_m : V m c main_v20 = row_m m c := by
  simp only [V, V0, hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, List.flatten_cons, List.flatten_nil, List.append_nil, List.cons_append, List.nil_append]
  after_results_entrywise (rounds := 1) []
set_option maxHeartbeats 2000000 in
theorem host_v : V m c main_v27 = row_v m c := by
  simp only [V, V0, hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, List.flatten_cons, List.flatten_nil, List.append_nil, List.cons_append, List.nil_append]
  after_results_entrywise (rounds := 1) []

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

set_option maxHeartbeats 2000000 in
theorem out_4 : (dats m 0 c).arrAt 4 cfg0.N = fun i => change (row_w m c i) (row_g m c i) (row_m m c i) (row_v m c i) := by
  rw [← host_w, ← host_g, ← host_m, ← host_v]
  refine (dats m 0 c).arrAt_eq_of_covers 4 _ (by decide +kernel) fun t hf y => ?_
  blk_simp
  rw [after0_4]
  unfold out0_4
  frame_out
  pointwise [k0_pay1, k0_pay2, k0_pay3, k0_pay4, change, mean, square]
  blk_point [iblk, idx t]
set_option maxHeartbeats 2000000 in
theorem out_5 : (dats m 0 c).arrAt 5 cfg0.N = fun i => mean (row_g m c i) (row_m m c i) := by
  rw [← host_g, ← host_m]
  refine (dats m 0 c).arrAt_eq_of_covers 5 _ (by decide +kernel) fun t hf y => ?_
  blk_simp
  rw [after0_5]
  unfold out0_5
  frame_out
  pointwise [k0_pay1, k0_pay2, k0_pay3, k0_pay4, mean]
  blk_point [iblk, idx t]
set_option maxHeartbeats 2000000 in
theorem out_6 : (dats m 0 c).arrAt 6 cfg0.N = fun i => square (row_g m c i) (row_v m c i) := by
  rw [← host_g, ← host_v]
  refine (dats m 0 c).arrAt_eq_of_covers 6 _ (by decide +kernel) fun t hf y => ?_
  blk_simp
  rw [after0_6]
  unfold out0_6
  frame_out
  pointwise [k0_pay1, k0_pay2, k0_pay3, k0_pay4, square]
  blk_point [iblk, idx t]

end

end Cert.Proof.AdamSmall

end
-- ==== Proof.AdamSmall.Tail.lean ====
module

public import proofs.«01_k».proof.Proof.AdamSmall.Pack

@[expose] public section

set_option maxRecDepth 16384

noncomputable section

/-! What the program returns: the pieces of the three rows. -/

namespace Cert.Proof.AdamSmall

open Cert.AdamSmallIdeal Cert.AdamSmallIdeal.Gen Idealize.ShloMosaic Idealize.ShloMosaic.TcCoe Idealize.SL.Sem

variable (m : (ℓ : Loc nD τ sig) → Buf (Elt Ideal) ℓ) (c : Dev nD)

theorem arr_4 : (Pipeline.withArrays (cfgs 0).spec c (V0 m c) (fun w => (dats m 0 c).arrAt w (cfgs 0).N) (Proc.tc.devRef main_v28_0) : (⟨S1x11776, .f32⟩ : BufTy).Contents (Elt Ideal))
    = fun i => change (row_w m c i) (row_g m c i) (row_m m c i) (row_v m c i) := (Pipeline.withArrays_arr (cfgs 0).spec (by decide) c (V0 m c) _ 4).trans (out_4 m c)
theorem arr_5 : (Pipeline.withArrays (cfgs 0).spec c (V0 m c) (fun w => (dats m 0 c).arrAt w (cfgs 0).N) (Proc.tc.devRef main_v28_1) : (⟨S1x11776, .f32⟩ : BufTy).Contents (Elt Ideal))
    = fun i => mean (row_g m c i) (row_m m c i) := (Pipeline.withArrays_arr (cfgs 0).spec (by decide) c (V0 m c) _ 5).trans (out_5 m c)
theorem arr_6 : (Pipeline.withArrays (cfgs 0).spec c (V0 m c) (fun w => (dats m 0 c).arrAt w (cfgs 0).N) (Proc.tc.devRef main_v28_2) : (⟨S1x11776, .f32⟩ : BufTy).Contents (Elt Ideal))
    = fun i => square (row_g m c i) (row_v m c i) := (Pipeline.withArrays_arr (cfgs 0).spec (by decide) c (V0 m c) _ 6).trans (out_6 m c)

theorem change_congr {w w' g g' m m' v v' : Ideal .f32} (hw : w = w') (hg : g = g') (hm : m = m') (hv : v = v') : change w g m v = change w' g' m' v' := by rw [hw, hg, hm, hv]
theorem mean_congr {g g' m m' : Ideal .f32} (hg : g = g') (hm : m = m') : mean g m = mean g' m' := by rw [hg, hm]
theorem square_congr {g g' v v' : Ideal .f32} (hg : g = g') (hv : v = v') : square g v = square g' v' := by rw [hg, hv]

section
variable (P : (⟨S1x11776, .f32⟩ : BufTy).Contents (Elt Ideal))

theorem unpack_0 (k : Fin 2048) : (extractStridedSlice S1x2048 ![0, 0] P slices_S1x11776_S1x2048_0_0) (ix2 0 k) = P (ix2 0 ⟨k.val, by omega⟩) := by pointwise
theorem unpack_1 (k : Fin 128) : (extractStridedSlice S1x128 ![0, 10240] P slices_S1x11776_S1x128_0_10240) (ix2 0 k) = P (ix2 0 ⟨10240 + k.val, by omega⟩) := by pointwise
theorem unpack_2 (k : Fin 128) : (extractStridedSlice S1x128 ![0, 10368] P slices_S1x11776_S1x128_0_10368) (ix2 0 k) = P (ix2 0 ⟨10368 + k.val, by omega⟩) := by pointwise
theorem unpack_3 (k : Fin 8) : (extractStridedSlice S1x8 ![0, 11520] P slices_S1x11776_S1x8_0_11520) (ix2 0 k) = P (ix2 0 ⟨11520 + k.val, by omega⟩) := by pointwise
theorem unpack_4 (k : Fin 2048) : (extractStridedSlice S1x2048 ![0, 2048] P slices_S1x11776_S1x2048_0_2048) (ix2 0 k) = P (ix2 0 ⟨2048 + k.val, by omega⟩) := by pointwise
theorem unpack_5 (k : Fin 2048) : (extractStridedSlice S1x2048 ![0, 4096] P slices_S1x11776_S1x2048_0_4096) (ix2 0 k) = P (ix2 0 ⟨4096 + k.val, by omega⟩) := by pointwise
theorem unpack_6 (k : Fin 2048) : (extractStridedSlice S1x2048 ![0, 6144] P slices_S1x11776_S1x2048_0_6144) (ix2 0 k) = P (ix2 0 ⟨6144 + k.val, by omega⟩) := by pointwise
theorem unpack_7 (b : Fin 32) (h : Fin 8) : transpose S32x8 [1, 0] (extractStridedSlice S8x32 ![0, 0] (shapeCast S8x128 (extractStridedSlice S1x1024 ![0, 10496] P slices_S1x11776_S1x1024_0_10496) shapeCasts_S1x1024_S8x128) slices_S8x128_S8x32_0_0)
      transposes_S8x32_S32x8_1_0 (ix2 b h) = P (ix2 0 ⟨10496 + (h.val * 128 + b.val), by omega⟩) := by pointwise
theorem unpack_8 (k : Fin 2048) : shapeCast S2048 (extractStridedSlice S1x2048 ![0, 8192] P slices_S1x11776_S1x2048_0_8192) shapeCasts_S1x2048_S2048 (ix1 k) = P (ix2 0 ⟨8192 + k.val, by omega⟩) := by pointwise
end

set_option maxHeartbeats 2000000 in
theorem tail_0 (k : Fin 2048) :
    Pipeline.afterTail₀ cfgs (dats m) 0 (V0 m) [hostOps1] c main_v29 (ix2 0 k) = change (m (c.tc.loc main_arg0) (ix2 0 k)) (m (c.tc.loc main_arg9) (ix2 0 k)) (m (c.tc.loc main_arg18) (ix2 0 k)) (m (c.tc.loc main_arg27) (ix2 0 k))
    ∧ Pipeline.afterTail₀ cfgs (dats m) 0 (V0 m) [hostOps1] c main_v44 (ix2 0 k) = mean (m (c.tc.loc main_arg9) (ix2 0 k)) (m (c.tc.loc main_arg18) (ix2 0 k))
    ∧ Pipeline.afterTail₀ cfgs (dats m) 0 (V0 m) [hostOps1] c main_v59 (ix2 0 k) = square (m (c.tc.loc main_arg9) (ix2 0 k)) (m (c.tc.loc main_arg27) (ix2 0 k)) := by
  refine ⟨?_, ?_, ?_⟩ <;> (show StableHlo.after hostOps1 _ _ _ = _; after_results_simp)
  · exact (unpack_0 _ k).trans ((congrFun (arr_4 m c) _).trans (change_congr (pack_0 ..) (pack_0 ..) (pack_0 ..) (pack_0 ..)))
  · exact (unpack_0 _ k).trans ((congrFun (arr_5 m c) _).trans (mean_congr (pack_0 ..) (pack_0 ..)))
  · exact (unpack_0 _ k).trans ((congrFun (arr_6 m c) _).trans (square_congr (pack_0 ..) (pack_0 ..)))

set_option maxHeartbeats 2000000 in
theorem tail_1 (k : Fin 128) :
    Pipeline.afterTail₀ cfgs (dats m) 0 (V0 m) [hostOps1] c main_v35 (ix2 0 k) = change (m (c.tc.loc main_arg1) (ix2 0 k)) (m (c.tc.loc main_arg10) (ix2 0 k)) (m (c.tc.loc main_arg19) (ix2 0 k)) (m (c.tc.loc main_arg28) (ix2 0 k))
    ∧ Pipeline.afterTail₀ cfgs (dats m) 0 (V0 m) [hostOps1] c main_v50 (ix2 0 k) = mean (m (c.tc.loc main_arg10) (ix2 0 k)) (m (c.tc.loc main_arg19) (ix2 0 k))
    ∧ Pipeline.afterTail₀ cfgs (dats m) 0 (V0 m) [hostOps1] c main_v65 (ix2 0 k) = square (m (c.tc.loc main_arg10) (ix2 0 k)) (m (c.tc.loc main_arg28) (ix2 0 k)) := by
  refine ⟨?_, ?_, ?_⟩ <;> (show StableHlo.after hostOps1 _ _ _ = _; after_results_simp)
  · exact (unpack_1 _ k).trans ((congrFun (arr_4 m c) _).trans (change_congr (pack_1 ..) (pack_1 ..) (pack_1 ..) (pack_1 ..)))
  · exact (unpack_1 _ k).trans ((congrFun (arr_5 m c) _).trans (mean_congr (pack_1 ..) (pack_1 ..)))
  · exact (unpack_1 _ k).trans ((congrFun (arr_6 m c) _).trans (square_congr (pack_1 ..) (pack_1 ..)))

set_option maxHeartbeats 2000000 in
theorem tail_2 (k : Fin 128) :
    Pipeline.afterTail₀ cfgs (dats m) 0 (V0 m) [hostOps1] c main_v36 (ix2 0 k) = change (m (c.tc.loc main_arg2) (ix2 0 k)) (m (c.tc.loc main_arg11) (ix2 0 k)) (m (c.tc.loc main_arg20) (ix2 0 k)) (m (c.tc.loc main_arg29) (ix2 0 k))
    ∧ Pipeline.afterTail₀ cfgs (dats m) 0 (V0 m) [hostOps1] c main_v51 (ix2 0 k) = mean (m (c.tc.loc main_arg11) (ix2 0 k)) (m (c.tc.loc main_arg20) (ix2 0 k))
    ∧ Pipeline.afterTail₀ cfgs (dats m) 0 (V0 m) [hostOps1] c main_v66 (ix2 0 k) = square (m (c.tc.loc main_arg11) (ix2 0 k)) (m (c.tc.loc main_arg29) (ix2 0 k)) := by
  refine ⟨?_, ?_, ?_⟩ <;> (show StableHlo.after hostOps1 _ _ _ = _; after_results_simp)
  · exact (unpack_2 _ k).trans ((congrFun (arr_4 m c) _).trans (change_congr (pack_2 ..) (pack_2 ..) (pack_2 ..) (pack_2 ..)))
  · exact (unpack_2 _ k).trans ((congrFun (arr_5 m c) _).trans (mean_congr (pack_2 ..) (pack_2 ..)))
  · exact (unpack_2 _ k).trans ((congrFun (arr_6 m c) _).trans (square_congr (pack_2 ..) (pack_2 ..)))

set_option maxHeartbeats 2000000 in
theorem tail_3 (k : Fin 8) :
    Pipeline.afterTail₀ cfgs (dats m) 0 (V0 m) [hostOps1] c main_v41 (ix2 0 k) = change (m (c.tc.loc main_arg3) (ix2 0 k)) (m (c.tc.loc main_arg12) (ix2 0 k)) (m (c.tc.loc main_arg21) (ix2 0 k)) (m (c.tc.loc main_arg30) (ix2 0 k))
    ∧ Pipeline.afterTail₀ cfgs (dats m) 0 (V0 m) [hostOps1] c main_v56 (ix2 0 k) = mean (m (c.tc.loc main_arg12) (ix2 0 k)) (m (c.tc.loc main_arg21) (ix2 0 k))
    ∧ Pipeline.afterTail₀ cfgs (dats m) 0 (V0 m) [hostOps1] c main_v71 (ix2 0 k) = square (m (c.tc.loc main_arg12) (ix2 0 k)) (m (c.tc.loc main_arg30) (ix2 0 k)) := by
  refine ⟨?_, ?_, ?_⟩ <;> (show StableHlo.after hostOps1 _ _ _ = _; after_results_simp)
  · exact (unpack_3 _ k).trans ((congrFun (arr_4 m c) _).trans (change_congr (pack_3 ..) (pack_3 ..) (pack_3 ..) (pack_3 ..)))
  · exact (unpack_3 _ k).trans ((congrFun (arr_5 m c) _).trans (mean_congr (pack_3 ..) (pack_3 ..)))
  · exact (unpack_3 _ k).trans ((congrFun (arr_6 m c) _).trans (square_congr (pack_3 ..) (pack_3 ..)))

set_option maxHeartbeats 2000000 in
theorem tail_4 (k : Fin 2048) :
    Pipeline.afterTail₀ cfgs (dats m) 0 (V0 m) [hostOps1] c main_v30 (ix2 0 k) = change (m (c.tc.loc main_arg4) (ix2 0 k)) (m (c.tc.loc main_arg13) (ix2 0 k)) (m (c.tc.loc main_arg22) (ix2 0 k)) (m (c.tc.loc main_arg31) (ix2 0 k))
    ∧ Pipeline.afterTail₀ cfgs (dats m) 0 (V0 m) [hostOps1] c main_v45 (ix2 0 k) = mean (m (c.tc.loc main_arg13) (ix2 0 k)) (m (c.tc.loc main_arg22) (ix2 0 k))
    ∧ Pipeline.afterTail₀ cfgs (dats m) 0 (V0 m) [hostOps1] c main_v60 (ix2 0 k) = square (m (c.tc.loc main_arg13) (ix2 0 k)) (m (c.tc.loc main_arg31) (ix2 0 k)) := by
  refine ⟨?_, ?_, ?_⟩ <;> (show StableHlo.after hostOps1 _ _ _ = _; after_results_simp)
  · exact (unpack_4 _ k).trans ((congrFun (arr_4 m c) _).trans (change_congr (pack_4 ..) (pack_4 ..) (pack_4 ..) (pack_4 ..)))
  · exact (unpack_4 _ k).trans ((congrFun (arr_5 m c) _).trans (mean_congr (pack_4 ..) (pack_4 ..)))
  · exact (unpack_4 _ k).trans ((congrFun (arr_6 m c) _).trans (square_congr (pack_4 ..) (pack_4 ..)))

set_option maxHeartbeats 2000000 in
theorem tail_5 (k : Fin 2048) :
    Pipeline.afterTail₀ cfgs (dats m) 0 (V0 m) [hostOps1] c main_v31 (ix2 0 k) = change (m (c.tc.loc main_arg5) (ix2 0 k)) (m (c.tc.loc main_arg14) (ix2 0 k)) (m (c.tc.loc main_arg23) (ix2 0 k)) (m (c.tc.loc main_arg32) (ix2 0 k))
    ∧ Pipeline.afterTail₀ cfgs (dats m) 0 (V0 m) [hostOps1] c main_v46 (ix2 0 k) = mean (m (c.tc.loc main_arg14) (ix2 0 k)) (m (c.tc.loc main_arg23) (ix2 0 k))
    ∧ Pipeline.afterTail₀ cfgs (dats m) 0 (V0 m) [hostOps1] c main_v61 (ix2 0 k) = square (m (c.tc.loc main_arg14) (ix2 0 k)) (m (c.tc.loc main_arg32) (ix2 0 k)) := by
  refine ⟨?_, ?_, ?_⟩ <;> (show StableHlo.after hostOps1 _ _ _ = _; after_results_simp)
  · exact (unpack_5 _ k).trans ((congrFun (arr_4 m c) _).trans (change_congr (pack_5 ..) (pack_5 ..) (pack_5 ..) (pack_5 ..)))
  · exact (unpack_5 _ k).trans ((congrFun (arr_5 m c) _).trans (mean_congr (pack_5 ..) (pack_5 ..)))
  · exact (unpack_5 _ k).trans ((congrFun (arr_6 m c) _).trans (square_congr (pack_5 ..) (pack_5 ..)))

set_option maxHeartbeats 2000000 in
theorem tail_6 (k : Fin 2048) :
    Pipeline.afterTail₀ cfgs (dats m) 0 (V0 m) [hostOps1] c main_v32 (ix2 0 k) = change (m (c.tc.loc main_arg6) (ix2 0 k)) (m (c.tc.loc main_arg15) (ix2 0 k)) (m (c.tc.loc main_arg24) (ix2 0 k)) (m (c.tc.loc main_arg33) (ix2 0 k))
    ∧ Pipeline.afterTail₀ cfgs (dats m) 0 (V0 m) [hostOps1] c main_v47 (ix2 0 k) = mean (m (c.tc.loc main_arg15) (ix2 0 k)) (m (c.tc.loc main_arg24) (ix2 0 k))
    ∧ Pipeline.afterTail₀ cfgs (dats m) 0 (V0 m) [hostOps1] c main_v62 (ix2 0 k) = square (m (c.tc.loc main_arg15) (ix2 0 k)) (m (c.tc.loc main_arg33) (ix2 0 k)) := by
  refine ⟨?_, ?_, ?_⟩ <;> (show StableHlo.after hostOps1 _ _ _ = _; after_results_simp)
  · exact (unpack_6 _ k).trans ((congrFun (arr_4 m c) _).trans (change_congr (pack_6 ..) (pack_6 ..) (pack_6 ..) (pack_6 ..)))
  · exact (unpack_6 _ k).trans ((congrFun (arr_5 m c) _).trans (mean_congr (pack_6 ..) (pack_6 ..)))
  · exact (unpack_6 _ k).trans ((congrFun (arr_6 m c) _).trans (square_congr (pack_6 ..) (pack_6 ..)))

set_option maxHeartbeats 2000000 in
theorem tail_7 (b : Fin 32) (h : Fin 8) :
    Pipeline.afterTail₀ cfgs (dats m) 0 (V0 m) [hostOps1] c main_v40 (ix2 b h) = change (m (c.tc.loc main_arg7) (ix2 b h)) (m (c.tc.loc main_arg16) (ix2 b h)) (m (c.tc.loc main_arg25) (ix2 b h)) (m (c.tc.loc main_arg34) (ix2 b h))
    ∧ Pipeline.afterTail₀ cfgs (dats m) 0 (V0 m) [hostOps1] c main_v55 (ix2 b h) = mean (m (c.tc.loc main_arg16) (ix2 b h)) (m (c.tc.loc main_arg25) (ix2 b h))
    ∧ Pipeline.afterTail₀ cfgs (dats m) 0 (V0 m) [hostOps1] c main_v70 (ix2 b h) = square (m (c.tc.loc main_arg16) (ix2 b h)) (m (c.tc.loc main_arg34) (ix2 b h)) := by
  refine ⟨?_, ?_, ?_⟩ <;> (show StableHlo.after hostOps1 _ _ _ = _; after_results_simp)
  · exact (unpack_7 _ b h).trans ((congrFun (arr_4 m c) _).trans (change_congr (pack_7 ..) (pack_7 ..) (pack_7 ..) (pack_7 ..)))
  · exact (unpack_7 _ b h).trans ((congrFun (arr_5 m c) _).trans (mean_congr (pack_7 ..) (pack_7 ..)))
  · exact (unpack_7 _ b h).trans ((congrFun (arr_6 m c) _).trans (square_congr (pack_7 ..) (pack_7 ..)))

set_option maxHeartbeats 2000000 in
theorem tail_8 (k : Fin 2048) :
    Pipeline.afterTail₀ cfgs (dats m) 0 (V0 m) [hostOps1] c main_v34 (ix1 k) = change (m (c.tc.loc main_arg8) (ix1 k)) (m (c.tc.loc main_arg17) (ix1 k)) (m (c.tc.loc main_arg26) (ix1 k)) (m (c.tc.loc main_arg35) (ix1 k))
    ∧ Pipeline.afterTail₀ cfgs (dats m) 0 (V0 m) [hostOps1] c main_v49 (ix1 k) = mean (m (c.tc.loc main_arg17) (ix1 k)) (m (c.tc.loc main_arg26) (ix1 k))
    ∧ Pipeline.afterTail₀ cfgs (dats m) 0 (V0 m) [hostOps1] c main_v64 (ix1 k) = square (m (c.tc.loc main_arg17) (ix1 k)) (m (c.tc.loc main_arg35) (ix1 k)) := by
  refine ⟨?_, ?_, ?_⟩ <;> (show StableHlo.after hostOps1 _ _ _ = _; after_results_simp)
  · exact (unpack_8 _ k).trans ((congrFun (arr_4 m c) _).trans (change_congr (pack_8 ..) (pack_8 ..) (pack_8 ..) (pack_8 ..)))
  · exact (unpack_8 _ k).trans ((congrFun (arr_5 m c) _).trans (mean_congr (pack_8 ..) (pack_8 ..)))
  · exact (unpack_8 _ k).trans ((congrFun (arr_6 m c) _).trans (square_congr (pack_8 ..) (pack_8 ..)))

end Cert.Proof.AdamSmall

end
-- ==== Proof.AdamSmall.Final.lean ====
module

public import proofs.«01_k».proof.Proof.AdamSmall.Tail
public import proofs.«01_k».proof.Proof.Gen.AdamSmallRefIdeal.Read

@[expose] public section

set_option maxRecDepth 16384

noncomputable section

/-! The claims. -/

namespace Cert.Proof.AdamSmall

open Cert.AdamSmallIdeal Idealize.ShloMosaic Idealize.ShloMosaic.TcCoe Idealize.SL.Sem

theorem frame_ref : Cert.quiescent_AdamSmallRefIdeal := fun m ρ _ =>
  (θ_run Cert.AdamSmallRefIdeal.defs _ _).mono (fun r h => ⟨fun c => (h c).2.2.2.2.2.2.2.2.2.2.2.2.2.2.2.2.2.2.2.2.2.2.2.2.2.2.2, sem_eq_zero_of_no_sems (by decide) r.2⟩)
    (Cert.AdamSmallRefIdeal.Value.run (F := Ideal) m ρ)

/-- Two rows are equal when their entries are. -/
theorem row_ext {n : Nat} {f g : (⟨⟨2, ![1, n]⟩, .f32⟩ : BufTy).Contents (Elt Ideal)} (h : ∀ k : Fin n, f (ix2 0 k) = g (ix2 0 k)) : f = g := funext fun y => by
  have e : y = ix2 0 (y 1) := funext fun a => by fin_cases a; exacts [Subsingleton.elim (α := Fin 1) _ _, rfl]
  rw [e]
  exact h (y 1)
/-- Two tables are equal when their entries are. -/
theorem table_ext {f g : (⟨S32x8, .f32⟩ : BufTy).Contents (Elt Ideal)} (h : ∀ (b : Fin 32) (k : Fin 8), f (ix2 b k) = g (ix2 b k)) : f = g := funext fun y => by
  have e : y = ix2 (y 0) (y 1) := funext fun a => by fin_cases a <;> rfl
  rw [e]
  exact h (y 0) (y 1)
/-- Two vectors are equal when their entries are. -/
theorem vector_ext {f g : (⟨S2048, .f32⟩ : BufTy).Contents (Elt Ideal)} (h : ∀ k : Fin 2048, f (ix1 k) = g (ix1 k)) : f = g := funext fun y => by
  obtain ⟨k, rfl⟩ : ∃ k : Fin 2048, y = ix1 k := ⟨y 0, funext fun a => by fin_cases a; rfl⟩
  exact h k

section
variable {s : Shape} (b : Cert.AdamSmallRefIdeal.S_.BroadcastsInDim s (![] : Fin 0 → Fin s.rank)) (w g m v : FVec Ideal s .f32) (y : s.Idx)

/-- The reference's new mean at an entry. -/
theorem step_mean : (addf (mulf (broadcastInDim s ![] b (constant Cert.AdamSmallRefIdeal.S_ .f32 0x3F666666#32)) m) (mulf (broadcastInDim s ![] b (constant Cert.AdamSmallRefIdeal.S_ .f32 0x3DCCCCCD#32)) g) : FVec Ideal s .f32) y = mean (g y) (m y) := by
  pointwise [mean]
/-- The reference's new mean square at an entry. -/
theorem step_square : (addf (mulf (broadcastInDim s ![] b (constant Cert.AdamSmallRefIdeal.S_ .f32 0x3F7FBE77#32)) v) (mulf (broadcastInDim s ![] b (constant Cert.AdamSmallRefIdeal.S_ .f32 0x3A83126F#32)) (mulf g g)) : FVec Ideal s .f32) y = square (g y) (v y) := by
  pointwise [square]
/-- The reference's change at an entry. -/
theorem step_change : (mulf (broadcastInDim s ![] b (constant Cert.AdamSmallRefIdeal.S_ .f32 0xBA83126F#32)) (addf (Host.divf (Host.divf (addf (mulf (broadcastInDim s ![] b (constant Cert.AdamSmallRefIdeal.S_ .f32 0x3F666666#32)) m) (mulf (broadcastInDim s ![] b (constant Cert.AdamSmallRefIdeal.S_ .f32 0x3DCCCCCD#32)) g)) (broadcastInDim s ![] b (constant Cert.AdamSmallRefIdeal.S_ .f32 0x3F26BD02#32))) (addf (Host.sqrt (Host.divf (addf (mulf (broadcastInDim s ![] b (constant Cert.AdamSmallRefIdeal.S_ .f32 0x3F7FBE77#32)) v) (mulf (broadcastInDim s ![] b (constant Cert.AdamSmallRefIdeal.S_ .f32 0x3A83126F#32)) (mulf g g))) (broadcastInDim s ![] b (constant Cert.AdamSmallRefIdeal.S_ .f32 0x3C231ACC#32)))) (broadcastInDim s ![] b (constant Cert.AdamSmallRefIdeal.S_ .f32 0x322BCC77#32)))) (mulf (broadcastInDim s ![] b (constant Cert.AdamSmallRefIdeal.S_ .f32 0x3C23D70A#32)) w)) : FVec Ideal s .f32) y
      = change (w y) (g y) (m y) (v y) := by
  pointwise [change, mean, square]
end

set_option maxHeartbeats 4000000 in
/-- The two programs run and end with the same changes, means and mean squares. -/
theorem algebraic : Cert.algebraic_AdamSmallIdeal_AdamSmallRefIdeal := by
  pair_intro
  · run_from Cert.AdamSmallIdeal.Gen.run_main m g & Cert.AdamSmallIdeal.Gen.unchanged m g
  · refine Idealize.ShloMosaic.θ_run_mono (Cert.AdamSmallRefIdeal.Value.run (F := Ideal) m' g') ?_
    intro r hr c
    obtain ⟨h0, h1, h2, h3, h4, h5, h6, h7, h8, h9, h10, h11, h12, h13, h14, h15, h16, h17, h18, h19, h20, h21, h22, h23, h24, h25, h26, h27, h28, h29, h30, h31, h32, h33, h34, h35⟩ := hagree c
    obtain ⟨e0, e1, e2, e3, e4, e5, e6, e7, e8, e9, e10, e11, e12, e13, e14, e15, e16, e17, e18, e19, e20, e21, e22, e23, e24, e25, e26, ea⟩ := hr c
    refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, e14.trans ?_, e15.trans ?_, e16.trans ?_, e17.trans ?_, e18.trans ?_, e19.trans ?_, e20.trans ?_, e21.trans ?_, e22.trans ?_, e23.trans ?_, e24.trans ?_, e25.trans ?_, e26.trans ?_, ea⟩
    · exact row_ext fun k => (step_change _ _ _ _ _ _).trans ((change_congr (congrFun h0 (ix2 0 k)) (congrFun h9 (ix2 0 k)) (congrFun h18 (ix2 0 k)) (congrFun h27 (ix2 0 k))).trans (tail_0 m c k).1.symm)
    · exact row_ext fun k => (step_change _ _ _ _ _ _).trans ((change_congr (congrFun h1 (ix2 0 k)) (congrFun h10 (ix2 0 k)) (congrFun h19 (ix2 0 k)) (congrFun h28 (ix2 0 k))).trans (tail_1 m c k).1.symm)
    · exact row_ext fun k => (step_change _ _ _ _ _ _).trans ((change_congr (congrFun h2 (ix2 0 k)) (congrFun h11 (ix2 0 k)) (congrFun h20 (ix2 0 k)) (congrFun h29 (ix2 0 k))).trans (tail_2 m c k).1.symm)
    · exact row_ext fun k => (step_change _ _ _ _ _ _).trans ((change_congr (congrFun h3 (ix2 0 k)) (congrFun h12 (ix2 0 k)) (congrFun h21 (ix2 0 k)) (congrFun h30 (ix2 0 k))).trans (tail_3 m c k).1.symm)
    · exact row_ext fun k => (step_change _ _ _ _ _ _).trans ((change_congr (congrFun h4 (ix2 0 k)) (congrFun h13 (ix2 0 k)) (congrFun h22 (ix2 0 k)) (congrFun h31 (ix2 0 k))).trans (tail_4 m c k).1.symm)
    · exact row_ext fun k => (step_change _ _ _ _ _ _).trans ((change_congr (congrFun h5 (ix2 0 k)) (congrFun h14 (ix2 0 k)) (congrFun h23 (ix2 0 k)) (congrFun h32 (ix2 0 k))).trans (tail_5 m c k).1.symm)
    · exact row_ext fun k => (step_change _ _ _ _ _ _).trans ((change_congr (congrFun h6 (ix2 0 k)) (congrFun h15 (ix2 0 k)) (congrFun h24 (ix2 0 k)) (congrFun h33 (ix2 0 k))).trans (tail_6 m c k).1.symm)
    · exact table_ext fun b k => (step_change _ _ _ _ _ _).trans ((change_congr (congrFun h7 (ix2 b k)) (congrFun h16 (ix2 b k)) (congrFun h25 (ix2 b k)) (congrFun h34 (ix2 b k))).trans (tail_7 m c b k).1.symm)
    · exact vector_ext fun k => (step_change _ _ _ _ _ _).trans ((change_congr (congrFun h8 (ix1 k)) (congrFun h17 (ix1 k)) (congrFun h26 (ix1 k)) (congrFun h35 (ix1 k))).trans (tail_8 m c k).1.symm)
    · exact row_ext fun k => (step_mean _ _ _ _).trans ((mean_congr (congrFun h9 (ix2 0 k)) (congrFun h18 (ix2 0 k))).trans (tail_0 m c k).2.1.symm)
    · exact row_ext fun k => (step_mean _ _ _ _).trans ((mean_congr (congrFun h10 (ix2 0 k)) (congrFun h19 (ix2 0 k))).trans (tail_1 m c k).2.1.symm)
    · exact row_ext fun k => (step_mean _ _ _ _).trans ((mean_congr (congrFun h11 (ix2 0 k)) (congrFun h20 (ix2 0 k))).trans (tail_2 m c k).2.1.symm)
    · exact row_ext fun k => (step_mean _ _ _ _).trans ((mean_congr (congrFun h12 (ix2 0 k)) (congrFun h21 (ix2 0 k))).trans (tail_3 m c k).2.1.symm)
    · exact row_ext fun k => (step_mean _ _ _ _).trans ((mean_congr (congrFun h13 (ix2 0 k)) (congrFun h22 (ix2 0 k))).trans (tail_4 m c k).2.1.symm)
    · exact row_ext fun k => (step_mean _ _ _ _).trans ((mean_congr (congrFun h14 (ix2 0 k)) (congrFun h23 (ix2 0 k))).trans (tail_5 m c k).2.1.symm)
    · exact row_ext fun k => (step_mean _ _ _ _).trans ((mean_congr (congrFun h15 (ix2 0 k)) (congrFun h24 (ix2 0 k))).trans (tail_6 m c k).2.1.symm)
    · exact table_ext fun b k => (step_mean _ _ _ _).trans ((mean_congr (congrFun h16 (ix2 b k)) (congrFun h25 (ix2 b k))).trans (tail_7 m c b k).2.1.symm)
    · exact vector_ext fun k => (step_mean _ _ _ _).trans ((mean_congr (congrFun h17 (ix1 k)) (congrFun h26 (ix1 k))).trans (tail_8 m c k).2.1.symm)
    · exact row_ext fun k => (step_square _ _ _ _).trans ((square_congr (congrFun h9 (ix2 0 k)) (congrFun h27 (ix2 0 k))).trans (tail_0 m c k).2.2.symm)
    · exact row_ext fun k => (step_square _ _ _ _).trans ((square_congr (congrFun h10 (ix2 0 k)) (congrFun h28 (ix2 0 k))).trans (tail_1 m c k).2.2.symm)
    · exact row_ext fun k => (step_square _ _ _ _).trans ((square_congr (congrFun h11 (ix2 0 k)) (congrFun h29 (ix2 0 k))).trans (tail_2 m c k).2.2.symm)
    · exact row_ext fun k => (step_square _ _ _ _).trans ((square_congr (congrFun h12 (ix2 0 k)) (congrFun h30 (ix2 0 k))).trans (tail_3 m c k).2.2.symm)
    · exact row_ext fun k => (step_square _ _ _ _).trans ((square_congr (congrFun h13 (ix2 0 k)) (congrFun h31 (ix2 0 k))).trans (tail_4 m c k).2.2.symm)
    · exact row_ext fun k => (step_square _ _ _ _).trans ((square_congr (congrFun h14 (ix2 0 k)) (congrFun h32 (ix2 0 k))).trans (tail_5 m c k).2.2.symm)
    · exact row_ext fun k => (step_square _ _ _ _).trans ((square_congr (congrFun h15 (ix2 0 k)) (congrFun h33 (ix2 0 k))).trans (tail_6 m c k).2.2.symm)
    · exact table_ext fun b k => (step_square _ _ _ _).trans ((square_congr (congrFun h16 (ix2 b k)) (congrFun h34 (ix2 b k))).trans (tail_7 m c b k).2.2.symm)
    · exact vector_ext fun k => (step_square _ _ _ _).trans ((square_congr (congrFun h17 (ix1 k)) (congrFun h35 (ix1 k))).trans (tail_8 m c k).2.2.symm)

end Cert.Proof.AdamSmall

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.DAct
public import proofs.«01_k».proof.Proof.Gen.AttnA.Frame
public import proofs.«01_k».proof.Proof.Gen.AttnAIdeal.Frame
public import proofs.«01_k».proof.Proof.Gen.AttnARefIdeal.Run
public import proofs.«01_k».proof.Proof.Gen.AttnARefIdeal.Read
public import proofs.«01_k».proof.Proof.AttnA.Final
public import proofs.«01_k».proof.Proof.Gen.Rms.Frame
public import proofs.«01_k».proof.Proof.Gen.RmsIdeal.Frame
public import proofs.«01_k».proof.Proof.Gen.RmsRefIdeal.Run
public import proofs.«01_k».proof.Proof.Gen.RmsRefIdeal.Read
public import proofs.«01_k».proof.Proof.Gen.Pre_finite_rms
public import proofs.«01_k».proof.Proof.Rms
public import proofs.«01_k».proof.Proof.Gen.DGate.Frame
public import proofs.«01_k».proof.Proof.Gen.DGateIdeal.Frame
public import proofs.«01_k».proof.Proof.Gen.DGateRefIdeal.Run
public import proofs.«01_k».proof.Proof.Gen.DGateRefIdeal.Read
public import proofs.«01_k».proof.Proof.Gen.Pre_finite_d_gate
public import proofs.«01_k».proof.Proof.DGate
public import proofs.«01_k».proof.Proof.Gen.DAttnIn.Frame
public import proofs.«01_k».proof.Proof.Gen.DAttnInIdeal.Frame
public import proofs.«01_k».proof.Proof.Gen.DAttnInRefIdeal.Run
public import proofs.«01_k».proof.Proof.Gen.DAttnInRefIdeal.Read
public import proofs.«01_k».proof.Proof.Gen.Pre_finite_d_attn_in
public import proofs.«01_k».proof.Proof.DAttnIn
public import proofs.«01_k».proof.Proof.Gen.GateTail.Frame
public import proofs.«01_k».proof.Proof.Gen.GateTailIdeal.Frame
public import proofs.«01_k».proof.Proof.Gen.GateTailRefIdeal.Run
public import proofs.«01_k».proof.Proof.Gen.GateTailRefIdeal.Read
public import proofs.«01_k».proof.Proof.Gen.Pre_finite_gate_tail
public import proofs.«01_k».proof.Proof.GateTail.Final
public import proofs.«01_k».proof.Proof.Gen.DProj.Frame
public import proofs.«01_k».proof.Proof.Gen.DProjIdeal.Frame
public import proofs.«01_k».proof.Proof.Gen.DProjRefIdeal.Run
public import proofs.«01_k».proof.Proof.Gen.DProjRefIdeal.Read
public import proofs.«01_k».proof.Proof.Gen.Pre_finite_dproj
public import proofs.«01_k».proof.Proof.DProj.Final
public import proofs.«01_k».proof.Proof.Gen.TableGrads.Frame
public import proofs.«01_k».proof.Proof.Gen.TableGradsIdeal.Frame
public import proofs.«01_k».proof.Proof.Gen.TableGradsRefIdeal.Run
public import proofs.«01_k».proof.Proof.Gen.TableGradsRefIdeal.Read
public import proofs.«01_k».proof.Proof.TableGrads.Final
public import proofs.«01_k».proof.Proof.Gen.RmsFwd.Frame
public import proofs.«01_k».proof.Proof.Gen.RmsFwdIdeal.Frame
public import proofs.«01_k».proof.Proof.Gen.RmsFwdRefIdeal.Run
public import proofs.«01_k».proof.Proof.Gen.RmsFwdRefIdeal.Read
public import proofs.«01_k».proof.Proof.RmsFwd
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.OutProjRefIdeal.Read
public import proofs.«01_k».proof.Proof.OutProj
public import proofs.«01_k».proof.Proof.Gen.UpProj.Frame
public import proofs.«01_k».proof.Proof.Gen.UpProjIdeal.Frame
public import proofs.«01_k».proof.Proof.Gen.UpProjRefIdeal.Run
public import proofs.«01_k».proof.Proof.Gen.UpProjRefIdeal.Read
public import proofs.«01_k».proof.Proof.UpProj
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.InProj.Final
public import proofs.«01_k».proof.Proof.Gen.BiasBuild.Frame
public import proofs.«01_k».proof.Proof.Gen.BiasBuildIdeal.Frame
public import proofs.«01_k».proof.Proof.Gen.BiasBuildRefIdeal.Run
public import proofs.«01_k».proof.Proof.Gen.BiasBuildRefIdeal.Read
public import proofs.«01_k».proof.Proof.BiasBuild
public import proofs.«01_k».proof.Proof.Gen.DownProj.Frame
public import proofs.«01_k».proof.Proof.Gen.DownProjIdeal.Frame
public import proofs.«01_k».proof.Proof.Gen.DownProjRefIdeal.Run
public import proofs.«01_k».proof.Proof.Gen.DownProjRefIdeal.Read
public import proofs.«01_k».proof.Proof.DownProj
public import proofs.«01_k».proof.Proof.Gen.DMlpIn.Frame
public import proofs.«01_k».proof.Proof.Gen.DMlpInIdeal.Frame
public import proofs.«01_k».proof.Proof.Gen.DMlpInRefIdeal.Run
public import proofs.«01_k».proof.Proof.Gen.DMlpInRefIdeal.Read
public import proofs.«01_k».proof.Proof.DMlpIn
public import proofs.«01_k».proof.Proof.Gen.GradUp.Frame
public import proofs.«01_k».proof.Proof.Gen.GradUpIdeal.Frame
public import proofs.«01_k».proof.Proof.Gen.GradUpRefIdeal.Run
public import proofs.«01_k».proof.Proof.Gen.GradUpRefIdeal.Read
public import proofs.«01_k».proof.Proof.GradUp
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.AdamSmallRefIdeal.Read
public import proofs.«01_k».proof.Proof.AdamSmall.Final

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.AttnA.Gen.facts, Cert.AttnAIdeal.Gen.facts, Cert.AttnARefIdeal.Gen.facts,
  Cert.Rms.Gen.facts, Cert.RmsIdeal.Gen.facts, Cert.RmsRefIdeal.Gen.facts,
  Cert.DGate.Gen.facts, Cert.DGateIdeal.Gen.facts, Cert.DGateRefIdeal.Gen.facts,
  Cert.DAttnIn.Gen.facts, Cert.DAttnInIdeal.Gen.facts, Cert.DAttnInRefIdeal.Gen.facts,
  Cert.GateTail.Gen.facts, Cert.GateTailIdeal.Gen.facts, Cert.GateTailRefIdeal.Gen.facts,
  Cert.DProj.Gen.facts, Cert.DProjIdeal.Gen.facts, Cert.DProjRefIdeal.Gen.facts,
  Cert.TableGrads.Gen.facts, Cert.TableGradsIdeal.Gen.facts, Cert.TableGradsRefIdeal.Gen.facts,
  Cert.RmsFwd.Gen.facts, Cert.RmsFwdIdeal.Gen.facts, Cert.RmsFwdRefIdeal.Gen.facts,
  Cert.OutProj.Gen.facts, Cert.OutProjIdeal.Gen.facts, Cert.OutProjRefIdeal.Gen.facts,
  Cert.UpProj.Gen.facts, Cert.UpProjIdeal.Gen.facts, Cert.UpProjRefIdeal.Gen.facts,
  Cert.InProj.Gen.facts, Cert.InProjIdeal.Gen.facts, Cert.InProjRefIdeal.Gen.facts,
  Cert.BiasBuild.Gen.facts, Cert.BiasBuildIdeal.Gen.facts, Cert.BiasBuildRefIdeal.Gen.facts,
  Cert.DownProj.Gen.facts, Cert.DownProjIdeal.Gen.facts, Cert.DownProjRefIdeal.Gen.facts,
  Cert.DMlpIn.Gen.facts, Cert.DMlpInIdeal.Gen.facts, Cert.DMlpInRefIdeal.Gen.facts,
  Cert.GradUp.Gen.facts, Cert.GradUpIdeal.Gen.facts, Cert.GradUpRefIdeal.Gen.facts,
  Cert.AdamSmall.Gen.facts, Cert.AdamSmallIdeal.Gen.facts, Cert.AdamSmallRefIdeal.Gen.facts,
  Cert.Pre_finite_attn_a.Gen.facts, Cert.Pre_finite_rms.Gen.facts, Cert.Pre_finite_d_gate.Gen.facts, Cert.Pre_finite_d_attn_in.Gen.facts, Cert.Pre_finite_gate_tail.Gen.facts, Cert.Pre_finite_dproj.Gen.facts,
  fun m ρ _ => Cert.Kernel.Gen.frame m ρ, fun m ρ _ => Cert.KernelIdeal.Gen.frame m ρ, DAct.frame_ref,
  fun m ρ _ => Cert.AttnA.Gen.frame m ρ, fun m ρ _ => Cert.AttnAIdeal.Gen.frame m ρ, fun m ρ _ => Cert.AttnAIdeal.Gen.frame m ρ,
  AttnA.frame_ref, fun m ρ _ => AttnA.frame_ref m ρ trivial,
  fun m ρ _ => Cert.Rms.Gen.frame m ρ, fun m ρ _ => Cert.RmsIdeal.Gen.frame m ρ, fun m ρ _ => Cert.RmsIdeal.Gen.frame m ρ,
  Rms.frame_ref, fun m ρ _ => Rms.frame_ref m ρ trivial,
  fun m ρ _ => Cert.DGate.Gen.frame m ρ, fun m ρ _ => Cert.DGateIdeal.Gen.frame m ρ, fun m ρ _ => Cert.DGateIdeal.Gen.frame m ρ,
  DGate.frame_ref, fun m ρ _ => DGate.frame_ref m ρ trivial,
  fun m ρ _ => Cert.DAttnIn.Gen.frame m ρ, fun m ρ _ => Cert.DAttnInIdeal.Gen.frame m ρ, fun m ρ _ => Cert.DAttnInIdeal.Gen.frame m ρ,
  DAttnIn.frame_ref, fun m ρ _ => DAttnIn.frame_ref m ρ trivial,
  fun m ρ _ => Cert.GateTail.Gen.frame m ρ, fun m ρ _ => Cert.GateTailIdeal.Gen.frame m ρ, fun m ρ _ => Cert.GateTailIdeal.Gen.frame m ρ,
  GateTail.frame_ref, fun m ρ _ => GateTail.frame_ref m ρ trivial,
  fun m ρ _ => Cert.DProj.Gen.frame m ρ, fun m ρ _ => Cert.DProjIdeal.Gen.frame m ρ, fun m ρ _ => Cert.DProjIdeal.Gen.frame m ρ,
  DProj.frame_ref, fun m ρ _ => DProj.frame_ref m ρ trivial,
  fun m ρ _ => Cert.TableGrads.Gen.frame m ρ, fun m ρ _ => Cert.TableGradsIdeal.Gen.frame m ρ,
  TableGrads.frame_ref,
  fun m ρ _ => Cert.RmsFwd.Gen.frame m ρ, fun m ρ _ => Cert.RmsFwdIdeal.Gen.frame m ρ,
  RmsFwd.frame_ref,
  fun m ρ _ => Cert.OutProj.Gen.frame m ρ, fun m ρ _ => Cert.OutProjIdeal.Gen.frame m ρ,
  OutProj.frame_ref,
  fun m ρ _ => Cert.UpProj.Gen.frame m ρ, fun m ρ _ => Cert.UpProjIdeal.Gen.frame m ρ,
  UpProj.frame_ref,
  fun m ρ _ => Cert.InProj.Gen.frame m ρ, fun m ρ _ => Cert.InProjIdeal.Gen.frame m ρ,
  InProj.frame_ref,
  fun m ρ _ => Cert.BiasBuild.Gen.frame m ρ, fun m ρ _ => Cert.BiasBuildIdeal.Gen.frame m ρ,
  BiasBuild.frame_ref,
  fun m ρ _ => Cert.DownProj.Gen.frame m ρ, fun m ρ _ => Cert.DownProjIdeal.Gen.frame m ρ,
  DownProj.frame_ref,
  fun m ρ _ => Cert.DMlpIn.Gen.frame m ρ, fun m ρ _ => Cert.DMlpInIdeal.Gen.frame m ρ,
  DMlpIn.frame_ref,
  fun m ρ _ => Cert.GradUp.Gen.frame m ρ, fun m ρ _ => Cert.GradUpIdeal.Gen.frame m ρ,
  GradUp.frame_ref,
  fun m ρ _ => Cert.AdamSmall.Gen.frame m ρ, fun m ρ _ => Cert.AdamSmallIdeal.Gen.frame m ρ,
  AdamSmall.frame_ref,
  trivial, DAct.algebraic,
  ⟨IdealRules.named_const.statement Cert.AttnAIdeal.κ "c" .f32 0x3E0293EE#32 _ rfl,
    IdealRules.named_const.statement Cert.AttnAIdeal.κ "scale" .f32 0x3DB504F3#32 _ rfl,
    IdealRules.named_const.statement Cert.AttnAIdeal.κ "log2e" .f32 0x3FB8AA3B#32 _ rfl⟩,
  AttnA.algebraic,
  trivial, Rms.algebraic,
  trivial, DGate.algebraic,
  trivial, DAttnIn.algebraic,
  trivial, GateTail.algebraic,
  trivial, DProj.algebraic,
  trivial, TableGrads.algebraic,
  trivial, RmsFwd.algebraic,
  trivial, OutProj.algebraic,
  trivial, UpProj.algebraic,
  trivial, InProj.algebraic,
  trivial, BiasBuild.algebraic,
  trivial, DownProj.algebraic,
  trivial, DMlpIn.algebraic,
  trivial, GradUp.algebraic,
  trivial, AdamSmall.algebraic⟩

end Cert.Proof

end
